-- ==== Defs.lean ====
def Pre_Kernel [hPre_places_of_a_routing : Cert.Pre_places_of_a_routing.Facts] (m : (ℓ : Loc Cert.Kernel.nD Cert.Kernel.τ Cert.Kernel.sig) → Buf (Elt Bits) ℓ) : Prop :=
  ∀ c : Dev Cert.Kernel.nD,
    (Cert.Pre_places_of_a_routing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_places_of_a_routing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_places_of_a_routing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_places_of_a_routing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2 = (fun _ => 1#1)

def Pre_KernelIdeal [hPre_places_of_a_routing : Cert.Pre_places_of_a_routing.Facts] (m : (ℓ : Loc Cert.KernelIdeal.nD Cert.KernelIdeal.τ Cert.KernelIdeal.sig) → Buf (Elt Ideal) ℓ) : Prop :=
  ∀ c : Dev Cert.KernelIdeal.nD,
    (Cert.Pre_places_of_a_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_places_of_a_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_places_of_a_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_places_of_a_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal [hPre_places_of_a_routing : Cert.Pre_places_of_a_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_places_of_a_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_places_of_a_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_places_of_a_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_places_of_a_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Experts [hPre_experts_of_tiles : Cert.Pre_experts_of_tiles.Facts] (m : (ℓ : Loc Cert.Experts.nD Cert.Experts.τ Cert.Experts.sig) → Buf (Elt Bits) ℓ) : Prop :=
  ∀ c : Dev Cert.Experts.nD,
    (Cert.Pre_experts_of_tiles.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_experts_of_tiles.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_experts_of_tiles : Cert.Pre_experts_of_tiles.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_of_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_experts_of_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal [hPre_experts_of_tiles : Cert.Pre_experts_of_tiles.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_of_tiles.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_experts_of_tiles.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Combine [hPre_places_in_range : Cert.Pre_places_in_range.Facts] (m : (ℓ : Loc Cert.Combine.nD Cert.Combine.τ Cert.Combine.sig) → Buf (Elt Bits) ℓ) : Prop :=
  ∀ c : Dev Cert.Combine.nD,
    (Cert.Pre_places_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_places_in_range : Cert.Pre_places_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_places_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineReferenceIdeal [hPre_places_in_range : Cert.Pre_places_in_range.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_places_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4))) = (fun _ => 1#1)

def quiescent_Kernel [hKernel : Cert.Kernel.Facts] [hPre_places_of_a_routing : Cert.Pre_places_of_a_routing.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_places_of_a_routing : Cert.Pre_places_of_a_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_places_of_a_routing : Cert.Pre_places_of_a_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_experts_of_tiles : Cert.Pre_experts_of_tiles.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_of_tiles : Cert.Pre_experts_of_tiles.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_experts_of_tiles : Cert.Pre_experts_of_tiles.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_Combine [hCombine : Cert.Combine.Facts] [hPre_places_in_range : Cert.Pre_places_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_places_in_range : Cert.Pre_places_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] [hPre_places_in_range : Cert.Pre_places_in_range.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_places_of_a_routing : Cert.Pre_places_of_a_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_of_tiles : Cert.Pre_experts_of_tiles.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v15)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v135) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v6_0)) (v1 : (c : Dev Cert.DenseIdeal.nD) → Buf (Elt Ideal) ((c.tc : Thread Cert.DenseIdeal.nD Cert.DenseIdeal.τ).loc Cert.DenseIdeal.main_v6_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6_0) = v0 c
          ∧ r.2.mem ((c.tc : Thread Cert.DenseIdeal.nD Cert.DenseIdeal.τ).loc Cert.DenseIdeal.main_v6_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v21) = v0 c
          ∧ r.2.mem ((c.tc : Thread Cert.DenseReferenceIdeal.nD Cert.DenseReferenceIdeal.τ).loc Cert.DenseReferenceIdeal.main_v35) = v1 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v11_0)) (v1 : (c : Dev Cert.QkvIdeal.nD) → Buf (Elt Ideal) ((c.tc : Thread Cert.QkvIdeal.nD Cert.QkvIdeal.τ).loc Cert.QkvIdeal.main_v11_1)) (v2 : (c : Dev Cert.QkvIdeal.nD) → Buf (Elt Ideal) ((c.tc : Thread Cert.QkvIdeal.nD Cert.QkvIdeal.τ).loc Cert.QkvIdeal.main_v11_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v11_0) = v0 c
          ∧ r.2.mem ((c.tc : Thread Cert.QkvIdeal.nD Cert.QkvIdeal.τ).loc Cert.QkvIdeal.main_v11_1) = v1 c
          ∧ r.2.mem ((c.tc : Thread Cert.QkvIdeal.nD Cert.QkvIdeal.τ).loc Cert.QkvIdeal.main_v11_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v21) = v0 c
          ∧ r.2.mem ((c.tc : Thread Cert.QkvReferenceIdeal.nD Cert.QkvReferenceIdeal.τ).loc Cert.QkvReferenceIdeal.main_v22) = v1 c
          ∧ r.2.mem ((c.tc : Thread Cert.QkvReferenceIdeal.nD Cert.QkvReferenceIdeal.τ).loc Cert.QkvReferenceIdeal.main_v25) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] [hPre_places_in_range : Cert.Pre_places_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v42) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hQkv : Cert.Qkv.Facts) (hQkvIdeal : Cert.QkvIdeal.Facts) (hQkvReferenceIdeal : Cert.QkvReferenceIdeal.Facts) (hCombine : Cert.Combine.Facts) (hCombineIdeal : Cert.CombineIdeal.Facts) (hCombineReferenceIdeal : Cert.CombineReferenceIdeal.Facts) (hPre_places_of_a_routing : Cert.Pre_places_of_a_routing.Facts) (hPre_experts_of_tiles : Cert.Pre_experts_of_tiles.Facts) (hPre_places_in_range : Cert.Pre_places_in_range.Facts),
    quiescent_Kernel (hKernel := hKernel) (hPre_places_of_a_routing := hPre_places_of_a_routing)
    ∧ quiescent_KernelIdeal (hKernelIdeal := hKernelIdeal) (hPre_places_of_a_routing := hPre_places_of_a_routing)
    ∧ quiescent_ReferenceIdeal (hReferenceIdeal := hReferenceIdeal) (hPre_places_of_a_routing := hPre_places_of_a_routing)
    ∧ quiescent_Experts (hExperts := hExperts) (hPre_experts_of_tiles := hPre_experts_of_tiles)
    ∧ quiescent_ExpertsIdeal (hExpertsIdeal := hExpertsIdeal) (hPre_experts_of_tiles := hPre_experts_of_tiles)
    ∧ quiescent_ExpertsReferenceIdeal (hExpertsReferenceIdeal := hExpertsReferenceIdeal) (hPre_experts_of_tiles := hPre_experts_of_tiles)
    ∧ quiescent_Dense (hDense := hDense)
    ∧ quiescent_DenseIdeal (hDenseIdeal := hDenseIdeal)
    ∧ quiescent_DenseReferenceIdeal (hDenseReferenceIdeal := hDenseReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Combine (hCombine := hCombine) (hPre_places_in_range := hPre_places_in_range)
    ∧ quiescent_CombineIdeal (hCombineIdeal := hCombineIdeal) (hPre_places_in_range := hPre_places_in_range)
    ∧ quiescent_CombineReferenceIdeal (hCombineReferenceIdeal := hCombineReferenceIdeal) (hPre_places_in_range := hPre_places_in_range)
    ∧ preserves_Kernel_KernelIdeal
    ∧ algebraic_KernelIdeal_ReferenceIdeal (hKernelIdeal := hKernelIdeal) (hReferenceIdeal := hReferenceIdeal) (hPre_places_of_a_routing := hPre_places_of_a_routing)
    ∧ preserves_Experts_ExpertsIdeal
    ∧ algebraic_ExpertsIdeal_ExpertsReferenceIdeal (hExpertsIdeal := hExpertsIdeal) (hExpertsReferenceIdeal := hExpertsReferenceIdeal) (hPre_experts_of_tiles := hPre_experts_of_tiles)
    ∧ preserves_Dense_DenseIdeal
    ∧ algebraic_DenseIdeal_DenseReferenceIdeal (hDenseIdeal := hDenseIdeal) (hDenseReferenceIdeal := hDenseReferenceIdeal)
    ∧ preserves_Qkv_QkvIdeal
    ∧ algebraic_QkvIdeal_QkvReferenceIdeal (hQkvIdeal := hQkvIdeal) (hQkvReferenceIdeal := hQkvReferenceIdeal)
    ∧ preserves_Combine_CombineIdeal
    ∧ algebraic_CombineIdeal_CombineReferenceIdeal (hCombineIdeal := hCombineIdeal) (hCombineReferenceIdeal := hCombineReferenceIdeal) (hPre_places_in_range := hPre_places_in_range)
-- ==== Pre_experts_of_tiles.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  bcast_S_S1 : S_.BroadcastsInDim S1 (![] : Fin 0 → Fin S1.rank)

variable [Facts]

def fn {F : FTy → Type} [FloatOps F] (main_arg0 : IVec S136 32) (main_arg1 : IVec S1 32) (main_arg2 : FVec F S69632x1024 .f32) (main_arg3 : FVec F S8x1024x3584 .f32) (main_arg4 : FVec F S8x1024x3584 .f32) (main_arg5 : FVec F S8x3584x1024 .f32) : IVec S136 1 × IVec S1 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 136#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_places_in_range.lean ====
abbrev S2x32768 : Shape := ⟨2, ![2, 32768]⟩
abbrev S32768x1024 : Shape := ⟨2, ![32768, 1024]⟩
abbrev S1024 : Shape := ⟨1, ![1024]⟩
abbrev S69632x1024 : Shape := ⟨2, ![69632, 1024]⟩
abbrev S_ : Shape := ⟨0, ![]⟩

class Facts : Prop where
  bcast_S_S2x32768 : S_.BroadcastsInDim S2x32768 (![] : Fin 0 → Fin S2x32768.rank)

variable [Facts]

def fn {F : FTy → Type} [FloatOps F] (main_arg0 : IVec S2x32768 32) (main_arg1 : FVec F S2x32768 .f32) (main_arg2 : FVec F S32768x1024 .f32) (main_arg3 : FVec F S1024 .f32) (main_arg4 : FVec F S69632x1024 .f32) : IVec S2x32768 1 :=
  let main_c : IVec S_ 32 := constantI S_ 32 0#32
  let main_v0 : IVec S2x32768 32 := broadcastInDim S2x32768 ![] bcast_S_S2x32768 main_c
  let main_v1 : IVec S2x32768 1 := cmpi .sge main_arg0 main_v0
  let main_c_0 : IVec S_ 32 := constantI S_ 32 69632#32
  let main_v2 : IVec S2x32768 32 := broadcastInDim S2x32768 ![] bcast_S_S2x32768 main_c_0
  let main_v3 : IVec S2x32768 1 := cmpi .slt main_arg0 main_v2
  let main_v4 : IVec S2x32768 1 := andi main_v1 main_v3
  main_v4
-- ==== Pre_places_of_a_routing.lean ====
abbrev S16 : Shape := ⟨1, ![16]⟩
abbrev S2x32768 : Shape := ⟨2, ![2, 32768]⟩
abbrev S32768x1024 : Shape := ⟨2, ![32768, 1024]⟩
abbrev S69632x16 : Shape := ⟨2, ![69632, 16]⟩
abbrev S_ : Shape := ⟨0, ![]⟩
abbrev S69632 : Shape := ⟨1, ![69632]⟩
abbrev S2x32768x2x32768 : Shape := ⟨4, ![2, 32768, 2, 32768]⟩
abbrev S69632x2x32768 : Shape := ⟨3, ![69632, 2, 32768]⟩

class Facts : Prop where
  bcast_S16_S69632x16_1 : S16.BroadcastsInDim S69632x16 (![1] : Fin 1 → Fin S69632x16.rank)
  bcast_S_S69632x16 : S_.BroadcastsInDim S69632x16 (![] : Fin 0 → Fin S69632x16.rank)
  reducesTo_S69632x16_S69632_d1 : S69632x16.ReducesTo [1] S69632
  h_S_ : 0 < S_.numel
  bcast_S_S16 : S_.BroadcastsInDim S16 (![] : Fin 0 → Fin S16.rank)
  bcast_S_S2x32768 : S_.BroadcastsInDim S2x32768 (![] : Fin 0 → Fin S2x32768.rank)
  bcast_S2x32768_S2x32768x2x32768_0_1 : S2x32768.BroadcastsInDim S2x32768x2x32768 (![0, 1] : Fin 2 → Fin S2x32768x2x32768.rank)
  bcast_S2x32768_S2x32768x2x32768_2_3 : S2x32768.BroadcastsInDim S2x32768x2x32768 (![2, 3] : Fin 2 → Fin S2x32768x2x32768.rank)
  reducesTo_S2x32768x2x32768_S_d0_1_2_3 : S2x32768x2x32768.ReducesTo [0, 1, 2, 3] S_
  bcast_S2x32768_S69632x2x32768_1_2 : S2x32768.BroadcastsInDim S69632x2x32768 (![1, 2] : Fin 2 → Fin S69632x2x32768.rank)
  reducesTo_S69632x2x32768_S69632_d1_2 : S69632x2x32768.ReducesTo [1, 2] S69632

variable [Facts]

def fn_distinct_places {F : FTy → Type} [FloatOps F] (arg0 : IVec S2x32768 32) : IVec S_ 1 :=
  let v0 : IVec S2x32768x2x32768 32 := broadcastInDim S2x32768x2x32768 ![0, 1] bcast_S2x32768_S2x32768x2x32768_0_1 arg0
  let v1 : IVec S2x32768x2x32768 32 := broadcastInDim S2x32768x2x32768 ![2, 3] bcast_S2x32768_S2x32768x2x32768_2_3 arg0
  let v2 : IVec S2x32768x2x32768 32 := iotaInDim S2x32768x2x32768 32 0
  let v3 : IVec S2x32768x2x32768 32 := iotaInDim S2x32768x2x32768 32 2
  let v4 : IVec S2x32768x2x32768 32 := iotaInDim S2x32768x2x32768 32 1
  let v5 : IVec S2x32768x2x32768 32 := iotaInDim S2x32768x2x32768 32 3
  let v6 : IVec S2x32768x2x32768 1 := cmpi .ne v0 v1
  let v7 : IVec S2x32768x2x32768 1 := cmpi .eq v2 v3
  let v8 : IVec S2x32768x2x32768 1 := cmpi .eq v4 v5
  let v9 : IVec S2x32768x2x32768 1 := andi v7 v8
  let v10 : IVec S2x32768x2x32768 1 := ori v6 v9
  let c : IVec S_ 1 := constantI S_ 1 1#1
  let v11 : IVec S_ 1 := (fun x v => Host.reduce IntOp.andi x v reducesTo_S2x32768x2x32768_S_d0_1_2_3 h_S_) v10 c
  v11

def fn_taken_rows {F : FTy → Type} [FloatOps F] (arg0 : IVec S2x32768 32) : IVec S69632 1 :=
  let v0 : IVec S69632x2x32768 32 := broadcastInDim S69632x2x32768 ![1, 2] bcast_S2x32768_S69632x2x32768_1_2 arg0
  let v1 : IVec S69632x2x32768 32 := iotaInDim S69632x2x32768 32 0
  let v2 : IVec S69632x2x32768 1 := cmpi .eq v0 v1
  let c : IVec S_ 1 := constantI S_ 1 0#1
  let v3 : IVec S69632 1 := (fun x v => Host.reduce IntOp.ori x v reducesTo_S69632x2x32768_S69632_d1_2 h_S_) v2 c
  v3

def fn_part1 {F : FTy → Type} [FloatOps F] (main_arg1 : IVec S2x32768 32) (main_v11 : IVec S69632 1) (main_v16 : IVec S16 1) (main_c_5 : IVec S_ 32) : IVec S16 1 × IVec S2x32768 1 × IVec S_ 1 × IVec S69632 1 :=
  let main_v17 : IVec S2x32768 32 := broadcastInDim S2x32768 ![] bcast_S_S2x32768 main_c_5
  let main_v18 : IVec S2x32768 1 := cmpi .sge main_arg1 main_v17
  let main_c_6 : IVec S_ 32 := constantI S_ 32 69632#32
  let main_v19 : IVec S2x32768 32 := broadcastInDim S2x32768 ![] bcast_S_S2x32768 main_c_6
  let main_v20 : IVec S2x32768 1 := cmpi .slt main_arg1 main_v19
  let main_v21 : IVec S2x32768 1 := andi main_v18 main_v20
  let main_v22 : IVec S_ 1 := fn_distinct_places (F := F) main_arg1
  let main_v23 : IVec S69632 1 := fn_taken_rows (F := F) main_arg1
  let main_v24 : IVec S69632 1 := ori main_v23 main_v11
  (main_v16, main_v21, main_v22, main_v24)

def fn {F : FTy → Type} [FloatOps F] (main_arg0 : IVec S16 32) (main_arg1 : IVec S2x32768 32) (main_arg2 : FVec F S32768x1024 .f32) : IVec S16 1 × IVec S2x32768 1 × IVec S_ 1 × IVec S69632 1 :=
  let main_v0 : IVec S69632x16 32 := broadcastInDim S69632x16 ![1] bcast_S16_S69632x16_1 main_arg0
  let main_v1 : IVec S69632x16 32 := iotaInDim S69632x16 32 0
  let main_c : IVec S_ 32 := constantI S_ 32 512#32
  let main_v2 : IVec S69632x16 32 := broadcastInDim S69632x16 ![] bcast_S_S69632x16 main_c
  let main_v3 : IVec S69632x16 32 := muli main_v0 main_v2
  let main_v4 : IVec S69632x16 1 := cmpi .sle main_v3 main_v1
  let main_c_0 : IVec S_ 32 := constantI S_ 32 512#32
  let main_v5 : IVec S69632x16 32 := broadcastInDim S69632x16 ![] bcast_S_S69632x16 main_c_0
  let main_v6 : IVec S69632x16 32 := muli main_v0 main_v5
  let main_c_1 : IVec S_ 32 := constantI S_ 32 512#32
  let main_v7 : IVec S69632x16 32 := broadcastInDim S69632x16 ![] bcast_S_S69632x16 main_c_1
  let main_v8 : IVec S69632x16 32 := addi main_v6 main_v7
  let main_v9 : IVec S69632x16 1 := cmpi .slt main_v1 main_v8
  let main_v10 : IVec S69632x16 1 := andi main_v4 main_v9
  let main_c_2 : IVec S_ 1 := constantI S_ 1 0#1
  let main_v11 : IVec S69632 1 := (fun x v => Host.reduce IntOp.ori x v reducesTo_S69632x16_S69632_d1 h_S_) main_v10 main_c_2
  let main_c_3 : IVec S_ 32 := constantI S_ 32 0#32
  let main_v12 : IVec S16 32 := broadcastInDim S16 ![] bcast_S_S16 main_c_3
  let main_v13 : IVec S16 1 := cmpi .sge main_arg0 main_v12
  let main_c_4 : IVec S_ 32 := constantI S_ 32 136#32
  let main_v14 : IVec S16 32 := broadcastInDim S16 ![] bcast_S_S16 main_c_4
  let main_v15 : IVec S16 1 := cmpi .slt main_arg0 main_v14
  let main_v16 : IVec S16 1 := andi main_v13 main_v15
  let main_c_5 : IVec S_ 32 := constantI S_ 32 0#32
  fn_part1 (F := F) main_arg1 main_v11 main_v16 main_c_5
-- ==== Kernel.lean ====
abbrev S16 : Shape := ⟨1, ![16]⟩
abbrev S2x32768 : Shape := ⟨2, ![2, 32768]⟩
abbrev S32768x1024 : Shape := ⟨2, ![32768, 1024]⟩
abbrev S32768x2 : Shape := ⟨2, ![32768, 2]⟩
abbrev S4096x16 : Shape := ⟨2, ![4096, 16]⟩
abbrev S4096x8x1024 : Shape := ⟨3, ![4096, 8, 1024]⟩
abbrev S69632x1024 : Shape := ⟨2, ![69632, 1024]⟩
abbrev S128x16 : Shape := ⟨2, ![128, 16]⟩
abbrev S128x8x1024 : Shape := ⟨3, ![128, 8, 1024]⟩
abbrev S512x1024 : Shape := ⟨2, ![512, 1024]⟩
abbrev S_ : Shape := ⟨0, ![]⟩
abbrev S1 : Shape := ⟨1, ![1]⟩
abbrev S1x1 : Shape := ⟨2, ![1, 1]⟩
abbrev S1x1024 : Shape := ⟨2, ![1, 1024]⟩
abbrev S1x1x1024 : Shape := ⟨3, ![1, 1, 1024]⟩

abbrev nBuf : Space → Nat
  | .hbm => 6
  | .vmem => 3
  | .smem => 3
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S32768x2, .i32⟩
  | .hbm, ⟨3, _⟩ => ⟨S4096x16, .i32⟩
  | .hbm, ⟨4, _⟩ => ⟨S4096x8x1024, .f32⟩
  | .hbm, ⟨5, _⟩ => ⟨S69632x1024, .f32⟩
  | .local _ .vmem, ⟨0, _⟩ => ⟨S128x8x1024, .f32⟩
  | .local _ .vmem, ⟨1, _⟩ => ⟨S128x8x1024, .f32⟩
  | .local _ .vmem, ⟨2, _⟩ => ⟨S512x1024, .f32⟩
  | .local _ .smem, ⟨0, _⟩ => ⟨S16, .i32⟩
  | .local _ .smem, ⟨1, _⟩ => ⟨S128x16, .i32⟩
  | .local _ .smem, ⟨2, _⟩ => ⟨S128x16, .i32⟩
  | _, _ => ⟨S2x32768, .i32⟩

abbrev bufScoped : (cs : CoreSpace) → Fin (nBuf (.core cs)) → Bool
  | .vmem, ⟨0, _⟩ => true
  | .vmem, ⟨1, _⟩ => true
  | .vmem, ⟨2, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v9 : BitVec 32) : BitVec 32 :=
  let c512_i32 : BitVec 32 := 512#32
  let v10 : BitVec 32 := Scalar.muli v9 c512_i32
  v10

def k0_off1 (v9 : BitVec 32) : Fin 2 → Nat :=
  let c512_i32 : BitVec 32 := 512#32
  let v10 : BitVec 32 := Scalar.muli v9 c512_i32
  let v11 : BitVec 32 := v10
  let c0_i32_8 : BitVec 32 := 0#32
  ![v11.toNat, 0]

def k0_chk1 (i : grid0.Coords) (v9 : BitVec 32) : Prop :=
  (∀ (k0_h1 : k0_cond1 i = 1#1), 512 ∣ (k0_mult1 v9).toNat) ∧
  (∀ (k0_h1 : k0_cond1 i = 1#1), ∀ a, (k0_off1 v9) a + S512x1024.size a ≤ S69632x1024.size a)
theorem k0_mult1_dvd : ∀ (i : grid0.Coords) (v9 : BitVec 32) (k0_hw1 : k0_chk1 i v9), ∀ (k0_h1 : k0_cond1 i = 1#1), 512 ∣ (k0_mult1 v9).toNat := fun i v9 k0_hw1 k0_h1 => k0_hw1.1 k0_h1
theorem k0_off1_inb : ∀ (i : grid0.Coords) (v9 : BitVec 32) (k0_hw1 : k0_chk1 i v9), ∀ (k0_h1 : k0_cond1 i = 1#1), ∀ a, (k0_off1 v9) a + S512x1024.size a ≤ S69632x1024.size a := fun i v9 k0_hw1 k0_h1 => k0_hw1.2 k0_h1

def k0_mult2 (v14 : BitVec 32) : BitVec 32 :=
  let c512_i32_10 : BitVec 32 := 512#32
  let v15 : BitVec 32 := Scalar.muli v14 c512_i32_10
  v15

def k0_off2 (v14 : BitVec 32) : Fin 2 → Nat :=
  let c512_i32_10 : BitVec 32 := 512#32
  let v15 : BitVec 32 := Scalar.muli v14 c512_i32_10
  let v16 : BitVec 32 := v15
  let c0_i32_11 : BitVec 32 := 0#32
  ![v16.toNat, 0]

def k0_chk2 (i : grid0.Coords) (v14 : BitVec 32) : Prop :=
  (∀ (k0_h1 : k0_cond1 i = 1#1), 512 ∣ (k0_mult2 v14).toNat) ∧
  (∀ (k0_h1 : k0_cond1 i = 1#1), ∀ a, (k0_off2 v14) a + S512x1024.size a ≤ S69632x1024.size a)
theorem k0_mult2_dvd : ∀ (i : grid0.Coords) (v14 : BitVec 32) (k0_hw2 : k0_chk2 i v14), ∀ (k0_h1 : k0_cond1 i = 1#1), 512 ∣ (k0_mult2 v14).toNat := fun i v14 k0_hw2 k0_h1 => k0_hw2.1 k0_h1
theorem k0_off2_inb : ∀ (i : grid0.Coords) (v14 : BitVec 32) (k0_hw2 : k0_chk2 i v14), ∀ (k0_h1 : k0_cond1 i = 1#1), ∀ a, (k0_off2 v14) a + S512x1024.size a ≤ S69632x1024.size a := fun i v14 k0_hw2 k0_h1 => k0_hw2.2 k0_h1

def k0_mult3 (v19 : BitVec 32) : BitVec 32 :=
  let c512_i32_13 : BitVec 32 := 512#32
  let v20 : BitVec 32 := Scalar.muli v19 c512_i32_13
  v20

def k0_off3 (v19 : BitVec 32) : Fin 2 → Nat :=
  let c512_i32_13 : BitVec 32 := 512#32
  let v20 : BitVec 32 := Scalar.muli v19 c512_i32_13
  let v21 : BitVec 32 := v20
  let c0_i32_14 : BitVec 32 := 0#32
  ![v21.toNat, 0]

def k0_chk3 (i : grid0.Coords) (v19 : BitVec 32) : Prop :=
  (∀ (k0_h1 : k0_cond1 i = 1#1), 512 ∣ (k0_mult3 v19).toNat) ∧
  (∀ (k0_h1 : k0_cond1 i = 1#1), ∀ a, (k0_off3 v19) a + S512x1024.size a ≤ S69632x1024.size a)
theorem k0_mult3_dvd : ∀ (i : grid0.Coords) (v19 : BitVec 32) (k0_hw3 : k0_chk3 i v19), ∀ (k0_h1 : k0_cond1 i = 1#1), 512 ∣ (k0_mult3 v19).toNat := fun i v19 k0_hw3 k0_h1 => k0_hw3.1 k0_h1
theorem k0_off3_inb : ∀ (i : grid0.Coords) (v19 : BitVec 32) (k0_hw3 : k0_chk3 i v19), ∀ (k0_h1 : k0_cond1 i = 1#1), ∀ a, (k0_off3 v19) a + S512x1024.size a ≤ S69632x1024.size a := fun i v19 k0_hw3 k0_h1 => k0_hw3.2 k0_h1

def k0_mult4 (v24 : BitVec 32) : BitVec 32 :=
  let c512_i32_16 : BitVec 32 := 512#32
  let v25 : BitVec 32 := Scalar.muli v24 c512_i32_16
  v25

def k0_off4 (v24 : BitVec 32) : Fin 2 → Nat :=
  let c512_i32_16 : BitVec 32 := 512#32
  let v25 : BitVec 32 := Scalar.muli v24 c512_i32_16
  let v26 : BitVec 32 := v25
  let c0_i32_17 : BitVec 32 := 0#32
  ![v26.toNat, 0]

def k0_chk4 (i : grid0.Coords) (v24 : BitVec 32) : Prop :=
  (∀ (k0_h1 : k0_cond1 i = 1#1), 512 ∣ (k0_mult4 v24).toNat) ∧
  (∀ (k0_h1 : k0_cond1 i = 1#1), ∀ a, (k0_off4 v24) a + S512x1024.size a ≤ S69632x1024.size a)
theorem k0_mult4_dvd : ∀ (i : grid0.Coords) (v24 : BitVec 32) (k0_hw4 : k0_chk4 i v24), ∀ (k0_h1 : k0_cond1 i = 1#1), 512 ∣ (k0_mult4 v24).toNat := fun i v24 k0_hw4 k0_h1 => k0_hw4.1 k0_h1
theorem k0_off4_inb : ∀ (i : grid0.Coords) (v24 : BitVec 32) (k0_hw4 : k0_chk4 i v24), ∀ (k0_h1 : k0_cond1 i = 1#1), ∀ a, (k0_off4 v24) a + S512x1024.size a ≤ S69632x1024.size a := fun i v24 k0_hw4 k0_h1 => k0_hw4.2 k0_h1

def k0_mult5 (v29 : BitVec 32) : BitVec 32 :=
  let c512_i32_19 : BitVec 32 := 512#32
  let v30 : BitVec 32 := Scalar.muli v29 c512_i32_19
  v30

def k0_off5 (v29 : BitVec 32) : Fin 2 → Nat :=
  let c512_i32_19 : BitVec 32 := 512#32
  let v30 : BitVec 32 := Scalar.muli v29 c512_i32_19
  let v31 : BitVec 32 := v30
  let c0_i32_20 : BitVec 32 := 0#32
  ![v31.toNat, 0]

def k0_chk5 (i : grid0.Coords) (v29 : BitVec 32) : Prop :=
  (∀ (k0_h1 : k0_cond1 i = 1#1), 512 ∣ (k0_mult5 v29).toNat) ∧
  (∀ (k0_h1 : k0_cond1 i = 1#1), ∀ a, (k0_off5 v29) a + S512x1024.size a ≤ S69632x1024.size a)
theorem k0_mult5_dvd : ∀ (i : grid0.Coords) (v29 : BitVec 32) (k0_hw5 : k0_chk5 i v29), ∀ (k0_h1 : k0_cond1 i = 1#1), 512 ∣ (k0_mult5 v29).toNat := fun i v29 k0_hw5 k0_h1 => k0_hw5.1 k0_h1
theorem k0_off5_inb : ∀ (i : grid0.Coords) (v29 : BitVec 32) (k0_hw5 : k0_chk5 i v29), ∀ (k0_h1 : k0_cond1 i = 1#1), ∀ a, (k0_off5 v29) a + S512x1024.size a ≤ S69632x1024.size a := fun i v29 k0_hw5 k0_h1 => k0_hw5.2 k0_h1

def k0_mult6 (v34 : BitVec 32) : BitVec 32 :=
  let c512_i32_22 : BitVec 32 := 512#32
  let v35 : BitVec 32 := Scalar.muli v34 c512_i32_22
  v35

def k0_off6 (v34 : BitVec 32) : Fin 2 → Nat :=
  let c512_i32_22 : BitVec 32 := 512#32
  let v35 : BitVec 32 := Scalar.muli v34 c512_i32_22
  let v36 : BitVec 32 := v35
  let c0_i32_23 : BitVec 32 := 0#32
  ![v36.toNat, 0]

def k0_chk6 (i : grid0.Coords) (v34 : BitVec 32) : Prop :=
  (∀ (k0_h1 : k0_cond1 i = 1#1), 512 ∣ (k0_mult6 v34).toNat) ∧
  (∀ (k0_h1 : k0_cond1 i = 1#1), ∀ a, (k0_off6 v34) a + S512x1024.size a ≤ S69632x1024.size a)
theorem k0_mult6_dvd : ∀ (i : grid0.Coords) (v34 : BitVec 32) (k0_hw6 : k0_chk6 i v34), ∀ (k0_h1 : k0_cond1 i = 1#1), 512 ∣ (k0_mult6 v34).toNat := fun i v34 k0_hw6 k0_h1 => k0_hw6.1 k0_h1
theorem k0_off6_inb : ∀ (i : grid0.Coords) (v34 : BitVec 32) (k0_hw6 : k0_chk6 i v34), ∀ (k0_h1 : k0_cond1 i = 1#1), ∀ a, (k0_off6 v34) a + S512x1024.size a ≤ S69632x1024.size a := fun i v34 k0_hw6 k0_h1 => k0_hw6.2 k0_h1

def k0_mult7 (v39 : BitVec 32) : BitVec 32 :=
  let c512_i32_25 : BitVec 32 := 512#32
  let v40 : BitVec 32 := Scalar.muli v39 c512_i32_25
  v40

def k0_off7 (v39 : BitVec 32) : Fin 2 → Nat :=
  let c512_i32_25 : BitVec 32 := 512#32
  let v40 : BitVec 32 := Scalar.muli v39 c512_i32_25
  let v41 : BitVec 32 := v40
  let c0_i32_26 : BitVec 32 := 0#32
  ![v41.toNat, 0]

def k0_chk7 (i : grid0.Coords) (v39 : BitVec 32) : Prop :=
  (∀ (k0_h1 : k0_cond1 i = 1#1), 512 ∣ (k0_mult7 v39).toNat) ∧
  (∀ (k0_h1 : k0_cond1 i = 1#1), ∀ a, (k0_off7 v39) a + S512x1024.size a ≤ S69632x1024.size a)
theorem k0_mult7_dvd : ∀ (i : grid0.Coords) (v39 : BitVec 32) (k0_hw7 : k0_chk7 i v39), ∀ (k0_h1 : k0_cond1 i = 1#1), 512 ∣ (k0_mult7 v39).toNat := fun i v39 k0_hw7 k0_h1 => k0_hw7.1 k0_h1
theorem k0_off7_inb : ∀ (i : grid0.Coords) (v39 : BitVec 32) (k0_hw7 : k0_chk7 i v39), ∀ (k0_h1 : k0_cond1 i = 1#1), ∀ a, (k0_off7 v39) a + S512x1024.size a ≤ S69632x1024.size a := fun i v39 k0_hw7 k0_h1 => k0_hw7.2 k0_h1

def k0_mult8 (v44 : BitVec 32) : BitVec 32 :=
  let c512_i32_28 : BitVec 32 := 512#32
  let v45 : BitVec 32 := Scalar.muli v44 c512_i32_28
  v45

def k0_off8 (v44 : BitVec 32) : Fin 2 → Nat :=
  let c512_i32_28 : BitVec 32 := 512#32
  let v45 : BitVec 32 := Scalar.muli v44 c512_i32_28
  let v46 : BitVec 32 := v45
  let c0_i32_29 : BitVec 32 := 0#32
  ![v46.toNat, 0]

def k0_chk8 (i : grid0.Coords) (v44 : BitVec 32) : Prop :=
  (∀ (k0_h1 : k0_cond1 i = 1#1), 512 ∣ (k0_mult8 v44).toNat) ∧
  (∀ (k0_h1 : k0_cond1 i = 1#1), ∀ a, (k0_off8 v44) a + S512x1024.size a ≤ S69632x1024.size a)
theorem k0_mult8_dvd : ∀ (i : grid0.Coords) (v44 : BitVec 32) (k0_hw8 : k0_chk8 i v44), ∀ (k0_h1 : k0_cond1 i = 1#1), 512 ∣ (k0_mult8 v44).toNat := fun i v44 k0_hw8 k0_h1 => k0_hw8.1 k0_h1
theorem k0_off8_inb : ∀ (i : grid0.Coords) (v44 : BitVec 32) (k0_hw8 : k0_chk8 i v44), ∀ (k0_h1 : k0_cond1 i = 1#1), ∀ a, (k0_off8 v44) a + S512x1024.size a ≤ S69632x1024.size a := fun i v44 k0_hw8 k0_h1 => k0_hw8.2 k0_h1

def k0_mult9 (v49 : BitVec 32) : BitVec 32 :=
  let c512_i32_31 : BitVec 32 := 512#32
  let v50 : BitVec 32 := Scalar.muli v49 c512_i32_31
  v50

def k0_off9 (v49 : BitVec 32) : Fin 2 → Nat :=
  let c512_i32_31 : BitVec 32 := 512#32
  let v50 : BitVec 32 := Scalar.muli v49 c512_i32_31
  let v51 : BitVec 32 := v50
  let c0_i32_32 : BitVec 32 := 0#32
  ![v51.toNat, 0]

def k0_chk9 (i : grid0.Coords) (v49 : BitVec 32) : Prop :=
  (∀ (k0_h1 : k0_cond1 i = 1#1), 512 ∣ (k0_mult9 v49).toNat) ∧
  (∀ (k0_h1 : k0_cond1 i = 1#1), ∀ a, (k0_off9 v49) a + S512x1024.size a ≤ S69632x1024.size a)
theorem k0_mult9_dvd : ∀ (i : grid0.Coords) (v49 : BitVec 32) (k0_hw9 : k0_chk9 i v49), ∀ (k0_h1 : k0_cond1 i = 1#1), 512 ∣ (k0_mult9 v49).toNat := fun i v49 k0_hw9 k0_h1 => k0_hw9.1 k0_h1
theorem k0_off9_inb : ∀ (i : grid0.Coords) (v49 : BitVec 32) (k0_hw9 : k0_chk9 i v49), ∀ (k0_h1 : k0_cond1 i = 1#1), ∀ a, (k0_off9 v49) a + S512x1024.size a ≤ S69632x1024.size a := fun i v49 k0_hw9 k0_h1 => k0_hw9.2 k0_h1

def k0_mult10 (v54 : BitVec 32) : BitVec 32 :=
  let c512_i32_34 : BitVec 32 := 512#32
  let v55 : BitVec 32 := Scalar.muli v54 c512_i32_34
  v55

def k0_off10 (v54 : BitVec 32) : Fin 2 → Nat :=
  let c512_i32_34 : BitVec 32 := 512#32
  let v55 : BitVec 32 := Scalar.muli v54 c512_i32_34
  let v56 : BitVec 32 := v55
  let c0_i32_35 : BitVec 32 := 0#32
  ![v56.toNat, 0]

def k0_chk10 (i : grid0.Coords) (v54 : BitVec 32) : Prop :=
  (∀ (k0_h1 : k0_cond1 i = 1#1), 512 ∣ (k0_mult10 v54).toNat) ∧
  (∀ (k0_h1 : k0_cond1 i = 1#1), ∀ a, (k0_off10 v54) a + S512x1024.size a ≤ S69632x1024.size a)
theorem k0_mult10_dvd : ∀ (i : grid0.Coords) (v54 : BitVec 32) (k0_hw10 : k0_chk10 i v54), ∀ (k0_h1 : k0_cond1 i = 1#1), 512 ∣ (k0_mult10 v54).toNat := fun i v54 k0_hw10 k0_h1 => k0_hw10.1 k0_h1
theorem k0_off10_inb : ∀ (i : grid0.Coords) (v54 : BitVec 32) (k0_hw10 : k0_chk10 i v54), ∀ (k0_h1 : k0_cond1 i = 1#1), ∀ a, (k0_off10 v54) a + S512x1024.size a ≤ S69632x1024.size a := fun i v54 k0_hw10 k0_h1 => k0_hw10.2 k0_h1

def k0_mult11 (v59 : BitVec 32) : BitVec 32 :=
  let c512_i32_37 : BitVec 32 := 512#32
  let v60 : BitVec 32 := Scalar.muli v59 c512_i32_37
  v60

def k0_off11 (v59 : BitVec 32) : Fin 2 → Nat :=
  let c512_i32_37 : BitVec 32 := 512#32
  let v60 : BitVec 32 := Scalar.muli v59 c512_i32_37
  let v61 : BitVec 32 := v60
  let c0_i32_38 : BitVec 32 := 0#32
  ![v61.toNat, 0]

def k0_chk11 (i : grid0.Coords) (v59 : BitVec 32) : Prop :=
  (∀ (k0_h1 : k0_cond1 i = 1#1), 512 ∣ (k0_mult11 v59).toNat) ∧
  (∀ (k0_h1 : k0_cond1 i = 1#1), ∀ a, (k0_off11 v59) a + S512x1024.size a ≤ S69632x1024.size a)
theorem k0_mult11_dvd : ∀ (i : grid0.Coords) (v59 : BitVec 32) (k0_hw11 : k0_chk11 i v59), ∀ (k0_h1 : k0_cond1 i = 1#1), 512 ∣ (k0_mult11 v59).toNat := fun i v59 k0_hw11 k0_h1 => k0_hw11.1 k0_h1
theorem k0_off11_inb : ∀ (i : grid0.Coords) (v59 : BitVec 32) (k0_hw11 : k0_chk11 i v59), ∀ (k0_h1 : k0_cond1 i = 1#1), ∀ a, (k0_off11 v59) a + S512x1024.size a ≤ S69632x1024.size a := fun i v59 k0_hw11 k0_h1 => k0_hw11.2 k0_h1

def k0_mult12 (v64 : BitVec 32) : BitVec 32 :=
  let c512_i32_40 : BitVec 32 := 512#32
  let v65 : BitVec 32 := Scalar.muli v64 c512_i32_40
  v65

def k0_off12 (v64 : BitVec 32) : Fin 2 → Nat :=
  let c512_i32_40 : BitVec 32 := 512#32
  let v65 : BitVec 32 := Scalar.muli v64 c512_i32_40
  let v66 : BitVec 32 := v65
  let c0_i32_41 : BitVec 32 := 0#32
  ![v66.toNat, 0]

def k0_chk12 (i : grid0.Coords) (v64 : BitVec 32) : Prop :=
  (∀ (k0_h1 : k0_cond1 i = 1#1), 512 ∣ (k0_mult12 v64).toNat) ∧
  (∀ (k0_h1 : k0_cond1 i = 1#1), ∀ a, (k0_off12 v64) a + S512x1024.size a ≤ S69632x1024.size a)
theorem k0_mult12_dvd : ∀ (i : grid0.Coords) (v64 : BitVec 32) (k0_hw12 : k0_chk12 i v64), ∀ (k0_h1 : k0_cond1 i = 1#1), 512 ∣ (k0_mult12 v64).toNat := fun i v64 k0_hw12 k0_h1 => k0_hw12.1 k0_h1
theorem k0_off12_inb : ∀ (i : grid0.Coords) (v64 : BitVec 32) (k0_hw12 : k0_chk12 i v64), ∀ (k0_h1 : k0_cond1 i = 1#1), ∀ a, (k0_off12 v64) a + S512x1024.size a ≤ S69632x1024.size a := fun i v64 k0_hw12 k0_h1 => k0_hw12.2 k0_h1

def k0_mult13 (v69 : BitVec 32) : BitVec 32 :=
  let c512_i32_43 : BitVec 32 := 512#32
  let v70 : BitVec 32 := Scalar.muli v69 c512_i32_43
  v70

def k0_off13 (v69 : BitVec 32) : Fin 2 → Nat :=
  let c512_i32_43 : BitVec 32 := 512#32
  let v70 : BitVec 32 := Scalar.muli v69 c512_i32_43
  let v71 : BitVec 32 := v70
  let c0_i32_44 : BitVec 32 := 0#32
  ![v71.toNat, 0]

def k0_chk13 (i : grid0.Coords) (v69 : BitVec 32) : Prop :=
  (∀ (k0_h1 : k0_cond1 i = 1#1), 512 ∣ (k0_mult13 v69).toNat) ∧
  (∀ (k0_h1 : k0_cond1 i = 1#1), ∀ a, (k0_off13 v69) a + S512x1024.size a ≤ S69632x1024.size a)
theorem k0_mult13_dvd : ∀ (i : grid0.Coords) (v69 : BitVec 32) (k0_hw13 : k0_chk13 i v69), ∀ (k0_h1 : k0_cond1 i = 1#1), 512 ∣ (k0_mult13 v69).toNat := fun i v69 k0_hw13 k0_h1 => k0_hw13.1 k0_h1
theorem k0_off13_inb : ∀ (i : grid0.Coords) (v69 : BitVec 32) (k0_hw13 : k0_chk13 i v69), ∀ (k0_h1 : k0_cond1 i = 1#1), ∀ a, (k0_off13 v69) a + S512x1024.size a ≤ S69632x1024.size a := fun i v69 k0_hw13 k0_h1 => k0_hw13.2 k0_h1

def k0_mult14 (v74 : BitVec 32) : BitVec 32 :=
  let c512_i32_46 : BitVec 32 := 512#32
  let v75 : BitVec 32 := Scalar.muli v74 c512_i32_46
  v75

def k0_off14 (v74 : BitVec 32) : Fin 2 → Nat :=
  let c512_i32_46 : BitVec 32 := 512#32
  let v75 : BitVec 32 := Scalar.muli v74 c512_i32_46
  let v76 : BitVec 32 := v75
  let c0_i32_47 : BitVec 32 := 0#32
  ![v76.toNat, 0]

def k0_chk14 (i : grid0.Coords) (v74 : BitVec 32) : Prop :=
  (∀ (k0_h1 : k0_cond1 i = 1#1), 512 ∣ (k0_mult14 v74).toNat) ∧
  (∀ (k0_h1 : k0_cond1 i = 1#1), ∀ a, (k0_off14 v74) a + S512x1024.size a ≤ S69632x1024.size a)
theorem k0_mult14_dvd : ∀ (i : grid0.Coords) (v74 : BitVec 32) (k0_hw14 : k0_chk14 i v74), ∀ (k0_h1 : k0_cond1 i = 1#1), 512 ∣ (k0_mult14 v74).toNat := fun i v74 k0_hw14 k0_h1 => k0_hw14.1 k0_h1
theorem k0_off14_inb : ∀ (i : grid0.Coords) (v74 : BitVec 32) (k0_hw14 : k0_chk14 i v74), ∀ (k0_h1 : k0_cond1 i = 1#1), ∀ a, (k0_off14 v74) a + S512x1024.size a ≤ S69632x1024.size a := fun i v74 k0_hw14 k0_h1 => k0_hw14.2 k0_h1

def k0_mult15 (v79 : BitVec 32) : BitVec 32 :=
  let c512_i32_49 : BitVec 32 := 512#32
  let v80 : BitVec 32 := Scalar.muli v79 c512_i32_49
  v80

def k0_off15 (v79 : BitVec 32) : Fin 2 → Nat :=
  let c512_i32_49 : BitVec 32 := 512#32
  let v80 : BitVec 32 := Scalar.muli v79 c512_i32_49
  let v81 : BitVec 32 := v80
  let c0_i32_50 : BitVec 32 := 0#32
  ![v81.toNat, 0]

def k0_chk15 (i : grid0.Coords) (v79 : BitVec 32) : Prop :=
  (∀ (k0_h1 : k0_cond1 i = 1#1), 512 ∣ (k0_mult15 v79).toNat) ∧
  (∀ (k0_h1 : k0_cond1 i = 1#1), ∀ a, (k0_off15 v79) a + S512x1024.size a ≤ S69632x1024.size a)
theorem k0_mult15_dvd : ∀ (i : grid0.Coords) (v79 : BitVec 32) (k0_hw15 : k0_chk15 i v79), ∀ (k0_h1 : k0_cond1 i = 1#1), 512 ∣ (k0_mult15 v79).toNat := fun i v79 k0_hw15 k0_h1 => k0_hw15.1 k0_h1
theorem k0_off15_inb : ∀ (i : grid0.Coords) (v79 : BitVec 32) (k0_hw15 : k0_chk15 i v79), ∀ (k0_h1 : k0_cond1 i = 1#1), ∀ a, (k0_off15 v79) a + S512x1024.size a ≤ S69632x1024.size a := fun i v79 k0_hw15 k0_h1 => k0_hw15.2 k0_h1

def k0_mult16 (v84 : BitVec 32) : BitVec 32 :=
  let c512_i32_52 : BitVec 32 := 512#32
  let v85 : BitVec 32 := Scalar.muli v84 c512_i32_52
  v85

def k0_off16 (v84 : BitVec 32) : Fin 2 → Nat :=
  let c512_i32_52 : BitVec 32 := 512#32
  let v85 : BitVec 32 := Scalar.muli v84 c512_i32_52
  let v86 : BitVec 32 := v85
  let c0_i32_53 : BitVec 32 := 0#32
  ![v86.toNat, 0]

def k0_chk16 (i : grid0.Coords) (v84 : BitVec 32) : Prop :=
  (∀ (k0_h1 : k0_cond1 i = 1#1), 512 ∣ (k0_mult16 v84).toNat) ∧
  (∀ (k0_h1 : k0_cond1 i = 1#1), ∀ a, (k0_off16 v84) a + S512x1024.size a ≤ S69632x1024.size a)
theorem k0_mult16_dvd : ∀ (i : grid0.Coords) (v84 : BitVec 32) (k0_hw16 : k0_chk16 i v84), ∀ (k0_h1 : k0_cond1 i = 1#1), 512 ∣ (k0_mult16 v84).toNat := fun i v84 k0_hw16 k0_h1 => k0_hw16.1 k0_h1
theorem k0_off16_inb : ∀ (i : grid0.Coords) (v84 : BitVec 32) (k0_hw16 : k0_chk16 i v84), ∀ (k0_h1 : k0_cond1 i = 1#1), ∀ a, (k0_off16 v84) a + S512x1024.size a ≤ S69632x1024.size a := fun i v84 k0_hw16 k0_h1 => k0_hw16.2 k0_h1

@[reducible] def k0_t1_loop : Scf.Loop 32 :=
  let c0_i32_1 : BitVec 32 := 0#32
  let c128_i32 : BitVec 32 := 128#32
  let v3 : BitVec 32 := Scalar.addi c0_i32_1 c128_i32
  let c1_i32 : BitVec 32 := 1#32
  ⟨c0_i32_1, v3, c1_i32⟩
def k0_off17 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v5 : Index := Scalar.indexCast arg8
  let c0 : Index := 0#32
  ![v5.toNat, 0]
def k0_off18 (v6 : BitVec 32) : Fin 2 → Nat :=
  let c0_i32_6 : BitVec 32 := 0#32
  ![v6.toNat, 0]

def k0_chk17 (v6 : BitVec 32) : Prop :=
  (∀ a, (k0_off18 v6) a + S1x1024.size a ≤ S69632x1024.size a)
theorem k0_off18_inb : ∀ (v6 : BitVec 32) (k0_hw17 : k0_chk17 v6), ∀ a, (k0_off18 v6) a + S1x1024.size a ≤ S69632x1024.size a := fun v6 k0_hw17 => k0_hw17

def k0_off19 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c0_i32_7 : BitVec 32 := 0#32
  let c0_i32_8 : BitVec 32 := 0#32
  ![arg8.toNat, 0, 0]
def k0_off20 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v10 : Index := Scalar.indexCast arg8
  let c1 : Index := 1#32
  ![v10.toNat, 1]
def k0_off21 (v11 : BitVec 32) : Fin 2 → Nat :=
  let c0_i32_9 : BitVec 32 := 0#32
  ![v11.toNat, 0]

def k0_chk18 (v11 : BitVec 32) : Prop :=
  (∀ a, (k0_off21 v11) a + S1x1024.size a ≤ S69632x1024.size a)
theorem k0_off21_inb : ∀ (v11 : BitVec 32) (k0_hw18 : k0_chk18 v11), ∀ a, (k0_off21 v11) a + S1x1024.size a ≤ S69632x1024.size a := fun v11 k0_hw18 => k0_hw18

def k0_off22 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c0_i32_10 : BitVec 32 := 0#32
  let c0_i32_11 : BitVec 32 := 0#32
  ![arg8.toNat, 0, 0]
def k0_off23 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v15 : Index := Scalar.indexCast arg8
  let c2 : Index := 2#32
  ![v15.toNat, 2]
def k0_off24 (v16 : BitVec 32) : Fin 2 → Nat :=
  let c0_i32_12 : BitVec 32 := 0#32
  ![v16.toNat, 0]

def k0_chk19 (v16 : BitVec 32) : Prop :=
  (∀ a, (k0_off24 v16) a + S1x1024.size a ≤ S69632x1024.size a)
theorem k0_off24_inb : ∀ (v16 : BitVec 32) (k0_hw19 : k0_chk19 v16), ∀ a, (k0_off24 v16) a + S1x1024.size a ≤ S69632x1024.size a := fun v16 k0_hw19 => k0_hw19

def k0_off25 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c1_i32_13 : BitVec 32 := 1#32
  let c0_i32_14 : BitVec 32 := 0#32
  ![arg8.toNat, 1, 0]
def k0_off26 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v20 : Index := Scalar.indexCast arg8
  let c3 : Index := 3#32
  ![v20.toNat, 3]
def k0_off27 (v21 : BitVec 32) : Fin 2 → Nat :=
  let c0_i32_15 : BitVec 32 := 0#32
  ![v21.toNat, 0]

def k0_chk20 (v21 : BitVec 32) : Prop :=
  (∀ a, (k0_off27 v21) a + S1x1024.size a ≤ S69632x1024.size a)
theorem k0_off27_inb : ∀ (v21 : BitVec 32) (k0_hw20 : k0_chk20 v21), ∀ a, (k0_off27 v21) a + S1x1024.size a ≤ S69632x1024.size a := fun v21 k0_hw20 => k0_hw20

def k0_off28 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c1_i32_16 : BitVec 32 := 1#32
  let c0_i32_17 : BitVec 32 := 0#32
  ![arg8.toNat, 1, 0]
def k0_off29 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v25 : Index := Scalar.indexCast arg8
  let c4 : Index := 4#32
  ![v25.toNat, 4]
def k0_off30 (v26 : BitVec 32) : Fin 2 → Nat :=
  let c0_i32_18 : BitVec 32 := 0#32
  ![v26.toNat, 0]

def k0_chk21 (v26 : BitVec 32) : Prop :=
  (∀ a, (k0_off30 v26) a + S1x1024.size a ≤ S69632x1024.size a)
theorem k0_off30_inb : ∀ (v26 : BitVec 32) (k0_hw21 : k0_chk21 v26), ∀ a, (k0_off30 v26) a + S1x1024.size a ≤ S69632x1024.size a := fun v26 k0_hw21 => k0_hw21

def k0_off31 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c2_i32 : BitVec 32 := 2#32
  let c0_i32_19 : BitVec 32 := 0#32
  ![arg8.toNat, 2, 0]
def k0_off32 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v30 : Index := Scalar.indexCast arg8
  let c5 : Index := 5#32
  ![v30.toNat, 5]
def k0_off33 (v31 : BitVec 32) : Fin 2 → Nat :=
  let c0_i32_20 : BitVec 32 := 0#32
  ![v31.toNat, 0]

def k0_chk22 (v31 : BitVec 32) : Prop :=
  (∀ a, (k0_off33 v31) a + S1x1024.size a ≤ S69632x1024.size a)
theorem k0_off33_inb : ∀ (v31 : BitVec 32) (k0_hw22 : k0_chk22 v31), ∀ a, (k0_off33 v31) a + S1x1024.size a ≤ S69632x1024.size a := fun v31 k0_hw22 => k0_hw22

def k0_off34 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c2_i32_21 : BitVec 32 := 2#32
  let c0_i32_22 : BitVec 32 := 0#32
  ![arg8.toNat, 2, 0]
def k0_off35 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v35 : Index := Scalar.indexCast arg8
  let c6 : Index := 6#32
  ![v35.toNat, 6]
def k0_off36 (v36 : BitVec 32) : Fin 2 → Nat :=
  let c0_i32_23 : BitVec 32 := 0#32
  ![v36.toNat, 0]

def k0_chk23 (v36 : BitVec 32) : Prop :=
  (∀ a, (k0_off36 v36) a + S1x1024.size a ≤ S69632x1024.size a)
theorem k0_off36_inb : ∀ (v36 : BitVec 32) (k0_hw23 : k0_chk23 v36), ∀ a, (k0_off36 v36) a + S1x1024.size a ≤ S69632x1024.size a := fun v36 k0_hw23 => k0_hw23

def k0_off37 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c3_i32 : BitVec 32 := 3#32
  let c0_i32_24 : BitVec 32 := 0#32
  ![arg8.toNat, 3, 0]
def k0_off38 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v40 : Index := Scalar.indexCast arg8
  let c7 : Index := 7#32
  ![v40.toNat, 7]
def k0_off39 (v41 : BitVec 32) : Fin 2 → Nat :=
  let c0_i32_25 : BitVec 32 := 0#32
  ![v41.toNat, 0]

def k0_chk24 (v41 : BitVec 32) : Prop :=
  (∀ a, (k0_off39 v41) a + S1x1024.size a ≤ S69632x1024.size a)
theorem k0_off39_inb : ∀ (v41 : BitVec 32) (k0_hw24 : k0_chk24 v41), ∀ a, (k0_off39 v41) a + S1x1024.size a ≤ S69632x1024.size a := fun v41 k0_hw24 => k0_hw24

def k0_off40 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c3_i32_26 : BitVec 32 := 3#32
  let c0_i32_27 : BitVec 32 := 0#32
  ![arg8.toNat, 3, 0]
def k0_off41 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v45 : Index := Scalar.indexCast arg8
  let c8 : Index := 8#32
  ![v45.toNat, 8]
def k0_off42 (v46 : BitVec 32) : Fin 2 → Nat :=
  let c0_i32_28 : BitVec 32 := 0#32
  ![v46.toNat, 0]

def k0_chk25 (v46 : BitVec 32) : Prop :=
  (∀ a, (k0_off42 v46) a + S1x1024.size a ≤ S69632x1024.size a)
theorem k0_off42_inb : ∀ (v46 : BitVec 32) (k0_hw25 : k0_chk25 v46), ∀ a, (k0_off42 v46) a + S1x1024.size a ≤ S69632x1024.size a := fun v46 k0_hw25 => k0_hw25

def k0_off43 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c4_i32 : BitVec 32 := 4#32
  let c0_i32_29 : BitVec 32 := 0#32
  ![arg8.toNat, 4, 0]
def k0_off44 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v50 : Index := Scalar.indexCast arg8
  let c9 : Index := 9#32
  ![v50.toNat, 9]
def k0_off45 (v51 : BitVec 32) : Fin 2 → Nat :=
  let c0_i32_30 : BitVec 32 := 0#32
  ![v51.toNat, 0]

def k0_chk26 (v51 : BitVec 32) : Prop :=
  (∀ a, (k0_off45 v51) a + S1x1024.size a ≤ S69632x1024.size a)
theorem k0_off45_inb : ∀ (v51 : BitVec 32) (k0_hw26 : k0_chk26 v51), ∀ a, (k0_off45 v51) a + S1x1024.size a ≤ S69632x1024.size a := fun v51 k0_hw26 => k0_hw26

def k0_off46 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c4_i32_31 : BitVec 32 := 4#32
  let c0_i32_32 : BitVec 32 := 0#32
  ![arg8.toNat, 4, 0]
def k0_off47 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v55 : Index := Scalar.indexCast arg8
  let c10 : Index := 10#32
  ![v55.toNat, 10]
def k0_off48 (v56 : BitVec 32) : Fin 2 → Nat :=
  let c0_i32_33 : BitVec 32 := 0#32
  ![v56.toNat, 0]

def k0_chk27 (v56 : BitVec 32) : Prop :=
  (∀ a, (k0_off48 v56) a + S1x1024.size a ≤ S69632x1024.size a)
theorem k0_off48_inb : ∀ (v56 : BitVec 32) (k0_hw27 : k0_chk27 v56), ∀ a, (k0_off48 v56) a + S1x1024.size a ≤ S69632x1024.size a := fun v56 k0_hw27 => k0_hw27

def k0_off49 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c5_i32 : BitVec 32 := 5#32
  let c0_i32_34 : BitVec 32 := 0#32
  ![arg8.toNat, 5, 0]
def k0_off50 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v60 : Index := Scalar.indexCast arg8
  let c11 : Index := 11#32
  ![v60.toNat, 11]
def k0_off51 (v61 : BitVec 32) : Fin 2 → Nat :=
  let c0_i32_35 : BitVec 32 := 0#32
  ![v61.toNat, 0]

def k0_chk28 (v61 : BitVec 32) : Prop :=
  (∀ a, (k0_off51 v61) a + S1x1024.size a ≤ S69632x1024.size a)
theorem k0_off51_inb : ∀ (v61 : BitVec 32) (k0_hw28 : k0_chk28 v61), ∀ a, (k0_off51 v61) a + S1x1024.size a ≤ S69632x1024.size a := fun v61 k0_hw28 => k0_hw28

def k0_off52 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c5_i32_36 : BitVec 32 := 5#32
  let c0_i32_37 : BitVec 32 := 0#32
  ![arg8.toNat, 5, 0]
def k0_off53 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v65 : Index := Scalar.indexCast arg8
  let c12 : Index := 12#32
  ![v65.toNat, 12]
def k0_off54 (v66 : BitVec 32) : Fin 2 → Nat :=
  let c0_i32_38 : BitVec 32 := 0#32
  ![v66.toNat, 0]

def k0_chk29 (v66 : BitVec 32) : Prop :=
  (∀ a, (k0_off54 v66) a + S1x1024.size a ≤ S69632x1024.size a)
theorem k0_off54_inb : ∀ (v66 : BitVec 32) (k0_hw29 : k0_chk29 v66), ∀ a, (k0_off54 v66) a + S1x1024.size a ≤ S69632x1024.size a := fun v66 k0_hw29 => k0_hw29

def k0_off55 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c6_i32 : BitVec 32 := 6#32
  let c0_i32_39 : BitVec 32 := 0#32
  ![arg8.toNat, 6, 0]
def k0_off56 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v70 : Index := Scalar.indexCast arg8
  let c13 : Index := 13#32
  ![v70.toNat, 13]
def k0_off57 (v71 : BitVec 32) : Fin 2 → Nat :=
  let c0_i32_40 : BitVec 32 := 0#32
  ![v71.toNat, 0]

def k0_chk30 (v71 : BitVec 32) : Prop :=
  (∀ a, (k0_off57 v71) a + S1x1024.size a ≤ S69632x1024.size a)
theorem k0_off57_inb : ∀ (v71 : BitVec 32) (k0_hw30 : k0_chk30 v71), ∀ a, (k0_off57 v71) a + S1x1024.size a ≤ S69632x1024.size a := fun v71 k0_hw30 => k0_hw30

def k0_off58 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c6_i32_41 : BitVec 32 := 6#32
  let c0_i32_42 : BitVec 32 := 0#32
  ![arg8.toNat, 6, 0]
def k0_off59 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v75 : Index := Scalar.indexCast arg8
  let c14 : Index := 14#32
  ![v75.toNat, 14]
def k0_off60 (v76 : BitVec 32) : Fin 2 → Nat :=
  let c0_i32_43 : BitVec 32 := 0#32
  ![v76.toNat, 0]

def k0_chk31 (v76 : BitVec 32) : Prop :=
  (∀ a, (k0_off60 v76) a + S1x1024.size a ≤ S69632x1024.size a)
theorem k0_off60_inb : ∀ (v76 : BitVec 32) (k0_hw31 : k0_chk31 v76), ∀ a, (k0_off60 v76) a + S1x1024.size a ≤ S69632x1024.size a := fun v76 k0_hw31 => k0_hw31

def k0_off61 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c7_i32 : BitVec 32 := 7#32
  let c0_i32_44 : BitVec 32 := 0#32
  ![arg8.toNat, 7, 0]
def k0_off62 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v80 : Index := Scalar.indexCast arg8
  let c15 : Index := 15#32
  ![v80.toNat, 15]
def k0_off63 (v81 : BitVec 32) : Fin 2 → Nat :=
  let c0_i32_45 : BitVec 32 := 0#32
  ![v81.toNat, 0]

def k0_chk32 (v81 : BitVec 32) : Prop :=
  (∀ a, (k0_off63 v81) a + S1x1024.size a ≤ S69632x1024.size a)
theorem k0_off63_inb : ∀ (v81 : BitVec 32) (k0_hw32 : k0_chk32 v81), ∀ a, (k0_off63 v81) a + S1x1024.size a ≤ S69632x1024.size a := fun v81 k0_hw32 => k0_hw32

def k0_off64 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let c7_i32_46 : BitVec 32 := 7#32
  let c0_i32_47 : BitVec 32 := 0#32
  ![arg8.toNat, 7, 0]
@[reducible] def k0_t2_loop : Scf.Loop 32 :=
  let c0_i32_3 : BitVec 32 := 0#32
  let c128_i32_4 : BitVec 32 := 128#32
  let v4 : BitVec 32 := Scalar.addi c0_i32_3 c128_i32_4
  let c1_i32_5 : BitVec 32 := 1#32
  ⟨c0_i32_3, v4, c1_i32_5⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S128x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16 : Shape := ⟨1, ![16]⟩
abbrev S2x32768 : Shape := ⟨2, ![2, 32768]⟩
abbrev S32768x1024 : Shape := ⟨2, ![32768, 1024]⟩
abbrev S_ : Shape := ⟨0, ![]⟩
abbrev S69632x1024 : Shape := ⟨2, ![69632, 1024]⟩
abbrev S1x32768 : Shape := ⟨2, ![1, 32768]⟩
abbrev S32768 : Shape := ⟨1, ![32768]⟩
abbrev S32768x1 : Shape := ⟨2, ![32768, 1]⟩

abbrev nBuf : Space → Nat
  | .hbm => 27
  | .vmem => 0
  | .smem => 0
  | _ => 0

abbrev bufTy : (tb : Table) → Fin (tcTables nBuf tb) → BufTy
  | .hbm, ⟨0, _⟩ => ⟨S16, .i32⟩
  | .hbm, ⟨1, _⟩ => ⟨S2x32768, .i32⟩
  | .hbm, ⟨2, _⟩ => ⟨S32768x1024, .f32⟩
  | .hbm, ⟨3, _⟩ => ⟨S_, .f32⟩
  | .hbm, ⟨4, _⟩ => ⟨S69632x1024, .f32⟩
  | .hbm, ⟨5, _⟩ => ⟨S1x32768, .i32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S69632x1024, .f32⟩
  | .hbm, ⟨16, _⟩ => ⟨S1x32768, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S32768x1, .i32⟩
  | .hbm, ⟨26, _⟩ => ⟨S69632x1024, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩
abbrev S136x1 : Shape := ⟨2, ![136, 1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S1024x256 : Shape := ⟨2, ![1024, 256]⟩
abbrev S512x256 : Shape := ⟨2, ![512, 256]⟩
abbrev S1792x1024 : Shape := ⟨2, ![1792, 1024]⟩
abbrev S256x1024 : Shape := ⟨2, ![256, 1024]⟩

abbrev nBuf : Space → Nat
  | .hbm => 23
  | .vmem => 10
  | .smem => 2
  | _ => 0

abbrev bufTy : (tb : Table) → Fin (tcTables nBuf tb) → BufTy
  | .hbm, ⟨0, _⟩ => ⟨S136, .i32⟩
  | .hbm, ⟨1, _⟩ => ⟨S69632x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S136, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S136, .i32⟩
  | .hbm, ⟨13, _⟩ => ⟨S136, .i32⟩
  | .hbm, ⟨14, _⟩ => ⟨S_, .i32⟩
  | .hbm, ⟨15, _⟩ => ⟨S136, .i32⟩
  | .hbm, ⟨16, _⟩ => ⟨S136, .i1⟩
  | .hbm, ⟨17, _⟩ => ⟨S_, .i32⟩
  | .hbm, ⟨18, _⟩ => ⟨S136, .i32⟩
  | .hbm, ⟨19, _⟩ => ⟨S136, .i32⟩
  | .hbm, ⟨20, _⟩ => ⟨S136, .i32⟩
  | .hbm, ⟨21, _⟩ => ⟨S136x1, .i32⟩
  | .hbm, ⟨22, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S136, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v14.idx, main_arg1.idx], fun | 0 => main_v14.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, c0_i32_8.toNat, v20.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, c0_i32_8.toNat, v20.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, v20.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S69632 : Shape := ⟨1, ![69632]⟩
abbrev S_ : Shape := ⟨0, ![]⟩
abbrev S69632x1 : Shape := ⟨2, ![69632, 1]⟩
abbrev S1x8 : Shape := ⟨2, ![1, 8]⟩
abbrev S69632x8 : Shape := ⟨2, ![69632, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S69632x3584 : Shape := ⟨2, ![69632, 3584]⟩

abbrev nBuf : Space → Nat
  | .hbm => 235
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x3584, .f32⟩
  | 4 => ⟨S8x1024x3584, .f32⟩
  | 5 => ⟨S8x3584x1024, .f32⟩
  | 6 => ⟨S69632, .i32⟩
  | 7 => ⟨S_, .i32⟩
  | 8 => ⟨S_, .i32⟩
  | 9 => ⟨S69632, .i32⟩
  | 10 => ⟨S69632, .i32⟩
  | 11 => ⟨S69632, .i32⟩
  | 12 => ⟨S_, .i32⟩
  | 13 => ⟨S69632, .i32⟩
  | 14 => ⟨S69632, .i1⟩
  | 15 => ⟨S69632, .i32⟩
  | 16 => ⟨S69632, .i32⟩
  | 17 => ⟨S_, .i32⟩
  | 18 => ⟨S69632, .i32⟩
  | 19 => ⟨S69632, .i1⟩
  | 20 => ⟨S69632, .i1⟩
  | 21 => ⟨S_, .i32⟩
  | 22 => ⟨S69632, .i32⟩
  | 23 => ⟨S69632, .i32⟩
  | 24 => ⟨S69632, .i32⟩
  | 25 => ⟨S_, .i32⟩
  | 26 => ⟨S69632, .i32⟩
  | 27 => ⟨S69632, .i1⟩
  | 28 => ⟨S_, .i32⟩
  | 29 => ⟨S69632, .i32⟩
  | 30 => ⟨S69632, .i32⟩
  | 31 => ⟨S69632, .i32⟩
  | 32 => ⟨S69632x1, .i32⟩
  | 33 => ⟨S69632, .i32⟩
  | 34 => ⟨S69632x1, .i32⟩
  | 35 => ⟨S1x8, .i32⟩
  | 36 => ⟨S69632x8, .i32⟩
  | 37 => ⟨S69632x8, .i32⟩
  | 38 => ⟨S69632x8, .i1⟩
  | 39 => ⟨S69632x8, .f32⟩
  | 40 => ⟨S_, .i32⟩
  | 41 => ⟨S69632, .i32⟩
  | 42 => ⟨S69632, .i1⟩
  | 43 => ⟨S69632x1, .i1⟩
  | 44 => ⟨S_, .f32⟩
  | 45 => ⟨S_, .f32⟩
  | 46 => ⟨S69632x8, .i1⟩
  | 47 => ⟨S69632x8, .f32⟩
  | 48 => ⟨S69632x8, .f32⟩
  | 49 => ⟨S_, .f32⟩
  | 50 => ⟨S69632x1024, .f32⟩
  | 51 => ⟨S69632x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S69632x3584, .f32⟩
  | 59 => ⟨S69632x3584, .f32⟩
  | 60 => ⟨S69632x3584, .f32⟩
  | 61 => ⟨S_, .f32⟩
  | 62 => ⟨S69632x3584, .f32⟩
  | 63 => ⟨S69632x3584, .f32⟩
  | 64 => ⟨S_, .f32⟩
  | 65 => ⟨S69632x3584, .f32⟩
  | 66 => ⟨S69632x3584, .f32⟩
  | 67 => ⟨S69632x3584, .f32⟩
  | 68 => ⟨S69632x3584, .f32⟩
  | 69 => ⟨S69632x3584, .f32⟩
  | 70 => ⟨S69632x1024, .f32⟩
  | 71 => ⟨S69632x1024, .f32⟩
  | 72 => ⟨S69632x1024, .f32⟩
  | 73 => ⟨S69632x1024, .f32⟩
  | 74 => ⟨S69632x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S69632x3584, .f32⟩
  | 82 => ⟨S69632x3584, .f32⟩
  | 83 => ⟨S69632x3584, .f32⟩
  | 84 => ⟨S_, .f32⟩
  | 85 => ⟨S69632x3584, .f32⟩
  | 86 => ⟨S69632x3584, .f32⟩
  | 87 => ⟨S_, .f32⟩
  | 88 => ⟨S69632x3584, .f32⟩
  | 89 => ⟨S69632x3584, .f32⟩
  | 90 => ⟨S69632x3584, .f32⟩
  | 91 => ⟨S69632x3584, .f32⟩
  | 92 => ⟨S69632x3584, .f32⟩
  | 93 => ⟨S69632x1024, .f32⟩
  | 94 => ⟨S69632x1024, .f32⟩
  | 95 => ⟨S69632x1024, .f32⟩
  | 96 => ⟨S69632x1024, .f32⟩
  | 97 => ⟨S69632x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S69632x3584, .f32⟩
  | 105 => ⟨S69632x3584, .f32⟩
  | 106 => ⟨S69632x3584, .f32⟩
  | 107 => ⟨S_, .f32⟩
  | 108 => ⟨S69632x3584, .f32⟩
  | 109 => ⟨S69632x3584, .f32⟩
  | 110 => ⟨S_, .f32⟩
  | 111 => ⟨S69632x3584, .f32⟩
  | 112 => ⟨S69632x3584, .f32⟩
  | 113 => ⟨S69632x3584, .f32⟩
  | 114 => ⟨S69632x3584, .f32⟩
  | 115 => ⟨S69632x3584, .f32⟩
  | 116 => ⟨S69632x1024, .f32⟩
  | 117 => ⟨S69632x1024, .f32⟩
  | 118 => ⟨S69632x1024, .f32⟩
  | 119 => ⟨S69632x1024, .f32⟩
  | 120 => ⟨S69632x1, .f32⟩
  | 121 => ⟨S1x1024x3584, .f32⟩
  | 122 => ⟨S1024x3584, .f32⟩
  | 123 => ⟨S1x1024x3584, .f32⟩
  | 124 => ⟨S1024x3584, .f32⟩
  | 125 => ⟨S1x3584x1024, .f32⟩
  | 126 => ⟨S3584x1024, .f32⟩
  | 127 => ⟨S69632x3584, .f32⟩
  | _ => ⟨S136, .i32⟩

abbrev hbmTy0_1 (i : Nat) : BufTy := match i % 128 with
  | 0 => ⟨S69632x3584, .f32⟩
  | 1 => ⟨S69632x3584, .f32⟩
  | 2 => ⟨S_, .f32⟩
  | 3 => ⟨S69632x3584, .f32⟩
  | 4 => ⟨S69632x3584, .f32⟩
  | 5 => ⟨S_, .f32⟩
  | 6 => ⟨S69632x3584, .f32⟩
  | 7 => ⟨S69632x3584, .f32⟩
  | 8 => ⟨S69632x3584, .f32⟩
  | 9 => ⟨S69632x3584, .f32⟩
  | 10 => ⟨S69632x3584, .f32⟩
  | 11 => ⟨S69632x1024, .f32⟩
  | 12 => ⟨S69632x1024, .f32⟩
  | 13 => ⟨S69632x1024, .f32⟩
  | 14 => ⟨S69632x1024, .f32⟩
  | 15 => ⟨S69632x1, .f32⟩
  | 16 => ⟨S1x1024x3584, .f32⟩
  | 17 => ⟨S1024x3584, .f32⟩
  | 18 => ⟨S1x1024x3584, .f32⟩
  | 19 => ⟨S1024x3584, .f32⟩
  | 20 => ⟨S1x3584x1024, .f32⟩
  | 21 => ⟨S3584x1024, .f32⟩
  | 22 => ⟨S69632x3584, .f32⟩
  | 23 => ⟨S69632x3584, .f32⟩
  | 24 => ⟨S69632x3584, .f32⟩
  | 25 => ⟨S_, .f32⟩
  | 26 => ⟨S69632x3584, .f32⟩
  | 27 => ⟨S69632x3584, .f32⟩
  | 28 => ⟨S_, .f32⟩
  | 29 => ⟨S69632x3584, .f32⟩
  | 30 => ⟨S69632x3584, .f32⟩
  | 31 => ⟨S69632x3584, .f32⟩
  | 32 => ⟨S69632x3584, .f32⟩
  | 33 => ⟨S69632x3584, .f32⟩
  | 34 => ⟨S69632x1024, .f32⟩
  | 35 => ⟨S69632x1024, .f32⟩
  | 36 => ⟨S69632x1024, .f32⟩
  | 37 => ⟨S69632x1024, .f32⟩
  | 38 => ⟨S69632x1, .f32⟩
  | 39 => ⟨S1x1024x3584, .f32⟩
  | 40 => ⟨S1024x3584, .f32⟩
  | 41 => ⟨S1x1024x3584, .f32⟩
  | 42 => ⟨S1024x3584, .f32⟩
  | 43 => ⟨S1x3584x1024, .f32⟩
  | 44 => ⟨S3584x1024, .f32⟩
  | 45 => ⟨S69632x3584, .f32⟩
  | 46 => ⟨S69632x3584, .f32⟩
  | 47 => ⟨S69632x3584, .f32⟩
  | 48 => ⟨S_, .f32⟩
  | 49 => ⟨S69632x3584, .f32⟩
  | 50 => ⟨S69632x3584, .f32⟩
  | 51 => ⟨S_, .f32⟩
  | 52 => ⟨S69632x3584, .f32⟩
  | 53 => ⟨S69632x3584, .f32⟩
  | 54 => ⟨S69632x3584, .f32⟩
  | 55 => ⟨S69632x3584, .f32⟩
  | 56 => ⟨S69632x3584, .f32⟩
  | 57 => ⟨S69632x1024, .f32⟩
  | 58 => ⟨S69632x1024, .f32⟩
  | 59 => ⟨S69632x1024, .f32⟩
  | 60 => ⟨S69632x1024, .f32⟩
  | 61 => ⟨S69632x1, .f32⟩
  | 62 => ⟨S1x1024x3584, .f32⟩
  | 63 => ⟨S1024x3584, .f32⟩
  | 64 => ⟨S1x1024x3584, .f32⟩
  | 65 => ⟨S1024x3584, .f32⟩
  | 66 => ⟨S1x3584x1024, .f32⟩
  | 67 => ⟨S3584x1024, .f32⟩
  | 68 => ⟨S69632x3584, .f32⟩
  | 69 => ⟨S69632x3584, .f32⟩
  | 70 => ⟨S69632x3584, .f32⟩
  | 71 => ⟨S_, .f32⟩
  | 72 => ⟨S69632x3584, .f32⟩
  | 73 => ⟨S69632x3584, .f32⟩
  | 74 => ⟨S_, .f32⟩
  | 75 => ⟨S69632x3584, .f32⟩
  | 76 => ⟨S69632x3584, .f32⟩
  | 77 => ⟨S69632x3584, .f32⟩
  | 78 => ⟨S69632x3584, .f32⟩
  | 79 => ⟨S69632x3584, .f32⟩
  | 80 => ⟨S69632x1024, .f32⟩
  | 81 => ⟨S69632x1024, .f32⟩
  | 82 => ⟨S69632x1024, .f32⟩
  | 83 => ⟨S69632x1024, .f32⟩
  | 84 => ⟨S69632x1, .f32⟩
  | 85 => ⟨S1x1024x3584, .f32⟩
  | 86 => ⟨S1024x3584, .f32⟩
  | 87 => ⟨S1x1024x3584, .f32⟩
  | 88 => ⟨S1024x3584, .f32⟩
  | 89 => ⟨S1x3584x1024, .f32⟩
  | 90 => ⟨S3584x1024, .f32⟩
  | 91 => ⟨S69632x3584, .f32⟩
  | 92 => ⟨S69632x3584, .f32⟩
  | 93 => ⟨S69632x3584, .f32⟩
  | 94 => ⟨S_, .f32⟩
  | 95 => ⟨S69632x3584, .f32⟩
  | 96 => ⟨S69632x3584, .f32⟩
  | 97 => ⟨S_, .f32⟩
  | 98 => ⟨S69632x3584, .f32⟩
  | 99 => ⟨S69632x3584, .f32⟩
  | 100 => ⟨S69632x3584, .f32⟩
  | 101 => ⟨S69632x3584, .f32⟩
  | 102 => ⟨S69632x3584, .f32⟩
  | 103 => ⟨S69632x1024, .f32⟩
  | 104 => ⟨S69632x1024, .f32⟩
  | 105 => ⟨S69632x1024, .f32⟩
  | 106 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_call5_v0 : Ref sig .tc := ⟨.hbm, 105, rfl⟩
abbrev main_call5_v1 : Ref sig .tc := ⟨.hbm, 106, rfl⟩
abbrev main_call5_cst : Ref sig .tc := ⟨.hbm, 107, rfl⟩
abbrev main_call5_v2 : Ref sig .tc := ⟨.hbm, 108, rfl⟩
abbrev main_call5_v3 : Ref sig .tc := ⟨.hbm, 109, rfl⟩
abbrev main_call5_cst_0 : Ref sig .tc := ⟨.hbm, 110, rfl⟩
abbrev main_call5_v4 : Ref sig .tc := ⟨.hbm, 111, rfl⟩
abbrev main_call5_v5 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_call7_v0 : Ref sig .tc := ⟨.hbm, 151, rfl⟩
abbrev main_call7_v1 : Ref sig .tc := ⟨.hbm, 152, rfl⟩
abbrev main_call7_cst : Ref sig .tc := ⟨.hbm, 153, rfl⟩
abbrev main_call7_v2 : Ref sig .tc := ⟨.hbm, 154, rfl⟩
abbrev main_call7_v3 : Ref sig .tc := ⟨.hbm, 155, rfl⟩
abbrev main_call7_cst_0 : Ref sig .tc := ⟨.hbm, 156, rfl⟩
abbrev main_call7_v4 : Ref sig .tc := ⟨.hbm, 157, rfl⟩
abbrev main_call7_v5 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_call8_v0 : Ref sig .tc := ⟨.hbm, 174, rfl⟩
abbrev main_call8_v1 : Ref sig .tc := ⟨.hbm, 175, rfl⟩
abbrev main_call8_cst : Ref sig .tc := ⟨.hbm, 176, rfl⟩
abbrev main_call8_v2 : Ref sig .tc := ⟨.hbm, 177, rfl⟩
abbrev main_call8_v3 : Ref sig .tc := ⟨.hbm, 178, rfl⟩
abbrev main_call8_cst_0 : Ref sig .tc := ⟨.hbm, 179, rfl⟩
abbrev main_call8_v4 : Ref sig .tc := ⟨.hbm, 180, rfl⟩
abbrev main_call8_v5 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_call9_v0 : Ref sig .tc := ⟨.hbm, 197, rfl⟩
abbrev main_call9_v1 : Ref sig .tc := ⟨.hbm, 198, rfl⟩
abbrev main_call9_cst : Ref sig .tc := ⟨.hbm, 199, rfl⟩
abbrev main_call9_v2 : Ref sig .tc := ⟨.hbm, 200, rfl⟩
abbrev main_call9_v3 : Ref sig .tc := ⟨.hbm, 201, rfl⟩
abbrev main_call9_cst_0 : Ref sig .tc := ⟨.hbm, 202, rfl⟩
abbrev main_call9_v4 : Ref sig .tc := ⟨.hbm, 203, rfl⟩
abbrev main_call9_v5 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_call10_v0 : Ref sig .tc := ⟨.hbm, 220, rfl⟩
abbrev main_call10_v1 : Ref sig .tc := ⟨.hbm, 221, rfl⟩
abbrev main_call10_cst : Ref sig .tc := ⟨.hbm, 222, rfl⟩
abbrev main_call10_v2 : Ref sig .tc := ⟨.hbm, 223, rfl⟩
abbrev main_call10_v3 : Ref sig .tc := ⟨.hbm, 224, rfl⟩
abbrev main_call10_cst_0 : Ref sig .tc := ⟨.hbm, 225, rfl⟩
abbrev main_call10_v4 : Ref sig .tc := ⟨.hbm, 226, rfl⟩
abbrev main_call10_v5 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩

abbrev nD : Nat := 1
abbrev τ : Topo := Topo.v7x

variable {F : FTy → Type} [FloatOps F]
-- ==== Dense.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S32768x1024, .f32⟩
  | .hbm, ⟨15, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DenseReferenceIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Qkv.lean ====
abbrev S4x8192x1024 : Shape := ⟨3, ![4, 8192, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩
abbrev S1x1024 : Shape := ⟨2, ![1, 1024]⟩
abbrev S4x16x1024x512 : Shape := ⟨4, ![4, 16, 1024, 512]⟩
abbrev S1x512x1024 : Shape := ⟨3, ![1, 512, 1024]⟩
abbrev S1x1x1024x512 : Shape := ⟨4, ![1, 1, 1024, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 18
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S4x16x1024x512, .bf16⟩
  | .hbm, ⟨16, _⟩ => ⟨S4x8192x1024, .bf16⟩
  | .hbm, ⟨17, _⟩ => ⟨S4x16x1024x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1024x512, .bf16⟩
  | .local _ .vmem, ⟨7, _⟩ => ⟨S1x1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x1024x512, .bf16⟩
  | .local _ .vmem, ⟨11, _⟩ => ⟨S1x1x1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvReferenceIdeal.lean ====
abbrev S4x8192x1024 : Shape := ⟨3, ![4, 8192, 1024]⟩
abbrev S1024 : Shape := ⟨1, ![1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x16x512x1024 : Shape := ⟨4, ![4, 16, 512, 1024]⟩
abbrev S4x16x1024x512 : Shape := ⟨4, ![4, 16, 1024, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3072, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S4x16x512x1024, .f32⟩
  | .hbm, ⟨27, _⟩ => ⟨S4x16x1024x512, .f32⟩
  | .hbm, ⟨28, _⟩ => ⟨S4x16x1024x512, .bf16⟩
  | .hbm, ⟨29, _⟩ => ⟨S4x8192x1024, .bf16⟩
  | .hbm, ⟨30, _⟩ => ⟨S4x16x512x1024, .f32⟩
  | .hbm, ⟨31, _⟩ => ⟨S4x16x1024x512, .f32⟩
  | .hbm, ⟨32, _⟩ => ⟨S4x16x1024x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Combine.lean ====
abbrev S2x32768 : Shape := ⟨2, ![2, 32768]⟩
abbrev S32768x1024 : Shape := ⟨2, ![32768, 1024]⟩
abbrev S1024 : Shape := ⟨1, ![1024]⟩
abbrev S69632x1024 : Shape := ⟨2, ![69632, 1024]⟩
abbrev S32768x2 : Shape := ⟨2, ![32768, 2]⟩
abbrev S4096x16 : Shape := ⟨2, ![4096, 16]⟩
abbrev S1x1024 : Shape := ⟨2, ![1, 1024]⟩
abbrev S128x16 : Shape := ⟨2, ![128, 16]⟩
abbrev S1024x2 : Shape := ⟨2, ![1024, 2]⟩
abbrev S1024x1024 : Shape := ⟨2, ![1024, 1024]⟩
abbrev S2x128x8x1024 : Shape := ⟨4, ![2, 128, 8, 1024]⟩
abbrev S_ : Shape := ⟨0, ![]⟩
abbrev S1x1 : Shape := ⟨2, ![1, 1]⟩
abbrev S1x1x1x1024 : Shape := ⟨4, ![1, 1, 1, 1024]⟩
abbrev S1024x1 : Shape := ⟨2, ![1024, 1]⟩
abbrev S1x128x8x1024 : Shape := ⟨4, ![1, 128, 8, 1024]⟩
abbrev S128x8x1024 : Shape := ⟨3, ![128, 8, 1024]⟩

abbrev nBuf : Space → Nat
  | .hbm => 10
  | .vmem => 8
  | .smem => 2
  | _ => 0

abbrev bufTy : (tb : Table) → Fin (tcTables nBuf tb) → BufTy
  | .hbm, ⟨0, _⟩ => ⟨S2x32768, .i32⟩
  | .hbm, ⟨1, _⟩ => ⟨S2x32768, .f32⟩
  | .hbm, ⟨2, _⟩ => ⟨S32768x1024, .f32⟩
  | .hbm, ⟨3, _⟩ => ⟨S1024, .f32⟩
  | .hbm, ⟨4, _⟩ => ⟨S69632x1024, .f32⟩
  | .hbm, ⟨5, _⟩ => ⟨S32768x2, .i32⟩
  | .hbm, ⟨6, _⟩ => ⟨S4096x16, .i32⟩
  | .hbm, ⟨7, _⟩ => ⟨S32768x2, .f32⟩
  | .hbm, ⟨8, _⟩ => ⟨S1x1024, .f32⟩
  | .hbm, ⟨9, _⟩ => ⟨S32768x1024, .f32⟩
  | .local _ .vmem, ⟨0, _⟩ => ⟨S1024x2, .f32⟩
  | .local _ .vmem, ⟨1, _⟩ => ⟨S1024x2, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S2x128x8x1024, .f32⟩
  | .local _ .smem, ⟨0, _⟩ => ⟨S128x16, .i32⟩
  | .local _ .smem, ⟨1, _⟩ => ⟨S128x16, .i32⟩
  | _, _ => ⟨S2x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let v34 : Index := Scalar.indexCast arg9
  let c0_20 : Index := 0#32
  ![v34.toNat, 0]
def k0_off2 (k0_t1 : Fin k0_t1_loop.trips) : Fin 4 → Nat :=
  let c0_i32_21 : BitVec 32 := 0#32
  let c0_i32 : BitVec 32 := 0#32
  let c1_i32 : BitVec 32 := 1#32
  let arg9 : BitVec 32 := Scf.iv c0_i32 c1_i32 k0_t1
  let c0_i32_22 : BitVec 32 := 0#32
  let c0_i32_23 : BitVec 32 := 0#32
  ![0, arg9.toNat, 0, 0]
def k0_off3 (v35 : BitVec 32) : Fin 2 → Nat :=
  let c0_i32_24 : BitVec 32 := 0#32
  ![v35.toNat, 0]

def k0_chk1 (v35 : BitVec 32) : Prop :=
  (∀ a, (k0_off3 v35) a + S1x1024.size a ≤ S69632x1024.size a)
theorem k0_off3_inb : ∀ (v35 : BitVec 32) (k0_hw1 : k0_chk1 v35), ∀ a, (k0_off3 v35) a + S1x1024.size a ≤ S69632x1024.size a := fun v35 k0_hw1 => k0_hw1

def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let v39 : Index := Scalar.indexCast arg9
  let c1_25 : Index := 1#32
  ![v39.toNat, 1]
def k0_off5 (k0_t1 : Fin k0_t1_loop.trips) : Fin 4 → Nat :=
  let c1_i32_26 : BitVec 32 := 1#32
  let c0_i32 : BitVec 32 := 0#32
  let c1_i32 : BitVec 32 := 1#32
  let arg9 : BitVec 32 := Scf.iv c0_i32 c1_i32 k0_t1
  let c0_i32_27 : BitVec 32 := 0#32
  let c0_i32_28 : BitVec 32 := 0#32
  ![1, arg9.toNat, 0, 0]
def k0_off6 (v40 : BitVec 32) : Fin 2 → Nat :=
  let c0_i32_29 : BitVec 32 := 0#32
  ![v40.toNat, 0]

def k0_chk2 (v40 : BitVec 32) : Prop :=
  (∀ a, (k0_off6 v40) a + S1x1024.size a ≤ S69632x1024.size a)
theorem k0_off6_inb : ∀ (v40 : BitVec 32) (k0_hw2 : k0_chk2 v40), ∀ a, (k0_off6 v40) a + S1x1024.size a ≤ S69632x1024.size a := fun v40 k0_hw2 => k0_hw2

def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let v44 : Index := Scalar.indexCast arg9
  let c2 : Index := 2#32
  ![v44.toNat, 2]
def k0_off8 (k0_t1 : Fin k0_t1_loop.trips) : Fin 4 → Nat :=
  let c0_i32_30 : BitVec 32 := 0#32
  let c0_i32 : BitVec 32 := 0#32
  let c1_i32 : BitVec 32 := 1#32
  let arg9 : BitVec 32 := Scf.iv c0_i32 c1_i32 k0_t1
  let c1_i32_31 : BitVec 32 := 1#32
  let c0_i32_32 : BitVec 32 := 0#32
  ![0, arg9.toNat, 1, 0]
def k0_off9 (v45 : BitVec 32) : Fin 2 → Nat :=
  let c0_i32_33 : BitVec 32 := 0#32
  ![v45.toNat, 0]

def k0_chk3 (v45 : BitVec 32) : Prop :=
  (∀ a, (k0_off9 v45) a + S1x1024.size a ≤ S69632x1024.size a)
theorem k0_off9_inb : ∀ (v45 : BitVec 32) (k0_hw3 : k0_chk3 v45), ∀ a, (k0_off9 v45) a + S1x1024.size a ≤ S69632x1024.size a := fun v45 k0_hw3 => k0_hw3

def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let v49 : Index := Scalar.indexCast arg9
  let c3 : Index := 3#32
  ![v49.toNat, 3]
def k0_off11 (k0_t1 : Fin k0_t1_loop.trips) : Fin 4 → Nat :=
  let c1_i32_34 : BitVec 32 := 1#32
  let c0_i32 : BitVec 32 := 0#32
  let c1_i32 : BitVec 32 := 1#32
  let arg9 : BitVec 32 := Scf.iv c0_i32 c1_i32 k0_t1
  let c1_i32_35 : BitVec 32 := 1#32
  let c0_i32_36 : BitVec 32 := 0#32
  ![1, arg9.toNat, 1, 0]
def k0_off12 (v50 : BitVec 32) : Fin 2 → Nat :=
  let c0_i32_37 : BitVec 32 := 0#32
  ![v50.toNat, 0]

def k0_chk4 (v50 : BitVec 32) : Prop :=
  (∀ a, (k0_off12 v50) a + S1x1024.size a ≤ S69632x1024.size a)
theorem k0_off12_inb : ∀ (v50 : BitVec 32) (k0_hw4 : k0_chk4 v50), ∀ a, (k0_off12 v50) a + S1x1024.size a ≤ S69632x1024.size a := fun v50 k0_hw4 => k0_hw4

def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let v54 : Index := Scalar.indexCast arg9
  let c4 : Index := 4#32
  ![v54.toNat, 4]
def k0_off14 (k0_t1 : Fin k0_t1_loop.trips) : Fin 4 → Nat :=
  let c0_i32_38 : BitVec 32 := 0#32
  let c0_i32 : BitVec 32 := 0#32
  let c1_i32 : BitVec 32 := 1#32
  let arg9 : BitVec 32 := Scf.iv c0_i32 c1_i32 k0_t1
  let c2_i32 : BitVec 32 := 2#32
  let c0_i32_39 : BitVec 32 := 0#32
  ![0, arg9.toNat, 2, 0]
def k0_off15 (v55 : BitVec 32) : Fin 2 → Nat :=
  let c0_i32_40 : BitVec 32 := 0#32
  ![v55.toNat, 0]

def k0_chk5 (v55 : BitVec 32) : Prop :=
  (∀ a, (k0_off15 v55) a + S1x1024.size a ≤ S69632x1024.size a)
theorem k0_off15_inb : ∀ (v55 : BitVec 32) (k0_hw5 : k0_chk5 v55), ∀ a, (k0_off15 v55) a + S1x1024.size a ≤ S69632x1024.size a := fun v55 k0_hw5 => k0_hw5

def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let v59 : Index := Scalar.indexCast arg9
  let c5 : Index := 5#32
  ![v59.toNat, 5]
def k0_off17 (k0_t1 : Fin k0_t1_loop.trips) : Fin 4 → Nat :=
  let c1_i32_41 : BitVec 32 := 1#32
  let c0_i32 : BitVec 32 := 0#32
  let c1_i32 : BitVec 32 := 1#32
  let arg9 : BitVec 32 := Scf.iv c0_i32 c1_i32 k0_t1
  let c2_i32_42 : BitVec 32 := 2#32
  let c0_i32_43 : BitVec 32 := 0#32
  ![1, arg9.toNat, 2, 0]
def k0_off18 (v60 : BitVec 32) : Fin 2 → Nat :=
  let c0_i32_44 : BitVec 32 := 0#32
  ![v60.toNat, 0]

def k0_chk6 (v60 : BitVec 32) : Prop :=
  (∀ a, (k0_off18 v60) a + S1x1024.size a ≤ S69632x1024.size a)
theorem k0_off18_inb : ∀ (v60 : BitVec 32) (k0_hw6 : k0_chk6 v60), ∀ a, (k0_off18 v60) a + S1x1024.size a ≤ S69632x1024.size a := fun v60 k0_hw6 => k0_hw6

def k0_off19 (k0_t1 : Fin k0_t1_loop.trips) : Fin 2 → Nat :=
  let c0_i32 : BitVec 32 := 0#32
  let c1_i32 : BitVec 32 := 1#32
  let arg9 : BitVec 32 := Scf.iv c0_i32 c1_i32 k0_t1
  let v64 : Index := Scalar.indexCast arg9
  let c6 : Index := 6#32
  ![v64.toNat, 6]
def k0_off20 (k0_t1 : Fin k0_t1_loop.trips) : Fin 4 → Nat :=
  let c0_i32_45 : BitVec 32 := 0#32
  let c0_i32 : BitVec 32 := 0#32
  let c1_i32 : BitVec 32 := 1#32
  let arg9 : BitVec 32 := Scf.iv c0_i32 c1_i32 k0_t1
  let c3_i32 : BitVec 32 := 3#32
  let c0_i32_46 : BitVec 32 := 0#32
  ![0, arg9.toNat, 3, 0]
def k0_off21 (v65 : BitVec 32) : Fin 2 → Nat :=
  let c0_i32_47 : BitVec 32 := 0#32
  ![v65.toNat, 0]

def k0_chk7 (v65 : BitVec 32) : Prop :=
  (∀ a, (k0_off21 v65) a + S1x1024.size a ≤ S69632x1024.size a)
theorem k0_off21_inb : ∀ (v65 : BitVec 32) (k0_hw7 : k0_chk7 v65), ∀ a, (k0_off21 v65) a + S1x1024.size a ≤ S69632x1024.size a := fun v65 k0_hw7 => k0_hw7

def k0_off22 (k0_t1 : Fin k0_t1_loop.trips) : Fin 2 → Nat :=
  let c0_i32 : BitVec 32 := 0#32
  let c1_i32 : BitVec 32 := 1#32
  let arg9 : BitVec 32 := Scf.iv c0_i32 c1_i32 k0_t1
  let v69 : Index := Scalar.indexCast arg9
  let c7 : Index := 7#32
  ![v69.toNat, 7]
def k0_off23 (k0_t1 : Fin k0_t1_loop.trips) : Fin 4 → Nat :=
  let c1_i32_48 : BitVec 32 := 1#32
  let c0_i32 : BitVec 32 := 0#32
  let c1_i32 : BitVec 32 := 1#32
  let arg9 : BitVec 32 := Scf.iv c0_i32 c1_i32 k0_t1
  let c3_i32_49 : BitVec 32 := 3#32
  let c0_i32_50 : BitVec 32 := 0#32
  ![1, arg9.toNat, 3, 0]
def k0_off24 (v70 : BitVec 32) : Fin 2 → Nat :=
  let c0_i32_51 : BitVec 32 := 0#32
  ![v70.toNat, 0]

def k0_chk8 (v70 : BitVec 32) : Prop :=
  (∀ a, (k0_off24 v70) a + S1x1024.size a ≤ S69632x1024.size a)
theorem k0_off24_inb : ∀ (v70 : BitVec 32) (k0_hw8 : k0_chk8 v70), ∀ a, (k0_off24 v70) a + S1x1024.size a ≤ S69632x1024.size a := fun v70 k0_hw8 => k0_hw8

def k0_off25 (k0_t1 : Fin k0_t1_loop.trips) : Fin 2 → Nat :=
  let c0_i32 : BitVec 32 := 0#32
  let c1_i32 : BitVec 32 := 1#32
  let arg9 : BitVec 32 := Scf.iv c0_i32 c1_i32 k0_t1
  let v74 : Index := Scalar.indexCast arg9
  let c8 : Index := 8#32
  ![v74.toNat, 8]
def k0_off26 (k0_t1 : Fin k0_t1_loop.trips) : Fin 4 → Nat :=
  let c0_i32_52 : BitVec 32 := 0#32
  let c0_i32 : BitVec 32 := 0#32
  let c1_i32 : BitVec 32 := 1#32
  let arg9 : BitVec 32 := Scf.iv c0_i32 c1_i32 k0_t1
  let c4_i32 : BitVec 32 := 4#32
  let c0_i32_53 : BitVec 32 := 0#32
  ![0, arg9.toNat, 4, 0]
def k0_off27 (v75 : BitVec 32) : Fin 2 → Nat :=
  let c0_i32_54 : BitVec 32 := 0#32
  ![v75.toNat, 0]

def k0_chk9 (v75 : BitVec 32) : Prop :=
  (∀ a, (k0_off27 v75) a + S1x1024.size a ≤ S69632x1024.size a)
theorem k0_off27_inb : ∀ (v75 : BitVec 32) (k0_hw9 : k0_chk9 v75), ∀ a, (k0_off27 v75) a + S1x1024.size a ≤ S69632x1024.size a := fun v75 k0_hw9 => k0_hw9

def k0_off28 (k0_t1 : Fin k0_t1_loop.trips) : Fin 2 → Nat :=
  let c0_i32 : BitVec 32 := 0#32
  let c1_i32 : BitVec 32 := 1#32
  let arg9 : BitVec 32 := Scf.iv c0_i32 c1_i32 k0_t1
  let v79 : Index := Scalar.indexCast arg9
  let c9 : Index := 9#32
  ![v79.toNat, 9]
def k0_off29 (k0_t1 : Fin k0_t1_loop.trips) : Fin 4 → Nat :=
  let c1_i32_55 : BitVec 32 := 1#32
  let c0_i32 : BitVec 32 := 0#32
  let c1_i32 : BitVec 32 := 1#32
  let arg9 : BitVec 32 := Scf.iv c0_i32 c1_i32 k0_t1
  let c4_i32_56 : BitVec 32 := 4#32
  let c0_i32_57 : BitVec 32 := 0#32
  ![1, arg9.toNat, 4, 0]
def k0_off30 (v80 : BitVec 32) : Fin 2 → Nat :=
  let c0_i32_58 : BitVec 32 := 0#32
  ![v80.toNat, 0]

def k0_chk10 (v80 : BitVec 32) : Prop :=
  (∀ a, (k0_off30 v80) a + S1x1024.size a ≤ S69632x1024.size a)
theorem k0_off30_inb : ∀ (v80 : BitVec 32) (k0_hw10 : k0_chk10 v80), ∀ a, (k0_off30 v80) a + S1x1024.size a ≤ S69632x1024.size a := fun v80 k0_hw10 => k0_hw10

def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let v84 : Index := Scalar.indexCast arg9
  let c10 : Index := 10#32
  ![v84.toNat, 10]
def k0_off32 (k0_t1 : Fin k0_t1_loop.trips) : Fin 4 → Nat :=
  let c0_i32_59 : BitVec 32 := 0#32
  let c0_i32 : BitVec 32 := 0#32
  let c1_i32 : BitVec 32 := 1#32
  let arg9 : BitVec 32 := Scf.iv c0_i32 c1_i32 k0_t1
  let c5_i32 : BitVec 32 := 5#32
  let c0_i32_60 : BitVec 32 := 0#32
  ![0, arg9.toNat, 5, 0]
def k0_off33 (v85 : BitVec 32) : Fin 2 → Nat :=
  let c0_i32_61 : BitVec 32 := 0#32
  ![v85.toNat, 0]

def k0_chk11 (v85 : BitVec 32) : Prop :=
  (∀ a, (k0_off33 v85) a + S1x1024.size a ≤ S69632x1024.size a)
theorem k0_off33_inb : ∀ (v85 : BitVec 32) (k0_hw11 : k0_chk11 v85), ∀ a, (k0_off33 v85) a + S1x1024.size a ≤ S69632x1024.size a := fun v85 k0_hw11 => k0_hw11

def k0_off34 (k0_t1 : Fin k0_t1_loop.trips) : Fin 2 → Nat :=
  let c0_i32 : BitVec 32 := 0#32
  let c1_i32 : BitVec 32 := 1#32
  let arg9 : BitVec 32 := Scf.iv c0_i32 c1_i32 k0_t1
  let v89 : Index := Scalar.indexCast arg9
  let c11 : Index := 11#32
  ![v89.toNat, 11]
def k0_off35 (k0_t1 : Fin k0_t1_loop.trips) : Fin 4 → Nat :=
  let c1_i32_62 : BitVec 32 := 1#32
  let c0_i32 : BitVec 32 := 0#32
  let c1_i32 : BitVec 32 := 1#32
  let arg9 : BitVec 32 := Scf.iv c0_i32 c1_i32 k0_t1
  let c5_i32_63 : BitVec 32 := 5#32
  let c0_i32_64 : BitVec 32 := 0#32
  ![1, arg9.toNat, 5, 0]
def k0_off36 (v90 : BitVec 32) : Fin 2 → Nat :=
  let c0_i32_65 : BitVec 32 := 0#32
  ![v90.toNat, 0]

def k0_chk12 (v90 : BitVec 32) : Prop :=
  (∀ a, (k0_off36 v90) a + S1x1024.size a ≤ S69632x1024.size a)
theorem k0_off36_inb : ∀ (v90 : BitVec 32) (k0_hw12 : k0_chk12 v90), ∀ a, (k0_off36 v90) a + S1x1024.size a ≤ S69632x1024.size a := fun v90 k0_hw12 => k0_hw12

def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let v94 : Index := Scalar.indexCast arg9
  let c12 : Index := 12#32
  ![v94.toNat, 12]
def k0_off38 (k0_t1 : Fin k0_t1_loop.trips) : Fin 4 → Nat :=
  let c0_i32_66 : BitVec 32 := 0#32
  let c0_i32 : BitVec 32 := 0#32
  let c1_i32 : BitVec 32 := 1#32
  let arg9 : BitVec 32 := Scf.iv c0_i32 c1_i32 k0_t1
  let c6_i32 : BitVec 32 := 6#32
  let c0_i32_67 : BitVec 32 := 0#32
  ![0, arg9.toNat, 6, 0]
def k0_off39 (v95 : BitVec 32) : Fin 2 → Nat :=
  let c0_i32_68 : BitVec 32 := 0#32
  ![v95.toNat, 0]

def k0_chk13 (v95 : BitVec 32) : Prop :=
  (∀ a, (k0_off39 v95) a + S1x1024.size a ≤ S69632x1024.size a)
theorem k0_off39_inb : ∀ (v95 : BitVec 32) (k0_hw13 : k0_chk13 v95), ∀ a, (k0_off39 v95) a + S1x1024.size a ≤ S69632x1024.size a := fun v95 k0_hw13 => k0_hw13

def k0_off40 (k0_t1 : Fin k0_t1_loop.trips) : Fin 2 → Nat :=
  let c0_i32 : BitVec 32 := 0#32
  let c1_i32 : BitVec 32 := 1#32
  let arg9 : BitVec 32 := Scf.iv c0_i32 c1_i32 k0_t1
  let v99 : Index := Scalar.indexCast arg9
  let c13 : Index := 13#32
  ![v99.toNat, 13]
def k0_off41 (k0_t1 : Fin k0_t1_loop.trips) : Fin 4 → Nat :=
  let c1_i32_69 : BitVec 32 := 1#32
  let c0_i32 : BitVec 32 := 0#32
  let c1_i32 : BitVec 32 := 1#32
  let arg9 : BitVec 32 := Scf.iv c0_i32 c1_i32 k0_t1
  let c6_i32_70 : BitVec 32 := 6#32
  let c0_i32_71 : BitVec 32 := 0#32
  ![1, arg9.toNat, 6, 0]
def k0_off42 (v100 : BitVec 32) : Fin 2 → Nat :=
  let c0_i32_72 : BitVec 32 := 0#32
  ![v100.toNat, 0]

def k0_chk14 (v100 : BitVec 32) : Prop :=
  (∀ a, (k0_off42 v100) a + S1x1024.size a ≤ S69632x1024.size a)
theorem k0_off42_inb : ∀ (v100 : BitVec 32) (k0_hw14 : k0_chk14 v100), ∀ a, (k0_off42 v100) a + S1x1024.size a ≤ S69632x1024.size a := fun v100 k0_hw14 => k0_hw14

def k0_off43 (k0_t1 : Fin k0_t1_loop.trips) : Fin 2 → Nat :=
  let c0_i32 : BitVec 32 := 0#32
  let c1_i32 : BitVec 32 := 1#32
  let arg9 : BitVec 32 := Scf.iv c0_i32 c1_i32 k0_t1
  let v104 : Index := Scalar.indexCast arg9
  let c14 : Index := 14#32
  ![v104.toNat, 14]
def k0_off44 (k0_t1 : Fin k0_t1_loop.trips) : Fin 4 → Nat :=
  let c0_i32_73 : BitVec 32 := 0#32
  let c0_i32 : BitVec 32 := 0#32
  let c1_i32 : BitVec 32 := 1#32
  let arg9 : BitVec 32 := Scf.iv c0_i32 c1_i32 k0_t1
  let c7_i32 : BitVec 32 := 7#32
  let c0_i32_74 : BitVec 32 := 0#32
  ![0, arg9.toNat, 7, 0]
def k0_off45 (v105 : BitVec 32) : Fin 2 → Nat :=
  let c0_i32_75 : BitVec 32 := 0#32
  ![v105.toNat, 0]

def k0_chk15 (v105 : BitVec 32) : Prop :=
  (∀ a, (k0_off45 v105) a + S1x1024.size a ≤ S69632x1024.size a)
theorem k0_off45_inb : ∀ (v105 : BitVec 32) (k0_hw15 : k0_chk15 v105), ∀ a, (k0_off45 v105) a + S1x1024.size a ≤ S69632x1024.size a := fun v105 k0_hw15 => k0_hw15

def k0_off46 (k0_t1 : Fin k0_t1_loop.trips) : Fin 2 → Nat :=
  let c0_i32 : BitVec 32 := 0#32
  let c1_i32 : BitVec 32 := 1#32
  let arg9 : BitVec 32 := Scf.iv c0_i32 c1_i32 k0_t1
  let v109 : Index := Scalar.indexCast arg9
  let c15 : Index := 15#32
  ![v109.toNat, 15]
def k0_off47 (k0_t1 : Fin k0_t1_loop.trips) : Fin 4 → Nat :=
  let c1_i32_76 : BitVec 32 := 1#32
  let c0_i32 : BitVec 32 := 0#32
  let c1_i32 : BitVec 32 := 1#32
  let arg9 : BitVec 32 := Scf.iv c0_i32 c1_i32 k0_t1
  let c7_i32_77 : BitVec 32 := 7#32
  let c0_i32_78 : BitVec 32 := 0#32
  ![1, arg9.toNat, 7, 0]
def k0_off48 (v110 : BitVec 32) : Fin 2 → Nat :=
  let c0_i32_79 : BitVec 32 := 0#32
  ![v110.toNat, 0]

def k0_chk16 (v110 : BitVec 32) : Prop :=
  (∀ a, (k0_off48 v110) a + S1x1024.size a ≤ S69632x1024.size a)
theorem k0_off48_inb : ∀ (v110 : BitVec 32) (k0_hw16 : k0_chk16 v110), ∀ a, (k0_off48 v110) a + S1x1024.size a ≤ S69632x1024.size a := fun v110 k0_hw16 => k0_hw16

@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S2x32768 : Shape := ⟨2, ![2, 32768]⟩
abbrev S32768x1024 : Shape := ⟨2, ![32768, 1024]⟩
abbrev S1024 : Shape := ⟨1, ![1024]⟩
abbrev S69632x1024 : Shape := ⟨2, ![69632, 1024]⟩
abbrev S1x32768 : Shape := ⟨2, ![1, 32768]⟩
abbrev S32768 : Shape := ⟨1, ![32768]⟩
abbrev S32768x1 : Shape := ⟨2, ![32768, 1]⟩
abbrev S_ : Shape := ⟨0, ![]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x32768, .i32⟩
  | .hbm, ⟨1, _⟩ => ⟨S2x32768, .f32⟩
  | .hbm, ⟨2, _⟩ => ⟨S32768x1024, .f32⟩
  | .hbm, ⟨3, _⟩ => ⟨S1024, .f32⟩
  | .hbm, ⟨4, _⟩ => ⟨S69632x1024, .f32⟩
  | .hbm, ⟨5, _⟩ => ⟨S1x32768, .f32⟩
  | .hbm, ⟨6, _⟩ => ⟨S32768, .f32⟩
  | .hbm, ⟨7, _⟩ => ⟨S32768x1, .f32⟩
  | .hbm, ⟨8, _⟩ => ⟨S1x32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1x32768, .f32⟩
  | .hbm, ⟨22, _⟩ => ⟨S32768, .f32⟩
  | .hbm, ⟨23, _⟩ => ⟨S32768x1, .f32⟩
  | .hbm, ⟨24, _⟩ => ⟨S1x32768, .i32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S2x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.CombineRows.lean ====
/- One row copy of the combining call: which elements of the two buffers of rows a row transfer writes, what it writes
   there, and one issue (read the row's place from the table, check it, start the copy) as a step of the issuing loop. -/
module

public import proofs.«01_k».proof.Proof.Gen.CombineIdeal.Skeleton
public import Idealize.ShloMosaic.Lib.Batch
public import Idealize.ShloMosaic.Lib.Ring
public import Idealize.ShloMosaic.Lib.Tactic
public import Idealize.ShloMosaic.Lib.Exec
public import Idealize.ShloMosaic.Lib.Pipeline.FrameValue
public import Idealize.ShloMosaic.Lib.Pipeline.TableIdle
public import Idealize.ShloMosaic.Lib.Pipeline.Value
public import Idealize.ShloMosaic.Lib.Pipeline.ValueKit.Geometry
public import Idealize.ShloMosaic.Lib.Pointwise.Index

@[expose] public section

noncomputable section

namespace Cert.CombineIdeal.Combine

open Cert.CombineIdeal
open Idealize.ShloMosaic Idealize.ShloMosaic.TcCoe Idealize.ShloMosaic.Tactic
open Idealize.SL Idealize.SL.RA Facts₀ Facts
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of transfer `n`: its buffer, its token group and its token of the group. -/
abbrev slotOf (n : Fin 2048) : Fin 4 → ℕ := ![n.val % 2, n.val / 16, n.val % 16 / 2, 0]

/-- The elements of the slot of transfer `n`. -/
def slotSet (c : Dev nD) (n : Fin 2048) : Finset (Idx ((c : Thread nD τ).loc cc0_scratch0)) :=
  Finset.univ.filter fun y : S2x128x8x1024.Idx => (y 0).val = n.val % 2 ∧ (y 1).val = n.val / 16 ∧ (y 2).val = n.val % 16 / 2

theorem mem_slotSet (c : Dev nD) (n : Fin 2048) (y : S2x128x8x1024.Idx) :
    y ∈ slotSet c n ↔ (y 0).val = n.val % 2 ∧ (y 1).val = n.val / 16 ∧ (y 2).val = n.val % 16 / 2 := by
  unfold slotSet; exact Finset.mem_filter.trans (and_iff_right (Finset.mem_univ _))

/-- The slot at offsets `off`. -/
abbrev dstSlot (off : Fin 4 → ℕ) (h : ∀ a, off a + S1x1x1x1024.size a ≤ S2x128x8x1024.size a) : Memref sig .tc .vmem S1x1024 .f32 :=
  ((Memref.whole cc0_scratch0).slice (Rect.unit (s := S2x128x8x1024) off S1x1x1x1024.size h) (fun _ => rfl)).squeeze S1x1024 squeezes_S1x1x1x1024_S1x1024

/-- The experts' row at offsets `off`. -/
abbrev srcRow (off : Fin 2 → ℕ) (h : ∀ a, off a + S1x1024.size a ≤ S69632x1024.size a) : Memref sig .tc .hbm S1x1024 .f32 :=
  (Memref.whole main_arg4).slice (Rect.unit (s := S69632x1024) off S1x1024.size h) (fun _ => rfl)

/-- The units a row copy counts on its semaphore. -/
abbrev NN : ℕ := (dstSlot ![0, 0, 0, 0] (by decide)).view.dmaCredit

/-- The lane of an element of a row, as an element of a one-row slot. -/
def lane4 (l : Fin 1024) : S1x1x1x1024.Idx := ix4 (0 : Fin 1) (0 : Fin 1) (0 : Fin 1) l

theorem squeezed (x : S1x1024.Idx) (h) : (Shape.reshapeEquiv h x : S1x1x1x1024.Idx) = lane4 (x 1) := by
  refine Shape.reshapeEquiv_eq_of_rowMajor h ?_
  have h0 : (x 0).val = 0 := by have := (x 0).isLt; change _ < 1 at this; omega
  have h4 := Shape.rowMajor_val_four (d := ![1, 1, 1, 1024]) (lane4 (x 1))
  have h2 := Shape.rowMajor_val_two (d := ![1, 1024]) x
  refine h4.trans (Eq.trans ?_ h2.symm)
  rw [h0]
  show ((0 * 1 + 0) * 1 + 0) * 1024 + (x 1).val = 0 * 1024 + (x 1).val
  omega

theorem dstSlot_emb (off : Fin 4 → ℕ) (h) (x : S1x1024.Idx) (a : Fin 4) :
    (((dstSlot off h).view.emb x : S2x128x8x1024.Idx) a).val = off a + (lane4 (x 1) a).val := by
  have := ValueKit.view_emb_slice_whole_unit_val cc0_scratch0 off S1x1x1x1024.size h (lane4 (x 1)) a
  have e := congrArg (fun z => (((View.whole cc0_scratch0).slice (Rect.unit (s := S2x128x8x1024) off S1x1x1x1024.size h)).emb z a : Fin _).val)
    (squeezed x squeezes_S1x1x1x1024_S1x1024.numel_eq)
  exact e.trans this

theorem dstSlot_sub (c : Dev nD) (n : Fin 2048) (off : Fin 4 → ℕ) (h) (ho : off = slotOf n) : (dstSlot off h).view.set ⊆ slotSet c n := by
  intro y hy
  obtain ⟨x, -, rfl⟩ := Finset.mem_map.mp hy
  subst ho
  exact (mem_slotSet c n _).mpr ⟨dstSlot_emb _ h x 0, dstSlot_emb _ h x 1, dstSlot_emb _ h x 2⟩

/-- The row copy writes the source row's elements, lane by lane, over its slot. -/
theorem dstSlot_write (c : Dev nD) (n : Fin 2048) (off : Fin 4 → ℕ) (h) (ho : off = slotOf n) (f : cc0_scratch0.ty.Contents (Elt F))
    (w : S1x1024.Idx → Elt F .f32) (y : S2x128x8x1024.Idx) (hy : y ∈ slotSet c n) :
    (dstSlot off h).view.write (Elt F) f w Finset.univ y = w (ix2 0 (y 3)) := by
  have hm := (mem_slotSet c n y).mp hy
  have he : (dstSlot off h).view.emb (ix2 0 (y 3) : S1x1024.Idx) = y := by
    funext a
    refine Fin.ext ?_
    refine (dstSlot_emb off h _ a).trans ?_
    subst ho
    match a with
    | ⟨0, _⟩ => exact hm.1.symm
    | ⟨1, _⟩ => exact hm.2.1.symm
    | ⟨2, _⟩ => exact hm.2.2.symm
    | ⟨3, _⟩ => exact Nat.zero_add _
  conv_lhs => rw [← he]
  exact View.write_emb_of_mem _ _ (Finset.mem_univ _)

/-- The source row read at a lane. -/
theorem srcRow_read [∀ e, Nonempty (Elt F e)] (off : Fin 2 → ℕ) (h) (r : Fin 69632) (ho : off = ![r.val, 0]) (Y : S69632x1024.Idx → Elt F .f32) (l : Fin 1024) :
    (srcRow off h).view.read (Elt F) Y (ix2 0 l) = Y (ix2 r l) := by
  refine congrArg Y (funext fun a => Fin.ext ?_)
  subst ho
  match a with
  | ⟨0, _⟩ => show r.val + 1 * 0 = r.val; omega
  | ⟨1, _⟩ => show 0 + 1 * l.val = l.val; omega

/-! ## One issue -/

section Issue

variable [∀ e, Nonempty (Elt F e)]

/-- The source row of the transfer number `n`. -/
abbrev srcOf (ρ : Fin 2048 → Fin 69632) (n : Fin 2048) : Memref sig .tc .hbm S1x1024 .f32 :=
  srcRow ![(ρ n).val, 0] (by
    have := (ρ n).isLt
    intro a
    match a with
    | ⟨0, _⟩ => show (ρ n).val + 1 ≤ 69632; omega
    | ⟨1, _⟩ => show 0 + 1024 ≤ 1024; omega)

/-- What transfer `n` takes along: its slot at the old contents `S`, its source row at one share. -/
def piece (c : Dev nD) (Y : Buf (Elt F) ((c : Thread nD τ).loc main_arg4)) (ρ : Fin 2048 → Fin 69632)
    (S : Buf (Elt F) ((c : Thread nD τ).loc cc0_scratch0)) (n : Fin 2048) : sProp 𝕄 :=
  iprop(((c : Thread nD τ).loc cc0_scratch0 ↦[slotSet c n]{fullShare} S)
    ∗ ((c : Thread nD τ).loc main_arg4 ↦[(srcOf ρ n).view.set]{Transfers.shareTokN fullShare n.val} Y))

instance piece_storable (c : Dev nD) (Y) (ρ) (S) (n) :
    BI.Storable (upEmb : UEmb _ 𝕄) (piece (F := F) c Y ρ S n) := by
  unfold piece; infer_instance

/-- The batch of a point's row copies, `j` of them started: they deliver their slots at the new contents `S'`. -/
abbrev batch (c : Dev nD) (Y : Buf (Elt F) ((c : Thread nD τ).loc main_arg4)) (ρ : Fin 2048 → Fin 69632)
    (S' : Buf (Elt F) ((c : Thread nD τ).loc cc0_scratch0)) (j u : ℕ) : sProp 𝕄 :=
  Transfers.Batch (countersEmb (U := Pipeline.UD sig nD τ)) (c : Thread nD τ) (.dma cc0_scratch1.sem) () NN (piece (F := F) c Y ρ S') j u

/-- Before transfer `j`: the batch with `j` started, the pieces from `j` on, and the block's table of places. -/
def issueAt (c : Dev nD) (arg1 : Memref sig .tc .smem S128x16 .i32)
    (w : S128x16.Idx → Elt F .i32) (Y : Buf (Elt F) ((c : Thread nD τ).loc main_arg4)) (ρ : Fin 2048 → Fin 69632)
    (S S' : Buf (Elt F) ((c : Thread nD τ).loc cc0_scratch0)) (j : ℕ) : sProp 𝕄 :=
  iprop(batch c Y ρ S' j 0 ∗ bigSep (Transfers.pending j) (piece (F := F) c Y ρ S)
    ∗ (arg1.view.loc (c : Thread nD τ) ↦[arg1.view.set]{fullShare} arg1.view.rep w))

variable (𝒱 : Variants) (bd : Option 𝒱.V)

/-- The place's word read from the table, its check discharged. -/
theorem read_one (c : Dev nD) (arg1 : Memref sig .tc .smem S128x16 .i32)
    (w : S128x16.Idx → Elt F .i32) (Y : Buf (Elt F) ((c : Thread nD τ).loc main_arg4)) (ρ : Fin 2048 → Fin 69632)
    (S S' : Buf (Elt F) ((c : Thread nD τ).loc cc0_scratch0)) (m : ℕ) (g : Fin 128) (j : Fin 16)
    {off2 : Fin 2 → ℕ} (h2 : ∀ a, off2 a + S1x1.size a ≤ S128x16.size a) (ho2 : off2 = ![g.val, j.val])
    {chk : BitVec 32 → Prop} (dec : ∀ v, Decidable (chk v)) (hchk : chk (w (ix2 g j)))
    {α : Type} {Q : α → sProp 𝕄} (k : (v : BitVec 32) → PLift (chk v) → Prog (TpuEff nD τ sig (Elt F) Λ₀ .tc) α)
    (hk : ∀ v h, v = w (ix2 g j) →
      issueAt c arg1 w Y ρ S S' m ⊢ wp frame (wpE defs₀ 𝒱 (c : Thread nD τ) bd) Set.univ (k v h) Q) :
    issueAt c arg1 w Y ρ S S' m ⊢ wp frame (wpE defs₀ 𝒱 (c : Thread nD τ) bd) Set.univ
      (smemLoad arg1 (Rect.unit (s := S128x16) off2 S1x1.size h2) numel1_S1x1 rfl >>= fun v =>
        (Prog.lift (TpuEff.assume (chk v) (dec v)) : Prog (TpuEff nD τ sig (Elt F) Λ₀ .tc) _) >>= fun h => k v h) Q := by
  have hw : arg1.view.readAt (Elt F) (Rect.unit (s := S128x16) off2 S1x1.size h2).toLoadRect (arg1.view.rep w)
      (Shape.Idx.first (numel1_S1x1.symm ▸ Nat.one_pos)) = w (ix2 g j) := by
    rw [View.readAt_rep]
    refine congrArg w (funext fun a => Fin.ext ?_)
    subst ho2
    match a with
    | ⟨0, _⟩ => show g.val + 1 * 0 = g.val; omega
    | ⟨1, _⟩ => show j.val + 1 * 0 = j.val; omega
  unfold issueAt
  iintro ⟨HB, HP, Ht⟩
  iapply (wp_load 𝒱 (c : Thread nD τ) bd Set.univ (View.setOn_subset_set _ _)) $$ Ht
  iintro Ht
  iapply (wp_assume 𝒱 (c : Thread nD τ) bd Set.univ (by rw [hw]; exact hchk))
  iapply (hk _ _ hw)
  unfold issueAt
  isplitl [HB]; · iexact HB
  isplitl [HP]; · iexact HP
  iexact Ht

/-- The copy of transfer `n` started: its slot and its source row go with it. -/
theorem start_one (c : Dev nD) (arg1 : Memref sig .tc .smem S128x16 .i32)
    (w : S128x16.Idx → Elt F .i32) (Y : Buf (Elt F) ((c : Thread nD τ).loc main_arg4)) (ρ : Fin 2048 → Fin 69632)
    (S S' : Buf (Elt F) ((c : Thread nD τ).loc cc0_scratch0)) (n : Fin 2048)
    (hS' : ∀ y : S2x128x8x1024.Idx, y ∈ slotSet c n → S' y = Y (ix2 (ρ n) (y 3) : S69632x1024.Idx))
    {offd : Fin 4 → ℕ} (hd : ∀ a, offd a + S1x1x1x1024.size a ≤ S2x128x8x1024.size a) (hod : offd = slotOf n)
    {offs : Fin 2 → ℕ} (hs : ∀ a, offs a + S1x1024.size a ≤ S69632x1024.size a) (hos : offs = ![(ρ n).val, 0])
    {α : Type} {Q : α → sProp 𝕄} (k : PUnit → Prog (TpuEff nD τ sig (Elt F) Λ₀ .tc) α)
    (hk : issueAt c arg1 w Y ρ S S' (n.val + 1) ⊢ wp frame (wpE defs₀ 𝒱 (c : Thread nD τ) bd) Set.univ (k ⟨⟩) Q)
    {e1 e2 e3} :
    issueAt c arg1 w Y ρ S S' n.val ⊢ wp frame (wpE defs₀ 𝒱 (c : Thread nD τ) bd) Set.univ
      (Prog.lift (TpuEff.enqueueDma (nD := nD) (Λ := Λ₀) (Val := Elt F) (p := .tc) (srcRow offs hs) (.here (dstSlot offd hd)) (.dma cc0_scratch1.sem) e1 e2 e3) >>= k) Q := by
  subst hos
  unfold issueAt
  iintro ⟨HB, HP, Ht⟩
  ihave HP' := (Entails.of_eq (Transfers.bigSep_pending_step (piece (F := F) c Y ρ S) n.val n.isLt)) $$ HP
  icases HP' with ⟨Hn, HP⟩
  unfold piece
  icases Hn with ⟨Hd, Hs⟩
  iapply (Transfers.wp_dmaBatch (countersEmb (U := Pipeline.UD sig nD τ)) 𝒱 (c : Thread nD τ) bd (Sd := slotSet c n) (fd := S)
    (dst := dstSlot offd hd) (src := srcOf ρ n) (sm := .dma cc0_scratch1.sem) (D := piece (F := F) c Y ρ S') () NN rfl (dstSlot_sub c n offd hd hod) n.isLt (Nat.zero_le _)
    (sep_mono_left (Entails.of_eq (pointsTo_congr fun y hy => by
      rw [dstSlot_write c n offd hd hod _ _ y hy]
      exact (srcRow_read _ _ (ρ n) rfl Y ((y : S2x128x8x1024.Idx) 3)).trans (hS' y hy).symm)))) $$ [Hs Hd HB]
  · isplitl [Hs]; · iexact Hs
    isplitl [Hd]; · iexact Hd
    iexact HB
  iintro HB
  iapply hk
  unfold issueAt
  isplitl [HB]; · iexact HB
  isplitl [HP]; · iexact HP
  iexact Ht

/-- ONE WAIT of the drain: one row's units consumed. -/
theorem wait_one (c : Dev nD) (Y : Buf (Elt F) ((c : Thread nD τ).loc main_arg4)) (ρ : Fin 2048 → Fin 69632)
    (S' : Buf (Elt F) ((c : Thread nD τ).loc cc0_scratch0)) (u : ℕ) (hu : u < 2048)
    {srcw : Memref sig .tc .hbm S1x1024 .f32} {offd : Fin 4 → ℕ} (hd : ∀ a, offd a + S1x1x1x1024.size a ≤ S2x128x8x1024.size a)
    {α : Type} {Q : α → sProp 𝕄} (k : PUnit → Prog (TpuEff nD τ sig (Elt F) Λ₀ .tc) α)
    (hk : iprop(batch c Y ρ S' 2048 ((u + 1) * NN) ∗ ∃ W, owes (c : Thread nD τ) 0 W)
      ⊢ wp frame (wpE defs₀ 𝒱 (c : Thread nD τ) bd) Set.univ (k ⟨⟩) Q)
    {e1 e2} :
    iprop(batch c Y ρ S' 2048 (u * NN) ∗ ∃ W, owes (c : Thread nD τ) 0 W) ⊢ wp frame (wpE defs₀ 𝒱 (c : Thread nD τ) bd) Set.univ
      (Prog.lift (TpuEff.waitDma2 (nD := nD) (Λ := Λ₀) (Val := Elt F) (p := .tc) cc0_scratch1.sem srcw (dstSlot offd hd) e1 e2) >>= k) Q := by
  iintro ⟨HB, %W, HO⟩
  iapply (Transfers.wp_waitBatchMul (countersEmb (U := Pipeline.UD sig nD τ)) 𝒱 (c : Thread nD τ) bd (dstw := dstSlot offd hd) (srcw := srcw) (sem := cc0_scratch1.sem)
    (D := piece (F := F) c Y ρ S') () 1 (N := NN) (Nat.one_mul _).symm (by
      have : (u + 1) * NN ≤ 2048 * NN := Nat.mul_le_mul_right _ hu
      rw [Nat.succ_mul] at this; rw [Nat.one_mul, Nat.mul_comm NN]; exact this) (W := W)) $$ [HB HO]
  · isplitl [HB]; · iexact HB
    iexact HO
  iintro ⟨HB, HO⟩
  iapply hk
  isplitl [HB]
  · iapply (Entails.of_eq (congrArg (batch c Y ρ S' 2048) (Nat.add_mul u 1 NN).symm)) $$ HB
  iexists _; iexact HO

end Issue

end Cert.CombineIdeal.Combine

end
-- ==== Proof.CombineIssue.lean ====
/- The issuing loop and the draining loop of one grid point of the combining call, as steps of their invariants: trip by
   trip the sixteen row copies of a token group are started, then waited for. -/
module

public import proofs.«01_k».proof.Proof.CombineRows
public import proofs.«01_k».proof.Proof.Gen.CombineIdeal.Launch

@[expose] public section

noncomputable section

namespace Cert.CombineIdeal.Combine

open Cert.CombineIdeal Cert.CombineIdeal.Gen
open Idealize.ShloMosaic Idealize.ShloMosaic.TcCoe Idealize.ShloMosaic.Tactic
open Idealize.SL Idealize.SL.RA Facts₀ Facts
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The number of the transfer of token group `g`, column `j` of the table. -/
def num (g : Fin 128) (j : Fin 16) : Fin 2048 := ⟨16 * g.val + j.val, by omega⟩

/-- A trip of the issuing loop as a token group. -/
def trip1 (t : Fin k0_t1_loop.trips) : Fin 128 := ⟨t.val, Nat.lt_of_lt_of_eq t.isLt (by decide +kernel)⟩

/-- What a point's tables are to satisfy: the transfers' rows `ρ` are the table's words, and the new contents hold a
transfer's source row at its slot. -/
structure Tables (c : Dev nD) (w : S128x16.Idx → Elt F .i32) (Y : Buf (Elt F) ((c : Thread nD τ).loc main_arg4)) (ρ : Fin 2048 → Fin 69632)
    (S' : Buf (Elt F) ((c : Thread nD τ).loc cc0_scratch0)) : Prop where
  at_ : ∀ g j, BitVec.toNat (w (ix2 g j)) = (ρ (num g j)).val
  new : ∀ n : Fin 2048, ∀ y : S2x128x8x1024.Idx, y ∈ slotSet c n → S' y = Y (ix2 (ρ n) (y 3) : S69632x1024.Idx)

theorem row_inb {v : BitVec 32} {r : Fin 69632} (h : v.toNat = r.val) : ∀ a, (![v.toNat, 0] : Fin 2 → ℕ) a + S1x1024.size a ≤ S69632x1024.size a := by
  intro a
  have := r.isLt
  match a with
  | ⟨0, _⟩ => show v.toNat + 1 ≤ 69632; omega
  | ⟨1, _⟩ => exact Nat.le_refl _

theorem off_slot (g : Fin 128) (j : Fin 16) (k u : ℕ) {o : Fin 4 → ℕ} (h : o = ![k, g.val, u, 0]) (hk : k = j.val % 2 := by rfl) (hu : u = j.val / 2 := by rfl) :
    o = slotOf (num g j) := by
  have h0 : (num g j).val % 2 = j.val % 2 := by show (16 * g.val + j.val) % 2 = _; omega
  have h1 : (num g j).val / 16 = g.val := by show (16 * g.val + j.val) / 16 = _; omega
  have h2 : (num g j).val % 16 = j.val := by show (16 * g.val + j.val) % 16 = _; omega
  rw [h]; unfold slotOf; rw [h0, h1, h2, hk, hu]

theorem off_src {a v : BitVec 32} {n : ℕ} (h : a.toNat = n) (hv : v = a) : (![v.toNat, 0] : Fin 2 → ℕ) = ![n, 0] := by
  rw [hv, h]

variable (𝒱 : Variants) (bd : Option 𝒱.V)

set_option maxRecDepth 16384 in
set_option maxHeartbeats 4000000 in
/-- The first part of a trip. -/
theorem issue_part1 (c : Dev nD) (i : grid0.Coords) (arg1 : Memref sig .tc .smem S128x16 .i32) (harg1 : arg1.IsWhole) (arg2 harg2 arg3 harg3 arg4 harg4 harg5 arg6 harg6 harg7)
    {w : S128x16.Idx → Elt F .i32} {Y : Buf (Elt F) ((c : Thread nD τ).loc main_arg4)} {ρ : Fin 2048 → Fin 69632}
    (S : Buf (Elt F) ((c : Thread nD τ).loc cc0_scratch0)) {S' : Buf (Elt F) ((c : Thread nD τ).loc cc0_scratch0)} (T : Tables c w Y ρ S')
    (t : Fin k0_t1_loop.trips) {Q}
    (hk : ∀ a v h, v = w (ix2 (trip1 t) 4) → issueAt c arg1 w Y ρ S S' (16 * t.val + 4) ⊢ Q ⟨a, v, h⟩) :
    issueAt c arg1 w Y ρ S S' (16 * t.val) ⊢ wp frame (wpE defs₀ 𝒱 (c : Thread nD τ) bd) Set.univ
      (k0_part1 (F := F) i arg1 harg1 arg2 harg2 arg3 harg3 arg4 harg4 (Memref.whole main_arg4) harg5 arg6 harg6 (Memref.whole cc0_scratch0) harg7 cc0_scratch1 0#32 1#32 t) Q := by
  rw [k0_part1_eq_skeleton]
  unfold k0_part1_skel
  refine read_one 𝒱 bd c arg1 w Y ρ S S' _ (trip1 t) 0 _ (k0_off1_eq t) _ (row_inb (T.at_ (trip1 t) 0)) _ fun v0 h0 hv0 => ?_
  refine start_one 𝒱 bd c arg1 w Y ρ S S' (num (trip1 t) 0) (T.new _) _ (off_slot (trip1 t) 0 0 0 (k0_off2_eq t)) _ (off_src (T.at_ (trip1 t) 0) hv0) _ ?_
  refine read_one 𝒱 bd c arg1 w Y ρ S S' _ (trip1 t) 1 _ (k0_off4_eq t) _ (row_inb (T.at_ (trip1 t) 1)) _ fun v1 h1 hv1 => ?_
  refine start_one 𝒱 bd c arg1 w Y ρ S S' (num (trip1 t) 1) (T.new _) _ (off_slot (trip1 t) 1 1 0 (k0_off5_eq t)) _ (off_src (T.at_ (trip1 t) 1) hv1) _ ?_
  refine read_one 𝒱 bd c arg1 w Y ρ S S' _ (trip1 t) 2 _ (k0_off7_eq t) _ (row_inb (T.at_ (trip1 t) 2)) _ fun v2 h2 hv2 => ?_
  refine start_one 𝒱 bd c arg1 w Y ρ S S' (num (trip1 t) 2) (T.new _) _ (off_slot (trip1 t) 2 0 1 (k0_off8_eq t)) _ (off_src (T.at_ (trip1 t) 2) hv2) _ ?_
  refine read_one 𝒱 bd c arg1 w Y ρ S S' _ (trip1 t) 3 _ (k0_off10_eq t) _ (row_inb (T.at_ (trip1 t) 3)) _ fun v3 h3 hv3 => ?_
  refine start_one 𝒱 bd c arg1 w Y ρ S S' (num (trip1 t) 3) (T.new _) _ (off_slot (trip1 t) 3 1 1 (k0_off11_eq t)) _ (off_src (T.at_ (trip1 t) 3) hv3) _ ?_
  refine read_one 𝒱 bd c arg1 w Y ρ S S' _ (trip1 t) 4 _ (k0_off13_eq t) _ (row_inb (T.at_ (trip1 t) 4)) _ fun v4 h4 hv4 => ?_
  exact (hk _ _ _ hv4).trans (le_wp_ret _ _ _ _ _)

set_option maxRecDepth 16384 in
set_option maxHeartbeats 4000000 in
/-- The second part of a trip. -/
theorem issue_part2 (c : Dev nD) (i : grid0.Coords) (arg1 : Memref sig .tc .smem S128x16 .i32) (harg1 : arg1.IsWhole) (arg2 harg2 arg3 harg3 arg4 harg4 harg5 arg6 harg6 harg7)
    {w : S128x16.Idx → Elt F .i32} {Y : Buf (Elt F) ((c : Thread nD τ).loc main_arg4)} {ρ : Fin 2048 → Fin 69632}
    (S : Buf (Elt F) ((c : Thread nD τ).loc cc0_scratch0)) {S' : Buf (Elt F) ((c : Thread nD τ).loc cc0_scratch0)} (T : Tables c w Y ρ S')
    (t : Fin k0_t1_loop.trips) {Q} (a4 : BitVec 32) (v4 : BitVec 32) (h4 : k0_chk5 v4) (hv4 : v4 = w (ix2 (trip1 t) 4))
    (hk : ∀ v h, v = w (ix2 (trip1 t) 9) → issueAt c arg1 w Y ρ S S' (16 * t.val + 9) ⊢ Q ⟨v, h⟩) :
    issueAt c arg1 w Y ρ S S' (16 * t.val + 4) ⊢ wp frame (wpE defs₀ 𝒱 (c : Thread nD τ) bd) Set.univ
      (k0_part2 (F := F) i arg1 harg1 arg2 harg2 arg3 harg3 arg4 harg4 (Memref.whole main_arg4) harg5 arg6 harg6 (Memref.whole cc0_scratch0) harg7 cc0_scratch1 t a4 v4 h4) Q := by
  rw [k0_part2_eq_skeleton]
  unfold k0_part2_skel
  refine start_one 𝒱 bd c arg1 w Y ρ S S' (num (trip1 t) 4) (T.new _) _ (off_slot (trip1 t) 4 0 2 (k0_off14_eq t)) _ (off_src (T.at_ (trip1 t) 4) hv4) _ ?_
  refine read_one 𝒱 bd c arg1 w Y ρ S S' _ (trip1 t) 5 _ (k0_off16_eq t) _ (row_inb (T.at_ (trip1 t) 5)) _ fun v5 h5 hv5 => ?_
  refine start_one 𝒱 bd c arg1 w Y ρ S S' (num (trip1 t) 5) (T.new _) _ (off_slot (trip1 t) 5 1 2 (k0_off17_eq t)) _ (off_src (T.at_ (trip1 t) 5) hv5) _ ?_
  refine read_one 𝒱 bd c arg1 w Y ρ S S' _ (trip1 t) 6 _ (k0_off19_eq t) _ (row_inb (T.at_ (trip1 t) 6)) _ fun v6 h6 hv6 => ?_
  refine start_one 𝒱 bd c arg1 w Y ρ S S' (num (trip1 t) 6) (T.new _) _ (off_slot (trip1 t) 6 0 3 (k0_off20_eq t)) _ (off_src (T.at_ (trip1 t) 6) hv6) _ ?_
  refine read_one 𝒱 bd c arg1 w Y ρ S S' _ (trip1 t) 7 _ (k0_off22_eq t) _ (row_inb (T.at_ (trip1 t) 7)) _ fun v7 h7 hv7 => ?_
  refine start_one 𝒱 bd c arg1 w Y ρ S S' (num (trip1 t) 7) (T.new _) _ (off_slot (trip1 t) 7 1 3 (k0_off23_eq t)) _ (off_src (T.at_ (trip1 t) 7) hv7) _ ?_
  refine read_one 𝒱 bd c arg1 w Y ρ S S' _ (trip1 t) 8 _ (k0_off25_eq t) _ (row_inb (T.at_ (trip1 t) 8)) _ fun v8 h8 hv8 => ?_
  refine start_one 𝒱 bd c arg1 w Y ρ S S' (num (trip1 t) 8) (T.new _) _ (off_slot (trip1 t) 8 0 4 (k0_off26_eq t)) _ (off_src (T.at_ (trip1 t) 8) hv8) _ ?_
  refine read_one 𝒱 bd c arg1 w Y ρ S S' _ (trip1 t) 9 _ (k0_off28_eq t) _ (row_inb (T.at_ (trip1 t) 9)) _ fun v9 h9 hv9 => ?_
  exact (hk _ _ hv9).trans (le_wp_ret _ _ _ _ _)

set_option maxRecDepth 16384 in
set_option maxHeartbeats 4000000 in
/-- The third part of a trip. -/
theorem issue_part3 (c : Dev nD) (i : grid0.Coords) (arg1 : Memref sig .tc .smem S128x16 .i32) (harg1 : arg1.IsWhole) (arg2 harg2 arg3 harg3 arg4 harg4 harg5 arg6 harg6 harg7)
    {w : S128x16.Idx → Elt F .i32} {Y : Buf (Elt F) ((c : Thread nD τ).loc main_arg4)} {ρ : Fin 2048 → Fin 69632}
    (S : Buf (Elt F) ((c : Thread nD τ).loc cc0_scratch0)) {S' : Buf (Elt F) ((c : Thread nD τ).loc cc0_scratch0)} (T : Tables c w Y ρ S')
    (t : Fin k0_t1_loop.trips) {Q} (a4 : BitVec 32) (v9 : BitVec 32) (h9 : k0_chk10 v9) (hv9 : v9 = w (ix2 (trip1 t) 9))
    (hk : ∀ v h, v = w (ix2 (trip1 t) 14) → issueAt c arg1 w Y ρ S S' (16 * t.val + 14) ⊢ Q ⟨v, h⟩) :
    issueAt c arg1 w Y ρ S S' (16 * t.val + 9) ⊢ wp frame (wpE defs₀ 𝒱 (c : Thread nD τ) bd) Set.univ
      (k0_part3 (F := F) i arg1 harg1 arg2 harg2 arg3 harg3 arg4 harg4 (Memref.whole main_arg4) harg5 arg6 harg6 (Memref.whole cc0_scratch0) harg7 cc0_scratch1 t a4 v9 h9) Q := by
  rw [k0_part3_eq_skeleton]
  unfold k0_part3_skel
  refine start_one 𝒱 bd c arg1 w Y ρ S S' (num (trip1 t) 9) (T.new _) _ (off_slot (trip1 t) 9 1 4 (k0_off29_eq t)) _ (off_src (T.at_ (trip1 t) 9) hv9) _ ?_
  refine read_one 𝒱 bd c arg1 w Y ρ S S' _ (trip1 t) 10 _ (k0_off31_eq t) _ (row_inb (T.at_ (trip1 t) 10)) _ fun v10 h10 hv10 => ?_
  refine start_one 𝒱 bd c arg1 w Y ρ S S' (num (trip1 t) 10) (T.new _) _ (off_slot (trip1 t) 10 0 5 (k0_off32_eq t)) _ (off_src (T.at_ (trip1 t) 10) hv10) _ ?_
  refine read_one 𝒱 bd c arg1 w Y ρ S S' _ (trip1 t) 11 _ (k0_off34_eq t) _ (row_inb (T.at_ (trip1 t) 11)) _ fun v11 h11 hv11 => ?_
  refine start_one 𝒱 bd c arg1 w Y ρ S S' (num (trip1 t) 11) (T.new _) _ (off_slot (trip1 t) 11 1 5 (k0_off35_eq t)) _ (off_src (T.at_ (trip1 t) 11) hv11) _ ?_
  refine read_one 𝒱 bd c arg1 w Y ρ S S' _ (trip1 t) 12 _ (k0_off37_eq t) _ (row_inb (T.at_ (trip1 t) 12)) _ fun v12 h12 hv12 => ?_
  refine start_one 𝒱 bd c arg1 w Y ρ S S' (num (trip1 t) 12) (T.new _) _ (off_slot (trip1 t) 12 0 6 (k0_off38_eq t)) _ (off_src (T.at_ (trip1 t) 12) hv12) _ ?_
  refine read_one 𝒱 bd c arg1 w Y ρ S S' _ (trip1 t) 13 _ (k0_off40_eq t) _ (row_inb (T.at_ (trip1 t) 13)) _ fun v13 h13 hv13 => ?_
  refine start_one 𝒱 bd c arg1 w Y ρ S S' (num (trip1 t) 13) (T.new _) _ (off_slot (trip1 t) 13 1 6 (k0_off41_eq t)) _ (off_src (T.at_ (trip1 t) 13) hv13) _ ?_
  refine read_one 𝒱 bd c arg1 w Y ρ S S' _ (trip1 t) 14 _ (k0_off43_eq t) _ (row_inb (T.at_ (trip1 t) 14)) _ fun v14 h14 hv14 => ?_
  exact (hk _ _ hv14).trans (le_wp_ret _ _ _ _ _)

set_option maxRecDepth 16384 in
set_option maxHeartbeats 4000000 in
/-- ONE TRIP of the issuing loop: sixteen copies started. -/
theorem issue_trip (c : Dev nD) (i : grid0.Coords) (arg1 : Memref sig .tc .smem S128x16 .i32) (harg1 : arg1.IsWhole) (arg2 harg2 arg3 harg3 arg4 harg4 harg5 arg6 harg6 harg7)
    {w : S128x16.Idx → Elt F .i32} {Y : Buf (Elt F) ((c : Thread nD τ).loc main_arg4)} {ρ : Fin 2048 → Fin 69632}
    (S : Buf (Elt F) ((c : Thread nD τ).loc cc0_scratch0)) {S' : Buf (Elt F) ((c : Thread nD τ).loc cc0_scratch0)} (T : Tables c w Y ρ S')
    (t : Fin k0_t1_loop.trips) :
    issueAt c arg1 w Y ρ S S' (16 * t.val) ⊢ wp frame (wpE defs₀ 𝒱 (c : Thread nD τ) bd) Set.univ
      (k0_t1_body (F := F) i arg1 harg1 arg2 harg2 arg3 harg3 arg4 harg4 (Memref.whole main_arg4) harg5 arg6 harg6 (Memref.whole cc0_scratch0) harg7 cc0_scratch1 t ())
      (fun _ => issueAt c arg1 w Y ρ S S' (16 * (t.val + 1))) := by
  unfold k0_t1_body
  rw [wp_bind]
  refine issue_part1 𝒱 bd c i arg1 harg1 arg2 harg2 arg3 harg3 arg4 harg4 harg5 arg6 harg6 harg7 S T t fun a4 v4 h4 hv4 => ?_
  dsimp only
  rw [wp_bind]
  refine issue_part2 𝒱 bd c i arg1 harg1 arg2 harg2 arg3 harg3 arg4 harg4 harg5 arg6 harg6 harg7 S T t a4 v4 h4 hv4 fun v9 h9 hv9 => ?_
  dsimp only
  rw [wp_bind]
  refine issue_part3 𝒱 bd c i arg1 harg1 arg2 harg2 arg3 harg3 arg4 harg4 harg5 arg6 harg6 harg7 S T t a4 v9 h9 hv9 fun v14 h14 hv14 => ?_
  dsimp only
  refine start_one 𝒱 bd c arg1 w Y ρ S S' (num (trip1 t) 14) (T.new _) _ (off_slot (trip1 t) 14 0 7 (k0_off44_eq t)) _ (off_src (T.at_ (trip1 t) 14) hv14) _ ?_
  refine read_one 𝒱 bd c arg1 w Y ρ S S' _ (trip1 t) 15 _ (k0_off46_eq t) _ (row_inb (T.at_ (trip1 t) 15)) _ fun v15 h15 hv15 => ?_
  refine start_one 𝒱 bd c arg1 w Y ρ S S' (num (trip1 t) 15) (T.new _) _ (off_slot (trip1 t) 15 1 7 (k0_off47_eq t)) _ (off_src (T.at_ (trip1 t) 15) hv15) _ ?_
  exact le_wp_ret _ (wpE defs₀ 𝒱 (c : Thread nD τ) bd) _ PUnit.unit (fun _ => issueAt c arg1 w Y ρ S S' (16 * (t.val + 1)))

/-- What the draining loop holds before wait `u`. -/
def drainAt (c : Dev nD) (Y : Buf (Elt F) ((c : Thread nD τ).loc main_arg4)) (ρ : Fin 2048 → Fin 69632)
    (S' : Buf (Elt F) ((c : Thread nD τ).loc cc0_scratch0)) (u : ℕ) : sProp 𝕄 :=
  iprop(batch c Y ρ S' 2048 (u * NN) ∗ ∃ W, owes (c : Thread nD τ) 0 W)

set_option maxRecDepth 16384 in
set_option maxHeartbeats 4000000 in
/-- ONE TRIP of the draining loop: sixteen rows' units consumed. -/
theorem drain_trip (c : Dev nD) (i : grid0.Coords) (arg1 : Memref sig .tc .smem S128x16 .i32) (harg1 : arg1.IsWhole) (arg2 harg2 arg3 harg3 arg4 harg4 harg5 arg6 harg6 harg7)
    {Y : Buf (Elt F) ((c : Thread nD τ).loc main_arg4)} {ρ : Fin 2048 → Fin 69632} {S' : Buf (Elt F) ((c : Thread nD τ).loc cc0_scratch0)}
    (t : Fin k0_t2_loop.trips) :
    drainAt c Y ρ S' (16 * t.val) ⊢ wp frame (wpE defs₀ 𝒱 (c : Thread nD τ) bd) Set.univ
      (k0_t2_body (F := F) i arg1 harg1 arg2 harg2 arg3 harg3 arg4 harg4 (Memref.whole main_arg4) harg5 arg6 harg6 (Memref.whole cc0_scratch0) harg7 cc0_scratch1 t ())
      (fun _ => drainAt c Y ρ S' (16 * (t.val + 1))) := by
  have ht : t.val < 128 := Nat.lt_of_lt_of_eq t.isLt (by decide +kernel)
  unfold k0_t2_body
  rw [wp_bind, k0_part4_eq_skeleton]
  unfold k0_part4_skel drainAt
  refine wait_one 𝒱 bd c Y ρ S' (16 * t.val + 0) (by omega) _ _ ?_
  refine wait_one 𝒱 bd c Y ρ S' (16 * t.val + 1) (by omega) _ _ ?_
  refine wait_one 𝒱 bd c Y ρ S' (16 * t.val + 2) (by omega) _ _ ?_
  refine wait_one 𝒱 bd c Y ρ S' (16 * t.val + 3) (by omega) _ _ ?_
  refine wait_one 𝒱 bd c Y ρ S' (16 * t.val + 4) (by omega) _ _ ?_
  refine Entails.trans ?_ (le_wp_ret _ _ _ _ _)
  rw [wp_bind, k0_part5_eq_skeleton]
  unfold k0_part5_skel
  refine wait_one 𝒱 bd c Y ρ S' (16 * t.val + 5) (by omega) _ _ ?_
  refine wait_one 𝒱 bd c Y ρ S' (16 * t.val + 6) (by omega) _ _ ?_
  refine wait_one 𝒱 bd c Y ρ S' (16 * t.val + 7) (by omega) _ _ ?_
  refine wait_one 𝒱 bd c Y ρ S' (16 * t.val + 8) (by omega) _ _ ?_
  refine wait_one 𝒱 bd c Y ρ S' (16 * t.val + 9) (by omega) _ _ ?_
  refine wait_one 𝒱 bd c Y ρ S' (16 * t.val + 10) (by omega) _ _ ?_
  refine Entails.trans ?_ (le_wp_ret _ _ _ _ _)
  refine wait_one 𝒱 bd c Y ρ S' (16 * t.val + 11) (by omega) _ _ ?_
  refine wait_one 𝒱 bd c Y ρ S' (16 * t.val + 12) (by omega) _ _ ?_
  refine wait_one 𝒱 bd c Y ρ S' (16 * t.val + 13) (by omega) _ _ ?_
  refine wait_one 𝒱 bd c Y ρ S' (16 * t.val + 14) (by omega) _ _ ?_
  refine wait_one 𝒱 bd c Y ρ S' (16 * t.val + 15) (by omega) _ _ ?_
  exact le_wp_ret _ (wpE defs₀ 𝒱 (c : Thread nD τ) bd) _ PUnit.unit
    (fun _ => iprop(batch c Y ρ S' 2048 (16 * (t.val + 1) * NN) ∗ ∃ W, owes (c : Thread nD τ) 0 W))

end Cert.CombineIdeal.Combine

end
-- ==== Proof.CombineBody.lean ====
/- One grid point of the combining call: the 2048 row copies of the point's tokens issued on one semaphore, the wait for
   all of them, and the point's block of the result from the rows brought in. -/
module

public import proofs.«01_k».proof.Proof.CombineIssue
public import Idealize.ShloMosaic.Lib.Pipeline.FrameBody
public import Idealize.ShloMosaic.Lib.Pipeline.TableIdle
public import Idealize.ShloMosaic.Lib.VecWindow
public import Idealize.ShloMosaic.Lib.ValueLayout
public import Idealize.ShloMosaic.Lib.Tactic

@[expose] public section

noncomputable section

namespace Cert.CombineIdeal.Combine

open Cert.CombineIdeal Cert.CombineIdeal.Gen
open Idealize.ShloMosaic Idealize.ShloMosaic.TcCoe Idealize.ShloMosaic.Tactic
open Idealize.SL Idealize.SL.RA Facts₀ Facts
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The rows of a table of places: transfer `n` brings the row the word at `(n / 16, n % 16)` names. -/
def rho (w : S128x16.Idx → Elt F .i32) (hlt : ∀ g j, BitVec.toNat (w (ix2 g j)) < 69632) (n : Fin 2048) : Fin 69632 :=
  ⟨BitVec.toNat (w (ix2 (⟨n.val / 16, by omega⟩ : Fin 128) (⟨n.val % 16, by omega⟩ : Fin 16))), hlt _ _⟩

/-- The transfer that fills the slot of an element of the buffers. -/
def fill (y : S2x128x8x1024.Idx) : Fin 2048 := ⟨16 * (y 1).val + 2 * (y 2).val + (y 0).val, by
  have h0 : (y 0).val < 2 := (y 0).isLt
  have h1 : (y 1).val < 128 := (y 1).isLt
  have h2 : (y 2).val < 8 := (y 2).isLt
  omega⟩

theorem fill_slot (c : Dev nD) (n : Fin 2048) (y : S2x128x8x1024.Idx) (h : y ∈ slotSet c n) : fill y = n := by
  obtain ⟨h0, h1, h2⟩ := (mem_slotSet c n y).mp h
  refine Fin.ext ?_
  show 16 * (y 1).val + 2 * (y 2).val + (y 0).val = n.val
  omega

theorem slot_fill (c : Dev nD) (y : S2x128x8x1024.Idx) : y ∈ slotSet c (fill y) := by
  have h0 : (y 0).val < 2 := (y 0).isLt
  have h1 : (y 1).val < 128 := (y 1).isLt
  have h2 : (y 2).val < 8 := (y 2).isLt
  refine (mem_slotSet c _ y).mpr ⟨?_, ?_, ?_⟩
  · show (y 0).val = (16 * (y 1).val + 2 * (y 2).val + (y 0).val) % 2; omega
  · show (y 1).val = (16 * (y 1).val + 2 * (y 2).val + (y 0).val) / 16; omega
  · show (y 2).val = (16 * (y 1).val + 2 * (y 2).val + (y 0).val) % 16 / 2; omega

/-- The buffers after a point's row copies: each slot holds its transfer's row. -/
def rowsIn (c : Dev nD) (Y : Buf (Elt F) ((c : Thread nD τ).loc main_arg4)) (ρ : Fin 2048 → Fin 69632) : Buf (Elt F) ((c : Thread nD τ).loc cc0_scratch0) :=
  fun y : S2x128x8x1024.Idx => Y (ix2 (ρ (fill y)) (y 3) : S69632x1024.Idx)

theorem tables (c : Dev nD) (w : S128x16.Idx → Elt F .i32) (Y : Buf (Elt F) ((c : Thread nD τ).loc main_arg4))
    (hlt : ∀ g j, BitVec.toNat (w (ix2 g j)) < 69632) : Tables c w Y (rho w hlt) (rowsIn c Y (rho w hlt)) where
  at_ g j := by
    unfold rho
    dsimp only
    congr 3 <;> refine Fin.ext ?_
    · show g.val = (16 * g.val + j.val) / 16; omega
    · show j.val = (16 * g.val + j.val) % 16; omega
  new n y hy := by unfold rowsIn; rw [fill_slot c n y hy]

/-! ## Dealing the buffers and the experts' rows out to the transfers -/

/-- A transfer's slot; -/
def slotTok (c : Dev nD) (S : Buf (Elt F) ((c : Thread nD τ).loc cc0_scratch0)) (n : Fin 2048) : sProp 𝕄 :=
  (c : Thread nD τ).loc cc0_scratch0 ↦[slotSet c n]{fullShare} S

/-- its share of its source row; -/
def srcTok (c : Dev nD) (Y : Buf (Elt F) ((c : Thread nD τ).loc main_arg4)) (ρ : Fin 2048 → Fin 69632) (n : Fin 2048) : sProp 𝕄 :=
  (c : Thread nD τ).loc main_arg4 ↦[(srcOf ρ n).view.set]{Transfers.shareTokN fullShare n.val} Y

/-- and the same share of the other rows. -/
def restTok (c : Dev nD) (Y : Buf (Elt F) ((c : Thread nD τ).loc main_arg4)) (ρ : Fin 2048 → Fin 69632) (n : Fin 2048) : sProp 𝕄 :=
  (c : Thread nD τ).loc main_arg4 ↦[Finset.univ \ (srcOf ρ n).view.set]{Transfers.shareTokN fullShare n.val} Y

/-- What stays with the core while the transfers run. -/
def keep (c : Dev nD) (Y : Buf (Elt F) ((c : Thread nD τ).loc main_arg4)) (ρ : Fin 2048 → Fin 69632) : sProp 𝕄 :=
  iprop(((c : Thread nD τ).loc main_arg4 ↦{Transfers.shareDrop fullShare 2048} Y) ∗ bigSep Finset.univ (restTok (F := F) c Y ρ))

theorem slots_cover (c : Dev nD) : (Finset.univ : Finset (Fin 2048)).biUnion (fun n => slotSet c n) = Finset.univ := by
  ext y
  constructor
  · intro _; exact Finset.mem_univ y
  · intro _
    rw [Finset.mem_biUnion]
    exact ⟨fill y, Finset.mem_univ _, slot_fill c y⟩

theorem deal (c : Dev nD) (Y : Buf (Elt F) ((c : Thread nD τ).loc main_arg4)) (ρ : Fin 2048 → Fin 69632)
    (S : Buf (Elt F) ((c : Thread nD τ).loc cc0_scratch0)) :
    iprop(((c : Thread nD τ).loc cc0_scratch0 ↦{fullShare} S) ∗ ((c : Thread nD τ).loc main_arg4 ↦{fullShare} Y))
      ⊣⊢ (iprop(keep c Y ρ ∗ bigSep Finset.univ (piece (F := F) c Y ρ S)) : sProp 𝕄) := by
  have hd : Pairwise fun n m : Fin 2048 => Disjoint (slotSet c n) (slotSet c m) := by
    intro n m hnm
    refine Finset.disjoint_left.mpr fun y hy hy' => hnm ?_
    exact (fill_slot c n y hy).symm.trans (fill_slot c m y hy')
  have e1 : ((c : Thread nD τ).loc cc0_scratch0 ↦{fullShare} S : sProp 𝕄) = bigSep Finset.univ (slotTok (F := F) c S) :=
    Ring.pointsTo_sub_blocks (fun n => slotSet c n) hd Finset.univ (slots_cover c) S
  have e2 : ((c : Thread nD τ).loc main_arg4 ↦{fullShare} Y : sProp 𝕄)
      ⊣⊢ iprop(((c : Thread nD τ).loc main_arg4 ↦{Transfers.shareDrop fullShare 2048} Y)
        ∗ bigSep Finset.univ (srcTok (F := F) c Y ρ) ∗ bigSep Finset.univ (restTok (F := F) c Y ρ)) := by
    have e3 : (bigSep Finset.univ (fun n : Fin 2048 => iprop(srcTok (F := F) c Y ρ n ∗ restTok (F := F) c Y ρ n)) : sProp 𝕄)
        = bigSep Finset.univ (fun n : Fin 2048 => ((c : Thread nD τ).loc main_arg4 ↦[Finset.univ]{Transfers.shareTok fullShare 2048 n} Y : sProp 𝕄)) :=
      BI.bigSep_congr fun n _ => Idealize.SL.BI.Entails.antisymm (pointsTo_split_subset (Finset.subset_univ _)).2 (pointsTo_split_subset (Finset.subset_univ _)).1
    have e5 : (iprop(bigSep Finset.univ (srcTok (F := F) c Y ρ) ∗ bigSep Finset.univ (restTok (F := F) c Y ρ)) : sProp 𝕄)
        = bigSep Finset.univ (fun n : Fin 2048 => iprop(srcTok (F := F) c Y ρ n ∗ restTok (F := F) c Y ρ n)) := (BI.bigSep_sep _ _ _).symm
    rw [e5, e3]
    exact Transfers.pointsTo_toks fullShare 2048
  have e4 : (bigSep Finset.univ (piece (F := F) c Y ρ S) : sProp 𝕄)
      = iprop(bigSep Finset.univ (slotTok (F := F) c S) ∗ bigSep Finset.univ (srcTok (F := F) c Y ρ)) := BI.bigSep_sep _ _ _
  rw [e4, e1]
  unfold keep
  constructor
  · iintro ⟨HS, HY⟩
    ihave HY' := e2.1 $$ HY
    icases HY' with ⟨HYd, HYs, HYk⟩
    isplitl [HYd HYk]
    · isplitl [HYd] <;> iassumption
    isplitl [HS] <;> iassumption
  · iintro ⟨⟨HYd, HYk⟩, HS, HYs⟩
    isplitl [HS]; · iexact HS
    iapply e2.2
    isplitl [HYd]; · iexact HYd
    isplitl [HYs] <;> iassumption

/-! ## The body -/

variable (𝒱 : Variants) (bd : Option 𝒱.V)

set_option maxRecDepth 16384 in
set_option maxHeartbeats 4000000 in
/-- The two loops of a point. -/
theorem loops (c : Dev nD) (i : grid0.Coords) (arg1 : Memref sig .tc .smem S128x16 .i32) (harg1 : arg1.IsWhole) (arg2 harg2 arg3 harg3 arg4 harg4 harg5 arg6 harg6 harg7)
    (w : S128x16.Idx → Elt F .i32) (Y : Buf (Elt F) ((c : Thread nD τ).loc main_arg4)) (S : Buf (Elt F) ((c : Thread nD τ).loc cc0_scratch0))
    (hlt : ∀ g j, BitVec.toNat (w (ix2 g j)) < 69632) (R : sProp 𝕄)
    {α : Type} {Q : α → sProp 𝕄} (k : PUnit → Prog (TpuEff nD τ sig (Elt F) Λ₀ .tc) α)
    (hk : iprop(((c : Thread nD τ).loc cc0_scratch0 ↦{fullShare} rowsIn c Y (rho w hlt)) ∗ ((c : Thread nD τ).loc main_arg4 ↦{fullShare} Y)
        ∗ semVal (c, .dma cc0_scratch1.sem) 0 ∗ (∃ W, owes (c : Thread nD τ) 0 W) ∗ owns (c : Thread nD τ) arg1 fullShare w ∗ R)
      ⊢ wp frame (wpE defs₀ 𝒱 (c : Thread nD τ) bd) Set.univ (k ⟨⟩) Q) :
    (iprop(((c : Thread nD τ).loc cc0_scratch0 ↦{fullShare} S) ∗ ((c : Thread nD τ).loc main_arg4 ↦{fullShare} Y)
        ∗ semVal (c, .dma cc0_scratch1.sem) 0 ∗ (∃ W, owes (c : Thread nD τ) 0 W) ∗ owns (c : Thread nD τ) arg1 fullShare w ∗ R) : sProp 𝕄)
      ⊢ wp frame (wpE defs₀ 𝒱 (c : Thread nD τ) bd) Set.univ
        (Scf.Loop.for k0_t1_loop Gen.k0_t1_ok ⟨⟩ (k0_t1_body (F := F) i arg1 harg1 arg2 harg2 arg3 harg3 arg4 harg4 (Memref.whole main_arg4) harg5 arg6 harg6 (Memref.whole cc0_scratch0) harg7 cc0_scratch1) >>= fun _ =>
          Scf.Loop.for k0_t2_loop Gen.k0_t2_ok ⟨⟩ (k0_t2_body (F := F) i arg1 harg1 arg2 harg2 arg3 harg3 arg4 harg4 (Memref.whole main_arg4) harg5 arg6 harg6 (Memref.whole cc0_scratch0) harg7 cc0_scratch1) >>= k) Q := by
  have T := tables c w Y hlt
  iintro ⟨HC, HY, HS, HO, Ht, HR⟩
  ihave HD := (deal c Y (rho w hlt) S).1 $$ [HC HY]
  · isplitl [HC] <;> iassumption
  icases HD with ⟨HK, HP⟩
  imod (Transfers.batch_alloc' (countersEmb (U := Pipeline.UD sig nD τ)) (c : Thread nD τ) () NN (piece (F := F) c Y (rho w hlt) (rowsIn c Y (rho w hlt))) (sm := .dma cc0_scratch1.sem) (E := Set.univ)) $$ HS with HB
  ihave Ht' := (rep_of_owns (c : Thread nD τ) arg1 fullShare w) $$ Ht
  iapply (Scf.wp_for_bind frame (wpE defs₀ 𝒱 (c : Thread nD τ) bd) Set.univ k0_t1_loop.lb k0_t1_loop.ub k0_t1_loop.st Gen.k0_t1_ok ⟨⟩ _
    (fun k _ => issueAt c arg1 w Y (rho w hlt) S (rowsIn c Y (rho w hlt)) (16 * k))
    (fun k _ => issue_trip 𝒱 bd c i arg1 harg1 arg2 harg2 arg3 harg3 arg4 harg4 harg5 arg6 harg6 harg7 S T k)) $$ [HB HP Ht']
  · unfold issueAt
    isplitl [HB]; · iexact HB
    isplitl [HP]; · rw [Nat.mul_zero, ← Transfers.bigSep_pending_zero]; iexact HP
    iexact Ht'
  iintro %a HI
  have ht1 : Scf.trips k0_t1_loop.lb k0_t1_loop.ub k0_t1_loop.st = 128 := by decide +kernel
  have ht2 : Scf.trips k0_t2_loop.lb k0_t2_loop.ub k0_t2_loop.st = 128 := by decide +kernel
  rw [ht1]
  unfold issueAt
  icases HI with ⟨HB, -, Ht⟩
  iapply (Scf.wp_for_bind frame (wpE defs₀ 𝒱 (c : Thread nD τ) bd) Set.univ k0_t2_loop.lb k0_t2_loop.ub k0_t2_loop.st Gen.k0_t2_ok ⟨⟩ _
    (fun k _ => drainAt c Y (rho w hlt) (rowsIn c Y (rho w hlt)) (16 * k))
    (fun k _ => drain_trip 𝒱 bd c i arg1 harg1 arg2 harg2 arg3 harg3 arg4 harg4 harg5 arg6 harg6 harg7 k)) $$ [HB HO]
  · unfold drainAt
    isplitl [HB]
    · rw [Nat.mul_zero, Nat.zero_mul]; iexact HB
    iexact HO
  iintro %a2 HI
  rw [ht2]
  unfold drainAt
  icases HI with ⟨HB, HO⟩
  rw [show 16 * 128 * NN = NN * 2048 from Nat.mul_comm _ _]
  imod (Transfers.batch_collect' (countersEmb (U := Pipeline.UD sig nD τ)) (c : Thread nD τ) (show 0 < NN by decide)) $$ HB with ⟨HD, HS⟩
  ihave HD := (deal c Y (rho w hlt) (rowsIn c Y (rho w hlt))).2 $$ [HK HD]
  · isplitl [HK] <;> iassumption
  icases HD with ⟨HC, HY⟩
  iapply hk
  isplitl [HC]; · iexact HC
  isplitl [HY]; · iexact HY
  isplitl [HS]; · iexact HS
  isplitl [HO]; · iexact HO
  isplitl [Ht]; · iapply (owns_of_rep (c : Thread nD τ) arg1 fullShare w); iexact Ht
  iexact HR

/-- One of the two buffers of rows, of contents `S`. -/
def bufOf (S : S2x128x8x1024.Idx → Elt F .f32) (k : Fin 2) : S1x128x8x1024.Idx → Elt F .f32 :=
  fun y => S (ix4 k (⟨(y 1).val, (y 1).isLt⟩ : Fin 128) (⟨(y 2).val, (y 2).isLt⟩ : Fin 8) (⟨(y 3).val, (y 3).isLt⟩ : Fin 1024))

/-- A point's block of the result. -/
def outOf (S : S2x128x8x1024.Idx → Elt F .f32) (G : S1024x2.Idx → Elt F .f32) (X : S1024x1024.Idx → Elt F .f32) (N : S1x1024.Idx → Elt F .f32) :
    S1024x1024.Idx → Elt F .f32 := k0_pay1 G X (bufOf S 0) (bufOf S 1) N

theorem buf_load (S : S2x128x8x1024.Idx → Elt F .f32) (k : Fin 2) {off : Fin 4 → ℕ} (h) (ho : off = ![k.val, 0, 0, 0]) :
    (Memref.whole cc0_scratch0).view.readAt (Elt F) (Rect.unit (s := S2x128x8x1024) off S1x128x8x1024.size h).toLoadRect S = bufOf S k := by
  subst ho
  funext y
  refine congrArg S (funext fun a => Fin.ext ?_)
  have h0 : (y 0).val = 0 := by have := (y 0).isLt; change _ < 1 at this; omega
  match a with
  | ⟨0, _⟩ => show k.val + 1 * (y 0).val = k.val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem whole2_load {s : Shape} {e : EltTy} {off : Fin s.rank → ℕ} (M : Memref sig .tc .vmem s e) (Z : s.Idx → Elt F e) (h)
    (ho : off = 0) : M.view.readAt (Elt F) (Rect.unit (s := s) off s.size h).toLoadRect (M.view.rep Z) = Z := by
  subst ho
  rw [View.readAt_rep]
  funext y
  refine congrArg Z (funext fun a => Fin.ext ?_)
  show 0 + 1 * (y a).val = (y a).val; omega

set_option maxRecDepth 16384 in
set_option maxHeartbeats 4000000 in
/-- THE BODY at a grid point. -/
theorem body (c : Dev nD) (i : grid0.Coords) (arg1 : Memref sig .tc .smem S128x16 .i32) (harg1 : arg1.IsWhole) (arg2 : Memref sig .tc .vmem S1024x2 .f32) (harg2 : arg2.IsWhole)
    (arg3 : Memref sig .tc .vmem S1024x1024 .f32) (harg3 : arg3.IsWhole) (arg4 : Memref sig .tc .vmem S1x1024 .f32) (harg4 : arg4.IsWhole) (harg5)
    (arg6 : Memref sig .tc .vmem S1024x1024 .f32) (harg6 : arg6.IsWhole) (harg7)
    (w : S128x16.Idx → Elt F .i32) (Y : Buf (Elt F) ((c : Thread nD τ).loc main_arg4)) (S : Buf (Elt F) ((c : Thread nD τ).loc cc0_scratch0))
    (hlt : ∀ g j, BitVec.toNat (w (ix2 g j)) < 69632)
    (G : S1024x2.Idx → Elt F .f32) (X : S1024x1024.Idx → Elt F .f32) (N : S1x1024.Idx → Elt F .f32) (acc : S1024x1024.Idx → Elt F .f32) :
    (iprop(((c : Thread nD τ).loc cc0_scratch0 ↦{fullShare} S) ∗ ((c : Thread nD τ).loc main_arg4 ↦{fullShare} Y)
        ∗ semVal (c, .dma cc0_scratch1.sem) 0 ∗ (∃ W, owes (c : Thread nD τ) 0 W) ∗ owns (c : Thread nD τ) arg1 fullShare w
        ∗ owns (c : Thread nD τ) arg2 fullShare G ∗ owns (c : Thread nD τ) arg3 fullShare X ∗ owns (c : Thread nD τ) arg4 fullShare N
        ∗ owns (c : Thread nD τ) arg6 fullShare acc) : sProp 𝕄)
      ⊢ wp frame (wpE defs₀ Variants.none (c : Thread nD τ) none) Set.univ
        (cc0_combine (F := F) i arg1 harg1 arg2 harg2 arg3 harg3 arg4 harg4 (Memref.whole main_arg4) harg5 arg6 harg6 (Memref.whole cc0_scratch0) harg7 cc0_scratch1)
        fun _ : PUnit => (iprop(((c : Thread nD τ).loc cc0_scratch0 ↦{fullShare} rowsIn c Y (rho w hlt)) ∗ ((c : Thread nD τ).loc main_arg4 ↦{fullShare} Y)
        ∗ semVal (c, .dma cc0_scratch1.sem) 0 ∗ (∃ W, owes (c : Thread nD τ) 0 W) ∗ owns (c : Thread nD τ) arg1 fullShare w
        ∗ owns (c : Thread nD τ) arg2 fullShare G ∗ owns (c : Thread nD τ) arg3 fullShare X ∗ owns (c : Thread nD τ) arg4 fullShare N
        ∗ owns (c : Thread nD τ) arg6 fullShare (outOf (rowsIn c Y (rho w hlt)) G X N)) : sProp 𝕄) := by
  rw [cc0_combine_eq_skeleton]
  unfold cc0_combine_skel
  rw [wp_bind, k0_part6_eq_skeleton]
  unfold k0_part6_skel
  refine loops Variants.none none c i arg1 harg1 arg2 harg2 arg3 harg3 arg4 harg4 harg5 arg6 harg6 harg7 w Y S hlt _ _ ?_
  rw [owns_eq_rep (c : Thread nD τ) arg2, owns_eq_rep (c : Thread nD τ) arg3, owns_eq_rep (c : Thread nD τ) arg4]
  generalize rowsIn c Y (rho w hlt) = S'
  iintro ⟨HC, HY, HS, HO, Ht, HG, HX, HN, HA⟩
  unfold owns
  icases HA with ⟨%f, -, HA⟩
  iapply (wp_load Variants.none (c : Thread nD τ) none Set.univ (m := arg2) (View.setOn_subset_set _ _)) $$ HG
  iintro HG
  iapply (wp_load Variants.none (c : Thread nD τ) none Set.univ (m := arg3) (View.setOn_subset_set _ _)) $$ HX
  iintro HX
  iapply (wp_load Variants.none (c : Thread nD τ) none Set.univ (m := Memref.whole cc0_scratch0) (Finset.subset_univ _)) $$ HC
  iintro HC
  iapply (wp_load Variants.none (c : Thread nD τ) none Set.univ (m := Memref.whole cc0_scratch0) (Finset.subset_univ _)) $$ HC
  iintro HC
  iapply (wp_load Variants.none (c : Thread nD τ) none Set.univ (m := arg4) (View.setOn_subset_set _ _)) $$ HN
  iintro HN
  iapply (le_wp_ret frame (wpE (defs₀ (F := F)) Variants.none (c : Thread nD τ) none) Set.univ _ _)
  rw [whole2_load arg2 G _ (by decide), whole2_load arg3 X _ (by decide), whole2_load arg4 N _ (by decide)]
  rw [buf_load (off := ![0, 0, 0, 0]) S' 0 _ rfl, buf_load (off := ![1, 0, 0, 0]) S' 1 _ rfl]
  sl_exec
  iapply (le_wp_ret frame (wpE (defs₀ (F := F)) Variants.none (c : Thread nD τ) none) Set.univ _ _)
  isplitl [HC]; · iexact HC
  isplitl [HY]; · iexact HY
  isplitl [HS]; · iexact HS
  isplitl [HO]; · iexact HO
  isplitl [Ht]; · iexact Ht
  isplitl [HG]; · iexact HG
  isplitl [HX]; · iexact HX
  isplitl [HN]; · iexact HN
  iexists _
  isplitr; swap
  · iexact HA
  ipureintro
  unfold outOf
  exact View.read_writes_full _ _ _ _ _

end Cert.CombineIdeal.Combine

end
-- ==== Proof.CombineRun.lean ====
/- The combining call over its grid, launched: what each window holds at each grid point, the invariant between points, and
   the run of the whole program. -/
module

public import proofs.«01_k».proof.Proof.CombineBody
public import proofs.«01_k».proof.Proof.Gen.CombineIdeal.Launch
public import Idealize.ShloMosaic.Lib.Pipeline.FrameValue
public import Idealize.ShloMosaic.Lib.Pipeline.FrameBody

@[expose] public section

noncomputable section

namespace Cert.CombineIdeal.Combine

open Cert.CombineIdeal Cert.CombineIdeal.Gen
open Idealize.ShloMosaic Idealize.ShloMosaic.TcCoe Idealize.ShloMosaic.Tactic
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## Up to the region -/

/-- A core's buffers when the region is entered: after the four host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem enters (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub ops_fresh main_chain

theorem V_off (c : Dev nD) (b : Ref sig .tc) (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2.1, StableHlo.devRef_ne_of_ne h.2.2.1, StableHlo.devRef_ne_of_ne h.2.2.2⟩))

/-- A window's block at a point. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The places of a point's transfers; -/
def wAt (c : Dev nD) (t : Fin cfg0.N) : S128x16.Idx → Elt F .i32 := blk m c 0 t

/-- its gates; -/
def GAt (c : Dev nD) (t : Fin cfg0.N) : S1024x2.Idx → Elt F .f32 := blk m c 1 t

/-- its tokens; -/
def XAt (c : Dev nD) (t : Fin cfg0.N) : S1024x1024.Idx → Elt F .f32 := blk m c 2 t

/-- the norm's scales. -/
def NAt (c : Dev nD) (t : Fin cfg0.N) : S1x1024.Idx → Elt F .f32 := blk m c 3 t

/-- What the words of the launch memory must satisfy: every place is a row of the experts' results. -/
structure Words (c : Dev nD) : Prop where
  lt : ∀ t g j, BitVec.toNat (wAt m c t (ix2 g j)) < 69632

variable (H : ∀ c, Words m c)

/-- The block of the result that a point writes. -/
def outAt (c : Dev nD) (t : Fin cfg0.N) : S1024x1024.Idx → Elt F .f32 :=
  outOf (rowsIn c (V m c main_arg4) (rho (F := F) (wAt m c t) ((H c).lt t))) (GAt m c t) (XAt m c t) (NAt m c t)

/-- The invariant between grid points. -/
def Inv (c : Dev nD) : sProp 𝕄 :=
  iprop((∃ f, (c : Thread nD τ).loc cc0_scratch0 ↦{fullShare} f) ∗ semVal (c, .dma cc0_scratch1.sem) 0
    ∗ ((c : Thread nD τ).loc main_arg4 ↦{fullShare} V m c main_arg4) ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => wAt m c t
    | ⟨1, _⟩ => GAt m c t
    | ⟨2, _⟩ => XAt m c t
    | ⟨3, _⟩ => NAt m c t
    | ⟨4, _⟩ => outAt m H c t
    | ⟨_ + 5, h⟩ => absurd h (Nat.not_lt.2 (Nat.le_add_left _ _))
  Φ _ := Inv m c
  q _ := fullShare
  owed _ := 0

theorem A_eq (c : Dev nD) (w : Fin cfg0.W) : (dats m H 0 c).A w = V m c (Pipeline.arrRef spec0 w) := by
  dsimp only [dats]

theorem before_0 (c : Dev nD) (t : Fin cfg0.N) (d) : (dats m H 0 c).before 0 t d = wAt m c t :=
  ((dats m H 0 c).before_in_eq_fetched 0 rfl (fun _ => rfl) (fun _ _ _ => rfl) (fun t => by
    show wAt m c t = _
    unfold wAt blk Dat.blockOf; rw [A_eq]) t d).trans (by unfold Dat.fetched Dat.blockOf wAt blk; rw [A_eq]; rfl)

theorem before_1 (c : Dev nD) (t : Fin cfg0.N) (d) : (dats m H 0 c).before 1 t d = GAt m c t :=
  ((dats m H 0 c).before_in_eq_fetched 1 rfl (fun _ => rfl) (fun _ _ _ => rfl) (fun t => by
    show GAt m c t = _
    unfold GAt blk Dat.blockOf; rw [A_eq]) t d).trans (by unfold Dat.fetched Dat.blockOf GAt blk; rw [A_eq]; rfl)

theorem before_2 (c : Dev nD) (t : Fin cfg0.N) (d) : (dats m H 0 c).before 2 t d = XAt m c t :=
  ((dats m H 0 c).before_in_eq_fetched 2 rfl (fun _ => rfl) (fun _ _ _ => rfl) (fun t => by
    show XAt m c t = _
    unfold XAt blk Dat.blockOf; rw [A_eq]) t d).trans (by unfold Dat.fetched Dat.blockOf XAt blk; rw [A_eq]; rfl)

theorem before_3 (c : Dev nD) (t : Fin cfg0.N) (d) : (dats m H 0 c).before 3 t d = NAt m c t :=
  ((dats m H 0 c).before_in_eq_fetched 3 rfl (fun _ => rfl) (fun _ _ _ => rfl) (fun t => by
    show NAt m c t = _
    unfold NAt blk Dat.blockOf; rw [A_eq]) t d).trans (by unfold Dat.fetched Dat.blockOf NAt blk; rw [A_eq]; rfl)

/-! ## The body at each point -/

abbrev ms0 (t : Fin cfg0.N) : Memref sig .tc .smem S128x16 .i32 := win0_0.stage (cfg0.slots t 0)
abbrev ms1 (t : Fin cfg0.N) : Memref sig .tc .vmem S1024x2 .f32 := win0_1.stage (cfg0.slots t 1)
abbrev ms2 (t : Fin cfg0.N) : Memref sig .tc .vmem S1024x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1024x1024 .f32 := win0_4.stage (cfg0.slots t 4)

abbrev bodyAt (t : Fin cfg0.N) : Prog (TpuEff nD τ sig (Elt F) Λ₀ .tc) PUnit :=
  cc0_combine (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (Memref.whole main_arg4) (Memref.isWhole_whole _) (ms4 t) (hstage0_4 ((cfg0.slots t 4).cast nbuf0_4)) (Memref.whole cc0_scratch0) (Memref.isWhole_whole _) cc0_scratch1

theorem row (t : Fin cfg0.N) : defs₀ (F := F) .tc cfg0.body (cfg0.bodyArgs t (cfg0.slots t)) = bodyAt t := by
  unfold defs₀; rw [Defs.onTc_tc]

def bodyPre (c : Dev nD) (t : Fin cfg0.N) : sProp 𝕄 :=
  iprop(Inv m c ∗ (dats m H 0 c).owesAt () t.castSucc
    ∗ (∃ d, owns (c : Thread nD τ) (ms0 t) fullShare ((dats m H 0 c).before 0 t d))
    ∗ (∃ d, owns (c : Thread nD τ) (ms1 t) fullShare ((dats m H 0 c).before 1 t d))
    ∗ (∃ d, owns (c : Thread nD τ) (ms2 t) fullShare ((dats m H 0 c).before 2 t d))
    ∗ (∃ d, owns (c : Thread nD τ) (ms3 t) fullShare ((dats m H 0 c).before 3 t d))
    ∗ (∃ d, owns (c : Thread nD τ) (ms4 t) fullShare ((dats m H 0 c).before 4 t d)))

def bodyPost (c : Dev nD) (t : Fin cfg0.N) : sProp 𝕄 :=
  iprop(Inv m c ∗ (dats m H 0 c).owesAt () t.succ
    ∗ owns (c : Thread nD τ) (ms0 t) fullShare (wAt m c t)
    ∗ owns (c : Thread nD τ) (ms1 t) fullShare (GAt m c t)
    ∗ owns (c : Thread nD τ) (ms2 t) fullShare (XAt m c t)
    ∗ owns (c : Thread nD τ) (ms3 t) fullShare (NAt m c t)
    ∗ owns (c : Thread nD τ) (ms4 t) fullShare (outAt m H c t))

theorem point (c : Dev nD) (t : Fin cfg0.N) :
    bodyPre m H c t ⊢ wp frame (wpE (defs₀ (F := F)) Variants.none (c : Thread nD τ) none) Set.univ (bodyAt t) (fun _ => bodyPost m H c t) := by
  unfold bodyPre bodyPost Inv
  unfold Dat.owesAt Pipeline.owesWithin
  rw [show (dats m H 0 c).owed t.castSucc = 0 from rfl, show (dats m H 0 c).owed t.succ = 0 from rfl]
  iintro ⟨⟨⟨%S, HZ⟩, HS, HY, Hr⟩, ⟨%W, -, HW⟩, ⟨%d0, H0⟩, ⟨%d1, H1⟩, ⟨%d2, H2⟩, ⟨%d3, H3⟩, ⟨%d4, H4⟩⟩
  rw [before_0, before_1, before_2, before_3]
  have hb := body c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (Memref.isWhole_whole _)
    (ms4 t) (hstage0_4 ((cfg0.slots t 4).cast nbuf0_4)) (Memref.isWhole_whole _) (wAt m c t) (V m c main_arg4) S ((H c).lt t)
    (GAt m c t) (XAt m c t) (NAt m c t) ((dats m H 0 c).before 4 t d4)
  iapply (wp_wand_r frame (wpE (defs₀ (F := F)) Variants.none (c : Thread nD τ) none) Set.univ)
  isplitl [HZ HY HS HW H0 H1 H2 H3 H4]
  · iapply hb
    isplitl [HZ]; · iexact HZ
    isplitl [HY]; · iexact HY
    isplitl [HS]; · iexact HS
    isplitl [HW]; · iexists _; iexact HW
    isplitl [H0]; · iexact H0
    isplitl [H1]; · iexact H1
    isplitl [H2]; · iexact H2
    isplitl [H3] <;> iassumption
  iintro %_ ⟨HZ, HY, HS, ⟨%W', HW⟩, H0, H1, H2, H3, H4⟩
  isplitl [HZ HY HS Hr]
  · isplitl [HZ]; · iexists _; iexact HZ
    isplitl [HS]; · iexact HS
    isplitl [HY] <;> iassumption
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  unfold outAt
  iexact H4

theorem obligation (c : Dev nD) : BodyObligation (dats (F := F) m H 0 c) (defs₀ (F := F)) Variants.none () Set.univ := fun t => by
  rw [bigSep_W0, bigSep_W0, row]
  exact triple_restated (point m H c t) rfl .rfl fun _ => .rfl

/-! ## The launch -/

/-- The semaphore of the body. -/
abbrev osem : Fin 1 → SemLoc sig := fun j => (![SemLoc.dma cc0_scratch1.sem] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch1.sem) 0 := by
  rw [Pipeline.ownSems0_eq_of_list c osem [0] (by decide) (by decide)]; rfl

/-- The buffer that the body holds through the region: the experts' rows. -/
def R0 : Finset (Ref sig .tc) := {main_arg4}
theorem H0_sub : (∅ : Finset (Ref sig .tc)) ⊆ Pipeline.restRefs sig spec0 := Finset.empty_subset _
theorem R0_sub : R0 ⊆ Pipeline.restRefs sig spec0 \ ∅ := by decide

theorem kept_mem : ∀ b ∈ ({main_arg0, main_arg1, main_arg3} : Finset (Ref sig .tc)), b ∈ Pipeline.restRefs sig spec0 \ R0 := by decide

theorem enter (c : Dev nD) : Pipeline.ΦDRG osem spec0 ∅ R0 (V m) (V m) c ⊢ (Inv m c : sProp 𝕄) := by
  rw [Pipeline.ΦDRG_eq, scopedRest0_eq, ownSems_eq]
  unfold Pipeline.routed R0 Inv
  rw [bigSep_empty, bigSep_singleton]
  iintro ⟨HZ, Hr, HS, -, HC⟩
  isplitl [HZ]; · iexact HZ
  isplitl [HS]; · iexact HS
  isplitl [HC] <;> iassumption

theorem leave (c : Dev nD) : (Inv m c : sProp 𝕄) ⊢ Pipeline.ΦDRG osem spec0 ∅ R0 (V m) (V m) c := by
  rw [Pipeline.ΦDRG_eq, scopedRest0_eq, ownSems_eq]
  unfold Pipeline.routed R0 Inv
  rw [bigSep_empty, bigSep_singleton]
  iintro ⟨HZ, HS, HC, Hr⟩
  isplitl [HZ]; · iexact HZ
  isplitl [Hr]; · iexact Hr
  isplitl [HS]; · iexact HS
  isplitr
  · iempintro
  iexact HC

set_option backward.isDefEq.respectTransparency.types false in
theorem run_region : θ_run defs (onTc (τ := τ) (main (F := F))) (s₀ m ρ)
    (fun r => Pipeline.FramePostRG cfgs (dats m H) 0 R0 (V m) (V m) r ∧ r.2.sem = fun _ => 0) :=
  Pipeline.θ_run_frame_dmaRG (Q' := _) cfgs (dats m H) (0 : Fin 1) launch0 osem defs₀ Variants.none ownSemFacts ∅ R0
    H0_sub R0_sub m ρ main
    (hbody := fun c => (obligation m H c).loose) (hshare := fun c => (dats m H 0 c).share_full fun _ => rfl)
    (howed := fun _ _ => rfl) (V := V m) (hmain := enters m Variants.none) (hA := A_eq m H) (G := V m)
    (hin := enter m) (hout := leave m)

/-- THE RUN: it terminates, nothing faults, the result ends at what its blocks were written back to, the arguments as they
    were, the counters at zero. -/
theorem run_main : θ_run defs (onTc (τ := τ) (main (F := F))) ⟨m, fun _ => 0, ρ⟩ (fun r => (∀ c : Dev nD,
      r.2.mem ((c.tc : Thread nD τ).loc main_v4) = (dats m H 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1.toR c).1 4,
      ((h.1.toR c).2 main_arg0 (kept_mem _ (by decide))).trans (V_off m c _ (by decide)),
      ((h.1.toR c).2 main_arg1 (kept_mem _ (by decide))).trans (V_off m c _ (by decide)),
      ((h.1.toR c).1 2).trans (((dats m H 0 c).arrAt_in 2 rfl _).trans ((A_eq m H c 2).trans (V_off m c main_arg2 (by decide)))),
      ((h.1.toR c).2 main_arg3 (kept_mem _ (by decide))).trans (V_off m c _ (by decide)),
      (h.1.written c (b := main_arg4) (by decide)).trans (V_off m c _ (by decide))⟩, h.2⟩) (run_region m ρ H)

end Cert.CombineIdeal.Combine

end
-- ==== Proof.ExpertBody.lean ====
/- The experts' body at one grid point. -/
module

public import proofs.«01_k».proof.Proof.Gen.ExpertsIdeal.Skeleton
public import proofs.«01_k».proof.Proof.Gen.ExpertsIdeal.Launch
public import Idealize.ShloMosaic.Lib.Pipeline.Frame
public import Idealize.ShloMosaic.Lib.Tactic
public import Idealize.ShloMosaic.Lib.ValueLayout
public import Idealize.ShloMosaic.Lib.VecWindow
public import Idealize.ShloMosaic.Lib.Pipeline.TableIdle

@[expose] public section

noncomputable section

namespace Cert.ExpertsIdeal.Tiles

open Cert.ExpertsIdeal Cert.ExpertsIdeal.Gen
open Idealize.ShloMosaic Idealize.ShloMosaic.TcCoe Idealize.ShloMosaic.Tactic
open Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

abbrev pt (c : Dev nD) {sp : Space} {S : Shape} {e : EltTy} (M : Memref sig .tc sp S e) (q : PosShare TreeShare) (X : S.Idx → Elt F e) : sProp 𝕄 :=
  M.view.loc (c : Thread nD τ) ↦[M.view.set]{q} M.view.rep X

/-! ## What one point adds -/

/-- A slab of 256 columns of a gate or up block, from column `o`; -/
def cols (G : S1x1024x1792.Idx → Elt F .bf16) (o : ℕ) (ho : o + 256 ≤ 1792) : FVec F S1024x256 .bf16 :=
  fun x => G (ix3 (0 : Fin 1) (x 0 : Fin 1024) ⟨o + (x 1 : Fin 256).val, lt_of_lt_of_le (Nat.add_lt_add_left (x 1 : Fin 256).isLt o) ho⟩)

/-- a slab of 256 rows of a down block, from row `o`. -/
def rows (D : S1x1792x1024.Idx → Elt F .bf16) (o : ℕ) (ho : o + 256 ≤ 1792) : FVec F S256x1024 .bf16 :=
  fun x => D (ix3 (0 : Fin 1) (⟨o + (x 0 : Fin 256).val, lt_of_lt_of_le (Nat.add_lt_add_left (x 0 : Fin 256).isLt o) ho⟩ : Fin 1792) (x 1 : Fin 1024))

/-- The slab's gate or up product; -/
def prod (X : FVec F S512x1024 .bf16) (W : FVec F S1024x256 .bf16) : FVec F S512x256 .f32 :=
  matmul dot_S512x1024_S1024x256_S512x256_1_0_0_1_n_n none X W (constant S512x256 .f32 0x00000000#32)

/-- the slab added to the accumulator. -/
def slab (X : FVec F S512x1024 .bf16) (G U : S1x1024x1792.Idx → Elt F .bf16) (D : S1x1792x1024.Idx → Elt F .bf16) (o : ℕ) (ho : o + 256 ≤ 1792)
    (acc : FVec F S512x1024 .f32) : FVec F S512x1024 .f32 :=
  addf acc (matmul dot_S512x256_S256x1024_S512x1024_1_0_0_1_n_n none
    (truncf .bf16 (mulf (mulf (prod X (cols G o ho)) (logistic (prod X (cols G o ho)))) (prod X (cols U o ho))) bitsLt_bf16_f32)
    (rows D o ho) (constant S512x1024 .f32 0x00000000#32))

/-- The seven slabs of a point added to the accumulator. -/
def step (X : S512x1024.Idx → Elt F .f32) (G U : S1x1024x1792.Idx → Elt F .bf16) (D : S1x1792x1024.Idx → Elt F .bf16)
    (acc : S512x1024.Idx → Elt F .f32) : S512x1024.Idx → Elt F .f32 :=
  let S := slab (truncf .bf16 X bitsLt_bf16_f32) G U D
  S 1536 (by decide) (S 1280 (by decide) (S 1024 (by decide) (S 768 (by decide) (S 512 (by decide) (S 256 (by decide) (S 0 (by decide) acc))))))

/-- What a point leaves in its block of the result. -/
def next (i : grid0.Coords) (nu : S1.Idx → Elt F .i32) (X : S512x1024.Idx → Elt F .f32) (G U : S1x1024x1792.Idx → Elt F .bf16)
    (D : S1x1792x1024.Idx → Elt F .bf16) (acc : S512x1024.Idx → Elt F .f32) : S512x1024.Idx → Elt F .f32 :=
  let z := if k0_cond1 i = 1#1 then broadcast S512x1024 (Scalar.ofBits .f32 0x00000000#32) else acc
  if k0_cond2 i (nu (ix1 0)) = 1#1 then step X G U D z else z

/-! ## The loads -/

theorem word (M : Memref sig .tc .smem S1 .i32) (nu : S1.Idx → Elt F .i32) (x) :
    View.readAt (Elt F) M.view (Rect.unit (s := S1) ![0] S1.size inb_S1_S1_0).toLoadRect (M.view.rep nu) x = nu (ix1 0) := by
  rw [View.readAt_full, View.read_rep]; exact congrArg nu (funext fun a => by match a with | ⟨0, _⟩ => exact Subsingleton.elim (α := Fin 1) _ _)

theorem whole_load (M : Memref sig .tc .vmem S512x1024 .f32) (X : S512x1024.Idx → Elt F .f32) :
    View.readAt (Elt F) M.view (Rect.unit (s := S512x1024) ![0, 0] S512x1024.size inb_S512x1024_S512x1024_0_0).toLoadRect (M.view.rep X) = X := by
  rw [View.readAt_full, View.read_rep]

theorem cols_load (M : Memref sig .tc .vmem S1x1024x1792 .bf16) (G : S1x1024x1792.Idx → Elt F .bf16) (o : ℕ) (ho : o + 256 ≤ 1792)
    (inb : ∀ a, (![0, o] : Fin 2 → ℕ) a + S1024x256.size a ≤ S1024x1792.size a) (hq) :
    View.readAt (Elt F) ((M.slice (Rect.unit (s := S1x1024x1792) ![0, 0, 0] S1x1024x1792.size inb_S1x1024x1792_S1x1024x1792_0_0_0) (fun _ => rfl)).squeeze S1024x1792 hq).view
      (Rect.unit (s := S1024x1792) ![0, o] S1024x256.size inb).toLoadRect (M.view.rep G) = cols G o ho := by
  funext x
  show View.read (Elt F) ((M.slice (Rect.unit (s := S1x1024x1792) ![0, 0, 0] S1x1024x1792.size inb_S1x1024x1792_S1x1024x1792_0_0_0) (fun _ => rfl)).squeeze S1024x1792 hq).view
    (M.view.rep G) ((Rect.unit (s := S1024x1792) ![0, o] S1024x256.size inb).emb x) = _
  rw [Memref.read_squeeze_full, View.read_rep]
  refine (congrArg (fun y => G (Shape.reshapeEquiv _ y)) (?_ : _ = (ix2 (x 0 : Fin 1024) ⟨o + (x 1 : Fin 256).val, lt_of_lt_of_le (Nat.add_lt_add_left (x 1 : Fin 256).isLt o) ho⟩ : S1024x1792.Idx))).trans ?_
  · funext a
    refine Fin.ext ?_
    match a with
    | ⟨0, _⟩ => show 0 + 1 * (x 0).val = (x 0).val; omega
    | ⟨1, _⟩ => show o + 1 * (x 1).val = o + (x 1).val; omega
  · exact congrArg G (reshapeEquiv_ix2_1ab _ _ _)

theorem rows_load (M : Memref sig .tc .vmem S1x1792x1024 .bf16) (D : S1x1792x1024.Idx → Elt F .bf16) (o : ℕ) (ho : o + 256 ≤ 1792)
    (inb : ∀ a, (![o, 0] : Fin 2 → ℕ) a + S256x1024.size a ≤ S1792x1024.size a) (hq) :
    View.readAt (Elt F) ((M.slice (Rect.unit (s := S1x1792x1024) ![0, 0, 0] S1x1792x1024.size inb_S1x1792x1024_S1x1792x1024_0_0_0) (fun _ => rfl)).squeeze S1792x1024 hq).view
      (Rect.unit (s := S1792x1024) ![o, 0] S256x1024.size inb).toLoadRect (M.view.rep D) = rows D o ho := by
  funext x
  show View.read (Elt F) ((M.slice (Rect.unit (s := S1x1792x1024) ![0, 0, 0] S1x1792x1024.size inb_S1x1792x1024_S1x1792x1024_0_0_0) (fun _ => rfl)).squeeze S1792x1024 hq).view
    (M.view.rep D) ((Rect.unit (s := S1792x1024) ![o, 0] S256x1024.size inb).emb x) = _
  rw [Memref.read_squeeze_full, View.read_rep]
  refine (congrArg (fun y => D (Shape.reshapeEquiv _ y)) (?_ : _ = (ix2 (⟨o + (x 0 : Fin 256).val, lt_of_lt_of_le (Nat.add_lt_add_left (x 0 : Fin 256).isLt o) ho⟩ : Fin 1792) (x 1 : Fin 1024) : S1792x1024.Idx))).trans ?_
  · funext a
    refine Fin.ext ?_
    match a with
    | ⟨0, _⟩ => show o + 1 * (x 0).val = o + (x 0).val; omega
    | ⟨1, _⟩ => show 0 + 1 * (x 1).val = (x 1).val; omega
  · exact congrArg D (reshapeEquiv_ix2_1ab _ _ _)

theorem step_payloads (X : S512x1024.Idx → Elt F .f32) (G U : S1x1024x1792.Idx → Elt F .bf16) (D : S1x1792x1024.Idx → Elt F .bf16)
    (acc : S512x1024.Idx → Elt F .f32) (h0 : 0 + 256 ≤ 1792) (h1 : 256 + 256 ≤ 1792) (h2 : 512 + 256 ≤ 1792) (h3 : 768 + 256 ≤ 1792)
    (h4 : 1024 + 256 ≤ 1792) (h5 : 1280 + 256 ≤ 1792) (h6 : 1536 + 256 ≤ 1792) :
    k0_pay2 (k0_pay3 X)
      (k0_pay12 (k0_pay3 X)
        (k0_pay9 (k0_pay3 X)
          (k0_pay6 (k0_pay3 X) (k0_pay4 X acc (cols G 0 h0) (cols U 0 h0) (rows D 0 h0)) (k0_pay5 X (cols G 256 h1))
            (cols U 256 h1) (rows D 256 h1))
          (k0_pay7 (k0_pay3 X) (cols G 512 h2) (cols U 512 h2)) (k0_pay8 (rows D 512 h2)) (constant S512x1024 .f32 0#32)
          (cols G 768 h3) (cols U 768 h3) (rows D 768 h3))
        (k0_pay10 (k0_pay3 X) (cols G 1024 h4)) (k0_pay11 (cols U 1024 h4)) (rows D 1024 h4) (cols G 1280 h5)
        (cols U 1280 h5) (rows D 1280 h5))
      (cols G 1536 h6) (cols U 1536 h6) (rows D 1536 h6) = step X G U D acc := by
  simp only [k0_pay2, k0_pay3, k0_pay4, k0_pay5, k0_pay6, k0_pay7, k0_pay8, k0_pay9, k0_pay10, k0_pay11, k0_pay12, shapeCast_self]
  rfl

/-! ## The body at a point -/

variable (c : Dev nD) (i : grid0.Coords) (M2 : Memref sig .tc .smem S136 .i32) (h2 : M2.IsWhole) (M3 : Memref sig .tc .smem S1 .i32) (h3 : M3.IsWhole)
  (M4 : Memref sig .tc .vmem S512x1024 .f32) (h4 : M4.IsWhole) (M5 : Memref sig .tc .vmem S1x1024x1792 .bf16) (h5 : M5.IsWhole)
  (M6 : Memref sig .tc .vmem S1x1024x1792 .bf16) (h6 : M6.IsWhole) (M7 : Memref sig .tc .vmem S1x1792x1024 .bf16) (h7 : M7.IsWhole)
  (M8 : Memref sig .tc .vmem S512x1024 .f32) (h8 : M8.IsWhole) (q : PosShare TreeShare)
  (nu : S1.Idx → Elt F .i32) (X : S512x1024.Idx → Elt F .f32) (G U : S1x1024x1792.Idx → Elt F .bf16)
  (D : S1x1792x1024.Idx → Elt F .bf16) (acc : S512x1024.Idx → Elt F .f32)

def ins (c : Dev nD) (M3 : Memref sig .tc .smem S1 .i32) (M4 : Memref sig .tc .vmem S512x1024 .f32) (M5 M6 : Memref sig .tc .vmem S1x1024x1792 .bf16)
    (M7 : Memref sig .tc .vmem S1x1792x1024 .bf16) (q : PosShare TreeShare) (nu : S1.Idx → Elt F .i32) (X : S512x1024.Idx → Elt F .f32)
    (G U : S1x1024x1792.Idx → Elt F .bf16) (D : S1x1792x1024.Idx → Elt F .bf16) : sProp 𝕄 :=
  iprop(pt c M3 q nu ∗ pt c M4 fullShare X ∗ pt c M5 fullShare G ∗ pt c M6 fullShare U ∗ pt c M7 fullShare D)

set_option maxHeartbeats 4000000 in
theorem body_both (hc1 : k0_cond1 i = 1#1) (hc2 : k0_cond2 i (nu (ix1 0)) = 1#1) :
    iprop(ins c M3 M4 M5 M6 M7 q nu X G U D ∗ pt c M8 fullShare acc)
      ⊢ wp frame (wpE (defs₀ (F := F)) Variants.none c none) Set.univ (cc0_experts i M2 h2 M3 h3 M4 h4 M5 h5 M6 h6 M7 h7 M8 h8)
        (fun _ => iprop(ins c M3 M4 M5 M6 M7 q nu X G U D ∗ owns (c : Thread nD τ) M8 fullShare (next i nu X G U D acc))) := by
  unfold ins pt owns
  simp only [cc0_experts_eq_skeleton]
  unfold cc0_experts_skel
  simp only [k0_part1_eq_skeleton, k0_part2_eq_skeleton, k0_part3_eq_skeleton, k0_part4_eq_skeleton]
  rw [← word M3 nu (Shape.Idx.first (numel1_S1.symm ▸ Nat.one_pos))] at hc2
  iintro ⟨⟨H3, H4, H5, H6, H7⟩, H8⟩
  sl_exec (disch := first | sl_exact hc1 | sl_exact hc2)
  sl_step
  isplitl [H3 H4 H5 H6 H7]
  · isplitl [H3]; · iexact H3
    isplitl [H4]; · iexact H4
    isplitl [H5]; · iexact H5
    isplitl [H6] <;> iassumption
  iexists _
  isplitr; swap
  · iexact H8
  ipureintro
  sl_unfold_run_names
  rw [word] at hc2
  rw [show next i nu X G U D acc = step X G U D (broadcast S512x1024 (Scalar.ofBits .f32 0x00000000#32)) from by unfold next; simp only [hc1, hc2, if_true]]
  refine (View.read_writes_full _ _ _ _ _).trans ?_
  rw [whole_load M4 X]
  rw [View.readCov_full]
  rw [cols_load M5 G 0 (by decide), cols_load M6 U 0 (by decide), rows_load M7 D 0 (by decide)]
  rw [cols_load M5 G 256 (by decide), cols_load M6 U 256 (by decide), rows_load M7 D 256 (by decide)]
  rw [cols_load M5 G 512 (by decide), cols_load M6 U 512 (by decide), rows_load M7 D 512 (by decide)]
  rw [cols_load M5 G 768 (by decide), cols_load M6 U 768 (by decide), rows_load M7 D 768 (by decide)]
  rw [cols_load M5 G 1024 (by decide), cols_load M6 U 1024 (by decide), rows_load M7 D 1024 (by decide)]
  rw [cols_load M5 G 1280 (by decide), cols_load M6 U 1280 (by decide), rows_load M7 D 1280 (by decide)]
  rw [cols_load M5 G 1536 (by decide), cols_load M6 U 1536 (by decide), rows_load M7 D 1536 (by decide)]
  exact step_payloads X G U D _ _ _ _ _ _ _ _

set_option maxHeartbeats 4000000 in
theorem body_zero (hc1 : k0_cond1 i = 1#1) (hc2 : ¬ k0_cond2 i (nu (ix1 0)) = 1#1) :
    iprop(ins c M3 M4 M5 M6 M7 q nu X G U D ∗ pt c M8 fullShare acc)
      ⊢ wp frame (wpE (defs₀ (F := F)) Variants.none c none) Set.univ (cc0_experts i M2 h2 M3 h3 M4 h4 M5 h5 M6 h6 M7 h7 M8 h8)
        (fun _ => iprop(ins c M3 M4 M5 M6 M7 q nu X G U D ∗ owns (c : Thread nD τ) M8 fullShare (next i nu X G U D acc))) := by
  unfold ins pt owns
  simp only [cc0_experts_eq_skeleton]
  unfold cc0_experts_skel
  simp only [k0_part1_eq_skeleton, k0_part2_eq_skeleton, k0_part3_eq_skeleton, k0_part4_eq_skeleton]
  rw [← word M3 nu (Shape.Idx.first (numel1_S1.symm ▸ Nat.one_pos))] at hc2
  iintro ⟨⟨H3, H4, H5, H6, H7⟩, H8⟩
  sl_exec (disch := first | sl_exact hc1 | sl_exact hc2)
  sl_step
  isplitl [H3 H4 H5 H6 H7]
  · isplitl [H3]; · iexact H3
    isplitl [H4]; · iexact H4
    isplitl [H5]; · iexact H5
    isplitl [H6] <;> iassumption
  iexists _
  isplitr; swap
  · iexact H8
  ipureintro
  sl_unfold_run_names
  rw [word] at hc2
  rw [show next i nu X G U D acc = broadcast S512x1024 (Scalar.ofBits .f32 0x00000000#32) from by unfold next; simp only [hc1, hc2, if_true, if_false]]
  exact View.read_writes_full _ _ _ _ _

set_option maxHeartbeats 4000000 in
theorem body_add (hc1 : ¬ k0_cond1 i = 1#1) (hc2 : k0_cond2 i (nu (ix1 0)) = 1#1) :
    iprop(ins c M3 M4 M5 M6 M7 q nu X G U D ∗ pt c M8 fullShare acc)
      ⊢ wp frame (wpE (defs₀ (F := F)) Variants.none c none) Set.univ (cc0_experts i M2 h2 M3 h3 M4 h4 M5 h5 M6 h6 M7 h7 M8 h8)
        (fun _ => iprop(ins c M3 M4 M5 M6 M7 q nu X G U D ∗ owns (c : Thread nD τ) M8 fullShare (next i nu X G U D acc))) := by
  unfold ins pt owns
  simp only [cc0_experts_eq_skeleton]
  unfold cc0_experts_skel
  simp only [k0_part1_eq_skeleton, k0_part2_eq_skeleton, k0_part3_eq_skeleton, k0_part4_eq_skeleton]
  rw [← word M3 nu (Shape.Idx.first (numel1_S1.symm ▸ Nat.one_pos))] at hc2
  iintro ⟨⟨H3, H4, H5, H6, H7⟩, H8⟩
  sl_exec (disch := first | sl_exact hc1 | sl_exact hc2)
  sl_step
  isplitl [H3 H4 H5 H6 H7]
  · isplitl [H3]; · iexact H3
    isplitl [H4]; · iexact H4
    isplitl [H5]; · iexact H5
    isplitl [H6] <;> iassumption
  iexists _
  isplitr; swap
  · iexact H8
  ipureintro
  sl_unfold_run_names
  rw [word] at hc2
  rw [show next i nu X G U D acc = step X G U D acc from by unfold next; simp only [hc1, hc2, if_true, if_false]]
  refine (View.read_writes_full _ _ _ _ _).trans ?_
  rw [whole_load M4 X, whole_load M8 acc]
  rw [cols_load M5 G 0 (by decide), cols_load M6 U 0 (by decide), rows_load M7 D 0 (by decide)]
  rw [cols_load M5 G 256 (by decide), cols_load M6 U 256 (by decide), rows_load M7 D 256 (by decide)]
  rw [cols_load M5 G 512 (by decide), cols_load M6 U 512 (by decide), rows_load M7 D 512 (by decide)]
  rw [cols_load M5 G 768 (by decide), cols_load M6 U 768 (by decide), rows_load M7 D 768 (by decide)]
  rw [cols_load M5 G 1024 (by decide), cols_load M6 U 1024 (by decide), rows_load M7 D 1024 (by decide)]
  rw [cols_load M5 G 1280 (by decide), cols_load M6 U 1280 (by decide), rows_load M7 D 1280 (by decide)]
  rw [cols_load M5 G 1536 (by decide), cols_load M6 U 1536 (by decide), rows_load M7 D 1536 (by decide)]
  exact step_payloads X G U D _ _ _ _ _ _ _ _

set_option maxHeartbeats 4000000 in
theorem body_none (hc1 : ¬ k0_cond1 i = 1#1) (hc2 : ¬ k0_cond2 i (nu (ix1 0)) = 1#1) :
    iprop(ins c M3 M4 M5 M6 M7 q nu X G U D ∗ pt c M8 fullShare acc)
      ⊢ wp frame (wpE (defs₀ (F := F)) Variants.none c none) Set.univ (cc0_experts i M2 h2 M3 h3 M4 h4 M5 h5 M6 h6 M7 h7 M8 h8)
        (fun _ => iprop(ins c M3 M4 M5 M6 M7 q nu X G U D ∗ owns (c : Thread nD τ) M8 fullShare (next i nu X G U D acc))) := by
  unfold ins pt owns
  simp only [cc0_experts_eq_skeleton]
  unfold cc0_experts_skel
  simp only [k0_part1_eq_skeleton, k0_part2_eq_skeleton, k0_part3_eq_skeleton, k0_part4_eq_skeleton]
  rw [← word M3 nu (Shape.Idx.first (numel1_S1.symm ▸ Nat.one_pos))] at hc2
  iintro ⟨⟨H3, H4, H5, H6, H7⟩, H8⟩
  sl_exec (disch := first | sl_exact hc1 | sl_exact hc2)
  sl_step
  isplitl [H3 H4 H5 H6 H7]
  · isplitl [H3]; · iexact H3
    isplitl [H4]; · iexact H4
    isplitl [H5]; · iexact H5
    isplitl [H6] <;> iassumption
  iexists _
  isplitr; swap
  · iexact H8
  ipureintro
  sl_unfold_run_names
  rw [word] at hc2
  rw [show next i nu X G U D acc = acc from by unfold next; simp only [hc1, hc2, if_false]]
  exact View.read_rep _ _

/-- THE BODY AT A POINT: its inputs are kept, and its block of the result goes from `acc` to `next … acc`. -/
theorem body :
    iprop(owns (c : Thread nD τ) M3 q nu ∗ owns (c : Thread nD τ) M4 fullShare X ∗ owns (c : Thread nD τ) M5 fullShare G
        ∗ owns (c : Thread nD τ) M6 fullShare U ∗ owns (c : Thread nD τ) M7 fullShare D ∗ owns (c : Thread nD τ) M8 fullShare acc)
      ⊢ wp frame (wpE (defs₀ (F := F)) Variants.none c none) Set.univ (cc0_experts i M2 h2 M3 h3 M4 h4 M5 h5 M6 h6 M7 h7 M8 h8)
        (fun _ => (iprop(owns (c : Thread nD τ) M3 q nu ∗ owns (c : Thread nD τ) M4 fullShare X ∗ owns (c : Thread nD τ) M5 fullShare G
          ∗ owns (c : Thread nD τ) M6 fullShare U ∗ owns (c : Thread nD τ) M7 fullShare D
          ∗ owns (c : Thread nD τ) M8 fullShare (next i nu X G U D acc)) : sProp 𝕄)) := by
  have key : iprop(ins c M3 M4 M5 M6 M7 q nu X G U D ∗ pt c M8 fullShare acc)
      ⊢ wp frame (wpE (defs₀ (F := F)) Variants.none c none) Set.univ (cc0_experts i M2 h2 M3 h3 M4 h4 M5 h5 M6 h6 M7 h7 M8 h8)
        (fun _ => iprop(ins c M3 M4 M5 M6 M7 q nu X G U D ∗ owns (c : Thread nD τ) M8 fullShare (next i nu X G U D acc))) := by
    by_cases hc1 : k0_cond1 i = 1#1 <;> by_cases hc2 : k0_cond2 i (nu (ix1 0)) = 1#1
    · exact body_both c i M2 h2 M3 h3 M4 h4 M5 h5 M6 h6 M7 h7 M8 h8 q nu X G U D acc hc1 hc2
    · exact body_zero c i M2 h2 M3 h3 M4 h4 M5 h5 M6 h6 M7 h7 M8 h8 q nu X G U D acc hc1 hc2
    · exact body_add c i M2 h2 M3 h3 M4 h4 M5 h5 M6 h6 M7 h7 M8 h8 q nu X G U D acc hc1 hc2
    · exact body_none c i M2 h2 M3 h3 M4 h4 M5 h5 M6 h6 M7 h7 M8 h8 q nu X G U D acc hc1 hc2
  unfold ins pt at key
  simp only [owns_eq_rep] at key ⊢
  refine (?_ : _ ⊢ _).trans (key.trans (wp_mono _ _ _ fun _ => ?_))
  · iintro ⟨H3, H4, H5, H6, H7, H8⟩
    isplitr [H8]; swap; · iexact H8
    isplitl [H3]; · iexact H3
    isplitl [H4]; · iexact H4
    isplitl [H5]; · iexact H5
    isplitl [H6] <;> iassumption
  · iintro ⟨⟨H3, H4, H5, H6, H7⟩, H8⟩
    isplitl [H3]; · iexact H3
    isplitl [H4]; · iexact H4
    isplitl [H5]; · iexact H5
    isplitl [H6]; · iexact H6
    isplitl [H7] <;> iassumption

end Cert.ExpertsIdeal.Tiles

end
-- ==== Proof.ExpertArith.lean ====
/- The arithmetic of the experts' index maps: words against numbers, over all the words in range. -/
module

public import Idealize.ShloMosaic.Lib.ValueLayout

@[expose] public section

noncomputable section

namespace Cert.ExpertsIdeal.Tiles

open Idealize.ShloMosaic
open Idealize.ShloMosaic.ValueIdx

/-- The tile of rows taken at tile `a` when `nu` are used: the last used one past the end. -/
def effW (a nu : BitVec 32) : BitVec 32 := Scalar.minsi a (Scalar.subi nu 1#32)

/-- The half of the columns taken there at step `b`. -/
def halfW (a b nu : BitVec 32) : BitVec 32 :=
  let je : BitVec 32 := Scalar.select (Scalar.cmpi .slt a nu) b 1#32
  let two : BitVec 32 := Scalar.select (Scalar.cmpi .eq 2#32 0#32) 1#32 2#32
  let rem : BitVec 32 := Scalar.remsi (effW a nu) two
  let fix : BitVec 1 := Scalar.andi (Scalar.xori (Scalar.cmpi .slt rem 0#32) (Scalar.cmpi .slt two 0#32)) (Scalar.cmpi .ne rem 0#32)
  let par : BitVec 32 := Scalar.select fix (Scalar.addi rem two) rem
  Scalar.select (Scalar.cmpi .eq par 0#32) je (Scalar.subi 1#32 je)

/-- The same in numbers. -/
def half (i j n : ℕ) : ℕ :=
  let je := if i < n then j else 1
  if min i (n - 1) % 2 = 0 then je else 1 - je

theorem effW_val : ∀ i n : Fin 136, (effW (BitVec.ofNat 32 i.val) (BitVec.ofNat 32 (n.val + 1))).toNat = min i.val n.val := by
  decide +kernel

theorem halfW_val : ∀ (i n : Fin 136) (j : Fin 2),
    (halfW (BitVec.ofNat 32 i.val) (BitVec.ofNat 32 j.val) (BitVec.ofNat 32 (n.val + 1))).toNat = half i.val j.val (n.val + 1) := by
  decide +kernel

end Cert.ExpertsIdeal.Tiles

end
-- ==== Proof.ExpertWords.lean ====
/- The experts' index maps, as numbers: which tile of the rows, which expert and which half of its columns a grid point
   takes, from the two tables. -/
module

public import proofs.«01_k».proof.Proof.Gen.ExpertsIdeal.Skeleton
public import proofs.«01_k».proof.Proof.Gen.ExpertsIdeal.Launch
public import proofs.«01_k».proof.Proof.ExpertArith
public import Idealize.ShloMosaic.Lib.ValueLayout

@[expose] public section

noncomputable section

namespace Cert.ExpertsIdeal.Tiles

open Cert.ExpertsIdeal Cert.ExpertsIdeal.Gen
open Idealize.ShloMosaic Idealize.ShloMosaic.TcCoe
open Idealize.ShloMosaic.ValueIdx

variable {F : FTy → Type} [FloatOps F]

/-- The number of used tiles, of a table's contents; -/
def nuOf (pf : pre0.Contents (Elt F)) : BitVec 32 := pf 1 (ix1 (0 : Fin 1))

/-- the expert of a tile. -/
def teOf (pf : pre0.Contents (Elt F)) (i : Fin 136) : BitVec 32 := pf 0 (ix1 i)

theorem at1 (pf : pre0.Contents (Elt F)) (h) (h1) : pf.at 1 (Rect.unit (s := S1) ![0] S1.size h) h1 = nuOf pf :=
  congrArg (pf 1) (funext fun a => by match a with | ⟨0, _⟩ => exact Subsingleton.elim (α := Fin 1) _ _)

theorem at0 (pf : pre0.Contents (Elt F)) (i : Fin 136) (h) (h1) :
    pf.at 0 (Rect.unit (s := S136) ![(Scalar.indexCast (BitVec.ofNat 32 i.val) : Index).toNat] S1.size h) h1 = teOf pf i :=
  congrArg (pf 0) (funext fun a => by
    match a with
    | ⟨0, _⟩ =>
      have key : ∀ x : Fin 1, (BitVec.ofNat 32 i.val).toNat + 1 * x.val = i.val := fun x => by
        rw [BitVec.toNat_ofNat, Nat.mod_eq_of_lt (by have := i.isLt; omega)]; have := x.isLt; omega
      exact Fin.ext (key _))

theorem t0_eq (pf : pre0.Contents (Elt F)) (i : grid0.Coords) :
    cc0_transform_0 inb_S1_S1_0 numel1_S1 pf i = ![(effW (BitVec.ofNat 32 (i 0).val) (nuOf pf)).toNat, 0] := by
  rw [← at1 pf inb_S1_S1_0 numel1_S1]; rfl

theorem t1_eq (pf : pre0.Contents (Elt F)) (i : grid0.Coords) :
    cc0_transform_1 k0_off1_inb numel1_S1 inb_S1_S1_0 pf i
      = ![(teOf pf (i 0)).toNat, 0, (halfW (BitVec.ofNat 32 (i 0).val) (BitVec.ofNat 32 (i 1).val) (nuOf pf)).toNat] := by
  rw [← at1 pf inb_S1_S1_0 numel1_S1, ← at0 pf (i 0) (k0_off1_inb i) numel1_S1]; rfl

theorem t2_eq (pf : pre0.Contents (Elt F)) (i : grid0.Coords) :
    cc0_transform_2 k0_off1_inb numel1_S1 inb_S1_S1_0 pf i
      = ![(teOf pf (i 0)).toNat, 0, (halfW (BitVec.ofNat 32 (i 0).val) (BitVec.ofNat 32 (i 1).val) (nuOf pf)).toNat] := by
  rw [← at1 pf inb_S1_S1_0 numel1_S1, ← at0 pf (i 0) (k0_off1_inb i) numel1_S1]; rfl

theorem t3_eq (pf : pre0.Contents (Elt F)) (i : grid0.Coords) :
    cc0_transform_3 k0_off1_inb numel1_S1 inb_S1_S1_0 pf i
      = ![(teOf pf (i 0)).toNat, (halfW (BitVec.ofNat 32 (i 0).val) (BitVec.ofNat 32 (i 1).val) (nuOf pf)).toNat, 0] := by
  rw [← at1 pf inb_S1_S1_0 numel1_S1, ← at0 pf (i 0) (k0_off1_inb i) numel1_S1]; rfl

/-- What the tables must satisfy: experts and used tiles in range. -/
structure InRange (pf : pre0.Contents (Elt F)) : Prop where
  te : ∀ i, (teOf pf i).toNat < 8
  pos : 1 ≤ (nuOf pf).toNat
  le : (nuOf pf).toNat ≤ 136

theorem InRange.nu_eq {pf : pre0.Contents (Elt F)} (H : InRange pf) : nuOf pf = BitVec.ofNat 32 ((⟨(nuOf pf).toNat - 1, by have := H.pos; have := H.le; omega⟩ : Fin 136).val + 1) := by
  apply BitVec.eq_of_toNat_eq
  have := H.pos; have := H.le
  rw [BitVec.toNat_ofNat, Nat.mod_eq_of_lt (by show (nuOf pf).toNat - 1 + 1 < _; omega)]
  show _ = (nuOf pf).toNat - 1 + 1; omega

theorem InRange.eff {pf : pre0.Contents (Elt F)} (H : InRange pf) (i : Fin 136) :
    (effW (BitVec.ofNat 32 i.val) (nuOf pf)).toNat = min i.val ((nuOf pf).toNat - 1) := by
  conv_lhs => rw [H.nu_eq]
  exact effW_val i _

theorem InRange.half {pf : pre0.Contents (Elt F)} (H : InRange pf) (i : Fin 136) (j : Fin 2) :
    (halfW (BitVec.ofNat 32 i.val) (BitVec.ofNat 32 j.val) (nuOf pf)).toNat = Tiles.half i.val j.val (nuOf pf).toNat := by
  conv_lhs => rw [H.nu_eq]
  refine (halfW_val i _ j).trans ?_
  congr 1; have := H.pos; show (nuOf pf).toNat - 1 + 1 = _; omega

theorem half_lt (i j n : ℕ) (hj : j < 2) : half i j n < 2 := by
  unfold half; dsimp only; split <;> split <;> omega

theorem InRange.ok {pf : pre0.Contents (Elt F)} (H : InRange pf) : ok0 pf := by
  refine ⟨fun i => ⟨?_, .inl rfl⟩, fun i => ⟨?_, .inr ?_⟩, fun i => ⟨?_, .inr ?_⟩, fun i => ⟨?_, .inr ?_⟩⟩
  · rw [t0_eq]; intro a
    have := H.eff (i 0); have := (i 0).isLt
    match a with
    | ⟨0, _⟩ => show ((effW _ _).toNat + 1) * 512 ≤ 69632; rw [H.eff (i 0)]; have : (i 0).val < 136 := (i 0).isLt; omega
    | ⟨1, _⟩ => show (0 + 1) * 1024 ≤ 1024; omega
  · rw [t1_eq]; intro a
    have h1 := half_lt (i 0).val (i 1).val (nuOf pf).toNat (i 1).isLt
    have h2 := H.te (i 0)
    match a with
    | ⟨0, _⟩ => show ((teOf pf (i 0)).toNat + 1) * 1 ≤ 8; omega
    | ⟨1, _⟩ => show (0 + 1) * 1024 ≤ 1024; omega
    | ⟨2, _⟩ => show ((halfW _ _ _).toNat + 1) * 1792 ≤ 3584; rw [H.half (i 0) (i 1)]; omega
  · refine Or.inr ⟨by decide, rfl, ?_, rfl⟩
    show cc0_transform_1 _ _ _ pf i 1 * 1024 = 0
    rw [t1_eq]; rfl
  · rw [t2_eq]; intro a
    have h1 := half_lt (i 0).val (i 1).val (nuOf pf).toNat (i 1).isLt
    have h2 := H.te (i 0)
    match a with
    | ⟨0, _⟩ => show ((teOf pf (i 0)).toNat + 1) * 1 ≤ 8; omega
    | ⟨1, _⟩ => show (0 + 1) * 1024 ≤ 1024; omega
    | ⟨2, _⟩ => show ((halfW _ _ _).toNat + 1) * 1792 ≤ 3584; rw [H.half (i 0) (i 1)]; omega
  · refine Or.inr ⟨by decide, rfl, ?_, rfl⟩
    show cc0_transform_2 _ _ _ pf i 1 * 1024 = 0
    rw [t2_eq]; rfl
  · rw [t3_eq]; intro a
    have h1 := half_lt (i 0).val (i 1).val (nuOf pf).toNat (i 1).isLt
    have h2 := H.te (i 0)
    match a with
    | ⟨0, _⟩ => show ((teOf pf (i 0)).toNat + 1) * 1 ≤ 8; omega
    | ⟨1, _⟩ => show ((halfW _ _ _).toNat + 1) * 1792 ≤ 3584; rw [H.half (i 0) (i 1)]; omega
    | ⟨2, _⟩ => show (0 + 1) * 1024 ≤ 1024; omega
  · refine Or.inl (Or.inr ⟨by decide, rfl, Or.inl ⟨?_, ?_⟩⟩)
    · show 2 ∣ cc0_transform_3 _ _ _ pf i 1 * 1792
      exact Dvd.dvd.mul_left (by decide) _
    · show 2 ∣ 1792; decide

end Cert.ExpertsIdeal.Tiles

end
-- ==== Proof.ExpertRun.lean ====
/- The experts over their grid, launched: what each block of the result holds after each grid point, and the run of the
   whole program. -/
module

public import proofs.«01_k».proof.Proof.ExpertBody
public import proofs.«01_k».proof.Proof.ExpertWords
public import Idealize.ShloMosaic.Lib.Pipeline.FrameValue
public import Idealize.ShloMosaic.Lib.Pipeline.FrameBody
public import Idealize.ShloMosaic.Lib.Pipeline.ValueKit
public import Idealize.ShloMosaic.Lib.Pipeline.Covers

@[expose] public section

noncomputable section

namespace Cert.ExpertsIdeal.Tiles

open Cert.ExpertsIdeal Cert.ExpertsIdeal.Gen
open Idealize.ShloMosaic Idealize.ShloMosaic.TcCoe Idealize.ShloMosaic.Tactic
open Idealize.ShloMosaic.ValueIdx
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## Up to the region -/

/-- A core's buffers when the region is entered: after the host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem enters (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The tables as the region finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

variable (H : InRange (tbl m))

abbrev adm : (pcfg0 (F := F)).Adm := ⟨tbl m, H.ok⟩

abbrev cfgM : Pipeline.Cfg sig Λ₀ := cfg0 (adm m H)

/-- A window's block at a point. -/
def blk (c : Dev nD) (w : Fin (cfgM m H).W) (t : Fin (cfgM m H).N) : (((cfgM m H).win w).xblock ((cfgM m H).grid.coords t)).Idx → Elt F ((cfgM m H).win w).elt :=
  (((cfgM m H).win w).blk t).view.read (Elt F) (V m c (Pipeline.arrRef spec0 w))

/-- The blocks a point takes: its tile of rows, -/
def XAt (c : Dev nD) (t : Fin (cfgM m H).N) : S512x1024.Idx → Elt F .f32 := blk m H c 0 t
/-- its expert's gate columns, -/
def GAt (c : Dev nD) (t : Fin (cfgM m H).N) : S1x1024x1792.Idx → Elt F .bf16 := blk m H c 1 t
/-- its up columns -/
def UAt (c : Dev nD) (t : Fin (cfgM m H).N) : S1x1024x1792.Idx → Elt F .bf16 := blk m H c 2 t
/-- and its down rows. -/
def DAt (c : Dev nD) (t : Fin (cfgM m H).N) : S1x1792x1024.Idx → Elt F .bf16 := blk m H c 3 t

/-- The number of used tiles. -/
def nuV : S1.Idx → Elt F .i32 := tbl m 1

/-- A point, from contents `acc` of its block of the result. -/
def pointN (c : Dev nD) (t : Fin (cfgM m H).N) (acc : S512x1024.Idx → Elt F .f32) : S512x1024.Idx → Elt F .f32 :=
  next (grid0.coords t) (nuV m) (XAt m H c t) (GAt m H c t) (UAt m H c t) (DAt m H c t) acc

def nought : S512x1024.Idx → Elt F .f32 := broadcast S512x1024 (Scalar.ofBits .f32 0x00000000#32)

/-- What the block holds after a point: the first of a tile starts from zeros, the second from the first. -/
def outAt (c : Dev nD) (t : Fin (cfgM m H).N) : S512x1024.Idx → Elt F .f32 :=
  if t.val % 2 = 0 then pointN m H c t nought
  else pointN m H c t (pointN m H c ⟨t.val - 1, Nat.lt_of_le_of_lt (Nat.sub_le _ _) t.isLt⟩ nought)

theorem coords0 : ∀ t : Fin grid0.N, (grid0.coords t 0).val = t.val / 2 := by decide +kernel
theorem coords1 : ∀ t : Fin grid0.N, (grid0.coords t 1).val = t.val % 2 := by decide +kernel
theorem cond1_iff : ∀ t : Fin grid0.N, k0_cond1 (grid0.coords t) = 1#1 ↔ t.val % 2 = 0 := by decide +kernel

theorem pointN_even (c : Dev nD) (t : Fin (cfgM m H).N) (h : t.val % 2 = 0) (acc) : pointN m H c t acc = outAt m H c t := by
  unfold outAt; rw [if_pos h]; unfold pointN next
  simp only [(cond1_iff t).2 h, if_true]

def dats (_ : Fin 1) (c : Dev nD) : Dat τ (Elt F) Unit ℕ (UR sig nD τ) ℕ (cfgM m H) c where
  A w := V m c (Pipeline.arrRef spec0 w)
  after w t := match w with
    | ⟨0, _⟩ => XAt m H c t
    | ⟨1, _⟩ => GAt m H c t
    | ⟨2, _⟩ => UAt m H c t
    | ⟨3, _⟩ => DAt m H c t
    | ⟨4, _⟩ => outAt m H c t
    | ⟨_ + 5, h⟩ => absurd h (Nat.not_lt.2 (Nat.le_add_left _ _))
  Φ t := iprop(Pipeline.ΦA spec0 c ∗ Pipeline.ΦT pre0 (tbl m) c)
  q _ := fullShare
  owed _ := 0

theorem A_eq (c : Dev nD) (w : Fin (cfgM m H).W) : (dats m H 0 c).A w = V m c (Pipeline.arrRef spec0 w) := by
  dsimp only [dats]

theorem before_0 (c : Dev nD) (t : Fin (cfgM m H).N) (d) : (dats m H 0 c).before 0 t d = XAt m H c t :=
  ((dats m H 0 c).before_in_eq_fetched 0 rfl (fun _ => rfl) (fun _ _ _ => rfl) (fun t => by
    show XAt m H c t = _
    unfold XAt blk Dat.blockOf; rw [A_eq]) t d).trans (by unfold Dat.fetched Dat.blockOf XAt blk; rw [A_eq]; rfl)
theorem before_1 (c : Dev nD) (t : Fin (cfgM m H).N) (d) : (dats m H 0 c).before 1 t d = GAt m H c t :=
  ((dats m H 0 c).before_in_eq_fetched 1 rfl (fun _ => rfl) (fun _ _ _ => rfl) (fun t => by
    show GAt m H c t = _
    unfold GAt blk Dat.blockOf; rw [A_eq]) t d).trans (by unfold Dat.fetched Dat.blockOf GAt blk; rw [A_eq]; rfl)
theorem before_2 (c : Dev nD) (t : Fin (cfgM m H).N) (d) : (dats m H 0 c).before 2 t d = UAt m H c t :=
  ((dats m H 0 c).before_in_eq_fetched 2 rfl (fun _ => rfl) (fun _ _ _ => rfl) (fun t => by
    show UAt m H c t = _
    unfold UAt blk Dat.blockOf; rw [A_eq]) t d).trans (by unfold Dat.fetched Dat.blockOf UAt blk; rw [A_eq]; rfl)
theorem before_3 (c : Dev nD) (t : Fin (cfgM m H).N) (d) : (dats m H 0 c).before 3 t d = DAt m H c t :=
  ((dats m H 0 c).before_in_eq_fetched 3 rfl (fun _ => rfl) (fun _ _ _ => rfl) (fun t => by
    show DAt m H c t = _
    unfold DAt blk Dat.blockOf; rw [A_eq]) t d).trans (by unfold Dat.fetched Dat.blockOf DAt blk; rw [A_eq]; rfl)

theorem index4 : ∀ t : Fin grid0.N, (∃ h : t.val + 1 < grid0.N, cc0_transform_4 (grid0.coords ⟨t.val + 1, h⟩) ≠ cc0_transform_4 (grid0.coords t)) ∨ t.val + 1 = grid0.N ↔ t.val % 2 = 1 := by
  decide +kernel

theorem flush_4 (t : Fin (cfgM m H).N) : ((cfgM m H).win 4).flush t = true ↔ t.val % 2 = 1 :=
  (Pipeline.Window.flush_out _ rfl t).trans (Or.comm.trans (index4 t))

theorem before_4 (c : Dev nD) (t : Fin (cfgM m H).N) (h : t.val % 2 = 1) (d) :
    (dats m H 0 c).before 4 t d = outAt m H c ⟨t.val - 1, Nat.lt_of_le_of_lt (Nat.sub_le _ _) t.isLt⟩ := by
  rw [(dats m H 0 c).before_of_pos 4 t (by omega) (Pipeline.Window.fetch_out _ rfl t)]
  rw [if_neg (by rw [flush_4]; show ¬ (t.val - 1) % 2 = 1; omega)]
  unfold Dat.left
  have hi : (cfgM m H).idle 4 ((cfgM m H).grid.coords ⟨t.val - 1, Nat.lt_of_le_of_lt (Nat.sub_le _ _) t.isLt⟩) = false := by
    show (!(k0_cond1 (grid0.coords ⟨t.val - 1, _⟩) == 1#1) && _) = false
    rw [(cond1_iff ⟨t.val - 1, _⟩).2 (by show (t.val - 1) % 2 = 0; omega)]
    rfl
  rw [hi]
  unfold Dat.kept
  rfl

theorem step_4 (c : Dev nD) (t : Fin (cfgM m H).N) (d) : pointN m H c t ((dats m H 0 c).before 4 t d) = outAt m H c t := by
  rcases Nat.mod_two_eq_zero_or_one t.val with h | h
  · exact pointN_even m H c t h _
  · rw [before_4 m H c t h]
    rw [show outAt m H c t = pointN m H c t (pointN m H c ⟨t.val - 1, Nat.lt_of_le_of_lt (Nat.sub_le _ _) t.isLt⟩ nought) from by
      unfold outAt; rw [if_neg (by omega)]]
    rw [pointN_even m H c ⟨t.val - 1, Nat.lt_of_le_of_lt (Nat.sub_le _ _) t.isLt⟩ (by show (t.val - 1) % 2 = 0; omega)]

/-! ## The body at each point -/

abbrev ms0 (t : Fin (cfgM m H).N) : Memref sig .tc .vmem S512x1024 .f32 := spec0_0.stage ((cfgM m H).slots t 0)
abbrev ms1 (t : Fin (cfgM m H).N) : Memref sig .tc .vmem S1x1024x1792 .bf16 := spec0_1.stage ((cfgM m H).slots t 1)
abbrev ms2 (t : Fin (cfgM m H).N) : Memref sig .tc .vmem S1x1024x1792 .bf16 := spec0_2.stage ((cfgM m H).slots t 2)
abbrev ms3 (t : Fin (cfgM m H).N) : Memref sig .tc .vmem S1x1792x1024 .bf16 := spec0_3.stage ((cfgM m H).slots t 3)
abbrev ms4 (t : Fin (cfgM m H).N) : Memref sig .tc .vmem S512x1024 .f32 := spec0_4.stage ((cfgM m H).slots t 4)

abbrev bodyAt (t : Fin (cfgM m H).N) : Prog (TpuEff nD τ sig (Elt F) Λ₀ .tc) PUnit :=
  cc0_experts (grid0.coords t) (Memref.whole main_v14) (Memref.isWhole_whole _) (Memref.whole main_arg1) (Memref.isWhole_whole _)
    (ms0 m H t) (hstage0_0 (((cfgM m H).slots t 0).cast nbuf0_0)) (ms1 m H t) (hstage0_1 (((cfgM m H).slots t 1).cast nbuf0_1))
    (ms2 m H t) (hstage0_2 (((cfgM m H).slots t 2).cast nbuf0_2)) (ms3 m H t) (hstage0_3 (((cfgM m H).slots t 3).cast nbuf0_3))
    (ms4 m H t) (hstage0_4 (((cfgM m H).slots t 4).cast nbuf0_4))

theorem row (t : Fin (cfgM m H).N) : defs₀ (F := F) .tc (cfgM m H).body ((cfgM m H).bodyArgs t ((cfgM m H).slots t)) = bodyAt m H t := by
  unfold defs₀; rw [Defs.onTc_tc]

theorem tables_held (c : Dev nD) : (Pipeline.ΦT pre0 (tbl m) c : sProp 𝕄)
    = iprop(((c : Thread nD τ).loc main_v14 ↦{fullShare.right} tbl m 0) ∗ ((c : Thread nD τ).loc main_arg1 ↦{fullShare.right} nuV m)) := by
  unfold Pipeline.ΦT Pipeline.prefHeld
  rw [show (Finset.univ : Finset (Fin 2)) = insert (0 : Fin 2) {(1 : Fin 2)} from by decide, bigSep_insert (by decide), bigSep_singleton]
  rfl

abbrev Inv (c : Dev nD) : sProp 𝕄 := iprop(Pipeline.ΦA spec0 c ∗ Pipeline.ΦT pre0 (tbl m) c)

def bodyPre (c : Dev nD) (t : Fin (cfgM m H).N) : sProp 𝕄 :=
  iprop(Inv m c ∗ (dats m H 0 c).owesAt () t.castSucc
    ∗ (∃ d, owns (c : Thread nD τ) (ms0 m H t) fullShare ((dats m H 0 c).before 0 t d))
    ∗ (∃ d, owns (c : Thread nD τ) (ms1 m H t) fullShare ((dats m H 0 c).before 1 t d))
    ∗ (∃ d, owns (c : Thread nD τ) (ms2 m H t) fullShare ((dats m H 0 c).before 2 t d))
    ∗ (∃ d, owns (c : Thread nD τ) (ms3 m H t) fullShare ((dats m H 0 c).before 3 t d))
    ∗ (∃ d, owns (c : Thread nD τ) (ms4 m H t) fullShare ((dats m H 0 c).before 4 t d)))

def bodyPost (c : Dev nD) (t : Fin (cfgM m H).N) : sProp 𝕄 :=
  iprop(Inv m c ∗ (dats m H 0 c).owesAt () t.succ
    ∗ owns (c : Thread nD τ) (ms0 m H t) fullShare (XAt m H c t)
    ∗ owns (c : Thread nD τ) (ms1 m H t) fullShare (GAt m H c t)
    ∗ owns (c : Thread nD τ) (ms2 m H t) fullShare (UAt m H c t)
    ∗ owns (c : Thread nD τ) (ms3 m H t) fullShare (DAt m H c t)
    ∗ owns (c : Thread nD τ) (ms4 m H t) fullShare (outAt m H c t))

theorem body_at (c : Dev nD) (t : Fin (cfgM m H).N) (d) :
    (iprop(((c : Thread nD τ).loc main_arg1 ↦{fullShare.right} nuV m)
      ∗ owns (c : Thread nD τ) (ms0 m H t) fullShare (XAt m H c t)
      ∗ owns (c : Thread nD τ) (ms1 m H t) fullShare (GAt m H c t)
      ∗ owns (c : Thread nD τ) (ms2 m H t) fullShare (UAt m H c t)
      ∗ owns (c : Thread nD τ) (ms3 m H t) fullShare (DAt m H c t)
      ∗ owns (c : Thread nD τ) (ms4 m H t) fullShare ((dats m H 0 c).before 4 t d)) : sProp 𝕄)
    ⊢ wp frame (wpE (defs₀ (F := F)) Variants.none (c : Thread nD τ) none) Set.univ (bodyAt m H t) (fun _ =>
      iprop(((c : Thread nD τ).loc main_arg1 ↦{fullShare.right} nuV m)
        ∗ owns (c : Thread nD τ) (ms0 m H t) fullShare (XAt m H c t)
        ∗ owns (c : Thread nD τ) (ms1 m H t) fullShare (GAt m H c t)
        ∗ owns (c : Thread nD τ) (ms2 m H t) fullShare (UAt m H c t)
        ∗ owns (c : Thread nD τ) (ms3 m H t) fullShare (DAt m H c t)
        ∗ owns (c : Thread nD τ) (ms4 m H t) fullShare (outAt m H c t))) := by
  have hb := body c (grid0.coords t) (Memref.whole main_v14) (Memref.isWhole_whole _) (Memref.whole main_arg1) (Memref.isWhole_whole _)
      (ms0 m H t) (hstage0_0 (((cfgM m H).slots t 0).cast nbuf0_0)) (ms1 m H t) (hstage0_1 (((cfgM m H).slots t 1).cast nbuf0_1))
      (ms2 m H t) (hstage0_2 (((cfgM m H).slots t 2).cast nbuf0_2)) (ms3 m H t) (hstage0_3 (((cfgM m H).slots t 3).cast nbuf0_3))
      (ms4 m H t) (hstage0_4 (((cfgM m H).slots t 4).cast nbuf0_4)) fullShare.right (nuV m)
      (XAt m H c t) (GAt m H c t) (UAt m H c t) (DAt m H c t) ((dats m H 0 c).before 4 t d)
  rw [show next (grid0.coords t) (nuV m) (XAt m H c t) (GAt m H c t) (UAt m H c t) (DAt m H c t) ((dats m H 0 c).before 4 t d)
    = outAt m H c t from step_4 m H c t d, owns_whole] at hb
  exact hb

theorem point (c : Dev nD) (t : Fin (cfgM m H).N) :
    bodyPre m H c t ⊢ wp frame (wpE (defs₀ (F := F)) Variants.none (c : Thread nD τ) none) Set.univ (bodyAt m H t) (fun _ => bodyPost m H c t) := by
  unfold bodyPre bodyPost Inv
  rw [tables_held]
  unfold Dat.owesAt Pipeline.owesWithin
  rw [show (dats m H 0 c).owed t.castSucc = 0 from rfl, show (dats m H 0 c).owed t.succ = 0 from rfl]
  simp only [before_0, before_1, before_2, before_3]
  iintro ⟨⟨HA, HT0, HT1⟩, HW, ⟨%d0, H0⟩, ⟨%d1, H1⟩, ⟨%d2, H2⟩, ⟨%d3, H3⟩, ⟨%d4, H4⟩⟩
  iapply (wp_wand_r frame (wpE (defs₀ (F := F)) Variants.none (c : Thread nD τ) none) Set.univ)
  isplitl [HT1 H0 H1 H2 H3 H4]
  · iapply (body_at m H c t d4)
    isplitl [HT1]; · iexact HT1
    isplitl [H0]; · iexact H0
    isplitl [H1]; · iexact H1
    isplitl [H2]; · iexact H2
    isplitl [H3] <;> iassumption
  iintro %_ ⟨HT1, H0, H1, H2, H3, H4⟩
  isplitl [HA HT0 HT1]
  · isplitl [HA]; · iexact HA
    isplitl [HT0] <;> iassumption
  isplitl [HW]; · iexact HW
  isplitl [H0]; · iexact H0
  isplitl [H1]; · iexact H1
  isplitl [H2]; · iexact H2
  isplitl [H3] <;> iassumption

/-- At a point the block of the result is stored to, or is written back. -/
theorem settled_4 (t : Fin (cfgM m H).N) : (cfgM m H).idle 4 ((cfgM m H).grid.coords t) = false ∨ ((cfgM m H).win 4).flush t = true := by
  rcases Nat.mod_two_eq_zero_or_one t.val with h | h
  · left
    show (!(k0_cond1 (grid0.coords t) == 1#1) && _) = false
    rw [(cond1_iff t).2 h]; rfl
  · exact .inr ((flush_4 m H t).2 h)

theorem obligation (c : Dev nD) : BodyObligation (dats (F := F) m H 0 c) (defs₀ (F := F)) Variants.none () Set.univ := fun t => by
  rw [bigSep_W0, bigSep_W0, row]
  refine triple_restated (point m H c t) rfl .rfl fun _ => ?_
  have e := settled_4 m H t
  dsimp only
  split
  · next hb =>
    split
    · next hf => exact absurd e fun e => e.elim (fun e => Bool.false_ne_true (e.symm.trans hb)) fun e => Bool.false_ne_true (hf.symm.trans e)
    · exact .rfl
  · exact .rfl

/-- What the region leaves alone among the arguments. -/
theorem rest_mem : ∀ b ∈ ({main_arg0, main_arg1, main_arg3, main_arg4, main_arg5} : Finset (Ref sig .tc)), b ∈ Pipeline.restRefs sig spec0 := by decide

theorem V_off (c : Dev nD) (b : Ref sig .tc) (h : b ≠ main_v0 ∧ b ≠ main_v1 ∧ b ≠ main_v2 ∧ b ≠ main_v3 ∧ b ≠ main_v4 ∧ b ≠ main_c ∧ b ≠ main_v5
      ∧ b ≠ main_v6 ∧ b ≠ main_v7 ∧ b ≠ main_c_0 ∧ b ≠ main_v8 ∧ b ≠ main_v9 ∧ b ≠ main_c_1 ∧ b ≠ main_v10 ∧ b ≠ main_v11 ∧ b ≠ main_v12 ∧ b ≠ main_v13 ∧ b ≠ main_v14) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.reshape_writes,
      Finset.mem_singleton]
    obtain ⟨h0, h1, h2, h3, h4, h5, h6, h7, h8, h9, h10, h11, h12, h13, h14, h15, h16, h17⟩ := h
    refine ⟨?_, ?_, ?_, ?_, ?_, ?_, ?_, ?_, ?_, ?_, ?_, ?_, ?_, ?_, ?_, ?_, ?_, ?_⟩ <;> refine StableHlo.devRef_ne_of_ne ?_ <;> assumption))

set_option backward.isDefEq.respectTransparency.types false in
theorem run_region : θ_run defs (onTc (τ := τ) (main (F := F))) (s₀ m ρ)
    (fun r => Pipeline.FramePost (Pipeline.pin pcfgs (fun _ => adm m H)) (dats m H) 0 (V m) r ∧ r.2.sem = fun _ => 0) :=
  Pipeline.θ_run_frameP (Q' := _) pcfgs (fun _ => adm m H) (dats m H) (0 : Fin 1) launch0 defs₀ Variants.none m ρ main
    (hbody := fun c => (obligation m H c).loose) (hshare := fun c => (dats m H 0 c).share_full fun _ => rfl)
    (howed := fun _ _ => rfl) (V := V m) (hmain := enters m Variants.none) (hA := A_eq m H) (hpf := V_pre m) (hΦ := fun _ _ => rfl)

/-- The run: it terminates, nothing faults, the result ends at what its blocks were written back to, the arguments as they
    were, the counters at zero. -/
theorem run_main : θ_run defs (onTc (τ := τ) (main (F := F))) ⟨m, fun _ => 0, ρ⟩ (fun r => (∀ c : Dev nD,
      r.2.mem ((c.tc : Thread nD τ).loc main_v15) = (dats m H 0 c).arrAt 4 (cfgM m H).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).1 4,
      ((h.1 c).2 main_arg0 (rest_mem _ (by decide))).trans (V_off m c _ (by decide)),
      ((h.1 c).2 main_arg1 (rest_mem _ (by decide))).trans (V_off m c _ (by decide)),
      ((h.1 c).1 0).trans (((dats m H 0 c).arrAt_in 0 rfl _).trans ((A_eq m H c 0).trans (V_off m c main_arg2 (by decide)))),
      ((h.1 c).2 main_arg3 (rest_mem _ (by decide))).trans (V_off m c _ (by decide)),
      ((h.1 c).2 main_arg4 (rest_mem _ (by decide))).trans (V_off m c _ (by decide)),
      ((h.1 c).2 main_arg5 (rest_mem _ (by decide))).trans (V_off m c _ (by decide))⟩, h.2⟩) (run_region m ρ H)

end Cert.ExpertsIdeal.Tiles

end
-- ==== Proof.ExpertReads.lean ====
/- What a point of the experts' grid reads: the tables, and its blocks of the arguments. -/
module

public import proofs.«01_k».proof.Proof.ExpertRun
public import Idealize.ShloMosaic.Lib.Pointwise
public import Idealize.ShloMosaic.Lib.StableHlo.ReadAt
public import Idealize.ShloMosaic.Lib.StableHlo.RunRead
public import Idealize.ShloMosaic.Lib.Routing.OpsSet
public import Idealize.ShloMosaic.Lib.Tactic

@[expose] public section

noncomputable section

namespace Cert.ExpertsIdeal.Tiles

open Cert.ExpertsIdeal Cert.ExpertsIdeal.Gen
open Idealize.ShloMosaic Idealize.ShloMosaic.TcCoe Idealize.ShloMosaic.Tactic
open Idealize.ShloMosaic.ValueIdx hiding ix1 ix2 ix3

variable {F : FTy → Type} [FloatOps F] [∀ e, Nonempty (Elt F e)]
variable (m : (ℓ : Loc nD τ sig) → Buf (Elt F) ℓ)

/-- The expert of each tile, -/
def te (c : Dev nD) (i : Fin 136) : BitVec 32 := m ((c : Thread nD τ).loc main_arg0) (ix1 i)
/-- the number of used tiles. -/
def nu (c : Dev nD) : BitVec 32 := m ((c : Thread nD τ).loc main_arg1) (ix1 (0 : Fin 1))

/-- The arguments' words: an expert for each tile, and at least one tile used. -/
structure Args (c : Dev nD) : Prop where
  te : ∀ i, (te m c i).toNat < 8
  pos : 1 ≤ (nu m c).toNat
  le : (nu m c).toNat ≤ 136

/-- The index of tile `k`'s entry in the table of experts. -/
theorem V_13 (c : Dev nD) (k : Fin 136) :
    V m c main_v13 (ix2 k (0 : Fin 1)) = (let e := effW (BitVec.ofNat 32 k.val) (nu m c)
      Scalar.select (Scalar.cmpi .slt e 0#32) (Scalar.addi e 136#32) e) := by
  unfold V nu effW
  after_reads_at
  rfl

theorem V_14 (c : Dev nD) : V m c main_v14 = Host.gather gather_S136_S136x1_S136_n_0_n_n_0_1_1 (m ((c : Thread nD τ).loc main_arg0)) (V m c main_v13) := by
  unfold V
  after_reads_simp

theorem idx_eq (k n : Fin 136) : (let e := effW (BitVec.ofNat 32 k.val) (BitVec.ofNat 32 (n.val + 1))
      Scalar.select (Scalar.cmpi .slt e 0#32) (Scalar.addi e 136#32) e) = BitVec.ofNat 32 (min k.val n.val) := by
  have h := effW_val k n
  generalize effW (BitVec.ofNat 32 k.val) (BitVec.ofNat 32 (n.val + 1)) = e at h ⊢
  have he : e = BitVec.ofNat 32 (min k.val n.val) := BitVec.eq_of_toNat_eq (by
    rw [h, BitVec.toNat_ofNat, Nat.mod_eq_of_lt (by omega)])
  dsimp only
  rw [show Scalar.cmpi .slt e 0#32 = 0#1 from by
    show BitVec.ofBool (e.slt 0#32) = 0#1
    rw [show e.slt 0#32 = false from by
      rw [Bool.eq_false_iff]; intro hs
      have := BitVec.slt_iff_toInt_lt.1 hs
      rw [StableHlo.Predicate.toInt_eq_toNat_of_lt (by omega)] at this
      have h0 : (0#32).toInt = 0 := by decide
      omega]
    rfl]
  rw [select_zero]
  exact he

/-- The last tile whose rows tile `k` takes. -/
def src (c : Dev nD) (H : Args m c) (k : Fin 136) : Fin 136 := ⟨min k.val ((nu m c).toNat - 1), by omega⟩

theorem take (x : IVec S136 32) (idx : IVec S136x1 32) (k b : Fin 136) (hb : idx (ix2 k (0 : Fin 1)) = BitVec.ofNat 32 b.val) :
    Host.gather gather_S136_S136x1_S136_n_0_n_n_0_1_1 x idx (ix1 k) = x (ix1 b) :=
  Routing.gather_take1 (N := 136) (n := 136) gather_S136_S136x1_S136_n_0_n_n_0_1_1 rfl rfl rfl rfl x idx k b hb (by decide)

theorem nu_word (c : Dev nD) (H : Args m c) : nu m c = BitVec.ofNat 32 ((⟨(nu m c).toNat - 1, by have := H.le; omega⟩ : Fin 136).val + 1) := by
  apply BitVec.eq_of_toNat_eq
  have := H.pos; have := H.le
  rw [BitVec.toNat_ofNat, Nat.mod_eq_of_lt (by show (nu m c).toNat - 1 + 1 < _; omega)]
  show _ = (nu m c).toNat - 1 + 1; omega

theorem idx_at (c : Dev nD) (H : Args m c) (k : Fin 136) : V m c main_v13 (ix2 k (0 : Fin 1)) = BitVec.ofNat 32 (src m c H k).val := by
  rw [V_13, nu_word m c H, idx_eq]; rfl

theorem V_14_at (c : Dev nD) (H : Args m c) (k : Fin 136) : V m c main_v14 (ix1 k) = te m c (src m c H k) :=
  (congrFun (V_14 m c) (ix1 k)).trans (take _ _ k (src m c H k) (idx_at m c H k))

theorem teOf_eq (c : Dev nD) (H : Args m c) (k : Fin 136) : teOf (tbl m) k = te m c (src m c H k) := by
  obtain rfl : c = 0 := Subsingleton.elim _ _
  exact V_14_at m 0 H k

theorem nuOf_eq (c : Dev nD) : nuOf (tbl m) = nu m c := by
  obtain rfl : c = 0 := Subsingleton.elim _ _
  exact congrFun (V_off m 0 main_arg1 (by decide)) (ix1 (0 : Fin 1))

theorem inRange (c : Dev nD) (H : Args m c) : InRange (tbl m) where
  te i := by rw [teOf_eq m c H]; exact H.te _
  pos := by rw [nuOf_eq m c]; exact H.pos
  le := by rw [nuOf_eq m c]; exact H.le

theorem V_0 (c : Dev nD) : V m c main_v0 = truncf .bf16 (m ((c : Thread nD τ).loc main_arg3)) bitsLt_bf16_f32 := by
  unfold V
  after_reads_simp
theorem V_1 (c : Dev nD) : V m c main_v1 = truncf .bf16 (m ((c : Thread nD τ).loc main_arg4)) bitsLt_bf16_f32 := by
  unfold V
  after_reads_simp
theorem V_2 (c : Dev nD) : V m c main_v2 = truncf .bf16 (m ((c : Thread nD τ).loc main_arg5)) bitsLt_bf16_f32 := by
  unfold V
  after_reads_simp

variable (H : InRange (tbl m))

theorem i0_eq (c : Dev nD) (A : Args m c) (t : Fin grid0.N) (i : Fin 136) (hi : i.val = t.val / 2) :
    cc0_transform_0 inb_S1_S1_0 numel1_S1 (tbl m) (grid0.coords t) = ![(src m c A i).val, 0] := by
  have e : (grid0.coords t 0 : Fin 136) = i := Fin.ext ((coords0 t).trans hi.symm)
  have h := (inRange m c A).eff i
  rw [nuOf_eq m c] at h
  rw [t0_eq, nuOf_eq m c]
  refine (congrArg (fun x : Fin 136 => ![(effW (BitVec.ofNat 32 x.val) (nu m c)).toNat, 0]) e).trans ?_
  rw [h]; rfl

theorem half_eq (c : Dev nD) (A : Args m c) (t : Fin grid0.N) (i : Fin 136) (hi : i.val = t.val / 2) :
    (halfW (BitVec.ofNat 32 (grid0.coords t 0).val) (BitVec.ofNat 32 (grid0.coords t 1).val) (nuOf (tbl m))).toNat = half (t.val / 2) (t.val % 2) (nu m c).toNat := by
  refine ((inRange m c A).half (grid0.coords t 0) (grid0.coords t 1)).trans ?_
  rw [coords0, coords1, nuOf_eq m c]

theorem i1_eq (c : Dev nD) (A : Args m c) (t : Fin grid0.N) (i : Fin 136) (hi : i.val = t.val / 2) :
    cc0_transform_1 k0_off1_inb numel1_S1 inb_S1_S1_0 (tbl m) (grid0.coords t)
      = ![(te m c (src m c A i)).toNat, 0, half (t.val / 2) (t.val % 2) (nu m c).toNat] := by
  have e : (grid0.coords t 0 : Fin 136) = i := Fin.ext ((coords0 t).trans hi.symm)
  rw [t1_eq, half_eq m c A t i hi]
  refine (congrArg (fun x : Fin 136 => ![(teOf (tbl m) x).toNat, 0, half (t.val / 2) (t.val % 2) (nu m c).toNat]) e).trans ?_
  rw [teOf_eq m c A]

theorem i3_eq (c : Dev nD) (A : Args m c) (t : Fin grid0.N) (i : Fin 136) (hi : i.val = t.val / 2) :
    cc0_transform_3 k0_off1_inb numel1_S1 inb_S1_S1_0 (tbl m) (grid0.coords t)
      = ![(te m c (src m c A i)).toNat, half (t.val / 2) (t.val % 2) (nu m c).toNat, 0] := by
  have e : (grid0.coords t 0 : Fin 136) = i := Fin.ext ((coords0 t).trans hi.symm)
  rw [t3_eq, half_eq m c A t i hi]
  refine (congrArg (fun x : Fin 136 => ![(teOf (tbl m) x).toNat, half (t.val / 2) (t.val % 2) (nu m c).toNat, 0]) e).trans ?_
  rw [teOf_eq m c A]

theorem XAt_at (c : Dev nD) (A : Args m c) (t : Fin (cfgM m H).N) (i : Fin 136) (hi : i.val = t.val / 2) (g : Fin 512) (d : Fin 1024) (r : Fin 69632)
    (hr : r.val = (src m c A i).val * 512 + g.val) :
    XAt m H c t (ix2 g d) = m ((c : Thread nD τ).loc main_arg2) (ix2 r d) := by
  obtain ⟨n, hn⟩ : ∃ n, n = (src m c A i).val := ⟨_, rfl⟩
  have h := i0_eq m c A t i hi
  rw [← hn] at h hr
  have hI : (pcfg0.win (adm m H) 0).index t = cc0_transform_0 inb_S1_S1_0 numel1_S1 (tbl m) (grid0.coords t) := by
    with_unfolding_all rfl
  have i0 : (pcfg0.win (adm m H) 0).index t (0 : Fin 2) = n := (congrFun hI (0 : Fin 2)).trans (congrFun h (0 : Fin 2))
  have i1 : (pcfg0.win (adm m H) 0).index t (1 : Fin 2) = 0 := (congrFun hI (1 : Fin 2)).trans (congrFun h (1 : Fin 2))
  refine Eq.trans ?_ (congrFun (V_off m c main_arg2 (by decide)) (ix2 r d))
  refine congrArg (V m c main_arg2) (funext fun a => Fin.ext ?_)
  match a with
  | ⟨0, _⟩ =>
    show (pcfg0.win (adm m H) 0).index t (0 : Fin 2) * 512 + 1 * g.val = r.val
    rw [i0, hr]; omega
  | ⟨1, _⟩ =>
    show (pcfg0.win (adm m H) 0).index t (1 : Fin 2) * 1024 + 1 * d.val = d.val
    rw [i1]; omega

theorem GAt_at (c : Dev nD) (A : Args m c) (t : Fin (cfgM m H).N) (i : Fin 136) (hi : i.val = t.val / 2) (k : Fin 1024) (f : Fin 1792) (e : Fin 8) (n : Fin 3584)
    (he : e.val = (te m c (src m c A i)).toNat) (hn : n.val = half (t.val / 2) (t.val % 2) (nu m c).toNat * 1792 + f.val) :
    GAt m H c t (ix3 (0 : Fin 1) k f) = (truncf .bf16 (m ((c : Thread nD τ).loc main_arg3)) bitsLt_bf16_f32 : FVec F _ .bf16) (ix3 e k n) := by
  have i0 : (pcfg0.win (adm m H) 1).index t (0 : Fin 3) = (te m c (src m c A i)).toNat := congrFun (i1_eq m c A t i hi) 0
  have i1 : (pcfg0.win (adm m H) 1).index t (1 : Fin 3) = 0 := congrFun (i1_eq m c A t i hi) 1
  have i2 : (pcfg0.win (adm m H) 1).index t (2 : Fin 3) = half (t.val / 2) (t.val % 2) (nu m c).toNat := congrFun (i1_eq m c A t i hi) 2
  refine Eq.trans ?_ (congrFun (V_0 m c) (ix3 e k n))
  unfold GAt
  blk_ext [blk, i0, i1, i2, he, hn]

theorem UAt_at (c : Dev nD) (A : Args m c) (t : Fin (cfgM m H).N) (i : Fin 136) (hi : i.val = t.val / 2) (k : Fin 1024) (f : Fin 1792) (e : Fin 8) (n : Fin 3584)
    (he : e.val = (te m c (src m c A i)).toNat) (hn : n.val = half (t.val / 2) (t.val % 2) (nu m c).toNat * 1792 + f.val) :
    UAt m H c t (ix3 (0 : Fin 1) k f) = (truncf .bf16 (m ((c : Thread nD τ).loc main_arg4)) bitsLt_bf16_f32 : FVec F _ .bf16) (ix3 e k n) := by
  have i0 : (pcfg0.win (adm m H) 2).index t (0 : Fin 3) = (te m c (src m c A i)).toNat := congrFun (i1_eq m c A t i hi) 0
  have i1 : (pcfg0.win (adm m H) 2).index t (1 : Fin 3) = 0 := congrFun (i1_eq m c A t i hi) 1
  have i2 : (pcfg0.win (adm m H) 2).index t (2 : Fin 3) = half (t.val / 2) (t.val % 2) (nu m c).toNat := congrFun (i1_eq m c A t i hi) 2
  refine Eq.trans ?_ (congrFun (V_1 m c) (ix3 e k n))
  unfold UAt
  blk_ext [blk, i0, i1, i2, he, hn]

theorem DAt_at (c : Dev nD) (A : Args m c) (t : Fin (cfgM m H).N) (i : Fin 136) (hi : i.val = t.val / 2) (f : Fin 1792) (d : Fin 1024) (e : Fin 8) (n : Fin 3584)
    (he : e.val = (te m c (src m c A i)).toNat) (hn : n.val = half (t.val / 2) (t.val % 2) (nu m c).toNat * 1792 + f.val) :
    DAt m H c t (ix3 (0 : Fin 1) f d) = (truncf .bf16 (m ((c : Thread nD τ).loc main_arg5)) bitsLt_bf16_f32 : FVec F _ .bf16) (ix3 e n d) := by
  have i0 : (pcfg0.win (adm m H) 3).index t (0 : Fin 3) = (te m c (src m c A i)).toNat := congrFun (i3_eq m c A t i hi) 0
  have i1 : (pcfg0.win (adm m H) 3).index t (1 : Fin 3) = half (t.val / 2) (t.val % 2) (nu m c).toNat := congrFun (i3_eq m c A t i hi) 1
  have i2 : (pcfg0.win (adm m H) 3).index t (2 : Fin 3) = 0 := congrFun (i3_eq m c A t i hi) 2
  refine Eq.trans ?_ (congrFun (V_2 m c) (ix3 e n d))
  unfold DAt
  blk_ext [blk, i0, i1, i2, he, hn]

end Cert.ExpertsIdeal.Tiles

end
-- ==== Proof.ExpertSums.lean ====
/- What a point adds, as a sum over the expert's inner columns, and the whole result as one sum. -/
module

public import proofs.«01_k».proof.Proof.ExpertReads
public import Idealize.ShloMosaic.Lib.MatmulPlain
public import Idealize.ShloMosaic.Lib.ValueIdx

@[expose] public section

noncomputable section

namespace Cert.ExpertsIdeal.Tiles

open Cert.ExpertsIdeal Cert.ExpertsIdeal.Gen
open Idealize.ShloMosaic Idealize.ShloMosaic.TcCoe Idealize.ShloMosaic.Tactic
open Idealize.ShloMosaic.ValueIdx hiding ix1 ix2 ix3

/-! ## The sums -/

/-- One inner column's part of an expert's output, of its gate and up products and its down weight. -/
def part (g u w : EReal) : EReal := g * Ideal.logistic g * u * w

/-- An expert's gate or up product at a row and an inner column. -/
def dotAt (X : S69632x1024.Idx → EReal) (W : S8x1024x3584.Idx → EReal) (e : Fin 8) (r : Fin 69632) (k : Fin 3584) : EReal :=
  ∑ a : Fin 1024, X (ix2 r a) * W (ix3 e a k)

/-- Inner column `k`'s part of expert `e`'s output at row `r` and column `d`, -/
def partAt (X : S69632x1024.Idx → EReal) (WG WU : S8x1024x3584.Idx → EReal) (WD : S8x3584x1024.Idx → EReal) (e : Fin 8) (r : Fin 69632) (d : Fin 1024)
    (k : Fin 3584) : EReal :=
  part (dotAt X WG e r k) (dotAt X WU e r k) (WD (ix3 e k d))

/-- the same of a number, nothing past the last column, -/
def partN (X : S69632x1024.Idx → EReal) (WG WU : S8x1024x3584.Idx → EReal) (WD : S8x3584x1024.Idx → EReal) (e : Fin 8) (r : Fin 69632) (d : Fin 1024)
    (k : ℕ) : EReal :=
  if h : k < 3584 then partAt X WG WU WD e r d ⟨k, h⟩ else 0

/-- and the output. -/
def mlpAt (X : S69632x1024.Idx → EReal) (WG WU : S8x1024x3584.Idx → EReal) (WD : S8x3584x1024.Idx → EReal) (e : Fin 8) (r : Fin 69632) (d : Fin 1024) : EReal :=
  ∑ k : Fin 3584, partAt X WG WU WD e r d k

theorem mlpAt_eq (X WG WU WD) (e : Fin 8) (r : Fin 69632) (d : Fin 1024) :
    mlpAt X WG WU WD e r d = ∑ k ∈ Finset.range 1792, partN X WG WU WD e r d (0 * 1792 + k) + ∑ k ∈ Finset.range 1792, partN X WG WU WD e r d (1 * 1792 + k) := by
  have h : mlpAt X WG WU WD e r d = ∑ k ∈ Finset.range 3584, partN X WG WU WD e r d k := by
    unfold mlpAt
    rw [← Fin.sum_univ_eq_sum_range]
    refine Finset.sum_congr rfl fun k _ => ?_
    unfold partN
    rw [dif_pos k.isLt]
  rw [h, show (3584 : ℕ) = 1792 + 1792 from rfl, Finset.sum_range_add]
  congr 1 <;> refine Finset.sum_congr rfl fun k _ => ?_ <;> congr 1 <;> omega

/-! ## A point -/

theorem prod_at (X : FVec Ideal S512x1024 .bf16) (W : FVec Ideal S1024x256 .bf16) (g : Fin 512) (f : Fin 256) :
    prod X W (ix2 g f) = ∑ a : Fin 1024, (X (ix2 g a) * W (ix2 a f) : EReal) := by
  have h := Ideal.matmul_plain_apply (M := 512) (K := 1024) (N := 256) none X W (constant S512x256 .f32 0x00000000#32) g f
  refine Eq.trans (b := _) ?_ (h.trans ?_)
  · rfl
  · rw [show (constant S512x256 .f32 0x00000000#32 : FVec Ideal S512x256 .f32) (ValueIdx.ix2 g f) = 0 from Ideal.ofBits_zero_f32]
    exact zero_add _

theorem down_at (X : FVec Ideal S512x256 .bf16) (W : FVec Ideal S256x1024 .bf16) (g : Fin 512) (d : Fin 1024) :
    matmul dot_S512x256_S256x1024_S512x1024_1_0_0_1_n_n none X W (constant S512x1024 .f32 0x00000000#32) (ix2 g d) = ∑ f : Fin 256, (X (ix2 g f) * W (ix2 f d) : EReal) := by
  have h := Ideal.matmul_plain_apply (M := 512) (K := 256) (N := 1024) none X W (constant S512x1024 .f32 0x00000000#32) g d
  refine Eq.trans (b := _) ?_ (h.trans ?_)
  · rfl
  · rw [show (constant S512x1024 .f32 0x00000000#32 : FVec Ideal S512x1024 .f32) (ValueIdx.ix2 g d) = 0 from Ideal.ofBits_zero_f32]
    exact zero_add _

/-- The parts that a slab adds, of whatever they are (`P`) column by column. -/
theorem slab_at (X : FVec Ideal S512x1024 .bf16) (G U : S1x1024x1792.Idx → Elt Ideal .bf16) (D : S1x1792x1024.Idx → Elt Ideal .bf16) (o : ℕ) (ho : o + 256 ≤ 1792)
    (acc : FVec Ideal S512x1024 .f32) (g : Fin 512) (d : Fin 1024) (P : ℕ → EReal)
    (hP : ∀ k : Fin 1792, part (∑ a : Fin 1024, (X (ix2 g a) * G (ix3 (0 : Fin 1) a k) : EReal)) (∑ a : Fin 1024, (X (ix2 g a) * U (ix3 (0 : Fin 1) a k) : EReal))
      (D (ix3 (0 : Fin 1) k d)) = P k.val) :
    slab X G U D o ho acc (ix2 g d) = acc (ix2 g d) + ∑ f ∈ Finset.range 256, P (o + f) := by
  unfold slab
  refine Eq.trans (congrArg (fun x : EReal => acc (ix2 g d) + x) (down_at _ _ g d)) ?_
  refine congrArg (fun x : EReal => acc (ix2 g d) + x) ?_
  rw [← Fin.sum_univ_eq_sum_range (fun f => P (o + f))]
  refine Finset.sum_congr rfl fun f _ => ?_
  rw [← hP ⟨o + f.val, by omega⟩]
  show (prod X (cols G o ho) (ix2 g f) * Ideal.logistic (prod X (cols G o ho) (ix2 g f)) * prod X (cols U o ho) (ix2 g f) * rows D o ho (ix2 f d) : EReal) = _
  rw [prod_at, prod_at]
  rfl

theorem step_at (X : S512x1024.Idx → Elt Ideal .f32) (G U : S1x1024x1792.Idx → Elt Ideal .bf16) (D : S1x1792x1024.Idx → Elt Ideal .bf16)
    (acc : S512x1024.Idx → Elt Ideal .f32) (g : Fin 512) (d : Fin 1024) (P : ℕ → EReal)
    (hP : ∀ k : Fin 1792, part (∑ a : Fin 1024, (X (ix2 g a) * G (ix3 (0 : Fin 1) a k) : EReal)) (∑ a : Fin 1024, (X (ix2 g a) * U (ix3 (0 : Fin 1) a k) : EReal))
      (D (ix3 (0 : Fin 1) k d)) = P k.val) :
    step X G U D acc (ix2 g d) = acc (ix2 g d) + ∑ k ∈ Finset.range 1792, P k := by
  unfold step
  have hs := fun o ho acc => slab_at (truncf .bf16 X bitsLt_bf16_f32) G U D o ho acc g d P hP
  rw [hs, hs, hs, hs, hs, hs, hs]
  have key : ∀ a b : ℕ, a = b + 256 → ∑ k ∈ Finset.range a, P k = ∑ k ∈ Finset.range b, P k + ∑ f ∈ Finset.range 256, P (b + f) := by
    rintro _ b rfl
    exact Finset.sum_range_add _ _ _
  rw [key 1792 1536 rfl, key 1536 1280 rfl, key 1280 1024 rfl, key 1024 768 rfl, key 768 512 rfl, key 512 256 rfl]
  simp only [zero_add, add_assoc]

/-! ## A tile -/

variable (m : (ℓ : Loc nD τ sig) → Buf (Elt Ideal) ℓ) (H : InRange (tbl m))

theorem cond2_iff (n : BitVec 32) (hn : n.toNat ≤ 136) (i : grid0.Coords) : k0_cond2 i n = 1#1 ↔ (i 0).val < n.toNat := by
  have hi : (i 0).val < 136 := (i 0).isLt
  have hw : (BitVec.ofNat 32 (i 0).val).toNat = (i 0).val := by rw [BitVec.toNat_ofNat]; omega
  have e : (BitVec.ofNat 32 (i 0).val).slt n = decide ((i 0).val < n.toNat) := by
    rw [Bool.eq_iff_iff, BitVec.slt_iff_toInt_lt, StableHlo.Predicate.toInt_eq_toNat_of_lt (by omega), StableHlo.Predicate.toInt_eq_toNat_of_lt (by omega), decide_eq_true_iff]
    omega
  unfold k0_cond2
  show BitVec.ofBool ((BitVec.setWidth 32 (BitVec.ofBool ((BitVec.ofNat 32 (i 0).val).slt n))) != 0#32) = 1#1 ↔ _
  rw [e]
  by_cases h : (i 0).val < n.toNat <;> simp [h]

theorem nuV_eq (c : Dev nD) : nuV m (ValueIdx.ix1 0) = nu m c := nuOf_eq m c

theorem point_at (c : Dev nD) (A : Args m c) (t : Fin (cfgM m H).N) (i : Fin 136) (hi : i.val = t.val / 2) (hu : i.val < (nu m c).toNat)
    (acc : S512x1024.Idx → Elt Ideal .f32) (g : Fin 512) (d : Fin 1024) (r : Fin 69632) (hr : r.val = i.val * 512 + g.val) (e : Fin 8) (he : e.val = (te m c i).toNat)
    (hs : t.val % 2 = 1 ∨ acc (ix2 g d) = (0 : EReal)) :
    pointN m H c t acc (ix2 g d) = acc (ix2 g d) + ∑ k ∈ Finset.range 1792,
      partN (m ((c : Thread nD τ).loc main_arg2)) (m ((c : Thread nD τ).loc main_arg3)) (m ((c : Thread nD τ).loc main_arg4)) (m ((c : Thread nD τ).loc main_arg5))
        e r d (half (t.val / 2) (t.val % 2) (nu m c).toNat * 1792 + k) := by
  have hsrc : src m c A i = i := Fin.ext (by show min i.val _ = i.val; omega)
  have hh := half_lt (t.val / 2) (t.val % 2) (nu m c).toNat (Nat.mod_lt _ (by decide))
  have hc : k0_cond2 (grid0.coords t) (nuV m (ValueIdx.ix1 0)) = 1#1 := by
    rw [nuV_eq m c, cond2_iff _ A.le, coords0]; omega
  unfold pointN next
  rw [if_pos hc]
  have hP : ∀ k : Fin 1792, part (∑ a : Fin 1024, (XAt m H c t (ix2 g a) * GAt m H c t (ix3 (0 : Fin 1) a k) : EReal))
      (∑ a : Fin 1024, (XAt m H c t (ix2 g a) * UAt m H c t (ix3 (0 : Fin 1) a k) : EReal)) (DAt m H c t (ix3 (0 : Fin 1) k d))
      = partN (m ((c : Thread nD τ).loc main_arg2)) (m ((c : Thread nD τ).loc main_arg3)) (m ((c : Thread nD τ).loc main_arg4)) (m ((c : Thread nD τ).loc main_arg5))
        e r d (half (t.val / 2) (t.val % 2) (nu m c).toNat * 1792 + k.val) := fun k => by
    have hk : half (t.val / 2) (t.val % 2) (nu m c).toNat * 1792 + k.val < 3584 := by have := k.isLt; omega
    unfold partN partAt dotAt
    rw [dif_pos hk]
    have hX : ∀ a, XAt m H c t (ix2 g a) = m ((c : Thread nD τ).loc main_arg2) (ix2 r a) := fun a =>
      XAt_at m H c A t i hi g a r (by rw [hsrc]; exact hr)
    have hG : ∀ a, GAt m H c t (ix3 (0 : Fin 1) a k) = m ((c : Thread nD τ).loc main_arg3) (ix3 e a ⟨_, hk⟩) := fun a =>
      GAt_at m H c A t i hi a k e ⟨_, hk⟩ (by rw [hsrc]; exact he) rfl
    have hU : ∀ a, UAt m H c t (ix3 (0 : Fin 1) a k) = m ((c : Thread nD τ).loc main_arg4) (ix3 e a ⟨_, hk⟩) := fun a =>
      UAt_at m H c A t i hi a k e ⟨_, hk⟩ (by rw [hsrc]; exact he) rfl
    have hD : DAt m H c t (ix3 (0 : Fin 1) k d) = m ((c : Thread nD τ).loc main_arg5) (ix3 e ⟨_, hk⟩ d) :=
      DAt_at m H c A t i hi k d e ⟨_, hk⟩ (by rw [hsrc]; exact he) rfl
    simp only [hX, hG, hU, hD]
  have h := fun z => step_at (XAt m H c t) (GAt m H c t) (UAt m H c t) (DAt m H c t) z g d (fun k =>
    partN (m ((c : Thread nD τ).loc main_arg2)) (m ((c : Thread nD τ).loc main_arg3)) (m ((c : Thread nD τ).loc main_arg4)) (m ((c : Thread nD τ).loc main_arg5))
      e r d (half (t.val / 2) (t.val % 2) (nu m c).toNat * 1792 + k)) hP
  rw [h]
  congr 1
  rcases hs with hs | hs
  · rw [if_neg fun hc => by have := (cond1_iff t).1 hc; omega]
  · split
    · rw [hs]; exact Ideal.ofBits_zero_f32
    · rfl

/-- A used tile's block ends as its expert's output; -/
theorem out_used (c : Dev nD) (A : Args m c) (t : Fin (cfgM m H).N) (ht : t.val % 2 = 1) (i : Fin 136) (hi : i.val = t.val / 2) (hu : i.val < (nu m c).toNat)
    (g : Fin 512) (d : Fin 1024) (r : Fin 69632) (hr : r.val = i.val * 512 + g.val) (e : Fin 8) (he : e.val = (te m c i).toNat) :
    outAt m H c t (ix2 g d) = mlpAt (m ((c : Thread nD τ).loc main_arg2)) (m ((c : Thread nD τ).loc main_arg3)) (m ((c : Thread nD τ).loc main_arg4))
      (m ((c : Thread nD τ).loc main_arg5)) e r d := by
  unfold outAt
  rw [if_neg (by omega), point_at m H c A t i hi hu _ g d r hr e he (.inl ht),
    point_at m H c A ⟨t.val - 1, Nat.lt_of_le_of_lt (Nat.sub_le _ _) t.isLt⟩ i (by show _ = (t.val - 1) / 2; omega) hu _ g d r hr e he (.inr Ideal.ofBits_zero_f32),
    mlpAt_eq]
  rw [show nought (F := Ideal) (ix2 g d) = (0 : EReal) from Ideal.ofBits_zero_f32]
  have ht0 : (t.val - 1) % 2 = 0 := by omega
  have ht1 : (t.val - 1) / 2 = t.val / 2 := by omega
  dsimp only
  rw [ht0, ht1, ht, zero_add]
  unfold half
  dsimp only
  rw [if_pos (show t.val / 2 < (nu m c).toNat by omega), if_pos (show t.val / 2 < (nu m c).toNat by omega)]
  split
  · rfl
  · exact add_comm _ _

/-- an unused tile's as zeros. -/
theorem out_unused (c : Dev nD) (A : Args m c) (t : Fin (cfgM m H).N) (hu : (nu m c).toNat ≤ t.val / 2) (y) : outAt m H c t y = (0 : EReal) := by
  have key : ∀ (t : Fin (cfgM m H).N) (acc : S512x1024.Idx → Elt Ideal .f32), (nu m c).toNat ≤ t.val / 2 → acc y = (0 : EReal) → pointN m H c t acc y = (0 : EReal) := by
    intro t acc hu ha
    unfold pointN next
    rw [if_neg fun hc => by rw [nuV_eq m c, cond2_iff _ A.le, coords0] at hc; omega]
    split
    · exact Ideal.ofBits_zero_f32
    · exact ha
  unfold outAt
  split
  · exact key _ _ hu Ideal.ofBits_zero_f32
  · next h => exact key _ _ hu (key _ _ (by show _ ≤ (t.val - 1) / 2; omega) Ideal.ofBits_zero_f32)

/-! ## The whole result -/

/-- The result: at a used tile's row the tile's expert's output, zero elsewhere. -/
def whole (te : Fin 136 → BitVec 32) (n : BitVec 32) (X : S69632x1024.Idx → EReal) (WG WU : S8x1024x3584.Idx → EReal) (WD : S8x3584x1024.Idx → EReal)
    (r : Fin 69632) (d : Fin 1024) : EReal :=
  if r.val / 512 < n.toNat then
    mlpAt X WG WU WD ⟨(te ⟨r.val / 512, by have := r.isLt; omega⟩).toNat % 8, Nat.mod_lt _ (by decide)⟩ r d
  else 0

theorem transform_4 : ∀ t : Fin grid0.N, cc0_transform_4 (grid0.coords t) = ![t.val / 2, 0] := by decide +kernel

theorem at_4 (t : Fin (cfgM m H).N) : ((cfgM m H).win 4).index t = ![t.val / 2, 0] := transform_4 t

theorem emb_4 (t : Fin (cfgM m H).N) (g : Fin 512) (d : Fin 1024) (r : Fin 69632) (hr : r.val = t.val / 2 * 512 + g.val) :
    (((cfgM m H).win 4).blk t).view.emb (ix2 g d) = ix2 r d := by
  have h := at_4 m H t
  have h0 : ((cfgM m H).win 4).index t (0 : Fin 2) = t.val / 2 := congrFun h (0 : Fin 2)
  have h1 : ((cfgM m H).win 4).index t (1 : Fin 2) = 0 := congrFun h (1 : Fin 2)
  refine funext fun a => Fin.ext ?_
  match a with
  | ⟨0, _⟩ =>
    show ((cfgM m H).win 4).index t (0 : Fin 2) * 512 + 1 * g.val = r.val
    rw [h0]; omega
  | ⟨1, _⟩ =>
    show ((cfgM m H).win 4).index t (1 : Fin 2) * 1024 + 1 * d.val = d.val
    rw [h1]; omega

theorem cover (i : S69632x1024.Idx) : ∃ t : Fin (cfgM m H).N, ((cfgM m H).win 4).flush t = true ∧ i ∈ (((cfgM m H).win 4).blk t).view.set := by
  obtain ⟨r, d, rfl⟩ : ∃ (r : Fin 69632) (d : Fin 1024), i = ix2 r d := ⟨i 0, i 1, ValueIdx.eq_ix2 i⟩
  obtain ⟨t, ht⟩ : ∃ t : Fin (cfgM m H).N, t.val = 2 * (r.val / 512) + 1 := ⟨⟨_, by rw [show (cfgM m H).N = 272 from N_0]; have := r.isLt; omega⟩, rfl⟩
  refine ⟨t, (flush_4 m H t).2 (by omega), ?_⟩
  have e := emb_4 m H t ⟨r.val % 512, Nat.mod_lt _ (by decide)⟩ d r (by rw [ht]; dsimp only; omega)
  exact e ▸ View.emb_mem_set _ _

/-- The result of the arguments in the memory. -/
def result (c : Dev nD) : S69632x1024.Idx → EReal := fun i =>
  whole (te m c) (nu m c) (m ((c : Thread nD τ).loc main_arg2)) (m ((c : Thread nD τ).loc main_arg3)) (m ((c : Thread nD τ).loc main_arg4))
    (m ((c : Thread nD τ).loc main_arg5)) (i 0) (i 1)

theorem final (c : Dev nD) (A : Args m c) : (dats m H 0 c).arrAt 4 (cfgM m H).N = result m c := by
  refine (dats m H 0 c).arrAt_eq_of_emb 4 (result m c) (fun t hf y => ?_) (cover m H)
  have ht := (flush_4 m H t).1 hf
  have hN : t.val < 272 := Nat.lt_of_lt_of_eq t.isLt N_0
  obtain ⟨g, d, rfl⟩ : ∃ (g : Fin 512) (d : Fin 1024), y = ix2 g d := ⟨y (0 : Fin 2), y (1 : Fin 2), ValueIdx.eq_ix2 (n0 := 512) (n1 := 1024) y⟩
  blk_simp
  refine Eq.trans (b := result m c (ix2 ⟨t.val / 2 * 512 + g.val, by omega⟩ d)) ?_ (congrArg (result m c) (emb_4 m H t g d _ rfl).symm)
  show outAt m H c t (ix2 g d) = whole _ _ _ _ _ _ ⟨t.val / 2 * 512 + g.val, _⟩ d
  have hr : (t.val / 2 * 512 + g.val) / 512 = t.val / 2 := by omega
  unfold whole
  by_cases hu : t.val / 2 < (nu m c).toNat
  · rw [if_pos (show (t.val / 2 * 512 + g.val) / 512 < _ by rw [hr]; exact hu)]
    refine out_used m H c A t ht ⟨t.val / 2, by omega⟩ rfl hu g d _ rfl _ ?_
    have e : (⟨(t.val / 2 * 512 + g.val) / 512, by omega⟩ : Fin 136) = ⟨t.val / 2, by omega⟩ := Fin.ext hr
    have hte := A.te ⟨t.val / 2, by omega⟩
    show (te m c ⟨(t.val / 2 * 512 + g.val) / 512, _⟩).toNat % 8 = _
    rw [e, Nat.mod_eq_of_lt hte]
  · rw [if_neg (show ¬ (t.val / 2 * 512 + g.val) / 512 < _ by rw [hr]; exact hu)]
    exact out_unused m H c A t (Nat.le_of_not_lt hu) _

end Cert.ExpertsIdeal.Tiles

end
-- ==== Proof.DenseRows.lean ====
/- The dense part on one row of 1024: the attention's output added, a row's norm, the gated layer added. -/
module

public import proofs.«01_k».proof.Proof.ExpertSums

@[expose] public section

noncomputable section

namespace Cert.DenseRows

open Idealize.ShloMosaic
open Idealize.ShloMosaic.ValueIdx hiding ix1 ix2 ix3
open Cert.ExpertsIdeal.Tiles (part)

/-- A row with another's product with a square matrix added, -/
def summed (W : (⟨2, ![1024, 1024]⟩ : Shape).Idx → EReal) (x o : Fin 1024 → EReal) : Fin 1024 → EReal :=
  fun d => x d + ∑ a : Fin 1024, o a * W (ix2 a d)

/-- a row over its root mean square, by the gains, -/
def normed (g x : Fin 1024 → EReal) : Fin 1024 → EReal := fun d =>
  x d * Ideal.rsqrt (Ideal.div (∑ a : Fin 1024, x a * x a) (Ideal.ofBits .f32 0x44800000#32) + Ideal.ofBits .f32 0x358637BD#32) * g d

/-- an inner column's part of the gated layer, -/
def partAt (G U : (⟨2, ![1024, 2816]⟩ : Shape).Idx → EReal) (D : (⟨2, ![2816, 1024]⟩ : Shape).Idx → EReal) (h : Fin 1024 → EReal) (d : Fin 1024) (k : Fin 2816) : EReal :=
  part (∑ a : Fin 1024, h a * G (ix2 a k)) (∑ a : Fin 1024, h a * U (ix2 a k)) (D (ix2 k d))

/-- and a row with the gated layer of its norm added. -/
def fed (G U : (⟨2, ![1024, 2816]⟩ : Shape).Idx → EReal) (D : (⟨2, ![2816, 1024]⟩ : Shape).Idx → EReal) (g x : Fin 1024 → EReal) : Fin 1024 → EReal := fun d =>
  x d + ∑ k : Fin 2816, partAt G U D (normed g x) d k

end Cert.DenseRows

end
-- ==== Proof.CombineFinal.lean ====
/- The combining call's whole result, of the arguments. -/
module

public import proofs.«01_k».proof.Proof.CombineRun
public import proofs.«01_k».proof.Proof.DenseRows
public import Idealize.ShloMosaic.Lib.StableHlo.ReadAt
public import Idealize.ShloMosaic.Lib.StableHlo.RunRead
public import Idealize.ShloMosaic.Lib.Pipeline.Value
public import Idealize.ShloMosaic.Lib.Tactic

@[expose] public section

noncomputable section

namespace Cert.CombineIdeal.Combine

open Cert.CombineIdeal Cert.CombineIdeal.Gen
open Cert.DenseRows (normed)
open Idealize.ShloMosaic Idealize.ShloMosaic.TcCoe Idealize.ShloMosaic.Tactic
open Idealize.ShloMosaic.ValueIdx hiding ix1 ix2 ix3 ix4

/-! ## Places as rows -/

/-- Every place is a row of the experts' results. -/
def Placed (p : S2x32768.Idx → BitVec 32) : Prop := ∀ k n, (p (ix2 k n)).toNat < 69632

/-- The row of a token's expert. -/
def rowOf (p : S2x32768.Idx → BitVec 32) (h : Placed p) (k : Fin 2) (n : Fin 32768) : Fin 69632 := ⟨(p (ix2 k n)).toNat, h k n⟩

/-- A token with its experts' rows added, each by its gate, -/
def mixedAt (p : S2x32768.Idx → BitVec 32) (h : Placed p) (g : S2x32768.Idx → EReal) (x : S32768x1024.Idx → EReal) (Y : S69632x1024.Idx → EReal)
    (n : Fin 32768) : Fin 1024 → EReal :=
  fun d => (x (ix2 n d) + g (ix2 (0 : Fin 2) n) * Y (ix2 (rowOf p h 0 n) d)) + g (ix2 (1 : Fin 2) n) * Y (ix2 (rowOf p h 1 n) d)

/-- over its root mean square, by the norm's gains. -/
def combinedAt (p : S2x32768.Idx → BitVec 32) (h : Placed p) (g : S2x32768.Idx → EReal) (x : S32768x1024.Idx → EReal) (s : S1024.Idx → EReal)
    (Y : S69632x1024.Idx → EReal) (n : Fin 32768) (d : Fin 1024) : EReal :=
  normed (fun a => s (ix1 a)) (mixedAt p h g x Y n) d

/-! ## The windows' blocks -/

section
variable {F : FTy → Type} [FloatOps F] (m : (ℓ : Loc nD τ sig) → Buf (Elt F) ℓ)

theorem V_1 (c : Dev nD) : V m c main_v1 = shapeCast S4096x16 (transpose S32768x2 [1, 0] (m ((c : Thread nD τ).loc main_arg0)) transposes_S2x32768_S32768x2_1_0) shapeCasts_S32768x2_S4096x16 := by
  unfold V
  after_reads_simp
  rfl

theorem V_2 (c : Dev nD) : V m c main_v2 = transpose S32768x2 [1, 0] (m ((c : Thread nD τ).loc main_arg1)) transposes_S2x32768_S32768x2_1_0 := by
  unfold V
  after_reads_simp

theorem V_3 (c : Dev nD) : V m c main_v3 = shapeCast S1x1024 (m ((c : Thread nD τ).loc main_arg3)) shapeCasts_S1024_S1x1024 := by
  unfold V
  after_reads_simp
  rfl

theorem places_words (p : IVec S2x32768 32) (g : Fin 4096) (j : Fin 16) (k : Fin 2) (n : Fin 32768) (e : g.val * 16 + j.val = n.val * 2 + k.val) :
    shapeCast S4096x16 (transpose S32768x2 [1, 0] p transposes_S2x32768_S32768x2_1_0) shapeCasts_S32768x2_S4096x16 (ix2 g j) = p (ix2 k n) := by
  rw [shapeCast_apply (k := ix2 n k) (hk := by rw [Shape.rowMajor_val_two, Shape.rowMajor_val_two]; exact e.symm)]
  pointwise

theorem index_0 : ∀ t : Fin grid0.N, cc0_transform_0 (grid0.coords t) = ![t.val, 0] := by decide +kernel
theorem index_1 : ∀ t : Fin grid0.N, cc0_transform_1 (grid0.coords t) = ![t.val, 0] := by decide +kernel
theorem index_2 : ∀ t : Fin grid0.N, cc0_transform_2 (grid0.coords t) = ![t.val, 0] := by decide +kernel
theorem index_5 : ∀ t : Fin grid0.N, cc0_transform_5 (grid0.coords t) = ![t.val, 0] := by decide +kernel

theorem emb_0 (t : Fin cfg0.N) (g : Fin 128) (j : Fin 16) (r : Fin 4096) (hr : r.val = t.val * 128 + g.val) :
    ((cfg0.win 0).blk t).view.emb (ix2 g j) = ix2 r j := by
  have h : (cfg0.win 0).index t = ![t.val, 0] := index_0 t
  have h0 : (cfg0.win 0).index t (0 : Fin 2) = t.val := congrFun h (0 : Fin 2)
  have h1 : (cfg0.win 0).index t (1 : Fin 2) = 0 := congrFun h (1 : Fin 2)
  refine funext fun a => Fin.ext ?_
  match a with
  | ⟨0, _⟩ =>
    show (cfg0.win 0).index t (0 : Fin 2) * 128 + 1 * g.val = r.val
    rw [h0]; omega
  | ⟨1, _⟩ =>
    show (cfg0.win 0).index t (1 : Fin 2) * 16 + 1 * j.val = j.val
    rw [h1]; omega

theorem emb_1 (t : Fin cfg0.N) (s : Fin 1024) (k : Fin 2) (r : Fin 32768) (hr : r.val = t.val * 1024 + s.val) :
    ((cfg0.win 1).blk t).view.emb (ix2 s k) = ix2 r k := by
  have h : (cfg0.win 1).index t = ![t.val, 0] := index_1 t
  have h0 : (cfg0.win 1).index t (0 : Fin 2) = t.val := congrFun h (0 : Fin 2)
  have h1 : (cfg0.win 1).index t (1 : Fin 2) = 0 := congrFun h (1 : Fin 2)
  refine funext fun a => Fin.ext ?_
  match a with
  | ⟨0, _⟩ =>
    show (cfg0.win 1).index t (0 : Fin 2) * 1024 + 1 * s.val = r.val
    rw [h0]; omega
  | ⟨1, _⟩ =>
    show (cfg0.win 1).index t (1 : Fin 2) * 2 + 1 * k.val = k.val
    rw [h1]; omega

theorem emb_2 (t : Fin cfg0.N) (s : Fin 1024) (d : Fin 1024) (r : Fin 32768) (hr : r.val = t.val * 1024 + s.val) :
    ((cfg0.win 2).blk t).view.emb (ix2 s d) = ix2 r d := by
  have h : (cfg0.win 2).index t = ![t.val, 0] := index_2 t
  have h0 : (cfg0.win 2).index t (0 : Fin 2) = t.val := congrFun h (0 : Fin 2)
  have h1 : (cfg0.win 2).index t (1 : Fin 2) = 0 := congrFun h (1 : Fin 2)
  refine funext fun a => Fin.ext ?_
  match a with
  | ⟨0, _⟩ =>
    show (cfg0.win 2).index t (0 : Fin 2) * 1024 + 1 * s.val = r.val
    rw [h0]; omega
  | ⟨1, _⟩ =>
    show (cfg0.win 2).index t (1 : Fin 2) * 1024 + 1 * d.val = d.val
    rw [h1]; omega

theorem emb_4 (t : Fin cfg0.N) (s : Fin 1024) (d : Fin 1024) (r : Fin 32768) (hr : r.val = t.val * 1024 + s.val) :
    ((cfg0.win 4).blk t).view.emb (ix2 s d) = ix2 r d := by
  have h : (cfg0.win 4).index t = ![t.val, 0] := index_5 t
  have h0 : (cfg0.win 4).index t (0 : Fin 2) = t.val := congrFun h (0 : Fin 2)
  have h1 : (cfg0.win 4).index t (1 : Fin 2) = 0 := congrFun h (1 : Fin 2)
  refine funext fun a => Fin.ext ?_
  match a with
  | ⟨0, _⟩ =>
    show (cfg0.win 4).index t (0 : Fin 2) * 1024 + 1 * s.val = r.val
    rw [h0]; omega
  | ⟨1, _⟩ =>
    show (cfg0.win 4).index t (1 : Fin 2) * 1024 + 1 * d.val = d.val
    rw [h1]; omega

theorem emb_3 (t : Fin cfg0.N) (k : Fin 1) (d : Fin 1024) : ((cfg0.win 3).blk t).view.emb (ix2 k d) = ix2 k d := by
  have h : (cfg0.win 3).index t = ![0, 0] := rfl
  have h0 : (cfg0.win 3).index t (0 : Fin 2) = 0 := congrFun h (0 : Fin 2)
  have h1 : (cfg0.win 3).index t (1 : Fin 2) = 0 := congrFun h (1 : Fin 2)
  refine funext fun a => Fin.ext ?_
  match a with
  | ⟨0, _⟩ =>
    show (cfg0.win 3).index t (0 : Fin 2) * 1 + 1 * k.val = k.val
    rw [h0]; omega
  | ⟨1, _⟩ =>
    show (cfg0.win 3).index t (1 : Fin 2) * 1024 + 1 * d.val = d.val
    rw [h1]; omega

theorem w_read (c : Dev nD) (t : Fin cfg0.N) (g : Fin 128) (j : Fin 16) (k : Fin 2) (n : Fin 32768) (e : (t.val * 128 + g.val) * 16 + j.val = n.val * 2 + k.val) :
    wAt m c t (ix2 g j) = (m ((c : Thread nD τ).loc main_arg0)) (ix2 k n) := by
  have hN : t.val < 32 := Nat.lt_of_lt_of_eq t.isLt N_0
  have hg := g.isLt
  refine Eq.trans (b := V m c main_v1 (ix2 (⟨t.val * 128 + g.val, by omega⟩ : Fin 4096) j)) (congrArg (V m c main_v1) (emb_0 t g j _ rfl)) ?_
  rw [V_1]
  exact places_words _ _ j k n e

theorem G_read (c : Dev nD) (t : Fin cfg0.N) (s : Fin 1024) (k : Fin 2) (n : Fin 32768) (hn : n.val = t.val * 1024 + s.val) :
    GAt m c t (ix2 s k) = (m ((c : Thread nD τ).loc main_arg1)) (ix2 k n) := by
  refine Eq.trans (b := V m c main_v2 (ix2 n k)) (congrArg (V m c main_v2) (emb_1 t s k n hn)) ?_
  rw [V_2]
  pointwise

theorem X_read (c : Dev nD) (t : Fin cfg0.N) (s : Fin 1024) (d : Fin 1024) (n : Fin 32768) (hn : n.val = t.val * 1024 + s.val) :
    XAt m c t (ix2 s d) = (m ((c : Thread nD τ).loc main_arg2)) (ix2 n d) := by
  refine Eq.trans (b := V m c main_arg2 (ix2 n d)) (congrArg (V m c main_arg2) (emb_2 t s d n hn)) ?_
  rw [V_off m c main_arg2 (by decide)]

theorem N_read (c : Dev nD) (t : Fin cfg0.N) (d : Fin 1024) : NAt m c t (ix2 (0 : Fin 1) d) = (m ((c : Thread nD τ).loc main_arg3)) (ix1 d) := by
  refine Eq.trans (b := V m c main_v3 (ix2 (0 : Fin 1) d)) (congrArg (V m c main_v3) (emb_3 t 0 d)) ?_
  rw [V_3]
  pointwise

/-- The places in range give every point's words in range. -/
theorem words (c : Dev nD) (h : Placed (m ((c : Thread nD τ).loc main_arg0))) : Words m c where
  lt t g j := by
    have hN : t.val < 32 := Nat.lt_of_lt_of_eq t.isLt N_0
    have hg := g.isLt
    have hj := j.isLt
    rw [w_read m c t g j (⟨j.val % 2, by omega⟩ : Fin 2) (⟨t.val * 1024 + g.val * 8 + j.val / 2, by omega⟩ : Fin 32768) (by dsimp only; omega)]
    exact h _ _

/-- The rows of a point's tokens, among the rows brought in. -/
theorem row_read (c : Dev nD) (h : Placed (m ((c : Thread nD τ).loc main_arg0))) (t : Fin cfg0.N) (H) (s : Fin 1024) (k : Fin 2) (d : Fin 1024) (n : Fin 32768)
    (hn : n.val = t.val * 1024 + s.val) :
    rowsIn c (V m c main_arg4) (rho (F := F) (wAt m c t) H) (ix4 k (⟨s.val / 8, by omega⟩ : Fin 128) (⟨s.val % 8, by omega⟩ : Fin 8) d)
      = (m ((c : Thread nD τ).loc main_arg4)) (ix2 (rowOf (m ((c : Thread nD τ).loc main_arg0)) h k n) d) := by
  rw [V_off m c main_arg4 (by decide)]
  unfold rowsIn
  refine congrArg (fun r : Fin 69632 => (m ((c : Thread nD τ).loc main_arg4)) (ix2 r d)) (Fin.ext ?_)
  have hs := s.isLt
  have hk := k.isLt
  unfold rho rowOf fill
  refine congrArg BitVec.toNat (w_read m c t _ _ k n ?_)
  show (t.val * 128 + (16 * (s.val / 8) + 2 * (s.val % 8) + k.val) / 16) * 16 + (16 * (s.val / 8) + 2 * (s.val % 8) + k.val) % 16 = n.val * 2 + k.val
  omega
end

/-! ## A point's block -/

theorem pay_at (G : Vec Ideal S1024x2 .f32) (X : Vec Ideal S1024x1024 .f32) (A B : Vec Ideal S1x128x8x1024 .f32) (N : Vec Ideal S1x1024 .f32) (s d : Fin 1024) :
    k0_pay1 G X A B N (ix2 s d) = normed (fun a => N (ix2 (0 : Fin 1) a)) (fun a =>
      ((X (ix2 s a) + G (ix2 s (0 : Fin 2)) * A (ix4 (0 : Fin 1) (⟨s.val / 8, by omega⟩ : Fin 128) (⟨s.val % 8, by omega⟩ : Fin 8) a) : EReal)
        + G (ix2 s (1 : Fin 2)) * B (ix4 (0 : Fin 1) (⟨s.val / 8, by omega⟩ : Fin 128) (⟨s.val % 8, by omega⟩ : Fin 8) a) : EReal)) d := by
  unfold k0_pay1 normed
  dsimp only
  rw [shapeCast_self, shapeCast_self]
  pointwise

variable (m : (ℓ : Loc nD τ sig) → Buf (Elt Ideal) ℓ)

/-- The whole result. -/
def result (c : Dev nD) (h : Placed (m ((c : Thread nD τ).loc main_arg0))) : Buf (Elt Ideal) ((c : Thread nD τ).loc main_v4) :=
  fun y : S32768x1024.Idx => combinedAt (m ((c : Thread nD τ).loc main_arg0)) h (m ((c : Thread nD τ).loc main_arg1)) (m ((c : Thread nD τ).loc main_arg2))
    (m ((c : Thread nD τ).loc main_arg3)) (m ((c : Thread nD τ).loc main_arg4)) (y 0) (y 1)

theorem point_at (c : Dev nD) (h : Placed (m ((c : Thread nD τ).loc main_arg0))) (H) (t : Fin cfg0.N) (s : Fin 1024) (d : Fin 1024) (n : Fin 32768) (hn : n.val = t.val * 1024 + s.val) :
    outAt m H c t (ix2 s d) = result m c h (ix2 n d) := by
  unfold outAt outOf
  refine (pay_at _ _ _ _ _ s d).trans ?_
  show _ = combinedAt (m ((c : Thread nD τ).loc main_arg0)) h (m ((c : Thread nD τ).loc main_arg1)) (m ((c : Thread nD τ).loc main_arg2))
    (m ((c : Thread nD τ).loc main_arg3)) (m ((c : Thread nD τ).loc main_arg4)) n d
  unfold combinedAt
  refine congrArg₂ (fun (p q : Fin 1024 → EReal) => normed p q d) (funext fun a => N_read m c t a) (funext fun a => ?_)
  unfold mixedAt
  rw [X_read m c t s a n hn, G_read m c t s 0 n hn, G_read m c t s 1 n hn]
  have e0 := row_read m c h t ((H c).lt t) s 0 a n hn
  have e1 := row_read m c h t ((H c).lt t) s 1 a n hn
  rw [← e0, ← e1]
  rfl

theorem cover (j : S32768x1024.Idx) : ∃ t : Fin cfg0.N, (cfg0.win 4).flush t = true ∧ j ∈ ((cfg0.win 4).blk t).view.set := by
  obtain ⟨n, d, rfl⟩ : ∃ (n : Fin 32768) (d : Fin 1024), j = ix2 n d := ⟨j 0, j 1, ValueIdx.eq_ix2 j⟩
  obtain ⟨t, ht⟩ : ∃ t : Fin cfg0.N, t.val = n.val / 1024 := ⟨⟨_, by rw [show cfg0.N = 32 from N_0]; have := n.isLt; omega⟩, rfl⟩
  refine ⟨t, (by decide +kernel : ∀ t : Fin grid0.N, win0_4.flush t = true) t, ?_⟩
  have e := emb_4 t ⟨n.val % 1024, Nat.mod_lt _ (by decide)⟩ d n (by dsimp only; omega)
  exact e ▸ View.emb_mem_set _ _

theorem final (c : Dev nD) (h : Placed (m ((c : Thread nD τ).loc main_arg0))) (H) : (dats m H 0 c).arrAt 4 cfg0.N = result m c h := by
  refine (dats m H 0 c).arrAt_eq_of_emb 4 (result m c h) (fun t hf y => ?_) cover
  have hN : t.val < 32 := Nat.lt_of_lt_of_eq t.isLt N_0
  obtain ⟨s, d, rfl⟩ : ∃ (s : Fin 1024) (d : Fin 1024), y = ix2 s d := ⟨y (0 : Fin 2), y (1 : Fin 2), ValueIdx.eq_ix2 (n0 := 1024) (n1 := 1024) y⟩
  have hs := s.isLt
  refine Eq.trans (b := result m c h (ix2 ⟨t.val * 1024 + s.val, by omega⟩ d)) ?_ (congrArg (result m c h) (emb_4 t s d _ rfl).symm)
  exact point_at m c h H t s d _ rfl

end Cert.CombineIdeal.Combine

end
-- ==== Proof.CombinePlain.lean ====
/- The combining call's reference at an element: its two experts' rows are added to each other first, which no sum of extended reals tells apart. -/
module

public import proofs.«01_k».proof.Proof.Gen.CombineReferenceIdeal.Run
public import proofs.«01_k».proof.Proof.Gen.Pre_places_in_range
public import proofs.«01_k».proof.Proof.CombineFinal
public import Idealize.ShloMosaic.Lib.Pointwise
public import Idealize.ShloMosaic.Lib.Routing.Ops
public import Idealize.ShloMosaic.Lib.Routing.OpsSet
public import Idealize.ShloMosaic.Lib.Routing.OpsSearch

@[expose] public section

set_option maxRecDepth 16384

noncomputable section

namespace Cert.CombineReferenceIdeal.Plain

open Cert.CombineReferenceIdeal Cert.CombineReferenceIdeal.Gen Cert.CombineReferenceIdeal.Value
open Cert.DenseRows (normed)
open Cert.CombineIdeal.Combine (Placed rowOf mixedAt combinedAt)
open Idealize.ShloMosaic Idealize.ShloMosaic.TcCoe Idealize.ShloMosaic.Tactic
open Idealize.ShloMosaic.ValueIdx hiding ix1 ix2 ix3 ix4

/-! ## The reference's result -/

/-- A choice's places as row numbers, as the reference's operations make them, -/
def wordsOf (o : ℕ) (p : IVec S2x32768 32) (h : S2x32768.Slices ![o, 0] S1x32768) : IVec S32768x1 32 :=
  broadcastInDim S32768x1 ![0] bcast_S32768_S32768x1_0 (select (cmpi .slt (shapeCast S32768 (extractStridedSlice S1x32768 ![o, 0] p h) shapeCasts_S1x32768_S32768)
      (broadcastInDim S32768 ![] bcast_S_S32768 (constantI S_ 32 0#32)))
    (addi (shapeCast S32768 (extractStridedSlice S1x32768 ![o, 0] p h) shapeCasts_S1x32768_S32768) (broadcastInDim S32768 ![] bcast_S_S32768 (constantI S_ 32 69632#32)))
    (shapeCast S32768 (extractStridedSlice S1x32768 ![o, 0] p h) shapeCasts_S1x32768_S32768))

/-- its gates' column spread over the rows, -/
def gatesOf (o : ℕ) (g : FVec Ideal S2x32768 .f32) (h : S2x32768.Slices ![o, 0] S1x32768) : FVec Ideal S32768x1024 .f32 :=
  broadcastInDim S32768x1024 ![0, 1] bcast_S32768x1_S32768x1024_0_1 (broadcastInDim S32768x1 ![0] bcast_S32768_S32768x1_0
    (shapeCast S32768 (extractStridedSlice S1x32768 ![o, 0] g h) shapeCasts_S1x32768_S32768))

/-- its rows by its gates, -/
def termOf (o : ℕ) (p : IVec S2x32768 32) (g : FVec Ideal S2x32768 .f32) (Y : FVec Ideal S69632x1024 .f32) (h : S2x32768.Slices ![o, 0] S1x32768) : FVec Ideal S32768x1024 .f32 :=
  mulf (gatesOf o g h) (Host.gather gather_S69632x1024_S32768x1_S32768x1024_1_0_n_n_0_1_11024 Y (wordsOf o p h))

/-- the tokens with both added, -/
def mixOf (p : IVec S2x32768 32) (g : FVec Ideal S2x32768 .f32) (x : FVec Ideal S32768x1024 .f32) (Y : FVec Ideal S69632x1024 .f32) : FVec Ideal S32768x1024 .f32 :=
  addf x (addf (termOf 0 p g Y slices_S2x32768_S1x32768_0_0) (termOf 1 p g Y slices_S2x32768_S1x32768_1_0))

/-- and rows over their root mean squares. -/
def normOf (x : FVec Ideal S32768x1024 .f32) (s : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 s))

theorem result_eq (m : (ℓ : Loc nD τ sig) → Buf (Elt Ideal) ℓ) (c : Dev nD) :
    res_main_v42 m c = normOf (mixOf (m ((c.tc : Thread nD τ).loc main_arg0)) (m ((c.tc : Thread nD τ).loc main_arg1)) (m ((c.tc : Thread nD τ).loc main_arg2))
      (m ((c.tc : Thread nD τ).loc main_arg4))) (m ((c.tc : Thread nD τ).loc main_arg3)) := by
  unfold res_main_v42 normOf mixOf termOf gatesOf wordsOf
  rfl

/-! ## At an element -/

theorem part_at {α : Type} (o : ℕ) (p : S2x32768.Idx → α) (h : S2x32768.Slices ![o, 0] S1x32768) (k : Fin 2) (hk : k.val = o) (n : Fin 32768) :
    shapeCast S32768 (extractStridedSlice S1x32768 ![o, 0] p h) shapeCasts_S1x32768_S32768 (ix1 n) = p (ix2 k n) := by
  subst hk
  pointwise

theorem wordsOf_at (o : ℕ) (p : IVec S2x32768 32) (h : S2x32768.Slices ![o, 0] S1x32768) (k : Fin 2) (hk : k.val = o) (H : Placed p) (n : Fin 32768) :
    wordsOf o p h (ix2 n (0 : Fin 1)) = BitVec.ofNat 32 (rowOf p H k n).val := by
  have hp := part_at o p h k hk n
  have e : wordsOf o p h (ix2 n (0 : Fin 1)) = Scalar.select (IntOp.cmpi .slt (p (ix2 k n)) 0#32) (IntOp.addi (p (ix2 k n)) 69632#32) (p (ix2 k n)) := by
    rw [← hp]
    unfold wordsOf
    generalize shapeCast S32768 (extractStridedSlice S1x32768 ![o, 0] p h) shapeCasts_S1x32768_S32768 = q
    pointwise
  have hl := H k n
  rw [e, Routing.wrap_of_lt _ _ (by omega)]
  refine BitVec.eq_of_toNat_eq ?_
  show (p (ix2 k n)).toNat = (BitVec.ofNat 32 (p (ix2 k n)).toNat).toNat
  rw [BitVec.toNat_ofNat]
  omega

theorem gatesOf_at (o : ℕ) (g : FVec Ideal S2x32768 .f32) (h : S2x32768.Slices ![o, 0] S1x32768) (k : Fin 2) (hk : k.val = o) (n : Fin 32768) (d : Fin 1024) :
    gatesOf o g h (ix2 n d) = g (ix2 k n) := by
  have hp := part_at o g h k hk n
  rw [← hp]
  unfold gatesOf
  generalize shapeCast S32768 (extractStridedSlice S1x32768 ![o, 0] g h) shapeCasts_S1x32768_S32768 = q
  pointwise

theorem termOf_at (o : ℕ) (p : IVec S2x32768 32) (g : FVec Ideal S2x32768 .f32) (Y : FVec Ideal S69632x1024 .f32) (h : S2x32768.Slices ![o, 0] S1x32768)
    (k : Fin 2) (hk : k.val = o) (H : Placed p) (n : Fin 32768) (d : Fin 1024) :
    termOf o p g Y h (ix2 n d) = (g (ix2 k n) * Y (ix2 (rowOf p H k n) d) : EReal) := by
  have h1 := gatesOf_at o g h k hk n d
  have h2 : Host.gather gather_S69632x1024_S32768x1_S32768x1024_1_0_n_n_0_1_11024 Y (wordsOf o p h) (ix2 n d) = Y (ix2 (rowOf p H k n) d) :=
    Routing.gather_row gather_S69632x1024_S32768x1_S32768x1024_1_0_n_n_0_1_11024 rfl rfl rfl rfl rfl Y (wordsOf o p h) n d (rowOf p H k n) (wordsOf_at o p h k hk H n) (by decide)
  show (gatesOf o g h (ix2 n d) * Host.gather gather_S69632x1024_S32768x1_S32768x1024_1_0_n_n_0_1_11024 Y (wordsOf o p h) (ix2 n d) : EReal) = _
  rw [h1, h2]

theorem mixOf_at (p : IVec S2x32768 32) (g : FVec Ideal S2x32768 .f32) (x : FVec Ideal S32768x1024 .f32) (Y : FVec Ideal S69632x1024 .f32) (H : Placed p) (n : Fin 32768) (d : Fin 1024) :
    mixOf p g x Y (ix2 n d) = mixedAt p H g x Y n d := by
  show (x (ix2 n d) + (termOf 0 p g Y slices_S2x32768_S1x32768_0_0 (ix2 n d) + termOf 1 p g Y slices_S2x32768_S1x32768_1_0 (ix2 n d)) : EReal) = _
  rw [termOf_at 0 p g Y _ 0 rfl H, termOf_at 1 p g Y _ 1 rfl H, ← add_assoc]
  rfl

theorem normOf_at (x : FVec Ideal S32768x1024 .f32) (s : FVec Ideal S1024 .f32) (n : Fin 32768) (d : Fin 1024) :
    normOf x s (ix2 n d) = normed (fun a => s (ix1 a)) (fun a => x (ix2 n a)) d := by
  unfold normOf normed
  pointwise

theorem combined_at (p : IVec S2x32768 32) (g : FVec Ideal S2x32768 .f32) (x : FVec Ideal S32768x1024 .f32) (s : FVec Ideal S1024 .f32) (Y : FVec Ideal S69632x1024 .f32)
    (H : Placed p) (n : Fin 32768) (d : Fin 1024) : normOf (mixOf p g x Y) s (ix2 n d) = combinedAt p H g x s Y n d := by
  rw [normOf_at]
  unfold combinedAt
  exact congrArg (fun f => normed (fun a => s (ix1 a)) f d) (funext fun a => mixOf_at p g x Y H n a)

end Cert.CombineReferenceIdeal.Plain

namespace Cert.Pre_places_in_range

open Idealize.ShloMosaic Idealize.ShloMosaic.Tactic

/-- The precondition's word of a place. -/
theorem places_in_range {F : FTy → Type} [FloatOps F] (p : IVec S2x32768 32) (g : FVec F S2x32768 .f32) (x : FVec F S32768x1024 .f32) (s : FVec F S1024 .f32) (Y : FVec F S69632x1024 .f32)
    (h : fn (F := F) p g x s Y = fun _ => 1#1) (k : Fin 2) (n : Fin 32768) :
    IntOp.andi (IntOp.cmpi .sge (p (ix2 k n)) 0#32) (IntOp.cmpi .slt (p (ix2 k n)) 69632#32) = 1#1 := by
  refine Eq.trans ?_ (congrFun h (ix2 k n))
  unfold fn
  pointwise

end Cert.Pre_places_in_range

end
-- ==== Proof.Rows.lean ====
/- One row copy of the dispatch: which elements of the result a row transfer writes, what it writes there, and one
   issue (read the row's place from the table, check it, start the copy) as a step of the issuing loop. -/
module

public import proofs.«01_k».proof.Proof.Gen.KernelIdeal.Skeleton
public import Idealize.ShloMosaic.Lib.Batch
public import Idealize.ShloMosaic.Lib.Ring
public import Idealize.ShloMosaic.Lib.Tactic
public import Idealize.ShloMosaic.Lib.Exec
public import Idealize.ShloMosaic.Lib.Pipeline.FrameValue
public import Idealize.ShloMosaic.Lib.Pipeline.TableIdle
public import Idealize.ShloMosaic.Lib.Pipeline.Value
public import Idealize.ShloMosaic.Lib.Pipeline.ValueKit.Geometry
public import Idealize.ShloMosaic.Lib.Pointwise.Index

@[expose] public section

noncomputable section

namespace Cert.KernelIdeal.Dispatch

open Cert.KernelIdeal
open Idealize.ShloMosaic Idealize.ShloMosaic.TcCoe Idealize.ShloMosaic.Tactic
open Idealize.SL Idealize.SL.RA Facts₀ Facts
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of the result's row `r`. -/
def rowSet (c : Dev nD) (r : ℕ) : Finset (Idx ((c : Thread nD τ).loc main_v3)) :=
  Finset.univ.filter fun y : S69632x1024.Idx => (y 0).val = r

theorem mem_rowSet (c : Dev nD) (r : ℕ) (y : S69632x1024.Idx) : y ∈ rowSet c r ↔ (y 0).val = r := by
  unfold rowSet; exact Finset.mem_filter.trans (and_iff_right (Finset.mem_univ _))

/-- The result's row at offsets `off`. -/
abbrev dstRow (off : Fin 2 → ℕ) (h : ∀ a, off a + S1x1024.size a ≤ S69632x1024.size a) : Memref sig .tc .hbm S1x1024 .f32 :=
  (Memref.whole main_v3).slice (Rect.unit (s := S69632x1024) off S1x1024.size h) (fun _ => rfl)

/-- The token block's row at offsets `off`. -/
abbrev srcRow (arg3 : Memref sig .tc .vmem S128x8x1024 .f32) (off : Fin 3 → ℕ)
    (h : ∀ a, off a + S1x1x1024.size a ≤ S128x8x1024.size a) : Memref sig .tc .vmem S1x1024 .f32 :=
  (arg3.slice (Rect.unit (s := S128x8x1024) off S1x1x1024.size h) (fun _ => rfl)).squeeze S1x1024 squeezes_S1x1x1024_S1x1024

/-- The units a row copy counts on its semaphore. -/
abbrev NN : ℕ := (dstRow ![0, 0] (by decide)).view.dmaCredit

theorem dstRow_emb0 (off : Fin 2 → ℕ) (h) (x : S1x1024.Idx) :
    (((dstRow off h).view.emb x : S69632x1024.Idx) 0).val = off 0 := by
  have := ValueKit.view_emb_slice_whole_unit_val main_v3 off S1x1024.size h x 0
  have hx : (x 0).val = 0 := by have := (x 0).isLt; change _ < 1 at this; omega
  exact this.trans (by rw [hx, Nat.add_zero])

theorem dstRow_emb1 (off : Fin 2 → ℕ) (h) (x : S1x1024.Idx) :
    (((dstRow off h).view.emb x : S69632x1024.Idx) 1).val = off 1 + (x 1).val :=
  ValueKit.view_emb_slice_whole_unit_val main_v3 off S1x1024.size h x 1

theorem dstRow_sub (c : Dev nD) (r : ℕ) (off : Fin 2 → ℕ) (h) (ho : off = ![r, 0]) : (dstRow off h).view.set ⊆ rowSet c r := by
  intro y hy
  obtain ⟨x, -, rfl⟩ := Finset.mem_map.mp hy
  refine (mem_rowSet c r _).mpr ((dstRow_emb0 off h x).trans ?_)
  rw [ho]; rfl

/-- The row copy writes the source row's elements, lane by lane, over row `r`. -/
theorem dstRow_write (c : Dev nD) (r : ℕ) (off : Fin 2 → ℕ) (h) (ho : off = ![r, 0]) (f : main_v3.ty.Contents (Elt F))
    (w : S1x1024.Idx → Elt F .f32) (y : S69632x1024.Idx) (hy : y ∈ rowSet c r) :
    (dstRow off h).view.write (Elt F) f w Finset.univ y = w (ix2 0 (y 1)) := by
  have he : (dstRow off h).view.emb (ix2 0 (y 1) : S1x1024.Idx) = y := by
    funext a
    refine Fin.ext ?_
    match a with
    | ⟨0, _⟩ => exact (dstRow_emb0 off h _).trans ((congrFun ho 0).trans ((mem_rowSet c r y).mp hy).symm)
    | ⟨1, _⟩ => exact (dstRow_emb1 off h _).trans ((congrArg (· + (y 1).val) (congrFun ho 1)).trans (Nat.zero_add _))
  conv_lhs => rw [← he]
  exact View.write_emb_of_mem _ _ (Finset.mem_univ _)

theorem S1x1x1024_casts : S1x1x1024.ShapeCasts S1x1024 := by decide

/-- The source row read at a lane. -/
theorem srcRow_read [∀ e, Nonempty (Elt F e)] (arg3 : Memref sig .tc .vmem S128x8x1024 .f32) (off : Fin 3 → ℕ) (h)
    (g : Fin 128) (u : Fin 8) (ho : off = ![g.val, u.val, 0]) (X : S128x8x1024.Idx → Elt F .f32) (l : Fin 1024) :
    (srcRow arg3 off h).view.read (Elt F) (arg3.view.rep X) (ix2 0 l) = X (ix3 g u l) := by
  rw [Memref.read_squeeze_slice arg3 _ _ _ S1x1x1024_casts, View.readAt_rep]
  refine (shapeCast_apply _ _ _ (ix3 (0 : Fin 1) (0 : Fin 1) l : S1x1x1024.Idx) ?_).trans ?_
  · rw [Shape.rowMajor_val_three, Shape.rowMajor_val_two]; rfl
  · refine congrArg X (funext fun a => Fin.ext ?_)
    subst ho
    match a with
    | ⟨0, _⟩ => rfl
    | ⟨1, _⟩ => rfl
    | ⟨2, _⟩ => show 0 + 1 * l.val = l.val; omega

/-! ## One issue -/

section Issue

variable [∀ e, Nonempty (Elt F e)]

/-- The source row of the transfer number `n`: the row `n / 16` of the block's token groups, token `n % 16 / 2` of it. -/
abbrev srcOf (arg3 : Memref sig .tc .vmem S128x8x1024 .f32) (n : Fin 2048) : Memref sig .tc .vmem S1x1024 .f32 :=
  srcRow arg3 ![n.val / 16, n.val % 16 / 2, 0] (by
    have := n.isLt
    intro a
    match a with
    | ⟨0, _⟩ => show n.val / 16 + 1 ≤ 128; omega
    | ⟨1, _⟩ => show n.val % 16 / 2 + 1 ≤ 8; omega
    | ⟨2, _⟩ => show 0 + 1024 ≤ 1024; omega)

/-- What transfer `n` takes along: its place in the result at the old contents `C`, its source row at one share. -/
def piece (c : Dev nD) (arg3 : Memref sig .tc .vmem S128x8x1024 .f32) (X : S128x8x1024.Idx → Elt F .f32) (ρ : Fin 2048 → ℕ)
    (C : Buf (Elt F) ((c : Thread nD τ).loc main_v3)) (n : Fin 2048) : sProp 𝕄 :=
  iprop(((c : Thread nD τ).loc main_v3 ↦[rowSet c (ρ n)]{fullShare} C)
    ∗ (arg3.view.loc (c : Thread nD τ) ↦[(srcOf arg3 n).view.set]{Transfers.shareTokN fullShare n.val} arg3.view.rep X))

instance piece_storable (c : Dev nD) (arg3) (X) (ρ) (C) (n) :
    BI.Storable (upEmb : UEmb _ 𝕄) (piece (F := F) c arg3 X ρ C n) := by
  unfold piece; infer_instance

/-- The batch of a point's row copies, `j` of them started: they deliver their places at the new contents `C'`. -/
abbrev batch (c : Dev nD) (arg3 : Memref sig .tc .vmem S128x8x1024 .f32) (X : S128x8x1024.Idx → Elt F .f32) (ρ : Fin 2048 → ℕ)
    (C' : Buf (Elt F) ((c : Thread nD τ).loc main_v3)) (j u : ℕ) : sProp 𝕄 :=
  Transfers.Batch (countersEmb (U := Pipeline.UD sig nD τ)) (c : Thread nD τ) (.dma cc0_scratch1.sem) () NN (piece (F := F) c arg3 X ρ C') j u

/-- Before transfer `j`: the batch with `j` started, the pieces from `j` on, and the block's table of places. -/
def issueAt (c : Dev nD) (arg2 : Memref sig .tc .smem S128x16 .i32) (arg3 : Memref sig .tc .vmem S128x8x1024 .f32)
    (w : S128x16.Idx → Elt F .i32) (X : S128x8x1024.Idx → Elt F .f32) (ρ : Fin 2048 → ℕ)
    (C C' : Buf (Elt F) ((c : Thread nD τ).loc main_v3)) (j : ℕ) : sProp 𝕄 :=
  iprop(batch c arg3 X ρ C' j 0 ∗ bigSep (Transfers.pending j) (piece (F := F) c arg3 X ρ C)
    ∗ (arg2.view.loc (c : Thread nD τ) ↦[arg2.view.set]{fullShare} arg2.view.rep w))

variable (𝒱 : Variants) (bd : Option 𝒱.V)

/-- The place's word read from the table, its check discharged. -/
theorem read_one (c : Dev nD) (arg2 : Memref sig .tc .smem S128x16 .i32) (arg3 : Memref sig .tc .vmem S128x8x1024 .f32)
    (w : S128x16.Idx → Elt F .i32) (X : S128x8x1024.Idx → Elt F .f32) (ρ : Fin 2048 → ℕ)
    (C C' : Buf (Elt F) ((c : Thread nD τ).loc main_v3)) (m : ℕ) (g : Fin 128) (j : Fin 16)
    {off2 : Fin 2 → ℕ} (h2 : ∀ a, off2 a + S1x1.size a ≤ S128x16.size a) (ho2 : off2 = ![g.val, j.val])
    {chk : BitVec 32 → Prop} (dec : ∀ v, Decidable (chk v)) (hchk : chk (w (ix2 g j)))
    {α : Type} {Q : α → sProp 𝕄} (k : (v : BitVec 32) → PLift (chk v) → Prog (TpuEff nD τ sig (Elt F) Λ₀ .tc) α)
    (hk : ∀ v h, v = w (ix2 g j) →
      issueAt c arg2 arg3 w X ρ C C' m ⊢ wp frame (wpE defs₀ 𝒱 (c : Thread nD τ) bd) Set.univ (k v h) Q) :
    issueAt c arg2 arg3 w X ρ C C' m ⊢ wp frame (wpE defs₀ 𝒱 (c : Thread nD τ) bd) Set.univ
      (smemLoad arg2 (Rect.unit (s := S128x16) off2 S1x1.size h2) numel1_S1x1 rfl >>= fun v =>
        (Prog.lift (TpuEff.assume (chk v) (dec v)) : Prog (TpuEff nD τ sig (Elt F) Λ₀ .tc) _) >>= fun h => k v h) Q := by
  have hw : arg2.view.readAt (Elt F) (Rect.unit (s := S128x16) off2 S1x1.size h2).toLoadRect (arg2.view.rep w)
      (Shape.Idx.first (numel1_S1x1.symm ▸ Nat.one_pos)) = w (ix2 g j) := by
    rw [View.readAt_rep]
    refine congrArg w (funext fun a => Fin.ext ?_)
    subst ho2
    match a with
    | ⟨0, _⟩ => show g.val + 1 * 0 = g.val; omega
    | ⟨1, _⟩ => show j.val + 1 * 0 = j.val; omega
  unfold issueAt
  iintro ⟨HB, HP, Ht⟩
  iapply (wp_load 𝒱 (c : Thread nD τ) bd Set.univ (View.setOn_subset_set _ _)) $$ Ht
  iintro Ht
  iapply (wp_assume 𝒱 (c : Thread nD τ) bd Set.univ (by rw [hw]; exact hchk))
  iapply (hk _ _ hw)
  unfold issueAt
  isplitl [HB]; · iexact HB
  isplitl [HP]; · iexact HP
  iexact Ht

/-- The copy of transfer `n` started: its place and its source row go with it. -/
theorem start_one (c : Dev nD) (arg2 : Memref sig .tc .smem S128x16 .i32) (arg3 : Memref sig .tc .vmem S128x8x1024 .f32)
    (w : S128x16.Idx → Elt F .i32) (X : S128x8x1024.Idx → Elt F .f32) (ρ : Fin 2048 → ℕ)
    (C C' : Buf (Elt F) ((c : Thread nD τ).loc main_v3)) (n : Fin 2048)
    (hC' : ∀ y : S69632x1024.Idx, (y 0).val = ρ n → C' y = X (ix3 ⟨n.val / 16, by omega⟩ ⟨n.val % 16 / 2, by omega⟩ (y 1)))
    {offs : Fin 3 → ℕ} (hs : ∀ a, offs a + S1x1x1024.size a ≤ S128x8x1024.size a) (hos : offs = ![n.val / 16, n.val % 16 / 2, 0])
    {offd : Fin 2 → ℕ} (hd : ∀ a, offd a + S1x1024.size a ≤ S69632x1024.size a) (hod : offd = ![ρ n, 0])
    {α : Type} {Q : α → sProp 𝕄} (k : PUnit → Prog (TpuEff nD τ sig (Elt F) Λ₀ .tc) α)
    (hk : issueAt c arg2 arg3 w X ρ C C' (n.val + 1) ⊢ wp frame (wpE defs₀ 𝒱 (c : Thread nD τ) bd) Set.univ (k ⟨⟩) Q)
    {e1 e2 e3} :
    issueAt c arg2 arg3 w X ρ C C' n.val ⊢ wp frame (wpE defs₀ 𝒱 (c : Thread nD τ) bd) Set.univ
      (Prog.lift (TpuEff.enqueueDma (nD := nD) (Λ := Λ₀) (Val := Elt F) (p := .tc) (srcRow arg3 offs hs) (.here (dstRow offd hd)) (.dma cc0_scratch1.sem) e1 e2 e3) >>= k) Q := by
  subst hos
  unfold issueAt
  iintro ⟨HB, HP, Ht⟩
  ihave HP' := (Entails.of_eq (Transfers.bigSep_pending_step (piece (F := F) c arg3 X ρ C) n.val n.isLt)) $$ HP
  icases HP' with ⟨Hn, HP⟩
  unfold piece
  icases Hn with ⟨Hd, Hs⟩
  iapply (Transfers.wp_dmaBatch (countersEmb (U := Pipeline.UD sig nD τ)) 𝒱 (c : Thread nD τ) bd (Sd := rowSet c (ρ n)) (fd := C)
    (dst := dstRow offd hd) (src := srcOf arg3 n) (sm := .dma cc0_scratch1.sem) (D := piece (F := F) c arg3 X ρ C') () NN rfl (dstRow_sub c (ρ n) offd hd hod) n.isLt (Nat.zero_le _)
    (sep_mono_left (Entails.of_eq (pointsTo_congr fun y hy => by
      rw [dstRow_write c (ρ n) offd hd hod _ _ y hy]
      refine (srcRow_read arg3 _ _ ⟨n.val / 16, by omega⟩ ⟨n.val % 16 / 2, by omega⟩ rfl X (y 1)).trans ?_
      exact (hC' y ((mem_rowSet c _ y).mp hy)).symm)))) $$ [Hs Hd HB]
  · isplitl [Hs]; · iexact Hs
    isplitl [Hd]; · iexact Hd
    iexact HB
  iintro HB
  iapply hk
  unfold issueAt
  isplitl [HB]; · iexact HB
  isplitl [HP]; · iexact HP
  iexact Ht

/-- ONE WAIT of the drain: one row's units consumed. -/
theorem wait_one (c : Dev nD) (arg3 : Memref sig .tc .vmem S128x8x1024 .f32) (X : S128x8x1024.Idx → Elt F .f32) (ρ : Fin 2048 → ℕ)
    (C' : Buf (Elt F) ((c : Thread nD τ).loc main_v3)) (u : ℕ) (hu : u < 2048)
    {srcw : Memref sig .tc .vmem S1x1024 .f32} {offd : Fin 2 → ℕ} (hd : ∀ a, offd a + S1x1024.size a ≤ S69632x1024.size a)
    {α : Type} {Q : α → sProp 𝕄} (k : PUnit → Prog (TpuEff nD τ sig (Elt F) Λ₀ .tc) α)
    (hk : iprop(batch c arg3 X ρ C' 2048 ((u + 1) * NN) ∗ ∃ W, owes (c : Thread nD τ) 0 W)
      ⊢ wp frame (wpE defs₀ 𝒱 (c : Thread nD τ) bd) Set.univ (k ⟨⟩) Q)
    {e1 e2} :
    iprop(batch c arg3 X ρ C' 2048 (u * NN) ∗ ∃ W, owes (c : Thread nD τ) 0 W) ⊢ wp frame (wpE defs₀ 𝒱 (c : Thread nD τ) bd) Set.univ
      (Prog.lift (TpuEff.waitDma2 (nD := nD) (Λ := Λ₀) (Val := Elt F) (p := .tc) cc0_scratch1.sem srcw (dstRow offd hd) e1 e2) >>= k) Q := by
  iintro ⟨HB, %W, HO⟩
  iapply (Transfers.wp_waitBatchMul (countersEmb (U := Pipeline.UD sig nD τ)) 𝒱 (c : Thread nD τ) bd (dstw := dstRow offd hd) (srcw := srcw) (sem := cc0_scratch1.sem)
    (D := piece (F := F) c arg3 X ρ C') () 1 (N := NN) (Nat.one_mul _).symm (by
      have : (u + 1) * NN ≤ 2048 * NN := Nat.mul_le_mul_right _ hu
      rw [Nat.succ_mul] at this; rw [Nat.one_mul, Nat.mul_comm NN]; exact this) (W := W)) $$ [HB HO]
  · isplitl [HB]; · iexact HB
    iexact HO
  iintro ⟨HB, HO⟩
  iapply hk
  isplitl [HB]
  · iapply (Entails.of_eq (congrArg (batch c arg3 X ρ C' 2048) (Nat.add_mul u 1 NN).symm)) $$ HB
  iexists _; iexact HO

end Issue

end Cert.KernelIdeal.Dispatch

end
-- ==== Proof.Issue.lean ====
/- The issuing loop and the draining loop of one grid point of the dispatch, as steps of their invariants: trip by trip
   the sixteen row copies of a token group are started, then waited for. -/
module

public import proofs.«01_k».proof.Proof.Rows

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Facts₀ Facts
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The number of the transfer of token group `g`, column `j` of the table. -/
def num (g : Fin 128) (j : Fin 16) : Fin 2048 := ⟨16 * g.val + j.val, by omega⟩

/-- A trip of the issuing loop as a token group. -/
def trip1 (t : Fin k0_t1_loop.trips) : Fin 128 := ⟨t.val, Nat.lt_of_lt_of_eq t.isLt (by decide +kernel)⟩

/-- What a point's tables are to satisfy: the transfers' rows `ρ` are the table's words, rows of the result; and the
new contents hold a transfer's source row at its row. -/
structure Tables (c : Dev nD) (w : S128x16.Idx → Elt F .i32) (X : S128x8x1024.Idx → Elt F .f32) (ρ : Fin 2048 → ℕ)
    (C' : Buf (Elt F) ((c : Thread nD τ).loc main_v3)) : Prop where
  at_ : ∀ g j, BitVec.toNat (w (ix2 g j)) = ρ (num g j)
  lt : ∀ g j, BitVec.toNat (w (ix2 g j)) < 69632
  new : ∀ n : Fin 2048, ∀ y : S69632x1024.Idx, (y 0).val = ρ n →
    C' y = X (ix3 ⟨n.val / 16, by omega⟩ ⟨n.val % 16 / 2, by omega⟩ (y 1))

theorem iv1 : ∀ t : Fin k0_t1_loop.trips, (Scf.iv 0#32 1#32 t).toNat = (trip1 t).val := by decide +kernel

theorem off_ij (t : Fin k0_t1_loop.trips) (j : Fin 16) :
    ![(Scalar.indexCast (Scf.iv 0#32 1#32 t)).toNat, j.val] = ![(trip1 t).val, j.val] := by
  rw [show (Scalar.indexCast (Scf.iv 0#32 1#32 t)).toNat = (trip1 t).val from iv1 t]

theorem row_inb {v : BitVec 32} (h : v.toNat < 69632) : ∀ a, (![v.toNat, 0] : Fin 2 → ℕ) a + S1x1024.size a ≤ S69632x1024.size a := by
  intro a
  match a with
  | ⟨0, _⟩ => exact h
  | ⟨1, _⟩ => exact Nat.le_refl _

theorem off_src (g : Fin 128) (j : Fin 16) (u : ℕ) {v : ℕ} (h : v = g.val) (hu : u = j.val / 2 := by rfl) :
    (![v, u, 0] : Fin 3 → ℕ) = ![(num g j).val / 16, (num g j).val % 16 / 2, 0] := by
  have h1 : (num g j).val / 16 = g.val := by show (16 * g.val + j.val) / 16 = _; omega
  have h2 : (num g j).val % 16 = j.val := by show (16 * g.val + j.val) % 16 = _; omega
  rw [h, hu, h1, h2]

theorem off_dst {a v : BitVec 32} {n : ℕ} (h : a.toNat = n) (hv : v = a) : (![v.toNat, 0] : Fin 2 → ℕ) = ![n, 0] := by
  rw [hv, h]

variable (𝒱 : Variants) (bd : Option 𝒱.V)

set_option maxRecDepth 16384 in
set_option maxHeartbeats 4000000 in
/-- The first part of a trip: five copies started and the sixth place read. -/
theorem issue_part4 (c : Dev nD) (i : grid0.Coords) (arg1 harg1) (arg2 : Memref sig .tc .smem S128x16 .i32) (harg2 : arg2.IsWhole)
    (arg3 : Memref sig .tc .vmem S128x8x1024 .f32) (harg3 : arg3.IsWhole) (harg4) (arg5 harg5)
    {w : S128x16.Idx → Elt F .i32} {X : S128x8x1024.Idx → Elt F .f32} {ρ : Fin 2048 → ℕ}
    (C : Buf (Elt F) ((c : Thread nD τ).loc main_v3)) {C' : Buf (Elt F) ((c : Thread nD τ).loc main_v3)} (T : Tables c w X ρ C')
    (t : Fin k0_t1_loop.trips) {Q}
    (hk : ∀ a v h, v = w (ix2 (trip1 t) 5) → issueAt c arg2 arg3 w X ρ C C' (16 * t.val + 5) ⊢ Q ⟨a, v, h⟩) :
    issueAt c arg2 arg3 w X ρ C C' (16 * t.val) ⊢ wp frame (wpE defs₀ 𝒱 (c : Thread nD τ) bd) Set.univ
      (k0_part4 (F := F) i arg1 harg1 arg2 harg2 arg3 harg3 (Memref.whole main_v3) harg4 arg5 harg5 cc0_scratch1 cc0_scratch2 0#32 1#32 t) Q := by
  rw [k0_part4_eq_skeleton]
  unfold k0_part4_skel
  refine read_one 𝒱 bd c arg2 arg3 w X ρ C C' _ (trip1 t) 0 _ (off_ij t 0) _ (row_inb (T.lt (trip1 t) 0)) _ fun v0 h0 hv0 => ?_
  refine start_one 𝒱 bd c arg2 arg3 w X ρ C C' (num (trip1 t) 0) (T.new _) _ (off_src (trip1 t) 0 _ (iv1 t)) _ (off_dst (T.at_ (trip1 t) 0) hv0) _ ?_
  refine read_one 𝒱 bd c arg2 arg3 w X ρ C C' _ (trip1 t) 1 _ (off_ij t 1) _ (row_inb (T.lt (trip1 t) 1)) _ fun v1 h1 hv1 => ?_
  refine start_one 𝒱 bd c arg2 arg3 w X ρ C C' (num (trip1 t) 1) (T.new _) _ (off_src (trip1 t) 1 _ (iv1 t)) _ (off_dst (T.at_ (trip1 t) 1) hv1) _ ?_
  refine read_one 𝒱 bd c arg2 arg3 w X ρ C C' _ (trip1 t) 2 _ (off_ij t 2) _ (row_inb (T.lt (trip1 t) 2)) _ fun v2 h2 hv2 => ?_
  refine start_one 𝒱 bd c arg2 arg3 w X ρ C C' (num (trip1 t) 2) (T.new _) _ (off_src (trip1 t) 2 _ (iv1 t)) _ (off_dst (T.at_ (trip1 t) 2) hv2) _ ?_
  refine read_one 𝒱 bd c arg2 arg3 w X ρ C C' _ (trip1 t) 3 _ (off_ij t 3) _ (row_inb (T.lt (trip1 t) 3)) _ fun v3 h3 hv3 => ?_
  refine start_one 𝒱 bd c arg2 arg3 w X ρ C C' (num (trip1 t) 3) (T.new _) _ (off_src (trip1 t) 3 _ (iv1 t)) _ (off_dst (T.at_ (trip1 t) 3) hv3) _ ?_
  refine read_one 𝒱 bd c arg2 arg3 w X ρ C C' _ (trip1 t) 4 _ (off_ij t 4) _ (row_inb (T.lt (trip1 t) 4)) _ fun v4 h4 hv4 => ?_
  refine start_one 𝒱 bd c arg2 arg3 w X ρ C C' (num (trip1 t) 4) (T.new _) _ (off_src (trip1 t) 4 _ (iv1 t)) _ (off_dst (T.at_ (trip1 t) 4) hv4) _ ?_
  refine read_one 𝒱 bd c arg2 arg3 w X ρ C C' _ (trip1 t) 5 _ (off_ij t 5) _ (row_inb (T.lt (trip1 t) 5)) _ fun v5 h5 hv5 => ?_
  exact (hk _ _ _ hv5).trans (le_wp_ret _ _ _ _ _)

set_option maxRecDepth 16384 in
set_option maxHeartbeats 4000000 in
/-- The second part of a trip: five copies started and the eleventh place read. -/
theorem issue_part5 (c : Dev nD) (i : grid0.Coords) (arg1 harg1) (arg2 : Memref sig .tc .smem S128x16 .i32) (harg2 : arg2.IsWhole)
    (arg3 : Memref sig .tc .vmem S128x8x1024 .f32) (harg3 : arg3.IsWhole) (harg4) (arg5 harg5)
    {w : S128x16.Idx → Elt F .i32} {X : S128x8x1024.Idx → Elt F .f32} {ρ : Fin 2048 → ℕ}
    (C : Buf (Elt F) ((c : Thread nD τ).loc main_v3)) {C' : Buf (Elt F) ((c : Thread nD τ).loc main_v3)} (T : Tables c w X ρ C')
    (t : Fin k0_t1_loop.trips) {Q} (a5 : BitVec 32) (v5 : BitVec 32) (hw5 : k0_chk22 v5) (hv5 : v5 = w (ix2 (trip1 t) 5))
    (hk : ∀ v h, v = w (ix2 (trip1 t) 10) → issueAt c arg2 arg3 w X ρ C C' (16 * t.val + 10) ⊢ Q ⟨v, h⟩) :
    issueAt c arg2 arg3 w X ρ C C' (16 * t.val + 5) ⊢ wp frame (wpE defs₀ 𝒱 (c : Thread nD τ) bd) Set.univ
      (k0_part5 (F := F) i arg1 harg1 arg2 harg2 arg3 harg3 (Memref.whole main_v3) harg4 arg5 harg5 cc0_scratch1 cc0_scratch2 t a5 v5 hw5) Q := by
  rw [k0_part5_eq_skeleton]
  unfold k0_part5_skel
  refine start_one 𝒱 bd c arg2 arg3 w X ρ C C' (num (trip1 t) 5) (T.new _) _ (off_src (trip1 t) 5 _ (iv1 t)) _ (off_dst (T.at_ (trip1 t) 5) hv5) _ ?_
  refine read_one 𝒱 bd c arg2 arg3 w X ρ C C' _ (trip1 t) 6 _ (off_ij t 6) _ (row_inb (T.lt (trip1 t) 6)) _ fun v6 h6 hv6 => ?_
  refine start_one 𝒱 bd c arg2 arg3 w X ρ C C' (num (trip1 t) 6) (T.new _) _ (off_src (trip1 t) 6 _ (iv1 t)) _ (off_dst (T.at_ (trip1 t) 6) hv6) _ ?_
  refine read_one 𝒱 bd c arg2 arg3 w X ρ C C' _ (trip1 t) 7 _ (off_ij t 7) _ (row_inb (T.lt (trip1 t) 7)) _ fun v7 h7 hv7 => ?_
  refine start_one 𝒱 bd c arg2 arg3 w X ρ C C' (num (trip1 t) 7) (T.new _) _ (off_src (trip1 t) 7 _ (iv1 t)) _ (off_dst (T.at_ (trip1 t) 7) hv7) _ ?_
  refine read_one 𝒱 bd c arg2 arg3 w X ρ C C' _ (trip1 t) 8 _ (off_ij t 8) _ (row_inb (T.lt (trip1 t) 8)) _ fun v8 h8 hv8 => ?_
  refine start_one 𝒱 bd c arg2 arg3 w X ρ C C' (num (trip1 t) 8) (T.new _) _ (off_src (trip1 t) 8 _ (iv1 t)) _ (off_dst (T.at_ (trip1 t) 8) hv8) _ ?_
  refine read_one 𝒱 bd c arg2 arg3 w X ρ C C' _ (trip1 t) 9 _ (off_ij t 9) _ (row_inb (T.lt (trip1 t) 9)) _ fun v9 h9 hv9 => ?_
  refine start_one 𝒱 bd c arg2 arg3 w X ρ C C' (num (trip1 t) 9) (T.new _) _ (off_src (trip1 t) 9 _ (iv1 t)) _ (off_dst (T.at_ (trip1 t) 9) hv9) _ ?_
  refine read_one 𝒱 bd c arg2 arg3 w X ρ C C' _ (trip1 t) 10 _ (off_ij t 10) _ (row_inb (T.lt (trip1 t) 10)) _ fun v10 h10 hv10 => ?_
  exact (hk _ _ hv10).trans (le_wp_ret _ _ _ _ _)

set_option maxRecDepth 16384 in
set_option maxHeartbeats 4000000 in
/-- ONE TRIP of the issuing loop: sixteen copies started. -/
theorem issue_trip (c : Dev nD) (i : grid0.Coords) (arg1 harg1) (arg2 : Memref sig .tc .smem S128x16 .i32) (harg2 : arg2.IsWhole)
    (arg3 : Memref sig .tc .vmem S128x8x1024 .f32) (harg3 : arg3.IsWhole) (harg4) (arg5 harg5)
    {w : S128x16.Idx → Elt F .i32} {X : S128x8x1024.Idx → Elt F .f32} {ρ : Fin 2048 → ℕ}
    (C : Buf (Elt F) ((c : Thread nD τ).loc main_v3)) {C' : Buf (Elt F) ((c : Thread nD τ).loc main_v3)} (T : Tables c w X ρ C')
    (t : Fin k0_t1_loop.trips) :
    issueAt c arg2 arg3 w X ρ C C' (16 * t.val) ⊢ wp frame (wpE defs₀ 𝒱 (c : Thread nD τ) bd) Set.univ
      (k0_t1_body (F := F) i arg1 harg1 arg2 harg2 arg3 harg3 (Memref.whole main_v3) harg4 arg5 harg5 cc0_scratch1 cc0_scratch2 t ())
      (fun _ => issueAt c arg2 arg3 w X ρ C C' (16 * (t.val + 1))) := by
  unfold k0_t1_body
  rw [wp_bind]
  refine issue_part4 𝒱 bd c i arg1 harg1 arg2 harg2 arg3 harg3 harg4 arg5 harg5 C T t fun a5 v5 hw5 hv5 => ?_
  dsimp only
  rw [wp_bind]
  refine issue_part5 𝒱 bd c i arg1 harg1 arg2 harg2 arg3 harg3 harg4 arg5 harg5 C T t a5 v5 hw5 hv5 fun v10 hw10 hv10 => ?_
  dsimp only
  refine start_one 𝒱 bd c arg2 arg3 w X ρ C C' (num (trip1 t) 10) (T.new _) _ (off_src (trip1 t) 10 _ (iv1 t)) _ (off_dst (T.at_ (trip1 t) 10) hv10) _ ?_
  refine read_one 𝒱 bd c arg2 arg3 w X ρ C C' _ (trip1 t) 11 _ (off_ij t 11) _ (row_inb (T.lt (trip1 t) 11)) _ fun v11 h11 hv11 => ?_
  refine start_one 𝒱 bd c arg2 arg3 w X ρ C C' (num (trip1 t) 11) (T.new _) _ (off_src (trip1 t) 11 _ (iv1 t)) _ (off_dst (T.at_ (trip1 t) 11) hv11) _ ?_
  refine read_one 𝒱 bd c arg2 arg3 w X ρ C C' _ (trip1 t) 12 _ (off_ij t 12) _ (row_inb (T.lt (trip1 t) 12)) _ fun v12 h12 hv12 => ?_
  refine start_one 𝒱 bd c arg2 arg3 w X ρ C C' (num (trip1 t) 12) (T.new _) _ (off_src (trip1 t) 12 _ (iv1 t)) _ (off_dst (T.at_ (trip1 t) 12) hv12) _ ?_
  refine read_one 𝒱 bd c arg2 arg3 w X ρ C C' _ (trip1 t) 13 _ (off_ij t 13) _ (row_inb (T.lt (trip1 t) 13)) _ fun v13 h13 hv13 => ?_
  refine start_one 𝒱 bd c arg2 arg3 w X ρ C C' (num (trip1 t) 13) (T.new _) _ (off_src (trip1 t) 13 _ (iv1 t)) _ (off_dst (T.at_ (trip1 t) 13) hv13) _ ?_
  refine read_one 𝒱 bd c arg2 arg3 w X ρ C C' _ (trip1 t) 14 _ (off_ij t 14) _ (row_inb (T.lt (trip1 t) 14)) _ fun v14 h14 hv14 => ?_
  refine start_one 𝒱 bd c arg2 arg3 w X ρ C C' (num (trip1 t) 14) (T.new _) _ (off_src (trip1 t) 14 _ (iv1 t)) _ (off_dst (T.at_ (trip1 t) 14) hv14) _ ?_
  refine read_one 𝒱 bd c arg2 arg3 w X ρ C C' _ (trip1 t) 15 _ (off_ij t 15) _ (row_inb (T.lt (trip1 t) 15)) _ fun v15 h15 hv15 => ?_
  refine start_one 𝒱 bd c arg2 arg3 w X ρ C C' (num (trip1 t) 15) (T.new _) _ (off_src (trip1 t) 15 _ (iv1 t)) _ (off_dst (T.at_ (trip1 t) 15) hv15) _ ?_
  exact le_wp_ret _ (wpE defs₀ 𝒱 (c : Thread nD τ) bd) _ PUnit.unit (fun _ => issueAt c arg2 arg3 w X ρ C C' (16 * (t.val + 1)))

/-- What the draining loop holds before wait `u`. -/
def drainAt (c : Dev nD) (arg3 : Memref sig .tc .vmem S128x8x1024 .f32) (X : S128x8x1024.Idx → Elt F .f32) (ρ : Fin 2048 → ℕ)
    (C' : Buf (Elt F) ((c : Thread nD τ).loc main_v3)) (u : ℕ) : sProp 𝕄 :=
  iprop(batch c arg3 X ρ C' 2048 (u * NN) ∗ ∃ W, owes (c : Thread nD τ) 0 W)

set_option maxRecDepth 16384 in
set_option maxHeartbeats 4000000 in
/-- ONE TRIP of the draining loop: sixteen rows' units consumed. -/
theorem drain_trip (c : Dev nD) (i : grid0.Coords) (arg1 harg1) (arg2 harg2)
    (arg3 : Memref sig .tc .vmem S128x8x1024 .f32) (harg3 : arg3.IsWhole) (harg4) (arg5 harg5)
    {X : S128x8x1024.Idx → Elt F .f32} {ρ : Fin 2048 → ℕ} {C' : Buf (Elt F) ((c : Thread nD τ).loc main_v3)}
    (t : Fin k0_t2_loop.trips) :
    drainAt c arg3 X ρ C' (16 * t.val) ⊢ wp frame (wpE defs₀ 𝒱 (c : Thread nD τ) bd) Set.univ
      (k0_t2_body (F := F) i arg1 harg1 arg2 harg2 arg3 harg3 (Memref.whole main_v3) harg4 arg5 harg5 cc0_scratch1 cc0_scratch2 t ())
      (fun _ => drainAt c arg3 X ρ C' (16 * (t.val + 1))) := by
  have ht : t.val < 128 := Nat.lt_of_lt_of_eq t.isLt (by decide +kernel)
  unfold k0_t2_body
  rw [wp_bind, k0_part6_eq_skeleton]
  unfold k0_part6_skel drainAt
  refine wait_one 𝒱 bd c arg3 X ρ C' (16 * t.val + 0) (by omega) _ _ ?_
  refine wait_one 𝒱 bd c arg3 X ρ C' (16 * t.val + 1) (by omega) _ _ ?_
  refine wait_one 𝒱 bd c arg3 X ρ C' (16 * t.val + 2) (by omega) _ _ ?_
  refine wait_one 𝒱 bd c arg3 X ρ C' (16 * t.val + 3) (by omega) _ _ ?_
  refine wait_one 𝒱 bd c arg3 X ρ C' (16 * t.val + 4) (by omega) _ _ ?_
  refine wait_one 𝒱 bd c arg3 X ρ C' (16 * t.val + 5) (by omega) _ _ ?_
  refine Entails.trans ?_ (le_wp_ret _ _ _ _ _)
  rw [wp_bind, k0_part7_eq_skeleton]
  unfold k0_part7_skel
  refine wait_one 𝒱 bd c arg3 X ρ C' (16 * t.val + 6) (by omega) _ _ ?_
  refine wait_one 𝒱 bd c arg3 X ρ C' (16 * t.val + 7) (by omega) _ _ ?_
  refine wait_one 𝒱 bd c arg3 X ρ C' (16 * t.val + 8) (by omega) _ _ ?_
  refine wait_one 𝒱 bd c arg3 X ρ C' (16 * t.val + 9) (by omega) _ _ ?_
  refine wait_one 𝒱 bd c arg3 X ρ C' (16 * t.val + 10) (by omega) _ _ ?_
  refine wait_one 𝒱 bd c arg3 X ρ C' (16 * t.val + 11) (by omega) _ _ ?_
  refine wait_one 𝒱 bd c arg3 X ρ C' (16 * t.val + 12) (by omega) _ _ ?_
  refine Entails.trans ?_ (le_wp_ret _ _ _ _ _)
  refine wait_one 𝒱 bd c arg3 X ρ C' (16 * t.val + 13) (by omega) _ _ ?_
  refine wait_one 𝒱 bd c arg3 X ρ C' (16 * t.val + 14) (by omega) _ _ ?_
  refine wait_one 𝒱 bd c arg3 X ρ C' (16 * t.val + 15) (by omega) _ _ ?_
  exact le_wp_ret _ (wpE defs₀ 𝒱 (c : Thread nD τ) bd) _ PUnit.unit
    (fun _ => iprop(batch c arg3 X ρ C' 2048 (16 * (t.val + 1) * NN) ∗ ∃ W, owes (c : Thread nD τ) 0 W))

end Cert.KernelIdeal.Dispatch

end
-- ==== Proof.Zero.lean ====
/- The zero fill of the dispatch's first grid point: sixteen tiles of the result, named by a table, are each overwritten
   by one copy of a zeroed block, started and waited for before the next. -/
module

public import proofs.«01_k».proof.Proof.Issue

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The result's contents `C` with tile `z` (512 rows) zeroed. -/
def zfill (c : Dev nD) (z : ℕ) (C : Buf (Elt F) ((c : Thread nD τ).loc main_v3)) : Buf (Elt F) ((c : Thread nD τ).loc main_v3) :=
  fun y : S69632x1024.Idx => if (y 0).val / 512 = z then (Scalar.ofBits .f32 0x00000000#32 : F .f32) else C y

/-- The result's tile at offsets `off`. -/
abbrev dstTile (off : Fin 2 → ℕ) (h : ∀ a, off a + S512x1024.size a ≤ S69632x1024.size a) : Memref sig .tc .hbm S512x1024 .f32 :=
  (Memref.whole main_v3).slice (Rect.unit (s := S69632x1024) off S512x1024.size h) (fun _ => rfl)

theorem dstTile_emb (off : Fin 2 → ℕ) (h) (x : S512x1024.Idx) (a : Fin 2) :
    (((dstTile off h).view.emb x : S69632x1024.Idx) a).val = off a + (x a).val :=
  ValueKit.view_emb_slice_whole_unit_val main_v3 off S512x1024.size h x a

/-- The tile's copy writes the zeros over tile `z`. -/
theorem dstTile_write (c : Dev nD) (z : ℕ) (off : Fin 2 → ℕ) (h) (ho : off = ![512 * z, 0])
    (C : Buf (Elt F) ((c : Thread nD τ).loc main_v3)) (w : S512x1024.Idx → Elt F .f32) (hw : w = k0_pay1 (F := F)) :
    (dstTile off h).view.write (Elt F) C w Finset.univ = zfill c z C := by
  funext y'
  let y : S69632x1024.Idx := y'
  show _ = if (y 0).val / 512 = z then _ else C y
  have h0 := congrFun ho 0
  have h1 := congrFun ho 1
  have y1 := (y 1).isLt
  by_cases hz : (y 0).val / 512 = z
  · rw [if_pos hz]
    have hy0 : (y 0).val - 512 * z < 512 := by omega
    have he : (dstTile off h).view.emb (ix2 ⟨(y 0).val - 512 * z, hy0⟩ (y 1) : S512x1024.Idx) = y := by
      funext a
      refine Fin.ext ?_
      match a with
      | ⟨0, _⟩ =>
        refine (dstTile_emb off h _ 0).trans ?_
        rw [h0]; show 512 * z + ((y 0).val - 512 * z) = (y 0).val; omega
      | ⟨1, _⟩ => exact (dstTile_emb off h _ 1).trans ((congrArg (· + (y 1).val) h1).trans (Nat.zero_add _))
    show (dstTile off h).view.write (Elt F) C w Finset.univ y = _
    conv_lhs => rw [← he]
    refine (View.write_emb_of_mem _ _ (Finset.mem_univ _)).trans ?_
    rw [hw]; rfl
  · rw [if_neg hz]
    refine View.write_of_not_mem _ _ _ fun hm => hz ?_
    obtain ⟨x, -, hx⟩ := Finset.mem_map.mp hm
    have e0 := dstTile_emb off h x 0
    rw [h0] at e0
    have : (y 0).val = 512 * z + (x 0).val := (congrArg (fun q : S69632x1024.Idx => (q 0).val) hx.symm).trans e0
    have hx0 : (x 0).val < 512 := (x 0).isLt
    omega

/-- Between two tiles of the zero fill: the result at `C`, the zeroed block, the fill's semaphore at zero, the waits so
far, the table, and what else (`R`). -/
def zeroAt (c : Dev nD) (R : sProp 𝕄) (q : PosShare TreeShare) (tv : S16.Idx → Elt F .i32) (C : Buf (Elt F) ((c : Thread nD τ).loc main_v3)) : sProp 𝕄 :=
  iprop(((c : Thread nD τ).loc main_v3 ↦{fullShare} C) ∗ ((c : Thread nD τ).loc cc0_scratch0 ↦{fullShare} (k0_pay1 (F := F)))
    ∗ semVal (c, .dma cc0_scratch2.sem) 0 ∗ (∃ W, owes (c : Thread nD τ) 0 W) ∗ ((c : Thread nD τ).loc main_arg0 ↦{q} tv) ∗ R)

/-- The units a tile's copy counts on its semaphore. -/
abbrev NZ : ℕ := (dstTile ![0, 0] (by decide)).view.dmaCredit

/-- What a tile's copy delivers. -/
def zeroD (c : Dev nD) (C' : Buf (Elt F) ((c : Thread nD τ).loc main_v3)) (n : Fin 1) : sProp 𝕄 :=
  iprop(((c : Thread nD τ).loc main_v3 ↦{fullShare} C') ∗ ((c : Thread nD τ).loc cc0_scratch0 ↦{fullShare} (k0_pay1 (F := F))))

instance zeroD_storable (c : Dev nD) (C') (n) : BI.Storable (upEmb : UEmb _ 𝕄) (zeroD (F := F) c C' n) := by
  unfold zeroD; infer_instance

variable (𝒱 : Variants) (bd : Option 𝒱.V)

/-- A tile's number read from the table, its check discharged. -/
theorem zero_read (R : sProp 𝕄) (c : Dev nD) (q : PosShare TreeShare) (tv : S16.Idx → Elt F .i32) (C : Buf (Elt F) ((c : Thread nD τ).loc main_v3))
    (j : Fin 16) (h2 : ∀ a, (![j.val] : Fin 1 → ℕ) a + S1.size a ≤ S16.size a)
    {chk : BitVec 32 → Prop} (dec : ∀ v, Decidable (chk v)) (hchk : chk (tv (ix1 j)))
    {α : Type} {Q : α → sProp 𝕄} (k : (v : BitVec 32) → PLift (chk v) → Prog (TpuEff nD τ sig (Elt F) Λ₀ .tc) α)
    (hk : ∀ v h, v = tv (ix1 j) → zeroAt c R q tv C ⊢ wp frame (wpE defs₀ 𝒱 (c : Thread nD τ) bd) Set.univ (k v h) Q) :
    zeroAt c R q tv C ⊢ wp frame (wpE defs₀ 𝒱 (c : Thread nD τ) bd) Set.univ
      (smemLoad (Memref.whole main_arg0) (Rect.unit (s := S16) ![j.val] S1.size h2) numel1_S1 rfl >>= fun v =>
        (Prog.lift (TpuEff.assume (chk v) (dec v)) : Prog (TpuEff nD τ sig (Elt F) Λ₀ .tc) _) >>= fun h => k v h) Q := by
  have hw : (Memref.whole main_arg0).view.readAt (Elt F) (Rect.unit (s := S16) ![j.val] S1.size h2).toLoadRect tv
      (Shape.Idx.first (numel1_S1.symm ▸ Nat.one_pos)) = tv (ix1 j) := by
    refine congrArg tv (funext fun a => Fin.ext ?_)
    match a with
    | ⟨0, _⟩ => show j.val + 1 * 0 = j.val; omega
  unfold zeroAt
  iintro ⟨HC, HZ, HS, HO, Ht, HR⟩
  iapply (wp_load 𝒱 (c : Thread nD τ) bd Set.univ (m := Memref.whole main_arg0) (Finset.subset_univ _)) $$ Ht
  iintro Ht
  iapply (wp_assume 𝒱 (c : Thread nD τ) bd Set.univ (by rw [hw]; exact hchk))
  iapply (hk _ _ hw)
  unfold zeroAt
  isplitl [HC]; · iexact HC
  isplitl [HZ]; · iexact HZ
  isplitl [HS]; · iexact HS
  isplitl [HO]; · iexact HO
  isplitl [Ht]; · iexact Ht
  iexact HR

/-- ONE TILE zeroed: its copy started and waited for. -/
theorem zero_fill (R : sProp 𝕄) (c : Dev nD) (q : PosShare TreeShare) (tv : S16.Idx → Elt F .i32) (C : Buf (Elt F) ((c : Thread nD τ).loc main_v3))
    (z : ℕ) {off : Fin 2 → ℕ} (hd : ∀ a, off a + S512x1024.size a ≤ S69632x1024.size a) (ho : off = ![512 * z, 0])
    {off' : Fin 2 → ℕ} (hd' : ∀ a, off' a + S512x1024.size a ≤ S69632x1024.size a)
    {α : Type} {Q : α → sProp 𝕄} (k : PUnit → Prog (TpuEff nD τ sig (Elt F) Λ₀ .tc) α)
    (hk : zeroAt c R q tv (zfill c z C) ⊢ wp frame (wpE defs₀ 𝒱 (c : Thread nD τ) bd) Set.univ (k ⟨⟩) Q)
    {e1 e2 e3 e4 e5} :
    zeroAt c R q tv C ⊢ wp frame (wpE defs₀ 𝒱 (c : Thread nD τ) bd) Set.univ
      (Prog.lift (TpuEff.enqueueDma (nD := nD) (Λ := Λ₀) (Val := Elt F) (p := .tc) (Memref.whole cc0_scratch0) (.here (dstTile off hd)) (.dma cc0_scratch2.sem) e1 e2 e3)
        >>= fun _ => Prog.lift (TpuEff.waitDma2 (nD := nD) (Λ := Λ₀) (Val := Elt F) (p := .tc) cc0_scratch2.sem (Memref.whole cc0_scratch0) (dstTile off' hd') e4 e5) >>= k) Q := by
  unfold zeroAt
  iintro ⟨HC, HZ, HS, ⟨%W, HO⟩, Ht⟩
  imod (Transfers.batch_alloc' (countersEmb (U := Pipeline.UD sig nD τ)) (c : Thread nD τ) () NZ (zeroD (F := F) c (zfill c z C)) (sm := .dma cc0_scratch2.sem) (E := Set.univ)) $$ HS with HB
  have hset : (Memref.whole cc0_scratch0 : Memref sig .tc .vmem S512x1024 .f32).view.set = Finset.univ := View.set_whole _
  iapply (Transfers.wp_dmaBatch (countersEmb (U := Pipeline.UD sig nD τ)) 𝒱 (c : Thread nD τ) bd (Sd := Finset.univ) (fd := C) (fs := k0_pay1 (F := F)) (q := fullShare)
    (dst := dstTile off hd) (src := Memref.whole cc0_scratch0) (sm := .dma cc0_scratch2.sem) (D := zeroD (F := F) c (zfill c z C)) (j := 0) (u := 0) () NZ rfl (Finset.subset_univ _) Nat.zero_lt_one (Nat.zero_le _)
    (by
      unfold zeroD
      rw [hset]
      exact sep_mono_left (Entails.of_eq (congrArg (fun f => ((c : Thread nD τ).loc main_v3 ↦{fullShare} f : sProp 𝕄))
        (dstTile_write c z off hd ho C _ rfl))))) $$ [HC HZ HB]
  · isplitl [HZ]; · rw [hset]; iexact HZ
    isplitl [HC]; · iexact HC
    iexact HB
  iintro HB
  iapply (Transfers.wp_waitBatchLast (countersEmb (U := Pipeline.UD sig nD τ)) 𝒱 (c : Thread nD τ) bd (dstw := dstTile off' hd') (srcw := Memref.whole cc0_scratch0) (sem := cc0_scratch2.sem)
    (D := zeroD (F := F) c (zfill c z C)) () (N := NZ) rfl (by decide) (u := 0) (by rw [Nat.mul_one, Nat.zero_add]) (W := W)) $$ [HB HO]
  · isplitl [HB]; · iexact HB
    iexact HO
  iintro ⟨HD, HS, HO⟩
  ihave HD' := (Entails.of_eq (BI.bigSep_univ_of_subsingleton (0 : Fin 1) (Φ := zeroD (F := F) c (zfill c z C)))) $$ HD
  unfold zeroD
  icases HD' with ⟨HC, HZ⟩
  iapply hk
  unfold zeroAt
  isplitl [HC]; · iexact HC
  isplitl [HZ]; · iexact HZ
  isplitl [HS]; · iexact HS
  isplitl [HO]; · iexists _; iexact HO
  iexact Ht

/-- The table's word of tile `n`. -/
def tileOf (tv : S16.Idx → Elt F .i32) (n : ℕ) : ℕ := if h : n < 16 then BitVec.toNat (tv (ix1 ⟨n, h⟩)) else 0

/-- The contents after the first `n` tiles of the table. -/
def zfills (c : Dev nD) (tv : S16.Idx → Elt F .i32) (C : Buf (Elt F) ((c : Thread nD τ).loc main_v3)) : ℕ → Buf (Elt F) ((c : Thread nD τ).loc main_v3)
  | 0 => C
  | n + 1 => zfill c (tileOf (F := F) tv n) (zfills c tv C n)

theorem mul512 {v : BitVec 32} (h : v.toNat < 136) : (Scalar.muli v 512#32).toNat = 512 * v.toNat := by
  show (v * 512#32).toNat = _
  rw [BitVec.toNat_mul]
  show v.toNat * 512 % 4294967296 = _
  omega

theorem tile_chk {v : BitVec 32} (h : v.toNat < 136) : 512 ∣ (Scalar.muli v 512#32).toNat
    ∧ ∀ a, (![(Scalar.muli v 512#32).toNat, 0] : Fin 2 → ℕ) a + S512x1024.size a ≤ S69632x1024.size a := by
  rw [mul512 h]
  refine ⟨Dvd.intro _ rfl, fun a => ?_⟩
  match a with
  | ⟨0, _⟩ => show 512 * v.toNat + 512 ≤ 69632; omega
  | ⟨1, _⟩ => exact Nat.le_refl _

theorem off_tile {a v : BitVec 32} (h : a.toNat < 136) (hv : v = a) : (![(Scalar.muli v 512#32).toNat, 0] : Fin 2 → ℕ) = ![512 * a.toNat, 0] := by
  rw [hv, mul512 h]

/-- Before the zero fill: as between two tiles, the block holding whatever it did. -/
def zeroPre (c : Dev nD) (R : sProp 𝕄) (q : PosShare TreeShare) (tv : S16.Idx → Elt F .i32) (C : Buf (Elt F) ((c : Thread nD τ).loc main_v3)) : sProp 𝕄 :=
  iprop(((c : Thread nD τ).loc main_v3 ↦{fullShare} C) ∗ (∃ f, (c : Thread nD τ).loc cc0_scratch0 ↦{fullShare} f)
      ∗ semVal (c, .dma cc0_scratch2.sem) 0 ∗ (∃ W, owes (c : Thread nD τ) 0 W) ∗ ((c : Thread nD τ).loc main_arg0 ↦{q} tv) ∗ R)

/-- The block zeroed: its contents loaded and the zeros stored whole. -/
theorem zero_start (R : sProp 𝕄) (c : Dev nD) (q : PosShare TreeShare) (tv : S16.Idx → Elt F .i32) (C : Buf (Elt F) ((c : Thread nD τ).loc main_v3))
    (h1 h2 : ∀ a, (![0, 0] : Fin 2 → ℕ) a + S512x1024.size a ≤ S512x1024.size a)
    {α : Type} {Q : α → sProp 𝕄} (k : PUnit → Prog (TpuEff nD τ sig (Elt F) Λ₀ .tc) α)
    (hk : zeroAt c R q tv C ⊢ wp frame (wpE defs₀ 𝒱 (c : Thread nD τ) bd) Set.univ (k ⟨⟩) Q) {e1 e2 e3} :
    zeroPre c R q tv C ⊢ wp frame (wpE defs₀ 𝒱 (c : Thread nD τ) bd) Set.univ
      (Prog.lift (TpuEff.load (nD := nD) (Λ := Λ₀) (Val := Elt F) (p := .tc) (Memref.whole cc0_scratch0) (Rect.unit (s := S512x1024) ![0, 0] S512x1024.size h1).toLoadRect e1) >>= fun _ =>
        Prog.lift (TpuEff.store (nD := nD) (Λ := Λ₀) (Val := Elt F) (p := .tc) (Memref.whole cc0_scratch0) (Rect.unit (s := S512x1024) ![0, 0] S512x1024.size h2) (k0_pay1 (F := F)) Finset.univ e2 e3) >>= k) Q := by
  unfold zeroPre
  iintro ⟨HC, ⟨%f, HZ⟩, HS, HO, Ht⟩
  iapply (wp_load 𝒱 (c : Thread nD τ) bd Set.univ (m := Memref.whole cc0_scratch0) (Finset.subset_univ _)) $$ HZ
  iintro HZ
  iapply (wp_store (defs := defs₀) 𝒱 (c : Thread nD τ) bd Set.univ (m := Memref.whole cc0_scratch0) (r := Rect.unit (s := S512x1024) ![0, 0] S512x1024.size h2)
    (w := k0_pay1 (F := F)) (Mk := Finset.univ) (f := f) (S := Finset.univ) (Finset.subset_univ _)) $$ HZ
  iintro HZ
  ihave HZ' := (Entails.of_eq (congrArg (fun g => ((c : Thread nD τ).loc cc0_scratch0 ↦{fullShare} g : sProp 𝕄))
    (Memref.write_access_unit_zero_univ (Elt F) cc0_scratch0 (by funext a; match a with | ⟨0, _⟩ => rfl | ⟨1, _⟩ => rfl) h2 f (k0_pay1 (F := F))))) $$ HZ
  iapply hk
  unfold zeroAt
  isplitl [HC]; · iexact HC
  isplitl [HZ']; · iexact HZ'
  isplitl [HS]; · iexact HS
  isplitl [HO]; · iexact HO
  iexact Ht

set_option maxRecDepth 16384 in
set_option maxHeartbeats 4000000 in
/-- Part 1 of the zero fill. -/
theorem zero_part1 (R : sProp 𝕄) (c : Dev nD) (i : grid0.Coords) (harg1) (arg2 harg2) (arg3 harg3) (harg4) (harg5) (q : PosShare TreeShare)
    {tv : S16.Idx → Elt F .i32} (C : Buf (Elt F) ((c : Thread nD τ).loc main_v3)) (T : ∀ j, BitVec.toNat (tv (ix1 j)) < 136)
    (h1 : k0_cond1 i = 1#1) {Q}
    (hk : ∀ v h k, v = tv (ix1 4) → zeroAt c R q tv (zfills c tv C 4) ⊢ Q ⟨v, h, k⟩) :
    zeroPre c R q tv C ⊢ wp frame (wpE defs₀ 𝒱 (c : Thread nD τ) bd) Set.univ
      (k0_part1 (F := F) i (Memref.whole main_arg0) harg1 arg2 harg2 arg3 harg3 (Memref.whole main_v3) harg4 (Memref.whole cc0_scratch0) harg5 cc0_scratch1 cc0_scratch2 h1) Q := by
  rw [k0_part1_eq_skeleton]
  unfold k0_part1_skel
  refine zero_start 𝒱 bd R c q tv C _ _ _ ?_
  refine zero_read 𝒱 bd R c q tv (zfills c tv C 0) 0 _ _ ⟨fun _ => (tile_chk (T 0)).1, fun _ => (tile_chk (T 0)).2⟩ _ fun v0 h0 hv0 => ?_
  refine zero_fill 𝒱 bd R c q tv (zfills c tv C 0) (BitVec.toNat (tv (ix1 0))) _ (off_tile (T 0) hv0) _ _ ?_
  refine zero_read 𝒱 bd R c q tv (zfills c tv C 1) 1 _ _ ⟨fun _ => (tile_chk (T 1)).1, fun _ => (tile_chk (T 1)).2⟩ _ fun v1 h1 hv1 => ?_
  refine zero_fill 𝒱 bd R c q tv (zfills c tv C 1) (BitVec.toNat (tv (ix1 1))) _ (off_tile (T 1) hv1) _ _ ?_
  refine zero_read 𝒱 bd R c q tv (zfills c tv C 2) 2 _ _ ⟨fun _ => (tile_chk (T 2)).1, fun _ => (tile_chk (T 2)).2⟩ _ fun v2 h2 hv2 => ?_
  refine zero_fill 𝒱 bd R c q tv (zfills c tv C 2) (BitVec.toNat (tv (ix1 2))) _ (off_tile (T 2) hv2) _ _ ?_
  refine zero_read 𝒱 bd R c q tv (zfills c tv C 3) 3 _ _ ⟨fun _ => (tile_chk (T 3)).1, fun _ => (tile_chk (T 3)).2⟩ _ fun v3 h3 hv3 => ?_
  refine zero_fill 𝒱 bd R c q tv (zfills c tv C 3) (BitVec.toNat (tv (ix1 3))) _ (off_tile (T 3) hv3) _ _ ?_
  refine zero_read 𝒱 bd R c q tv (zfills c tv C 4) 4 _ _ ⟨fun _ => (tile_chk (T 4)).1, fun _ => (tile_chk (T 4)).2⟩ _ fun v4 h4 hv4 => ?_
  exact (hk _ _ _ hv4).trans (le_wp_ret _ _ _ _ _)

set_option maxRecDepth 16384 in
set_option maxHeartbeats 4000000 in
/-- Part 2 of the zero fill. -/
theorem zero_part2 (R : sProp 𝕄) (c : Dev nD) (i : grid0.Coords) (harg1) (arg2 harg2) (arg3 harg3) (harg4) (harg5) (q : PosShare TreeShare)
    {tv : S16.Idx → Elt F .i32} (C : Buf (Elt F) ((c : Thread nD τ).loc main_v3)) (T : ∀ j, BitVec.toNat (tv (ix1 j)) < 136)
    (h1 : k0_cond1 i = 1#1) (v4 : BitVec 32) (hw : k0_chk5 i v4) (hv4 : v4 = tv (ix1 4)) (c5 : BitVec 32) {Q}
    (hk : ∀ v h k, v = tv (ix1 9) → zeroAt c R q tv (zfills c tv C 9) ⊢ Q ⟨v, h, k⟩) :
    zeroAt c R q tv (zfills c tv C 4) ⊢ wp frame (wpE defs₀ 𝒱 (c : Thread nD τ) bd) Set.univ
      (k0_part2 (F := F) i (Memref.whole main_arg0) harg1 arg2 harg2 arg3 harg3 (Memref.whole main_v3) harg4 (Memref.whole cc0_scratch0) harg5 cc0_scratch1 cc0_scratch2 h1 v4 hw c5) Q := by
  rw [k0_part2_eq_skeleton]
  unfold k0_part2_skel
  refine zero_fill 𝒱 bd R c q tv (zfills c tv C 4) (BitVec.toNat (tv (ix1 4))) _ (off_tile (T 4) hv4) _ _ ?_
  refine zero_read 𝒱 bd R c q tv (zfills c tv C 5) 5 _ _ ⟨fun _ => (tile_chk (T 5)).1, fun _ => (tile_chk (T 5)).2⟩ _ fun v5 h5 hv5 => ?_
  refine zero_fill 𝒱 bd R c q tv (zfills c tv C 5) (BitVec.toNat (tv (ix1 5))) _ (off_tile (T 5) hv5) _ _ ?_
  refine zero_read 𝒱 bd R c q tv (zfills c tv C 6) 6 _ _ ⟨fun _ => (tile_chk (T 6)).1, fun _ => (tile_chk (T 6)).2⟩ _ fun v6 h6 hv6 => ?_
  refine zero_fill 𝒱 bd R c q tv (zfills c tv C 6) (BitVec.toNat (tv (ix1 6))) _ (off_tile (T 6) hv6) _ _ ?_
  refine zero_read 𝒱 bd R c q tv (zfills c tv C 7) 7 _ _ ⟨fun _ => (tile_chk (T 7)).1, fun _ => (tile_chk (T 7)).2⟩ _ fun v7 h7 hv7 => ?_
  refine zero_fill 𝒱 bd R c q tv (zfills c tv C 7) (BitVec.toNat (tv (ix1 7))) _ (off_tile (T 7) hv7) _ _ ?_
  refine zero_read 𝒱 bd R c q tv (zfills c tv C 8) 8 _ _ ⟨fun _ => (tile_chk (T 8)).1, fun _ => (tile_chk (T 8)).2⟩ _ fun v8 h8 hv8 => ?_
  refine zero_fill 𝒱 bd R c q tv (zfills c tv C 8) (BitVec.toNat (tv (ix1 8))) _ (off_tile (T 8) hv8) _ _ ?_
  refine zero_read 𝒱 bd R c q tv (zfills c tv C 9) 9 _ _ ⟨fun _ => (tile_chk (T 9)).1, fun _ => (tile_chk (T 9)).2⟩ _ fun v9 h9 hv9 => ?_
  exact (hk _ _ _ hv9).trans (le_wp_ret _ _ _ _ _)

set_option maxRecDepth 16384 in
set_option maxHeartbeats 4000000 in
/-- Part 3 of the zero fill. -/
theorem zero_part3 (R : sProp 𝕄) (c : Dev nD) (i : grid0.Coords) (harg1) (arg2 harg2) (arg3 harg3) (harg4) (harg5) (q : PosShare TreeShare)
    {tv : S16.Idx → Elt F .i32} (C : Buf (Elt F) ((c : Thread nD τ).loc main_v3)) (T : ∀ j, BitVec.toNat (tv (ix1 j)) < 136)
    (h1 : k0_cond1 i = 1#1) (v9 : BitVec 32) (hw : k0_chk10 i v9) (hv9 : v9 = tv (ix1 9)) (c5 : BitVec 32) {Q}
    (hk : ∀ v h k, v = tv (ix1 14) → zeroAt c R q tv (zfills c tv C 14) ⊢ Q ⟨v, h, k⟩) :
    zeroAt c R q tv (zfills c tv C 9) ⊢ wp frame (wpE defs₀ 𝒱 (c : Thread nD τ) bd) Set.univ
      (k0_part3 (F := F) i (Memref.whole main_arg0) harg1 arg2 harg2 arg3 harg3 (Memref.whole main_v3) harg4 (Memref.whole cc0_scratch0) harg5 cc0_scratch1 cc0_scratch2 h1 v9 hw c5) Q := by
  rw [k0_part3_eq_skeleton]
  unfold k0_part3_skel
  refine zero_fill 𝒱 bd R c q tv (zfills c tv C 9) (BitVec.toNat (tv (ix1 9))) _ (off_tile (T 9) hv9) _ _ ?_
  refine zero_read 𝒱 bd R c q tv (zfills c tv C 10) 10 _ _ ⟨fun _ => (tile_chk (T 10)).1, fun _ => (tile_chk (T 10)).2⟩ _ fun v10 h10 hv10 => ?_
  refine zero_fill 𝒱 bd R c q tv (zfills c tv C 10) (BitVec.toNat (tv (ix1 10))) _ (off_tile (T 10) hv10) _ _ ?_
  refine zero_read 𝒱 bd R c q tv (zfills c tv C 11) 11 _ _ ⟨fun _ => (tile_chk (T 11)).1, fun _ => (tile_chk (T 11)).2⟩ _ fun v11 h11 hv11 => ?_
  refine zero_fill 𝒱 bd R c q tv (zfills c tv C 11) (BitVec.toNat (tv (ix1 11))) _ (off_tile (T 11) hv11) _ _ ?_
  refine zero_read 𝒱 bd R c q tv (zfills c tv C 12) 12 _ _ ⟨fun _ => (tile_chk (T 12)).1, fun _ => (tile_chk (T 12)).2⟩ _ fun v12 h12 hv12 => ?_
  refine zero_fill 𝒱 bd R c q tv (zfills c tv C 12) (BitVec.toNat (tv (ix1 12))) _ (off_tile (T 12) hv12) _ _ ?_
  refine zero_read 𝒱 bd R c q tv (zfills c tv C 13) 13 _ _ ⟨fun _ => (tile_chk (T 13)).1, fun _ => (tile_chk (T 13)).2⟩ _ fun v13 h13 hv13 => ?_
  refine zero_fill 𝒱 bd R c q tv (zfills c tv C 13) (BitVec.toNat (tv (ix1 13))) _ (off_tile (T 13) hv13) _ _ ?_
  refine zero_read 𝒱 bd R c q tv (zfills c tv C 14) 14 _ _ ⟨fun _ => (tile_chk (T 14)).1, fun _ => (tile_chk (T 14)).2⟩ _ fun v14 h14 hv14 => ?_
  exact (hk _ _ _ hv14).trans (le_wp_ret _ _ _ _ _)

end Cert.KernelIdeal.Dispatch

end
-- ==== Proof.Body.lean ====
/- One grid point of the dispatch: the zero fill at the first point, the 2048 row copies of the point's token block issued
   on one semaphore, the wait for all of them, and what the result holds after. -/
module

public import proofs.«01_k».proof.Proof.Zero

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The rows of a table of places: transfer `n` goes to the row the word at `(n / 16, n % 16)` names. -/
def rho (w : S128x16.Idx → Elt F .i32) (n : Fin 2048) : ℕ :=
  BitVec.toNat (w (ix2 (⟨n.val / 16, by omega⟩ : Fin 128) (⟨n.val % 16, by omega⟩ : Fin 16)))

open Classical in
/-- The result after a point's row copies: a transfer's row holds its token's row, the others what they did. -/
def rowsNew (c : Dev nD) (w : S128x16.Idx → Elt F .i32) (X : S128x8x1024.Idx → Elt F .f32)
    (C : Buf (Elt F) ((c : Thread nD τ).loc main_v3)) : Buf (Elt F) ((c : Thread nD τ).loc main_v3) :=
  fun y : S69632x1024.Idx => if h : ∃ n : Fin 2048, (y 0).val = rho w n then
    X (ix3 (⟨h.choose.val / 16, by have := h.choose.isLt; omega⟩ : Fin 128) (⟨h.choose.val % 16 / 2, by omega⟩ : Fin 8) (y 1)) else C y

theorem rowsNew_hit (c : Dev nD) {w : S128x16.Idx → Elt F .i32} (hi : Function.Injective (rho w)) (X : S128x8x1024.Idx → Elt F .f32)
    (C : Buf (Elt F) ((c : Thread nD τ).loc main_v3)) (n : Fin 2048) (y : S69632x1024.Idx) (hy : (y 0).val = rho w n) :
    rowsNew c w X C y = X (ix3 (⟨n.val / 16, by omega⟩ : Fin 128) (⟨n.val % 16 / 2, by omega⟩ : Fin 8) (y 1)) := by
  have h : ∃ n : Fin 2048, (y 0).val = rho w n := ⟨n, hy⟩
  have hn : h.choose = n := hi (h.choose_spec.symm.trans hy)
  unfold rowsNew
  rw [dif_pos h]
  subst hn
  rfl

theorem rowsNew_miss (c : Dev nD) (w : S128x16.Idx → Elt F .i32) (X : S128x8x1024.Idx → Elt F .f32)
    (C : Buf (Elt F) ((c : Thread nD τ).loc main_v3)) (y : S69632x1024.Idx) (hy : ∀ n : Fin 2048, (y 0).val ≠ rho w n) :
    rowsNew c w X C y = C y := dif_neg fun ⟨n, h⟩ => hy n h

theorem tables (c : Dev nD) (w : S128x16.Idx → Elt F .i32) (X : S128x8x1024.Idx → Elt F .f32)
    (C : Buf (Elt F) ((c : Thread nD τ).loc main_v3)) (hi : Function.Injective (rho w)) (hlt : ∀ g j, BitVec.toNat (w (ix2 g j)) < 69632) :
    Tables c w X (rho w) (rowsNew c w X C) where
  at_ g j := by
    unfold rho
    congr 3 <;> refine Fin.ext ?_
    · show g.val = (16 * g.val + j.val) / 16; omega
    · show j.val = (16 * g.val + j.val) % 16; omega
  lt := hlt
  new n y hy := rowsNew_hit c hi X C n y hy

/-! ## Dealing the result and the block out to the transfers -/

/-- The rows the transfers write. -/
def rowsSet (c : Dev nD) (ρ : Fin 2048 → ℕ) : Finset (Idx ((c : Thread nD τ).loc main_v3)) :=
  (Finset.univ : Finset (Fin 2048)).biUnion fun n => rowSet c (ρ n)

theorem mem_rowsSet (c : Dev nD) (ρ : Fin 2048 → ℕ) (n : Fin 2048) (y : S69632x1024.Idx) (h : (y 0).val = ρ n) : y ∈ rowsSet c ρ := by
  unfold rowsSet
  rw [Finset.mem_biUnion]
  exact ⟨n, Finset.mem_univ _, (mem_rowSet c _ y).mpr h⟩

theorem notMem_of_rest {α : Type} [DecidableEq α] [Fintype α] {S : Finset α} {y : α} (h : y ∈ Finset.univ \ S) : y ∉ S :=
  (Finset.mem_sdiff.mp h).2

set_option maxRecDepth 65536 in
theorem off_rowsSet (c : Dev nD) (ρ : Fin 2048 → ℕ) (n : Fin 2048) (y : Idx ((c : Thread nD τ).loc main_v3))
    (h : y ∈ Finset.univ \ rowsSet c ρ) : ((y : S69632x1024.Idx) 0).val ≠ ρ n := by
  intro hn
  exact notMem_of_rest h (mem_rowsSet c ρ n y hn)

/-- A transfer's row of the result; -/
def rowTok (c : Dev nD) (ρ : Fin 2048 → ℕ) (C : Buf (Elt F) ((c : Thread nD τ).loc main_v3)) (n : Fin 2048) : sProp 𝕄 :=
  (c : Thread nD τ).loc main_v3 ↦[rowSet c (ρ n)]{fullShare} C

/-- its share of its source row; -/
def srcTok (c : Dev nD) (arg3 : Memref sig .tc .vmem S128x8x1024 .f32) (X : S128x8x1024.Idx → Elt F .f32) (n : Fin 2048) : sProp 𝕄 :=
  arg3.view.loc (c : Thread nD τ) ↦[(srcOf arg3 n).view.set]{Transfers.shareTokN fullShare n.val} arg3.view.rep X

/-- and the same share of the block's other rows. -/
def restTok (c : Dev nD) (arg3 : Memref sig .tc .vmem S128x8x1024 .f32) (X : S128x8x1024.Idx → Elt F .f32) (n : Fin 2048) : sProp 𝕄 :=
  arg3.view.loc (c : Thread nD τ) ↦[arg3.view.set \ (srcOf arg3 n).view.set]{Transfers.shareTokN fullShare n.val} arg3.view.rep X

/-- What stays with the core while the transfers run. -/
def keep (c : Dev nD) (arg3 : Memref sig .tc .vmem S128x8x1024 .f32) (X : S128x8x1024.Idx → Elt F .f32) (ρ : Fin 2048 → ℕ)
    (C : Buf (Elt F) ((c : Thread nD τ).loc main_v3)) : sProp 𝕄 :=
  iprop(((c : Thread nD τ).loc main_v3 ↦[Finset.univ \ rowsSet c ρ]{fullShare} C)
    ∗ (arg3.view.loc (c : Thread nD τ) ↦[arg3.view.set]{Transfers.shareDrop fullShare 2048} arg3.view.rep X)
    ∗ bigSep Finset.univ (restTok (F := F) c arg3 X))

theorem srcOf_sub (arg3 : Memref sig .tc .vmem S128x8x1024 .f32) (n : Fin 2048) : (srcOf arg3 n).view.set ⊆ arg3.view.set := by
  intro y hy
  obtain ⟨x, -, rfl⟩ := Finset.mem_map.mp hy
  exact View.emb_mem_set _ _

theorem deal (c : Dev nD) (arg3 : Memref sig .tc .vmem S128x8x1024 .f32) (X : S128x8x1024.Idx → Elt F .f32) {ρ : Fin 2048 → ℕ}
    (hi : Function.Injective ρ) (C : Buf (Elt F) ((c : Thread nD τ).loc main_v3)) :
    iprop(((c : Thread nD τ).loc main_v3 ↦{fullShare} C) ∗ owns (c : Thread nD τ) arg3 fullShare X)
      ⊣⊢ (iprop(keep c arg3 X ρ C ∗ bigSep Finset.univ (piece (F := F) c arg3 X ρ C)) : sProp 𝕄) := by
  have hd : Pairwise fun n m : Fin 2048 => Disjoint (rowSet c (ρ n)) (rowSet c (ρ m)) := by
    intro n m hnm
    refine Finset.disjoint_left.mpr fun y hy hy' => hnm (hi ?_)
    exact ((mem_rowSet c _ y).mp hy).symm.trans ((mem_rowSet c _ y).mp hy')
  have e1 : ((c : Thread nD τ).loc main_v3 ↦{fullShare} C : sProp 𝕄)
      ⊣⊢ iprop(bigSep Finset.univ (rowTok (F := F) c ρ C) ∗ ((c : Thread nD τ).loc main_v3 ↦[Finset.univ \ rowsSet c ρ]{fullShare} C)) := by
    rw [show (bigSep Finset.univ (rowTok (F := F) c ρ C) : sProp 𝕄) = _ from (Ring.pointsTo_sub_blocks (fun n => rowSet c (ρ n)) hd (rowsSet c ρ) rfl C).symm]
    exact pointsTo_split_subset (Finset.subset_univ _)
  have e2 : (owns (c : Thread nD τ) arg3 fullShare X : sProp 𝕄)
      ⊣⊢ iprop((arg3.view.loc (c : Thread nD τ) ↦[arg3.view.set]{Transfers.shareDrop fullShare 2048} arg3.view.rep X)
        ∗ bigSep Finset.univ (srcTok (F := F) c arg3 X)
        ∗ bigSep Finset.univ (restTok (F := F) c arg3 X)) := by
    rw [owns_eq_rep]
    have e3 : (bigSep Finset.univ (fun n : Fin 2048 => iprop(srcTok (F := F) c arg3 X n ∗ restTok (F := F) c arg3 X n)) : sProp 𝕄)
        = bigSep Finset.univ (fun n : Fin 2048 => (arg3.view.loc (c : Thread nD τ) ↦[arg3.view.set]{Transfers.shareTok fullShare 2048 n} arg3.view.rep X : sProp 𝕄)) :=
      BI.bigSep_congr fun n _ => Idealize.SL.BI.Entails.antisymm (pointsTo_split_subset (srcOf_sub arg3 n)).2 (pointsTo_split_subset (srcOf_sub arg3 n)).1
    have e5 : (iprop(bigSep Finset.univ (srcTok (F := F) c arg3 X) ∗ bigSep Finset.univ (restTok (F := F) c arg3 X)) : sProp 𝕄)
        = bigSep Finset.univ (fun n : Fin 2048 => iprop(srcTok (F := F) c arg3 X n ∗ restTok (F := F) c arg3 X n)) := (BI.bigSep_sep _ _ _).symm
    rw [e5, e3]
    exact Transfers.pointsTo_toks fullShare 2048
  have e4 : (bigSep Finset.univ (piece (F := F) c arg3 X ρ C) : sProp 𝕄)
      = iprop(bigSep Finset.univ (rowTok (F := F) c ρ C)
        ∗ bigSep Finset.univ (srcTok (F := F) c arg3 X)) := BI.bigSep_sep _ _ _
  rw [e4]
  unfold keep
  constructor
  · iintro ⟨HC, HX⟩
    ihave HC' := e1.1 $$ HC
    ihave HX' := e2.1 $$ HX
    icases HC' with ⟨HCr, HCk⟩
    icases HX' with ⟨HXd, HXs, HXk⟩
    isplitl [HCk HXd HXk]
    · isplitl [HCk]; · iexact HCk
      isplitl [HXd] <;> iassumption
    isplitl [HCr] <;> iassumption
  · iintro ⟨⟨HCk, HXd, HXk⟩, HCr, HXs⟩
    isplitl [HCk HCr]
    · iapply e1.2
      isplitl [HCr] <;> iassumption
    · iapply e2.2
      isplitl [HXd]; · iexact HXd
      isplitl [HXs] <;> iassumption

set_option maxRecDepth 65536 in
/-- Off the transfers' rows nothing changed. -/
theorem keep_new (c : Dev nD) (arg3 : Memref sig .tc .vmem S128x8x1024 .f32) (w : S128x16.Idx → Elt F .i32) (X : S128x8x1024.Idx → Elt F .f32)
    (C : Buf (Elt F) ((c : Thread nD τ).loc main_v3)) : (keep c arg3 X (rho w) C : sProp 𝕄) = keep c arg3 X (rho w) (rowsNew c w X C) := by
  unfold keep
  rw [show ((c : Thread nD τ).loc main_v3 ↦[Finset.univ \ rowsSet c (rho w)]{fullShare} C : sProp 𝕄)
      = ((c : Thread nD τ).loc main_v3 ↦[Finset.univ \ rowsSet c (rho w)]{fullShare} rowsNew c w X C) from
    pointsTo_congr fun y hy => (rowsNew_miss c w X C y fun n => off_rowsSet c _ n y hy).symm]

/-! ## The body -/

variable (𝒱 : Variants) (bd : Option 𝒱.V)

/-- Around a grid point: the result at `C`, the block of zeros, the two semaphores at zero, the waits, the table of tiles,
the point's places and its token block. -/
def pointAt (c : Dev nD) (arg2 : Memref sig .tc .smem S128x16 .i32) (arg3 : Memref sig .tc .vmem S128x8x1024 .f32) (q : PosShare TreeShare)
    (tv : S16.Idx → Elt F .i32) (w : S128x16.Idx → Elt F .i32) (X : S128x8x1024.Idx → Elt F .f32) (C : Buf (Elt F) ((c : Thread nD τ).loc main_v3)) : sProp 𝕄 :=
  zeroPre c iprop(semVal (c, .dma cc0_scratch1.sem) 0 ∗ owns (c : Thread nD τ) arg2 fullShare w ∗ owns (c : Thread nD τ) arg3 fullShare X) q tv C

theorem zeroPre_of_at (c : Dev nD) (R : sProp 𝕄) (q : PosShare TreeShare) (tv : S16.Idx → Elt F .i32) (C : Buf (Elt F) ((c : Thread nD τ).loc main_v3)) :
    (zeroAt c R q tv C : sProp 𝕄) ⊢ zeroPre c R q tv C := by
  unfold zeroAt zeroPre
  iintro ⟨HC, HZ, H⟩
  isplitl [HC]; · iexact HC
  isplitl [HZ]; · iexists _; iexact HZ
  iexact H

set_option maxRecDepth 16384 in
set_option maxHeartbeats 4000000 in
/-- The zero fill: sixteen tiles. -/
theorem zero_all (R : sProp 𝕄) (c : Dev nD) (i : grid0.Coords) (harg1) (arg2 harg2) (arg3 harg3) (harg4) (harg5) (q : PosShare TreeShare)
    {tv : S16.Idx → Elt F .i32} (C : Buf (Elt F) ((c : Thread nD τ).loc main_v3)) (T : ∀ j, BitVec.toNat (tv (ix1 j)) < 136)
    (h1 : k0_cond1 i = 1#1)
    {Q : PUnit → sProp 𝕄} (k : PUnit → Prog (TpuEff nD τ sig (Elt F) Λ₀ .tc) PUnit)
    (hk : zeroPre c R q tv (zfills c tv C 16) ⊢ wp frame (wpE defs₀ 𝒱 (c : Thread nD τ) bd) Set.univ (k ⟨⟩) Q) :
    zeroPre c R q tv C ⊢ wp frame (wpE defs₀ 𝒱 (c : Thread nD τ) bd) Set.univ
      (do
        let ⟨v29, k0_hw5, c512_i32_19⟩ : Σ' (v29 : Elt F .i32) (k0_hw5 : k0_chk5 i v29), BitVec 32 ← k0_part1 (F := F) i (Memref.whole main_arg0) harg1 arg2 harg2 arg3 harg3 (Memref.whole main_v3) harg4 (Memref.whole cc0_scratch0) harg5 cc0_scratch1 cc0_scratch2 h1
        let ⟨v54, k0_hw10, c512_i32_34⟩ : Σ' (v54 : Elt F .i32) (k0_hw10 : k0_chk10 i v54), BitVec 32 ← k0_part2 (F := F) i (Memref.whole main_arg0) harg1 arg2 harg2 arg3 harg3 (Memref.whole main_v3) harg4 (Memref.whole cc0_scratch0) harg5 cc0_scratch1 cc0_scratch2 h1 v29 k0_hw5 c512_i32_19
        let ⟨v79, k0_hw15, c512_i32_49⟩ : Σ' (v79 : Elt F .i32) (k0_hw15 : k0_chk15 i v79), BitVec 32 ← k0_part3 (F := F) i (Memref.whole main_arg0) harg1 arg2 harg2 arg3 harg3 (Memref.whole main_v3) harg4 (Memref.whole cc0_scratch0) harg5 cc0_scratch1 cc0_scratch2 h1 v54 k0_hw10 c512_i32_34
        Prog.lift (.enqueueDma (Memref.whole cc0_scratch0) (.here (dstTile (k0_off15 v79) (k0_off15_inb i v79 k0_hw15 h1))) (.dma cc0_scratch2.sem) harg5.wordExact (View.wordExact_bits rfl) ⟨Or.inl rfl, trivial⟩)
        Prog.lift (.waitDma2 cc0_scratch2.sem (Memref.whole cc0_scratch0) (dstTile (k0_off15 v79) (k0_off15_inb i v79 k0_hw15 h1)) harg5.wordExact (View.wordExact_bits rfl))
        let v84 : Elt F .i32 ← smemLoad (Memref.whole main_arg0) (Rect.unit (s := S16) ![15] S1.size inb_S16_S1_15) numel1_S1 rfl
        have k0_hw16 : k0_chk16 i v84 := (← Prog.lift (TpuEff.assume (k0_chk16 i v84) (k0_chk16.dec i v84))).down
        Prog.lift (.enqueueDma (Memref.whole cc0_scratch0) (.here (dstTile (k0_off16 v84) (k0_off16_inb i v84 k0_hw16 h1))) (.dma cc0_scratch2.sem) harg5.wordExact (View.wordExact_bits rfl) ⟨Or.inl rfl, trivial⟩)
        Prog.lift (.waitDma2 cc0_scratch2.sem (Memref.whole cc0_scratch0) (dstTile (k0_off16 v84) (k0_off16_inb i v84 k0_hw16 h1)) harg5.wordExact (View.wordExact_bits rfl))
        k PUnit.unit) Q := by
  rw [wp_bind]
  refine zero_part1 𝒱 bd R c i harg1 arg2 harg2 arg3 harg3 harg4 harg5 q C T h1 fun v4 hw4 k4 hv4 => ?_
  dsimp only
  rw [wp_bind]
  refine zero_part2 𝒱 bd R c i harg1 arg2 harg2 arg3 harg3 harg4 harg5 q C T h1 v4 hw4 hv4 k4 fun v9 hw9 k9 hv9 => ?_
  dsimp only
  rw [wp_bind]
  refine zero_part3 𝒱 bd R c i harg1 arg2 harg2 arg3 harg3 harg4 harg5 q C T h1 v9 hw9 hv9 k9 fun v14 hw14 k14 hv14 => ?_
  dsimp only
  refine zero_fill 𝒱 bd R c q tv (zfills c tv C 14) (BitVec.toNat (tv (ix1 14))) _ (off_tile (T 14) hv14) _ _ ?_
  refine zero_read 𝒱 bd R c q tv (zfills c tv C 15) 15 _ _ ⟨fun _ => (tile_chk (T 15)).1, fun _ => (tile_chk (T 15)).2⟩ _ fun v15 h15 hv15 => ?_
  refine zero_fill 𝒱 bd R c q tv (zfills c tv C 15) (BitVec.toNat (tv (ix1 15))) _ (off_tile (T 15) hv15) _ _ ?_
  exact (zeroPre_of_at c R q tv (zfills c tv C 16)).trans hk

/-- The result after the zero fill of a point: the first point's only. -/
def zeroed (c : Dev nD) (i : grid0.Coords) (tv : S16.Idx → Elt F .i32) (C : Buf (Elt F) ((c : Thread nD τ).loc main_v3)) : Buf (Elt F) ((c : Thread nD τ).loc main_v3) :=
  if k0_cond1 i = 1#1 then zfills c tv C 16 else C

set_option maxRecDepth 16384 in
set_option maxHeartbeats 4000000 in
/-- The two loops of a point. -/
theorem loops (c : Dev nD) (i : grid0.Coords) (arg1 harg1) (arg2 : Memref sig .tc .smem S128x16 .i32) (harg2) (arg3 : Memref sig .tc .vmem S128x8x1024 .f32) (harg3) (harg4) (arg5 harg5)
    (w : S128x16.Idx → Elt F .i32) (X : S128x8x1024.Idx → Elt F .f32) (C : Buf (Elt F) ((c : Thread nD τ).loc main_v3))
    (hi : Function.Injective (rho w)) (hlt : ∀ g j, BitVec.toNat (w (ix2 g j)) < 69632) :
    (iprop(((c : Thread nD τ).loc main_v3 ↦{fullShare} C) ∗ semVal (c, .dma cc0_scratch1.sem) 0 ∗ (∃ W, owes (c : Thread nD τ) 0 W)
        ∗ owns (c : Thread nD τ) arg2 fullShare w ∗ owns (c : Thread nD τ) arg3 fullShare X) : sProp 𝕄)
      ⊢ wp frame (wpE defs₀ 𝒱 (c : Thread nD τ) bd) Set.univ
        (Scf.Loop.for k0_t1_loop k0_t1_ok ⟨⟩ (k0_t1_body (F := F) i arg1 harg1 arg2 harg2 arg3 harg3 (Memref.whole main_v3) harg4 arg5 harg5 cc0_scratch1 cc0_scratch2) >>= fun _ =>
          Scf.Loop.for k0_t2_loop k0_t2_ok ⟨⟩ (k0_t2_body (F := F) i arg1 harg1 arg2 harg2 arg3 harg3 (Memref.whole main_v3) harg4 arg5 harg5 cc0_scratch1 cc0_scratch2) >>= fun _ => pure ⟨⟩)
        fun _ : PUnit => iprop(((c : Thread nD τ).loc main_v3 ↦{fullShare} rowsNew c w X C) ∗ semVal (c, .dma cc0_scratch1.sem) 0 ∗ (∃ W, owes (c : Thread nD τ) 0 W)
        ∗ owns (c : Thread nD τ) arg2 fullShare w ∗ owns (c : Thread nD τ) arg3 fullShare X) := by
  have T := tables c w X C hi hlt
  iintro ⟨HC, HS, HO, Ht, HX⟩
  ihave HD := (deal c arg3 X hi C).1 $$ [HC HX]
  · isplitl [HC] <;> iassumption
  icases HD with ⟨HK, HP⟩
  imod (Transfers.batch_alloc' (countersEmb (U := Pipeline.UD sig nD τ)) (c : Thread nD τ) () NN (piece (F := F) c arg3 X (rho w) (rowsNew c w X C)) (sm := .dma cc0_scratch1.sem) (E := Set.univ)) $$ HS with HB
  ihave Ht' := (rep_of_owns (c : Thread nD τ) arg2 fullShare w) $$ Ht
  iapply (Scf.wp_for_bind frame (wpE defs₀ 𝒱 (c : Thread nD τ) bd) Set.univ k0_t1_loop.lb k0_t1_loop.ub k0_t1_loop.st k0_t1_ok ⟨⟩ _
    (fun k _ => issueAt c arg2 arg3 w X (rho w) C (rowsNew c w X C) (16 * k))
    (fun k _ => issue_trip 𝒱 bd c i arg1 harg1 arg2 harg2 arg3 harg3 harg4 arg5 harg5 C T k)) $$ [HB HP Ht']
  · unfold issueAt
    isplitl [HB]; · iexact HB
    isplitl [HP]; · rw [Nat.mul_zero, ← Transfers.bigSep_pending_zero]; iexact HP
    iexact Ht'
  iintro %a HI
  have ht1 : Scf.trips k0_t1_loop.lb k0_t1_loop.ub k0_t1_loop.st = 128 := by decide +kernel
  have ht2 : Scf.trips k0_t2_loop.lb k0_t2_loop.ub k0_t2_loop.st = 128 := by decide +kernel
  rw [ht1]
  unfold issueAt
  icases HI with ⟨HB, -, Ht⟩
  iapply (Scf.wp_for_bind frame (wpE defs₀ 𝒱 (c : Thread nD τ) bd) Set.univ k0_t2_loop.lb k0_t2_loop.ub k0_t2_loop.st k0_t2_ok ⟨⟩ _
    (fun k _ => drainAt c arg3 X (rho w) (rowsNew c w X C) (16 * k))
    (fun k _ => drain_trip 𝒱 bd c i arg1 harg1 arg2 harg2 arg3 harg3 harg4 arg5 harg5 k)) $$ [HB HO]
  · unfold drainAt
    isplitl [HB]
    · rw [Nat.mul_zero, Nat.zero_mul]; iexact HB
    iexact HO
  iintro %a2 HI
  rw [ht2]
  unfold drainAt
  icases HI with ⟨HB, HO⟩
  rw [show 16 * 128 * NN = NN * 2048 from Nat.mul_comm _ _]
  imod (Transfers.batch_collect' (countersEmb (U := Pipeline.UD sig nD τ)) (c : Thread nD τ) (show 0 < NN by decide)) $$ HB with ⟨HD, HS⟩
  ihave HK := (Entails.of_eq (keep_new c arg3 w X C)) $$ HK
  ihave HD := (deal c arg3 X hi (rowsNew c w X C)).2 $$ [HK HD]
  · isplitl [HK] <;> iassumption
  icases HD with ⟨HC, HX⟩
  iapply (le_wp_ret frame (wpE defs₀ 𝒱 (c : Thread nD τ) bd) Set.univ PUnit.unit _)
  isplitl [HC]; · iexact HC
  isplitl [HS]; · iexact HS
  isplitl [HO]; · iexact HO
  isplitl [Ht]; · iapply (owns_of_rep (c : Thread nD τ) arg2 fullShare w); iexact Ht
  iexact HX

set_option maxRecDepth 16384 in
set_option maxHeartbeats 4000000 in
/-- THE BODY at a grid point. -/
theorem body (c : Dev nD) (i : grid0.Coords) (harg1) (arg2 : Memref sig .tc .smem S128x16 .i32) (harg2) (arg3 : Memref sig .tc .vmem S128x8x1024 .f32) (harg3) (harg4) (harg5)
    (q : PosShare TreeShare) (tv : S16.Idx → Elt F .i32)
    (w : S128x16.Idx → Elt F .i32) (X : S128x8x1024.Idx → Elt F .f32) (C : Buf (Elt F) ((c : Thread nD τ).loc main_v3))
    (hT : ∀ j, BitVec.toNat (tv (ix1 j)) < 136)
    (hi : Function.Injective (rho w)) (hlt : ∀ g j, BitVec.toNat (w (ix2 g j)) < 69632) :
    pointAt c arg2 arg3 q tv w X C ⊢ wp frame (wpE defs₀ 𝒱 (c : Thread nD τ) bd) Set.univ
        (cc0_dispatch (F := F) i (Memref.whole main_arg0) harg1 arg2 harg2 arg3 harg3 (Memref.whole main_v3) harg4 (Memref.whole cc0_scratch0) harg5 cc0_scratch1 cc0_scratch2)
        fun _ : PUnit => pointAt c arg2 arg3 q tv w X (rowsNew c w X (zeroed c i tv C)) := by
  have hloops : pointAt c arg2 arg3 q tv w X (zeroed c i tv C) ⊢ wp frame (wpE defs₀ 𝒱 (c : Thread nD τ) bd) Set.univ
        (Scf.Loop.for k0_t1_loop k0_t1_ok ⟨⟩ (k0_t1_body (F := F) i (Memref.whole main_arg0) harg1 arg2 harg2 arg3 harg3 (Memref.whole main_v3) harg4 (Memref.whole cc0_scratch0) harg5 cc0_scratch1 cc0_scratch2) >>= fun _ =>
          Scf.Loop.for k0_t2_loop k0_t2_ok ⟨⟩ (k0_t2_body (F := F) i (Memref.whole main_arg0) harg1 arg2 harg2 arg3 harg3 (Memref.whole main_v3) harg4 (Memref.whole cc0_scratch0) harg5 cc0_scratch1 cc0_scratch2) >>= fun _ => pure ⟨⟩)
        fun _ : PUnit => pointAt c arg2 arg3 q tv w X (rowsNew c w X (zeroed c i tv C)) := by
    unfold pointAt zeroPre
    iintro ⟨HC, HZ, HS2, HO, Htv, HS, Ht, HX⟩
    iapply (wp_wand_r frame (wpE defs₀ 𝒱 (c : Thread nD τ) bd) Set.univ)
    isplitl [HC HS HO Ht HX]
    · iapply (loops 𝒱 bd c i (Memref.whole main_arg0) harg1 arg2 harg2 arg3 harg3 harg4 (Memref.whole cc0_scratch0) harg5 w X (zeroed c i tv C) hi hlt)
      isplitl [HC]; · iexact HC
      isplitl [HS]; · iexact HS
      isplitl [HO]; · iexact HO
      isplitl [Ht] <;> iassumption
    iintro %_ ⟨HC, HS, HO, Ht, HX⟩
    isplitl [HC]; · iexact HC
    isplitl [HZ]; · iexact HZ
    isplitl [HS2]; · iexact HS2
    isplitl [HO]; · iexact HO
    isplitl [Htv]; · iexact Htv
    isplitl [HS]; · iexact HS
    isplitl [Ht] <;> iassumption
  rw [cc0_dispatch_eq_skeleton]
  unfold cc0_dispatch_skel
  dsimp only
  by_cases h1 : k0_cond1 i = 1#1
  · rw [dif_pos h1]
    rw [show zeroed c i tv C = zfills c tv C 16 from if_pos h1] at hloops ⊢
    exact zero_all 𝒱 bd _ c i harg1 arg2 harg2 arg3 harg3 harg4 harg5 q C hT h1 (fun _ : PUnit.{1} => _) hloops
  · rw [dif_neg h1]
    rw [show zeroed c i tv C = C from if_neg h1] at hloops ⊢
    exact hloops

end Cert.KernelIdeal.Dispatch

end
-- ==== Proof.Run.lean ====
/- The dispatch over its grid, launched: what the result holds before and after each grid point, the invariant that
   carries it, and the run of the whole program. -/
module

public import proofs.«01_k».proof.Proof.Body
public import proofs.«01_k».proof.Proof.Gen.KernelIdeal.Launch
public import Idealize.ShloMosaic.Lib.Pipeline.FrameValue
public import Idealize.ShloMosaic.Lib.Pipeline.FrameBody

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## Up to the region -/

/-- A core's buffers when the region is entered: after the three host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem enters (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub ops_fresh main_chain

theorem V_off (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2.1, StableHlo.devRef_ne_of_ne h.2.2⟩))

/-- The table of tiles as the region finds it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev adm : (pcfg0 (F := F)).Adm := ⟨tbl m, trivial⟩

abbrev cfgM : Pipeline.Cfg sig Λ₀ := cfg0 (adm m)

/-- A window's block at a point. -/
def blk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The places of a point's transfers; -/
def wAt (c : Dev nD) (t : Fin (cfgM m).N) : S128x16.Idx → Elt F .i32 := blk m c 0 t

/-- its tokens; -/
def XAt (c : Dev nD) (t : Fin (cfgM m).N) : S128x8x1024.Idx → Elt F .f32 := blk m c 1 t

/-- the table of tiles. -/
def tvOf : S16.Idx → Elt F .i32 := tbl m 0

/-- What the result holds before grid point `n`. -/
def Cn (c : Dev nD) : ℕ → Buf (Elt F) ((c : Thread nD τ).loc main_v3)
  | 0 => V m c main_v3
  | n + 1 => if h : n < (cfgM m).N then rowsNew c (wAt m c ⟨n, h⟩) (XAt m c ⟨n, h⟩) (zeroed c (grid0.coords ⟨n, h⟩) (tvOf m) (Cn c n)) else Cn c n

theorem Cn_succ (c : Dev nD) (t : Fin (cfgM m).N) :
    Cn m c (t.val + 1) = rowsNew c (wAt m c t) (XAt m c t) (zeroed c (grid0.coords t) (tvOf m) (Cn m c t.val)) := by
  rw [Cn]; exact dif_pos t.isLt

/-- The invariant before grid point `n`. -/
def Inv (c : Dev nD) (n : ℕ) : sProp 𝕄 :=
  iprop(((c : Thread nD τ).loc main_v3 ↦{fullShare} Cn m c n) ∗ (∃ f, (c : Thread nD τ).loc cc0_scratch0 ↦{fullShare} f)
    ∗ semVal (c, .dma cc0_scratch2.sem) 0 ∗ semVal (c, .dma cc0_scratch1.sem) 0
    ∗ ((c : Thread nD τ).loc main_arg0 ↦{fullShare.right} tvOf m) ∗ (∃ r, prngReg c r))

def dats (_ : Fin 1) (c : Dev nD) : Dat τ (Elt F) Unit ℕ (Pipeline.UD sig nD τ) ℕ (cfgM m) c where
  A w := V m c (Pipeline.arrRef spec0 w)
  after w t := match w with
    | ⟨0, _⟩ => wAt m c t
    | ⟨1, _⟩ => XAt m c t
    | ⟨_ + 2, h⟩ => absurd h (Nat.not_lt.2 (Nat.le_add_left _ _))
  Φ t := Inv m c t.val
  q _ := fullShare
  owed _ := 0

theorem A_eq (c : Dev nD) (w : Fin (cfgM m).W) : (dats m 0 c).A w = V m c (Pipeline.arrRef spec0 w) := by
  dsimp only [dats]

theorem before_0 (c : Dev nD) (t : Fin (cfgM m).N) (d) : (dats m 0 c).before 0 t d = wAt m c t :=
  ((dats m 0 c).before_in_eq_fetched 0 rfl (fun _ => rfl) (fun _ _ _ => rfl) (fun t => by
    show wAt m c t = _
    unfold wAt blk Dat.blockOf; rw [A_eq]) t d).trans (by unfold Dat.fetched Dat.blockOf wAt blk; rw [A_eq]; rfl)

theorem before_1 (c : Dev nD) (t : Fin (cfgM m).N) (d) : (dats m 0 c).before 1 t d = XAt m c t :=
  ((dats m 0 c).before_in_eq_fetched 1 rfl (fun _ => rfl) (fun _ _ _ => rfl) (fun t => by
    show XAt m c t = _
    unfold XAt blk Dat.blockOf; rw [A_eq]) t d).trans (by unfold Dat.fetched Dat.blockOf XAt blk; rw [A_eq]; rfl)

/-! ## The body at each point -/

/-- What the words of the launch memory must satisfy for the transfers to be in range and apart. -/
structure Words (c : Dev nD) : Prop where
  tiles : ∀ j, BitVec.toNat (tvOf m (ix1 j)) < 136
  inj : ∀ t, Function.Injective (rho (F := F) (wAt m c t))
  lt : ∀ t g j, BitVec.toNat (wAt m c t (ix2 g j)) < 69632

abbrev ms0 (t : Fin (cfgM m).N) : Memref sig .tc .smem S128x16 .i32 := spec0_0.stage ((cfgM m).slots t 0)
abbrev ms1 (t : Fin (cfgM m).N) : Memref sig .tc .vmem S128x8x1024 .f32 := spec0_1.stage ((cfgM m).slots t 1)

abbrev bodyAt (t : Fin (cfgM m).N) : Prog (TpuEff nD τ sig (Elt F) Λ₀ .tc) PUnit :=
  cc0_dispatch (grid0.coords t) (Memref.whole main_arg0) (Memref.isWhole_whole _) (ms0 m t) (hstage0_0 (((cfgM m).slots t 0).cast nbuf0_0))
    (ms1 m t) (hstage0_1 (((cfgM m).slots t 1).cast nbuf0_1)) (Memref.whole main_v3) (Memref.isWhole_whole _) (Memref.whole cc0_scratch0) (Memref.isWhole_whole _) cc0_scratch1 cc0_scratch2

theorem row (t : Fin (cfgM m).N) : defs₀ (F := F) .tc (cfgM m).body ((cfgM m).bodyArgs t ((cfgM m).slots t)) = bodyAt m t := by
  unfold defs₀; rw [Defs.onTc_tc]

def bodyPre (c : Dev nD) (t : Fin (cfgM m).N) : sProp 𝕄 :=
  iprop(Inv m c t.val ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

def bodyPost (c : Dev nD) (t : Fin (cfgM m).N) : sProp 𝕄 :=
  iprop(Inv m c (t.val + 1) ∗ (dats m 0 c).owesAt () t.succ
    ∗ owns (c : Thread nD τ) (ms0 m t) fullShare (wAt m c t)
    ∗ owns (c : Thread nD τ) (ms1 m t) fullShare (XAt m c t))

theorem point (c : Dev nD) (H : Words m c) (t : Fin (cfgM m).N) :
    bodyPre m c t ⊢ wp frame (wpE (defs₀ (F := F)) Variants.none (c : Thread nD τ) none) Set.univ (bodyAt m t) (fun _ => bodyPost m c t) := by
  have hb := body Variants.none none c (grid0.coords t) (Memref.isWhole_whole _) (ms0 m t) (hstage0_0 (((cfgM m).slots t 0).cast nbuf0_0))
    (ms1 m t) (hstage0_1 (((cfgM m).slots t 1).cast nbuf0_1)) (Memref.isWhole_whole _) (Memref.isWhole_whole _) fullShare.right (tvOf m)
    (wAt m c t) (XAt m c t) (Cn m c t.val) H.tiles (H.inj t) (H.lt t)
  rw [← Cn_succ] at hb
  unfold bodyPre bodyPost Inv
  unfold pointAt zeroPre at hb
  unfold Dat.owesAt Pipeline.owesWithin
  rw [show (dats m 0 c).owed t.castSucc = 0 from rfl, show (dats m 0 c).owed t.succ = 0 from rfl]
  iintro ⟨⟨HC, HZ, HS2, HS1, Ht, Hr⟩, ⟨%W, -, HW⟩, ⟨%d0, H0⟩, ⟨%d1, H1⟩⟩
  rw [before_0, before_1]
  iapply (wp_wand_r frame (wpE (defs₀ (F := F)) Variants.none (c : Thread nD τ) none) Set.univ)
  isplitl [HC HZ HS2 HS1 Ht HW H0 H1]
  · iapply hb
    isplitl [HC]; · iexact HC
    isplitl [HZ]; · iexact HZ
    isplitl [HS2]; · iexact HS2
    isplitl [HW]; · iexists _; iexact HW
    isplitl [Ht]; · iexact Ht
    isplitl [HS1]; · iexact HS1
    isplitl [H0] <;> iassumption
  iintro %_ ⟨HC, HZ, HS2, ⟨%W', HW⟩, Ht, HS1, H0, H1⟩
  isplitl [HC HZ HS2 HS1 Ht Hr]
  · isplitl [HC]; · iexact HC
    isplitl [HZ]; · iexact HZ
    isplitl [HS2]; · iexact HS2
    isplitl [HS1]; · iexact HS1
    isplitl [Ht] <;> iassumption
  isplitl [HW]
  · iexists W'; isplitr; · ipureintro; exact fun _ _ => Or.inl trivial
    iexact HW
  isplitl [H0] <;> iassumption

theorem obligation (c : Dev nD) (H : Words m c) : BodyObligation (dats (F := F) m 0 c) (defs₀ (F := F)) Variants.none () Set.univ := fun t => by
  rw [bigSep_W0, bigSep_W0, row]
  exact triple_restated (point m c H t) rfl .rfl fun _ => .rfl

/-! ## The launch -/

/-- The two semaphores of the body. -/
abbrev osem : Fin 2 → SemLoc sig := fun j => (![SemLoc.dma cc0_scratch1.sem, SemLoc.dma cc0_scratch2.sem] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma cc0_scratch1.sem) 0 ∗ semVal ((c : Thread nD τ), SemLoc.dma cc0_scratch2.sem) 0) := by
  rw [Pipeline.ownSems0_eq_of_list c osem [0, 1] (by decide) (by decide)]; rfl

/-- The buffer that the body writes. -/
def R0 : Finset (Ref sig .tc) := {main_v3}
theorem H0_sub : (∅ : Finset (Ref sig .tc)) ⊆ Pipeline.restRefsP sig pre0 spec0 := Finset.empty_subset _
theorem R0_sub : R0 ⊆ Pipeline.restRefsP sig pre0 spec0 \ ∅ := by decide

theorem kept_mem : ∀ b ∈ ({main_arg0, main_arg1, main_arg2} : Finset (Ref sig .tc)), b ∈ Pipeline.restRefs sig spec0 \ R0 := by decide

/-- What the buffers hold after the region, of those the body writes. -/
def G (c : Dev nD) (b : Ref sig .tc) : Buf (Elt F) ((c : Thread nD τ).loc b) := Function.update (V m c) main_v3 (Cn m c (cfgM m).N) b

theorem G_out (c : Dev nD) : G m c main_v3 = Cn m c (cfgM m).N := Function.update_self ..

theorem table_eq (c : Dev nD) : (Pipeline.ΦT pre0 (tbl m) c : sProp 𝕄) = iprop((c : Thread nD τ).loc main_arg0 ↦{fullShare.right} tvOf m) := by
  unfold Pipeline.ΦT Pipeline.prefHeld
  rw [show (Finset.univ : Finset (Fin 1)) = {(0 : Fin 1)} from by decide, bigSep_singleton]
  rfl

theorem enter (c : Dev nD) : iprop(Pipeline.ΦDRG osem spec0 ∅ R0 (V m) (V m) c ∗ Pipeline.ΦT pre0 (tbl m) c) ⊢ (Inv m c 0 : sProp 𝕄) := by
  rw [table_eq, Pipeline.ΦDRG_eq, scopedRest0_eq, ownSems_eq]
  unfold Pipeline.routed R0 Inv
  rw [bigSep_empty, bigSep_singleton]
  iintro ⟨⟨HZ, Hr, ⟨HS1, HS2⟩, -, HC⟩, Ht⟩
  isplitl [HC]; · iexact HC
  isplitl [HZ]; · iexact HZ
  isplitl [HS2]; · iexact HS2
  isplitl [HS1]; · iexact HS1
  isplitl [Ht] <;> iassumption

theorem leave (c : Dev nD) : (Inv m c (cfgM m).N : sProp 𝕄) ⊢ Pipeline.ΦDRG osem spec0 ∅ R0 (V m) (G m) c := by
  rw [Pipeline.ΦDRG_eq, scopedRest0_eq, ownSems_eq]
  unfold Pipeline.routed R0 Inv
  rw [bigSep_empty, bigSep_singleton, G_out]
  iintro ⟨HC, HZ, HS2, HS1, Ht, Hr⟩
  isplitl [HZ]; · iexact HZ
  isplitl [Hr]; · iexact Hr
  isplitl [HS1 HS2]
  · isplitl [HS1] <;> iassumption
  isplitr
  · iempintro
  iexact HC

set_option backward.isDefEq.respectTransparency.types false in
theorem run_region (H : ∀ c, Words m c) : θ_run defs (onTc (τ := τ) (main (F := F))) (s₀ m ρ)
    (fun r => Pipeline.FramePostRG (Pipeline.pin pcfgs (fun _ => adm m)) (dats m) 0 R0 (V m) (G m) r ∧ r.2.sem = fun _ => 0) :=
  Pipeline.θ_run_frameP_dmaRG (Q' := _) pcfgs (fun _ => adm m) (dats m) (0 : Fin 1) launch0 osem defs₀ Variants.none ownSemFacts ∅ R0
    H0_sub R0_sub m ρ main
    (hbody := fun c => (obligation m c (H c)).loose) (hshare := fun c => (dats m 0 c).share_full fun _ => rfl)
    (howed := fun _ _ => rfl) (V := V m) (hmain := enters m Variants.none) (hA := A_eq m) (hpf := V_pre m) (G := G m)
    (hin := enter m) (hout := leave m)

/-- THE RUN: it terminates, nothing faults, the result ends at `Cn … 32`, the arguments as they were, the counters at zero. -/
theorem run_main (H : ∀ c, Words m c) : θ_run defs (onTc (τ := τ) (main (F := F))) ⟨m, fun _ => 0, ρ⟩ (fun r => (∀ c : Dev nD,
      r.2.mem ((c.tc : Thread nD τ).loc main_v3) = Cn m c (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1.written c (b := main_v3) (by decide)).trans (G_out m c),
      ((h.1.toR c).2 main_arg0 (kept_mem _ (by decide))).trans (V_off m c _ (by decide)),
      ((h.1.toR c).2 main_arg1 (kept_mem _ (by decide))).trans (V_off m c _ (by decide)),
      ((h.1.toR c).2 main_arg2 (kept_mem _ (by decide))).trans (V_off m c _ (by decide))⟩, h.2⟩) (run_region m ρ H)

end Cert.KernelIdeal.Dispatch

end
-- ==== Proof.Value.lean ====
/- What the result holds when the dispatch is over: each row the token sent there, zero where none was. -/
module

public import proofs.«01_k».proof.Proof.Run
public import Idealize.ShloMosaic.Lib.Pointwise
public import Idealize.ShloMosaic.Lib.StableHlo.ReadAt
public import Idealize.ShloMosaic.Lib.Tactic

@[expose] public section

noncomputable section

namespace Cert.KernelIdeal.Dispatch

open Cert.KernelIdeal Cert.KernelIdeal.Gen
open Idealize.ShloMosaic Idealize.ShloMosaic.TcCoe Idealize.ShloMosaic.Tactic

variable {F : FTy → Type} [FloatOps F] [∀ e, Nonempty (Elt F e)]
variable (m : (ℓ : Loc nD τ sig) → Buf (Elt F) ℓ)

/-! ## The blocks of a point -/

theorem N_eq : (cfgM m).N = 32 := N_0

theorem V_1 (c : Dev nD) (r : Fin 4096) (j : Fin 16) :
    V m c main_v1 (ix2 r j) = m ((c : Thread nD τ).loc main_arg1) (ix2 (⟨j.val % 2, by omega⟩ : Fin 2) (⟨r.val * 8 + j.val / 2, by omega⟩ : Fin 32768)) := by
  unfold V
  after_reads_at

theorem V_2 (c : Dev nD) (r : Fin 4096) (u : Fin 8) (d : Fin 1024) :
    V m c main_v2 (ix3 r u d) = m ((c : Thread nD τ).loc main_arg2) (ix2 (⟨r.val * 8 + u.val, by omega⟩ : Fin 32768) d) := by
  unfold V
  after_reads_at

theorem transform_0 : ∀ t : Fin grid0.N, cc0_transform_0 (grid0.coords t) = ![t.val, 0] := by decide +kernel
theorem transform_1 : ∀ t : Fin grid0.N, cc0_transform_1 (grid0.coords t) = ![t.val, 0, 0] := by decide +kernel
theorem first_point : ∀ t : Fin grid0.N, k0_cond1 (grid0.coords t) = 1#1 ↔ t.val = 0 := by decide +kernel

theorem wAt_at (c : Dev nD) (t : Fin (cfgM m).N) (g : Fin 128) (j : Fin 16) (r : Fin 4096) (hr : r.val = t.val * 128 + g.val) :
    wAt m c t (ix2 g j) = V m c main_v1 (ix2 r j) := by
  have i0 : (pcfg0.win (adm m) 0).index t (0 : Fin 2) = t.val := congrFun (transform_0 t) 0
  have i1 : (pcfg0.win (adm m) 0).index t (1 : Fin 2) = 0 := congrFun (transform_0 t) 1
  unfold wAt
  blk_ext [blk, V, i0, i1, hr]

theorem XAt_at (c : Dev nD) (t : Fin (cfgM m).N) (g : Fin 128) (u : Fin 8) (d : Fin 1024) (r : Fin 4096) (hr : r.val = t.val * 128 + g.val) :
    XAt m c t (ix3 g u d) = V m c main_v2 (ix3 r u d) := by
  have i0 : (pcfg0.win (adm m) 1).index t (0 : Fin 3) = t.val := congrFun (transform_1 t) 0
  have i1 : (pcfg0.win (adm m) 1).index t (1 : Fin 3) = 0 := congrFun (transform_1 t) 1
  have i2 : (pcfg0.win (adm m) 1).index t (2 : Fin 3) = 0 := congrFun (transform_1 t) 2
  unfold XAt
  blk_ext [blk, V, i0, i1, hr]

/-- The place that transfer `N` of the whole grid writes: token `N / 2`'s expert slot `N % 2`. -/
def place (c : Dev nD) (N : ℕ) : ℕ :=
  BitVec.toNat (m ((c : Thread nD τ).loc main_arg1) (ix2 (⟨N % 2, by omega⟩ : Fin 2) (⟨N / 2 % 32768, by omega⟩ : Fin 32768)))

/-- The token that transfer `N` copies. -/
def token (c : Dev nD) (N : ℕ) (d : Fin 1024) : Elt F .f32 :=
  m ((c : Thread nD τ).loc main_arg2) (ix2 (⟨N / 2 % 32768, by omega⟩ : Fin 32768) d)

theorem rho_eq (c : Dev nD) (t : Fin (cfgM m).N) (n : Fin 2048) : rho (F := F) (wAt m c t) n = place m c (2048 * t.val + n.val) := by
  have ht : t.val < 32 := lt_of_lt_of_eq t.isLt (N_eq m)
  unfold rho place
  rw [wAt_at m c t _ _ (⟨t.val * 128 + n.val / 16, by omega⟩ : Fin 4096) rfl, V_1]
  congr 3 <;> apply Fin.ext <;> dsimp only <;> omega

theorem X_eq (c : Dev nD) (t : Fin (cfgM m).N) (n : Fin 2048) (d : Fin 1024) :
    XAt m c t (ix3 (⟨n.val / 16, by omega⟩ : Fin 128) (⟨n.val % 16 / 2, by omega⟩ : Fin 8) d) = token m c (2048 * t.val + n.val) d := by
  have ht : t.val < 32 := lt_of_lt_of_eq t.isLt (N_eq m)
  unfold token
  rw [XAt_at m c t _ _ _ (⟨t.val * 128 + n.val / 16, by omega⟩ : Fin 4096) rfl, V_2]
  congr 2; apply Fin.ext; dsimp only; omega

/-! ## The result before each point -/

theorem zfills_hit (c : Dev nD) (tv : S16.Idx → Elt F .i32) (C : Buf (Elt F) ((c : Thread nD τ).loc main_v3)) (y : S69632x1024.Idx) (j : ℕ) :
    ∀ n, j < n → (y 0).val / 512 = tileOf (F := F) tv j → zfills c tv C n y = (Scalar.ofBits .f32 0x00000000#32 : F .f32)
  | 0, h, _ => absurd h (Nat.not_lt_zero _)
  | n + 1, h, e => by
    show (if (y 0).val / 512 = tileOf (F := F) tv n then (Scalar.ofBits .f32 0x00000000#32 : F .f32) else zfills c tv C n y) = _
    split
    · rfl
    · next hn => exact zfills_hit c tv C y j n (by rcases Nat.lt_succ_iff_lt_or_eq.1 h with h | h; exacts [h, absurd (h ▸ e) hn]) e

theorem Cn_hit (c : Dev nD) (hi : ∀ N N', N < 65536 → N' < 65536 → place m c N = place m c N' → N = N') (y : S69632x1024.Idx) (N : ℕ)
    (hy : (y 0).val = place m c N) : ∀ n, n ≤ 32 → N < 2048 * n → Cn m c n y = token m c N (y 1)
  | 0, _, h => absurd h (Nat.not_lt_zero _)
  | n + 1, hn, h => by
    have hlt : n < (cfgM m).N := by rw [N_eq]; omega
    have e := Cn_succ m c ⟨n, hlt⟩
    rw [show Cn m c (n + 1) = _ from e]
    have hinj : Function.Injective (rho (F := F) (wAt m c ⟨n, hlt⟩)) := fun a b hab => by
      rw [rho_eq, rho_eq] at hab
      have := hi _ _ (by dsimp only; omega) (by dsimp only; omega) hab
      dsimp only at this
      apply Fin.ext; omega
    by_cases hN : 2048 * n ≤ N
    · have e2 := rowsNew_hit c hinj (XAt m c ⟨n, hlt⟩) (zeroed c (grid0.coords ⟨n, hlt⟩) (tvOf m) (Cn m c n)) (⟨N - 2048 * n, by omega⟩ : Fin 2048) y
        (by rw [rho_eq]; dsimp only; rw [hy]; congr 1; omega)
      refine e2.trans ((X_eq m c ⟨n, hlt⟩ (⟨N - 2048 * n, by omega⟩ : Fin 2048) (y 1)).trans ?_)
      dsimp only; congr 1; omega
    · rw [rowsNew_miss c _ _ _ y fun k hk => by
        rw [rho_eq] at hk
        have := hi N _ (by omega) (by dsimp only; omega) (hy.symm.trans hk)
        dsimp only at this; omega]
      unfold zeroed
      rw [if_neg fun hc => by have := (first_point ⟨n, hlt⟩).1 hc; dsimp only at this; omega]
      exact Cn_hit c hi y N hy n (by omega) (by omega)

theorem Cn_zero (c : Dev nD) (y : S69632x1024.Idx) (j : ℕ) (hj : j < 16) (ht : (y 0).val / 512 = tileOf (F := F) (tvOf m) j)
    (hy : ∀ N < 65536, (y 0).val ≠ place m c N) : ∀ n, n < 32 → Cn m c (n + 1) y = (Scalar.ofBits .f32 0x00000000#32 : F .f32) := by
  intro n
  induction n with
  | zero =>
    intro hn
    have hlt : 0 < (cfgM m).N := by rw [N_eq]; omega
    rw [show Cn m c (0 + 1) = _ from Cn_succ m c ⟨0, hlt⟩, rowsNew_miss c _ _ _ y fun k hk => by
      rw [rho_eq] at hk; exact hy _ (by dsimp only; omega) hk]
    unfold zeroed
    rw [if_pos ((first_point ⟨0, hlt⟩).2 rfl)]
    exact zfills_hit c _ _ y j 16 hj ht
  | succ n ih =>
    intro hn
    have hlt : n + 1 < (cfgM m).N := by rw [N_eq]; omega
    rw [show Cn m c (n + 1 + 1) = _ from Cn_succ m c ⟨n + 1, hlt⟩, rowsNew_miss c _ _ _ y fun k hk => by
      rw [rho_eq] at hk; exact hy _ (by dsimp only; omega) hk]
    unfold zeroed
    rw [if_neg fun hc => by have := (first_point ⟨n + 1, hlt⟩).1 hc; dsimp only at this; omega]
    exact ih (by omega)

/-! ## The words of the arguments -/

/-- The arguments' words: the tiles and places in range, the places apart. -/
structure Args (c : Dev nD) : Prop where
  tiles : ∀ j : Fin 16, BitVec.toNat (m ((c : Thread nD τ).loc main_arg0) (ix1 j)) < 136
  lt : ∀ (k : Fin 2) (t : Fin 32768), BitVec.toNat (m ((c : Thread nD τ).loc main_arg1) (ix2 k t)) < 69632
  apart : ∀ (k k' : Fin 2) (t t' : Fin 32768), m ((c : Thread nD τ).loc main_arg1) (ix2 k t) = m ((c : Thread nD τ).loc main_arg1) (ix2 k' t') → k = k' ∧ t = t'

theorem tvOf_eq (c : Dev nD) : tvOf m = m ((c : Thread nD τ).loc main_arg0) := by
  obtain rfl : c = 0 := Subsingleton.elim _ _
  exact V_off m 0 main_arg0 (by decide)

theorem places_inj (c : Dev nD) (H : Args m c) (N N' : ℕ) (hN : N < 65536) (hN' : N' < 65536) (e : place m c N = place m c N') : N = N' := by
  unfold place at e
  obtain ⟨h1, h2⟩ := H.apart _ _ _ _ (BitVec.eq_of_toNat_eq e)
  have h1 := congrArg Fin.val h1
  have h2 := congrArg Fin.val h2
  dsimp only at h1 h2
  omega

theorem words (c : Dev nD) (H : Args m c) : Words m c where
  tiles j := by rw [tvOf_eq m c]; exact H.tiles j
  inj t a b hab := by
    have ht : t.val < 32 := lt_of_lt_of_eq t.isLt (N_eq m)
    rw [rho_eq, rho_eq] at hab
    have := places_inj m c H _ _ (by omega) (by omega) hab
    apply Fin.ext; omega
  lt t g j := by
    have ht : t.val < 32 := lt_of_lt_of_eq t.isLt (N_eq m)
    rw [wAt_at m c t g j (⟨t.val * 128 + g.val, by omega⟩ : Fin 4096) rfl, V_1]
    exact H.lt _ _

/-- A row that some token is sent to ends as that token; -/
theorem final_hit (c : Dev nD) (H : Args m c) (k : Fin 2) (t : Fin 32768) (r : Fin 69632) (d : Fin 1024)
    (h : BitVec.toNat (m ((c : Thread nD τ).loc main_arg1) (ix2 k t)) = r.val) :
    Cn m c (cfgM m).N (ix2 r d) = m ((c : Thread nD τ).loc main_arg2) (ix2 t d) := by
  rw [N_eq, Cn_hit m c (places_inj m c H) (ix2 r d) (2 * t.val + k.val) (by
    unfold place
    rw [show (ix2 r d 0 : Fin 69632).val = r.val from rfl, ← h]
    congr 3 <;> apply Fin.ext <;> dsimp only <;> omega) 32 le_rfl (by omega)]
  unfold token
  congr 2; apply Fin.ext; dsimp only; omega

/-- a row that none is sent to, in a tile of the table, as zeros. -/
theorem final_zero (c : Dev nD) (j : Fin 16) (r : Fin 69632) (d : Fin 1024)
    (hr : ∀ (k : Fin 2) (t : Fin 32768), BitVec.toNat (m ((c : Thread nD τ).loc main_arg1) (ix2 k t)) ≠ r.val)
    (hj : BitVec.toNat (m ((c : Thread nD τ).loc main_arg0) (ix1 j)) = r.val / 512) :
    Cn m c (cfgM m).N (ix2 r d) = (Scalar.ofBits .f32 0x00000000#32 : F .f32) := by
  rw [N_eq]
  refine Cn_zero m c (ix2 r d) j.val j.isLt ?_ (fun N _ h => hr _ _ h.symm) 31 (by omega)
  unfold tileOf
  rw [dif_pos j.isLt, tvOf_eq m c]
  exact hj.symm

end Cert.KernelIdeal.Dispatch

end
-- ==== Proof.Words.lean ====
/- What the precondition says of the words: the tiles and the places in range, the places apart, and every row of the
   result either the place of some transfer or in a tile that is zeroed. -/
module

public import proofs.«01_k».proof.Proof.Gen.Pre_places_of_a_routing
public import Idealize.ShloMosaic.Lib.ReduceAll
public import Idealize.ShloMosaic.Lib.Pointwise
public import Idealize.ShloMosaic.Lib.StableHlo.Predicate
public import Idealize.ShloMosaic.Lib.Routing.OpsPair

@[expose] public section

noncomputable section

namespace Cert.Pre_places_of_a_routing

open Cert.Pre_places_of_a_routing.Gen
open Idealize.ShloMosaic Idealize.ShloMosaic.Tactic

/-- A left fold by `or` over one-bit words that came out 1 started at 1 or met a 1. -/
theorem foldl_ori_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_one f l _ h with h1 | h1
    · by_cases ha : f a = 1#1
      · exact Or.inr ⟨a, List.mem_cons_self .., ha⟩
      · left
        have h0 : f a = 0#1 := (BitVec.eq_zero_or_eq_one _).resolve_right ha
        have h1' : IntOp.ori init (f a) = 1#1 := h1
        rw [h0] at h1'
        revert h1'; generalize init = b; revert b; decide
    · obtain ⟨n, hn, h1⟩ := h1; exact Or.inr ⟨n, List.mem_cons_of_mem _ hn, h1⟩

/-- A reduction by `or` from 0 that is 1 at `j` had a 1 at some operand index that reduces into `j`. -/
theorem reduce_ori_some {s t u : Shape} {axes : List (Fin s.rank)} (x : s.Idx → BitVec 1) (init : u.Idx → BitVec 1) (h : s.ReducesTo axes t)
    (hu : 0 < u.numel) (hi : init (Shape.Idx.first hu) = 0#1) (j : t.Idx) (e : Host.reduce IntOp.ori x init h hu j = 1#1) :
    ∃ i, h.drop i = j ∧ x i = 1#1 := by
  rw [Host.reduce_eq_foldl] at e
  rcases foldl_ori_one x _ _ e with h1 | ⟨n, hn, h1⟩
  · rw [hi] at h1; exact absurd h1 (by decide)
  · refine ⟨n, ?_, h1⟩
    rw [List.mem_filter] at hn
    simpa using hn.2

theorem ori_one {a b : BitVec 1} (h : IntOp.ori a b = 1#1) : a = 1#1 ∨ b = 1#1 := by
  revert h; revert a b; decide

/-- A word that is, signed, at least 0 and below a bound is below it unsigned. -/
theorem in_range {a n : BitVec 32} (hn : n.toNat < 2 ^ 31) (h : IntOp.andi (IntOp.cmpi .sge a 0#32) (IntOp.cmpi .slt a n) = 1#1) : a.toNat < n.toNat := by
  obtain ⟨h1, h2⟩ := IntOp.andi_eq_one.1 h
  have h1' : (0#32).sle a = true := (StableHlo.Predicate.ofBool_eq_one_iff _).1 h1
  have h2' : a.slt n = true := (StableHlo.Predicate.ofBool_eq_one_iff _).1 h2
  have h3 := BitVec.sle_iff_toInt_le.1 h1'
  have h4 := BitVec.slt_iff_toInt_lt.1 h2'
  rw [StableHlo.Predicate.toInt_eq_toNat_of_lt hn] at h4
  have h5 : (0#32).toInt = 0 := by decide
  rw [h5] at h3
  rw [BitVec.toInt_eq_toNat_cond] at h3 h4
  have := a.isLt
  split at h3 <;> split at h4 <;> omega

variable {F : FTy → Type} [FloatOps F]

theorem tiles_lt (z : IVec S16 32) (p : IVec S2x32768 32) (x : FVec F S32768x1024 .f32) (h : (fn z p x).1 = fun _ => 1#1) (j : Fin 16) : (z (ix1 j)).toNat < 136 :=
  in_range (n := 136#32) (by decide) (congrFun h (ix1 j))

theorem places_lt (z : IVec S16 32) (p : IVec S2x32768 32) (x : FVec F S32768x1024 .f32) (h : (fn z p x).2.1 = fun _ => 1#1) (k : Fin 2) (t : Fin 32768) :
    (p (ix2 k t)).toNat < 69632 :=
  in_range (n := 69632#32) (by decide) (congrFun h (ix2 k t))

set_option maxRecDepth 16384 in
theorem places_apart (z : IVec S16 32) (p : IVec S2x32768 32) (x : FVec F S32768x1024 .f32) (h : (fn z p x).2.2.1 = fun _ => 1#1)
    (k k' : Fin 2) (t t' : Fin 32768) (e : p (ix2 k t) = p (ix2 k' t')) : k = k' ∧ t = t' := by
  have h1 : fn_distinct_places (F := F) p = fun _ => 1#1 := by
    unfold fn fn_part1 at h
    dsimp only at h
    exact h
  have h2 : fn_distinct_places (F := F) p ix0 = 1#1 := by rw [h1]
  unfold fn_distinct_places at h2
  dsimp only at h2
  have h3 := Host.reduce_andi_eq_one _ _ Facts.reducesTo_S2x32768x2x32768_S_d0_1_2_3 Facts.h_S_ ix0 h2 (ix4 k t k' t') (funext fun a => a.elim0)
  have h4 : IntOp.ori (IntOp.cmpi .ne (p (ix2 k t)) (p (ix2 k' t')))
      (IntOp.andi (IntOp.cmpi .eq (BitVec.ofNat 32 k.val) (BitVec.ofNat 32 k'.val)) (IntOp.cmpi .eq (BitVec.ofNat 32 t.val) (BitVec.ofNat 32 t'.val))) = 1#1 := by
    refine Eq.trans ?_ h3
    pointwise
  rcases ori_one h4 with h5 | h5
  · rw [e] at h5
    exact absurd ((StableHlo.Predicate.ofBool_eq_one_iff _).1 h5) (by simp)
  · obtain ⟨h6, h7⟩ := IntOp.andi_eq_one.1 h5
    have h6 := congrArg BitVec.toNat (StableHlo.Predicate.cmpi_eq_iff.1 h6)
    have h7 := congrArg BitVec.toNat (StableHlo.Predicate.cmpi_eq_iff.1 h7)
    simp only [BitVec.toNat_ofNat] at h6 h7
    have := k.isLt; have := k'.isLt; have := t.isLt; have := t'.isLt
    constructor <;> apply Fin.ext <;> omega

theorem covered (z : IVec S16 32) (p : IVec S2x32768 32) (x : FVec F S32768x1024 .f32) (hz : (fn z p x).1 = fun _ => 1#1) (h : (fn z p x).2.2.2 = fun _ => 1#1) (r : Fin 69632) :
    (∃ k t, (p (ix2 k t)).toNat = r.val) ∨ ∃ j, (z (ix1 j)).toNat = r.val / 512 := by
  have h1 := congrFun h (ix1 r)
  rcases ori_one h1 with h2 | h2
  · left
    have h3 : fn_taken_rows (F := F) p (ix1 r) = 1#1 := h2
    unfold fn_taken_rows at h3
    obtain ⟨i, hi, h4⟩ := reduce_ori_some _ _ _ _ rfl _ h3
    obtain ⟨r', k, t, rfl⟩ : ∃ r' k t, i = ix3 r' k t := ⟨_, _, _, eq_ix3 i⟩
    have hr : r' = r := congrFun hi 0
    subst hr
    have h5 : IntOp.cmpi .eq (p (ix2 k t)) (BitVec.ofNat 32 r'.val) = 1#1 := by
      refine Eq.trans ?_ h4
      pointwise
    refine ⟨k, t, ?_⟩
    rw [StableHlo.Predicate.cmpi_eq_iff.1 h5, BitVec.toNat_ofNat]
    have := r'.isLt
    omega
  · right
    obtain ⟨i, hi, h4⟩ := reduce_ori_some _ _ _ _ rfl _ h2
    obtain ⟨r', j, rfl⟩ : ∃ r' j, i = ix2 r' j := ⟨_, _, eq_ix2 i⟩
    have hr : r' = r := congrFun hi 0
    subst hr
    have h5 : IntOp.andi (IntOp.cmpi .sle (IntOp.muli (z (ix1 j)) 512#32) (BitVec.ofNat 32 r'.val))
        (IntOp.cmpi .slt (BitVec.ofNat 32 r'.val) (IntOp.addi (IntOp.muli (z (ix1 j)) 512#32) 512#32)) = 1#1 := by
      refine Eq.trans ?_ h4
      pointwise
    have hlt := tiles_lt z p x hz j
    have hr := r'.isLt
    obtain ⟨h6, h7⟩ := IntOp.andi_eq_one.1 h5
    have hm : (IntOp.muli (z (ix1 j)) 512#32).toNat = (z (ix1 j)).toNat * 512 := by
      show (z (ix1 j) * 512#32).toNat = _
      rw [BitVec.toNat_mul, BitVec.toNat_ofNat]; omega
    have ha : (IntOp.addi (IntOp.muli (z (ix1 j)) 512#32) 512#32).toNat = (z (ix1 j)).toNat * 512 + 512 := by
      show (IntOp.muli (z (ix1 j)) 512#32 + 512#32).toNat = _
      rw [BitVec.toNat_add, hm, BitVec.toNat_ofNat]; omega
    have hn : (BitVec.ofNat 32 r'.val).toNat = r'.val := by rw [BitVec.toNat_ofNat]; omega
    have h6 := (StableHlo.Predicate.sle_iff_toNat (by rw [hm]; omega) (by rw [hn]; omega)).1 h6
    have h7 := (StableHlo.Predicate.slt_iff_toNat (by rw [hn]; omega) (by rw [ha]; omega)).1 h7
    rw [hm, hn] at h6
    rw [hn, ha] at h7
    exact ⟨j, by omega⟩

end Cert.Pre_places_of_a_routing

end
-- ==== Proof.Placed.lean ====
/- The reference at an element: two scatters of rows, one after the other, into zeros. -/
module

public import proofs.«01_k».proof.Proof.Gen.ReferenceIdeal
public import Idealize.ShloMosaic.Lib.Pointwise
public import Idealize.ShloMosaic.Lib.Routing.OpsSet
public import Idealize.ShloMosaic.Lib.Routing.OpsPair

@[expose] public section

noncomputable section

namespace Cert.ReferenceIdeal

open Cert.ReferenceIdeal.Gen
open Idealize.ShloMosaic Idealize.ShloMosaic.Tactic Idealize.ShloMosaic.Routing

/-- The dimension numbers of a scatter of rows. -/
abbrev rowsDims : ScatterDims S69632x1024 S32768x1 S32768x1024 := scatter_S69632x1024_S32768x1_S32768x1024_1_0_0_1

/-- Element `(t, e)` of the rows lands at `(r, d)` exactly when row `t`'s index word is `r` and `e` is `d`. -/
theorem rows_land (idx : IVec S32768x1 32) (t : Fin 32768) (e : Fin 1024) (r : Fin 69632) (d : Fin 1024) :
    rowsDims.resultIdx? (ix2 t e) idx = some (ix2 r d) ↔ (idx (ix2 t (0 : Fin 1))).toInt = (r.val : Int) ∧ e = d := by
  have hm : (0 : Fin 2) ∈ rowsDims.scatterDimsToOperandDims := List.mem_singleton.2 rfl
  have hkept : rowsDims.sKept = [1] := by decide
  have hwin0 : rowsDims.window (ix2 t e) 0 = 0 := by
    unfold ScatterDims.window
    rw [dif_neg (by rw [hkept]; decide)]
  have hwin1 : rowsDims.window (ix2 t e) 1 = e.val := by
    unfold ScatterDims.window
    rw [dif_pos (by rw [hkept]; exact List.mem_singleton.2 rfl)]
    rfl
  have hstart1 : rowsDims.start (ix2 t e) idx 1 = 0 := by
    unfold ScatterDims.start
    exact dif_neg fun h => absurd (List.mem_singleton.1 h) (by decide : (1 : Fin 2) ≠ 0)
  have hstart0 : rowsDims.start (ix2 t e) idx 0 = (idx (ix2 t (0 : Fin 1))).toInt := by
    unfold ScatterDims.start
    rw [dif_pos hm]
    have hsi : rowsDims.siIdx (ix2 t e) ⟨rowsDims.scatterDimsToOperandDims.idxOf 0, List.idxOf_lt_length_iff.2 hm⟩ = ix2 t (0 : Fin 1) := by
      funext b'
      match b' with
      | ⟨0, _⟩ => rfl
      | ⟨1, _⟩ => exact Subsingleton.elim (α := Fin 1) _ _
    rw [hsi]
  rw [ix2_eq_valueIdx (n0 := 69632), resultIdx?_ix2, hstart0, hwin0, hstart1, hwin1, Fin.ext_iff]
  omega

/-- A scatter of rows whose index words are below the number of rows and apart, at a row that `t` is sent to; -/
theorem rows_hit {α : Type} (x : S69632x1024.Idx → α) (idx : IVec S32768x1 32) (u : S32768x1024.Idx → α) (t : Fin 32768) (r : Fin 69632) (d : Fin 1024)
    (h : ∀ t', (idx (ix2 t' (0 : Fin 1))).toInt = (r.val : Int) ↔ t' = t) : Host.scatter rowsDims (fun _ b => b) x idx u (ix2 r d) = u (ix2 t d) := by
  refine scatter_set_hit rowsDims x idx u (ix2 r d) _ (fun k hk => ?_) (ix2 t d) ((rows_land idx t d r d).2 ⟨(h t).2 rfl, rfl⟩)
  obtain ⟨t', e, rfl⟩ : ∃ (t' : Fin 32768) (e : Fin 1024), k = ix2 t' e := ⟨k 0, k 1, eq_ix2 k⟩
  obtain ⟨h1, rfl⟩ := (rows_land idx t' e r d).1 hk
  rw [(h t').1 h1]

/-- at a row that none is sent to. -/
theorem rows_miss {α : Type} (x : S69632x1024.Idx → α) (idx : IVec S32768x1 32) (u : S32768x1024.Idx → α) (r : Fin 69632) (d : Fin 1024)
    (h : ∀ t', (idx (ix2 t' (0 : Fin 1))).toInt ≠ (r.val : Int)) : Host.scatter rowsDims (fun _ b => b) x idx u (ix2 r d) = x (ix2 r d) := by
  refine scatter_set_miss rowsDims x idx u (ix2 r d) fun k hk => ?_
  obtain ⟨t', e, rfl⟩ : ∃ (t' : Fin 32768) (e : Fin 1024), k = ix2 t' e := ⟨k 0, k 1, eq_ix2 k⟩
  exact h t' ((rows_land idx t' e r d).1 hk).1

/-- The places of one slot, a column of index words, as the reference prepares them: a row of the table, negative words wrapped. -/
def slotWords (off : Fin 2 → ℕ) (h : S2x32768.Slices off S1x32768) (p : IVec S2x32768 32) : IVec S32768x1 32 :=
  broadcastInDim S32768x1 ![0] Facts₀.bcast_S32768_S32768x1_0
    (select (cmpi .slt (fun i => shapeCast S32768 (extractStridedSlice S1x32768 off p h) Facts₀.shapeCasts_S1x32768_S32768 i)
        (broadcastInDim S32768 ![] Facts₀.bcast_S_S32768 (constantI S_ 32 0#32)))
      (addi (fun i => shapeCast S32768 (extractStridedSlice S1x32768 off p h) Facts₀.shapeCasts_S1x32768_S32768 i)
        (broadcastInDim S32768 ![] Facts₀.bcast_S_S32768 (constantI S_ 32 69632#32)))
      (fun i => shapeCast S32768 (extractStridedSlice S1x32768 off p h) Facts₀.shapeCasts_S1x32768_S32768 i))

theorem slot_0 (h) (p : IVec S2x32768 32) (hp : ∀ k t, (p (ix2 k t)).toNat < 69632) (t : Fin 32768) :
    (slotWords ![0, 0] h p (ix2 t (0 : Fin 1))).toInt = ((p (ix2 (0 : Fin 2) t)).toNat : Int) := by
  have e : slotWords ![0, 0] h p (ix2 t (0 : Fin 1))
      = Scalar.select (IntOp.cmpi .slt (p (ix2 (0 : Fin 2) t)) 0#32) (IntOp.addi (p (ix2 (0 : Fin 2) t)) 69632#32) (p (ix2 (0 : Fin 2) t)) := by
    unfold slotWords
    pointwise
  have := hp 0 t
  rw [e, wrap_of_lt _ _ (by omega), StableHlo.Predicate.toInt_eq_toNat_of_lt (by omega)]

theorem slot_1 (h) (p : IVec S2x32768 32) (hp : ∀ k t, (p (ix2 k t)).toNat < 69632) (t : Fin 32768) :
    (slotWords ![1, 0] h p (ix2 t (0 : Fin 1))).toInt = ((p (ix2 (1 : Fin 2) t)).toNat : Int) := by
  have e : slotWords ![1, 0] h p (ix2 t (0 : Fin 1))
      = Scalar.select (IntOp.cmpi .slt (p (ix2 (1 : Fin 2) t)) 0#32) (IntOp.addi (p (ix2 (1 : Fin 2) t)) 69632#32) (p (ix2 (1 : Fin 2) t)) := by
    unfold slotWords
    pointwise
  have := hp 1 t
  rw [e, wrap_of_lt _ _ (by omega), StableHlo.Predicate.toInt_eq_toNat_of_lt (by omega)]

variable {F : FTy → Type} [FloatOps F]

/-- The reference's result. -/
def placed (p : IVec S2x32768 32) (u : FVec F S32768x1024 .f32) : FVec F S69632x1024 .f32 :=
  Host.scatter rowsDims (fun _ b => b)
    (Host.scatter rowsDims (fun _ b => b) (broadcastInDim S69632x1024 ![] Facts₀.bcast_S_S69632x1024 (constant S_ .f32 0x00000000#32))
      (slotWords ![0, 0] Facts₀.slices_S2x32768_S1x32768_0_0 p) u)
    (slotWords ![1, 0] Facts₀.slices_S2x32768_S1x32768_1_0 p) u

/-- At a row that some token is sent to, that token; -/
theorem placed_hit (p : IVec S2x32768 32) (u : FVec F S32768x1024 .f32) (hp : ∀ k t, (p (ix2 k t)).toNat < 69632)
    (ha : ∀ k k' t t', p (ix2 k t) = p (ix2 k' t') → k = k' ∧ t = t') (k : Fin 2) (t : Fin 32768) (r : Fin 69632) (d : Fin 1024)
    (h : (p (ix2 k t)).toNat = r.val) : placed p u (ix2 r d) = u (ix2 t d) := by
  have only : ∀ k' t', ((p (ix2 k' t')).toNat : Int) = (r.val : Int) ↔ k' = k ∧ t' = t := fun k' t' => by
    constructor
    · intro e
      exact ha _ _ _ _ (BitVec.eq_of_toNat_eq ((Int.ofNat.inj e).trans h.symm))
    · rintro ⟨rfl, rfl⟩; rw [h]
  unfold placed
  match k, only with
  | ⟨1, _⟩, only =>
    exact rows_hit _ _ _ t r d fun t' => by rw [slot_1 _ _ hp, only]; exact ⟨fun q => q.2, fun q => ⟨rfl, q⟩⟩
  | ⟨0, _⟩, only =>
    rw [rows_miss _ _ _ r d fun t' q => by rw [slot_1 _ _ hp, only] at q; exact absurd (congrArg Fin.val q.1) Nat.one_ne_zero]
    exact rows_hit _ _ _ t r d fun t' => by rw [slot_0 _ _ hp, only]; exact ⟨fun q => q.2, fun q => ⟨rfl, q⟩⟩

/-- at a row that none is sent to, zero. -/
theorem placed_miss (p : IVec S2x32768 32) (u : FVec F S32768x1024 .f32) (hp : ∀ k t, (p (ix2 k t)).toNat < 69632) (r : Fin 69632) (d : Fin 1024)
    (h : ∀ k t, (p (ix2 k t)).toNat ≠ r.val) : placed p u (ix2 r d) = (Scalar.ofBits .f32 0x00000000#32 : F .f32) := by
  unfold placed
  rw [rows_miss _ _ _ r d fun t' q => by rw [slot_1 _ _ hp] at q; exact h _ _ (Int.ofNat.inj q),
    rows_miss _ _ _ r d fun t' q => by rw [slot_0 _ _ hp] at q; exact h _ _ (Int.ofNat.inj q)]
  pointwise

end Cert.ReferenceIdeal

end
-- ==== Proof.ExpertPlain.lean ====
/- The reference at an element: every row's own expert, of the eight, where its tile is used. -/
module

public import proofs.«01_k».proof.Proof.Gen.ExpertsReferenceIdeal.Run
public import proofs.«01_k».proof.Proof.ExpertSums
public import Idealize.ShloMosaic.Lib.Pointwise
public import Idealize.ShloMosaic.Lib.StackMember
public import Idealize.ShloMosaic.Lib.Routing.OpsSet
public import Idealize.ShloMosaic.Lib.Routing.OpsSearch

@[expose] public section

set_option maxRecDepth 16384

noncomputable section

namespace Cert.ExpertsReferenceIdeal.Plain

open Cert.ExpertsReferenceIdeal Cert.ExpertsReferenceIdeal.Gen Cert.ExpertsReferenceIdeal.Value
open Cert.ExpertsIdeal.Tiles (part dotAt partAt mlpAt whole)
open Idealize.ShloMosaic Idealize.ShloMosaic.Tactic
open Idealize.ShloMosaic.ValueIdx hiding ix1 ix2 ix3

/-! ## A row's tile and its expert -/

variable (V0 : Valuation τ sig (Elt Ideal))

theorem floor_word (a b : ℕ) (ha : a < 2 ^ 31) (h0 : 0 < b) (hb : b < 2 ^ 31) :
    Scalar.select (IntOp.andi (IntOp.cmpi .ne (signi (fun _ => BitVec.ofNat 32 a : IVec S_ 32) Idealize.ShloMosaic.ix0) (signi (fun _ => BitVec.ofNat 32 b : IVec S_ 32) Idealize.ShloMosaic.ix0))
        (IntOp.cmpi .ne (IntOp.remsi .host (BitVec.ofNat 32 a) (BitVec.ofNat 32 b)) 0#32))
      (IntOp.subi (IntOp.divsi .host (BitVec.ofNat 32 a) (BitVec.ofNat 32 b)) 1#32) (IntOp.divsi .host (BitVec.ofNat 32 a) (BitVec.ofNat 32 b)) = BitVec.ofNat 32 (a / b) :=
  Routing.pyDiv0_ap (fun _ => BitVec.ofNat 32 a) (fun _ => BitVec.ofNat 32 b) rfl rfl ha h0 hb

theorem tile_at (r : Fin 69632) : res_main_v1 V0 (ix1 r) = BitVec.ofNat 32 (r.val / 512) := by
  refine Eq.trans ?_ (floor_word r.val 512 (by have := r.isLt; omega) (by decide) (by decide))
  unfold res_main_v1 res_main_call0_v2 res_main_call0_v0 res_main_v0
  pointwise
  rw [show id (constantI S_ 32 512#32) Idealize.ShloMosaic.ix0 = 512#32 from rfl]
  rfl

theorem word_at (p : IVec S69632 32) (r : Fin 69632) (k : ℕ) (hk : k < 136) (h : p (ix1 r) = BitVec.ofNat 32 k) :
    broadcastInDim S69632x1 ![0] bcast_S69632_S69632x1_0 (select (cmpi .slt p (broadcastInDim S69632 ![] bcast_S_S69632 (constantI S_ 32 0#32)))
      (addi p (broadcastInDim S69632 ![] bcast_S_S69632 (constantI S_ 32 136#32))) p) (ix2 r (0 : Fin 1)) = BitVec.ofNat 32 k := by
  have e : broadcastInDim S69632x1 ![0] bcast_S69632_S69632x1_0 (select (cmpi .slt p (broadcastInDim S69632 ![] bcast_S_S69632 (constantI S_ 32 0#32)))
      (addi p (broadcastInDim S69632 ![] bcast_S_S69632 (constantI S_ 32 136#32))) p) (ix2 r (0 : Fin 1))
      = Scalar.select (IntOp.cmpi .slt (p (ix1 r)) 0#32) (IntOp.addi (p (ix1 r)) 136#32) (p (ix1 r)) := by
    pointwise
  rw [e, h, Routing.wrap_of_lt _ _ (by rw [BitVec.toNat_ofNat]; omega)]

/-- A row's weight of expert `e`: one where the row's tile is used and has that expert, zero elsewhere. -/
theorem comb_at (te : Fin 136 → BitVec 32) (n : BitVec 32) (hn : n.toNat ≤ 136) (hte : ∀ i, V0 (Proc.devRef .tc main_arg0) (ix1 i) = te i)
    (hnu : V0 (Proc.devRef .tc main_arg1) (ix1 (0 : Fin 1)) = n) (i : Fin 136) (r : Fin 69632) (hi : i.val = r.val / 512) (e : Fin 8) :
    res_main_v14 V0 (ix2 r e) = (if r.val / 512 < n.toNat then (if te i = BitVec.ofNat 32 e.val then 1 else 0) else 0 : EReal) := by
  have hr := r.isLt
  have h1 : res_main_v14 V0 (ix2 r e) = Scalar.select (IntOp.cmpi .slt (res_main_v1 V0 (ix1 r)) (V0 (Proc.devRef .tc main_arg1) (ix1 (0 : Fin 1))))
      (FloatOps.uitofp (F := Ideal) .f32 (IntOp.cmpi .eq (Host.gather gather_S136_S69632x1_S69632_n_0_n_n_0_1_1 (V0 (Proc.devRef .tc main_arg0)) (broadcastInDim S69632x1 ![0] bcast_S69632_S69632x1_0 (select (cmpi .slt (res_main_v1 V0) (broadcastInDim S69632 ![] bcast_S_S69632 (constantI S_ 32 0#32))) (addi (res_main_v1 V0) (broadcastInDim S69632 ![] bcast_S_S69632 (constantI S_ 32 136#32))) (res_main_v1 V0))) (ix1 r)) (BitVec.ofNat 32 e.val)))
      (0 : EReal) := by
    unfold res_main_v14
    pointwise
    exact congrArg _ Ideal.ofBits_zero_f32
  have h2 : Host.gather gather_S136_S69632x1_S69632_n_0_n_n_0_1_1 (V0 (Proc.devRef .tc main_arg0)) (broadcastInDim S69632x1 ![0] bcast_S69632_S69632x1_0 (select (cmpi .slt (res_main_v1 V0) (broadcastInDim S69632 ![] bcast_S_S69632 (constantI S_ 32 0#32))) (addi (res_main_v1 V0) (broadcastInDim S69632 ![] bcast_S_S69632 (constantI S_ 32 136#32))) (res_main_v1 V0))) (ix1 r) = te i :=
    (Routing.gather_take1 gather_S136_S69632x1_S69632_n_0_n_n_0_1_1 rfl rfl rfl rfl (V0 (Proc.devRef .tc main_arg0)) _ r i
      (by rw [hi]; exact word_at _ r _ (by omega) (tile_at V0 r)) (by decide)).trans (hte i)
  rw [h1, hnu, h2, tile_at]
  have e1 : IntOp.cmpi .slt (BitVec.ofNat 32 (r.val / 512)) n = BitVec.ofBool (decide (r.val / 512 < n.toNat)) := by
    have hw : (BitVec.ofNat 32 (r.val / 512)).toNat = r.val / 512 := by rw [BitVec.toNat_ofNat]; omega
    show BitVec.ofBool ((BitVec.ofNat 32 (r.val / 512)).slt n) = _
    congr 1
    rw [Bool.eq_iff_iff, BitVec.slt_iff_toInt_lt, StableHlo.Predicate.toInt_eq_toNat_of_lt (by omega), StableHlo.Predicate.toInt_eq_toNat_of_lt (by omega), decide_eq_true_iff]
    omega
  have e2 : (FloatOps.uitofp (F := Ideal) .f32 (IntOp.cmpi .eq (te i) (BitVec.ofNat 32 e.val)) : EReal) = if te i = BitVec.ofNat 32 e.val then 1 else 0 := by
    by_cases h : te i = BitVec.ofNat 32 e.val
    · rw [if_pos h, show IntOp.cmpi .eq (te i) (BitVec.ofNat 32 e.val) = 1#1 from congrArg BitVec.ofBool (beq_iff_eq.2 h)]
      show ((((1#1 : BitVec 1).toNat : ℝ)) : EReal) = 1
      norm_num
    · rw [if_neg h, show IntOp.cmpi .eq (te i) (BitVec.ofNat 32 e.val) = 0#1 from congrArg BitVec.ofBool (beq_eq_false_iff_ne.2 h)]
      show ((((0#1 : BitVec 1).toNat : ℝ)) : EReal) = 0
      norm_num
  rw [e1, e2]
  by_cases h : r.val / 512 < n.toNat
  · rw [if_pos h]; simp only [h, decide_true]; rfl
  · rw [if_neg h]; simp only [h, decide_false]; rfl

/-! ## An expert's output -/

theorem slice_at (o : ℕ) (W : FVec Ideal S8x1024x3584 .f32) (h : S8x1024x3584.Slices ![o, 0, 0] S1x1024x3584) (e : Fin 8) (he : e.val = o) (a : Fin 1024) (k : Fin 3584) :
    shapeCast S1024x3584 (extractStridedSlice S1x1024x3584 ![o, 0, 0] W h) shapeCasts_S1x1024x3584_S1024x3584 (ix2 a k) = W (ix3 e a k) := by
  subst he
  pointwise

theorem slice_down_at (o : ℕ) (W : FVec Ideal S8x3584x1024 .f32) (h : S8x3584x1024.Slices ![o, 0, 0] S1x3584x1024) (e : Fin 8) (he : e.val = o) (k : Fin 3584) (d : Fin 1024) :
    shapeCast S3584x1024 (extractStridedSlice S1x3584x1024 ![o, 0, 0] W h) shapeCasts_S1x3584x1024_S3584x1024 (ix2 k d) = W (ix3 e k d) := by
  subst he
  pointwise

theorem dot_at (X : FVec Ideal S69632x1024 .f32) (W : FVec Ideal S1024x3584 .f32) (r : Fin 69632) (k : Fin 3584) :
    Host.dotGeneral dot_S69632x1024_S1024x3584_S69632x3584_1_0_0_1_n_n none X W (ix2 r k) = ∑ a : Fin 1024, (X (ix2 r a) * W (ix2 a k) : EReal) :=
  StackMember.dotGeneral_plain_apply (m := 69632) (k := 1024) (n := 3584) none X W r k

theorem dot_down_at (X : FVec Ideal S69632x3584 .f32) (W : FVec Ideal S3584x1024 .f32) (r : Fin 69632) (d : Fin 1024) :
    Host.dotGeneral dot_S69632x3584_S3584x1024_S69632x1024_1_0_0_1_n_n none X W (ix2 r d) = ∑ k : Fin 3584, (X (ix2 r k) * W (ix2 k d) : EReal) :=
  StackMember.dotGeneral_plain_apply (m := 69632) (k := 3584) (n := 1024) none X W r d

/-- One expert's term of the sum, as the reference's operations make it. -/
def term (o : ℕ) (comb : FVec Ideal S69632x8 .f32) (X : FVec Ideal S69632x1024 .f32) (WG WU : FVec Ideal S8x1024x3584 .f32) (WD : FVec Ideal S8x3584x1024 .f32)
    (hc : S69632x8.Slices ![0, o] S69632x1) (hg hu : S8x1024x3584.Slices ![o, 0, 0] S1x1024x3584) (hd : S8x3584x1024.Slices ![o, 0, 0] S1x3584x1024) : FVec Ideal S69632x1024 .f32 :=
  let p : FVec Ideal S69632x3584 .f32 :=
    Host.dotGeneral dot_S69632x1024_S1024x3584_S69632x3584_1_0_0_1_n_n none X (shapeCast _ (extractStridedSlice S1x1024x3584 ![o, 0, 0] WG hg) shapeCasts_S1x1024x3584_S1024x3584)
  mulf (broadcastInDim S69632x1024 ![0, 1] bcast_S69632x1_S69632x1024_0_1 (extractStridedSlice S69632x1 ![0, o] comb hc))
    (Host.dotGeneral dot_S69632x3584_S3584x1024_S69632x1024_1_0_0_1_n_n none
      (mulf (mulf p (Host.divf (broadcastInDim S69632x3584 ![] bcast_S_S69632x3584 (constant S_ .f32 0x3F800000#32))
          (addf (broadcastInDim S69632x3584 ![] bcast_S_S69632x3584 (constant S_ .f32 0x3F800000#32)) (Host.exp (Host.negf p)))))
        (Host.dotGeneral dot_S69632x1024_S1024x3584_S69632x3584_1_0_0_1_n_n none X (shapeCast _ (extractStridedSlice S1x1024x3584 ![o, 0, 0] WU hu) shapeCasts_S1x1024x3584_S1024x3584)))
      (shapeCast _ (extractStridedSlice S1x3584x1024 ![o, 0, 0] WD hd) shapeCasts_S1x3584x1024_S3584x1024))

theorem gate_at (p : FVec Ideal S69632x3584 .f32) (q : FVec Ideal S69632x3584 .f32) (r : Fin 69632) (k : Fin 3584) :
    mulf (mulf p (Host.divf (broadcastInDim S69632x3584 ![] bcast_S_S69632x3584 (constant S_ .f32 0x3F800000#32))
          (addf (broadcastInDim S69632x3584 ![] bcast_S_S69632x3584 (constant S_ .f32 0x3F800000#32)) (Host.exp (Host.negf p))))) q (ix2 r k)
      = (p (ix2 r k) * Ideal.logistic (p (ix2 r k)) * q (ix2 r k) : EReal) := by
  pointwise
  rfl

theorem term_at (o : ℕ) (comb X WG WU WD hc hg hu hd) (e : Fin 8) (he : e.val = o) (r : Fin 69632) (d : Fin 1024) :
    term o comb X WG WU WD hc hg hu hd (ix2 r d) = (comb (ix2 r e) * mlpAt X WG WU WD e r d : EReal) := by
  have h1 : broadcastInDim S69632x1024 ![0, 1] bcast_S69632x1_S69632x1024_0_1 (extractStridedSlice S69632x1 ![0, o] comb hc) (ix2 r d) = comb (ix2 r e) := by
    subst he
    pointwise
  unfold term
  dsimp only
  refine (congrArg₂ (fun a b : EReal => a * b) h1 (dot_down_at _ _ r d)).trans ?_
  refine congrArg (fun b : EReal => comb (ix2 r e) * b) ?_
  unfold mlpAt
  refine Finset.sum_congr rfl fun k _ => ?_
  rw [gate_at, dot_at, dot_at, slice_down_at o WD hd e he]
  simp only [slice_at o _ _ e he]
  rfl

/-! ## The result -/

/-- The reference's result. -/
def plain (comb : FVec Ideal S69632x8 .f32) (X : FVec Ideal S69632x1024 .f32) (WG WU : FVec Ideal S8x1024x3584 .f32) (WD : FVec Ideal S8x3584x1024 .f32) :
    FVec Ideal S69632x1024 .f32 :=
  addf (addf (addf (addf (addf (addf (addf (addf (broadcastInDim S69632x1024 ![] bcast_S_S69632x1024 (constant S_ .f32 0x00000000#32))
    (term 0 comb X WG WU WD slices_S69632x8_S69632x1_0_0 slices_S8x1024x3584_S1x1024x3584_0_0_0 slices_S8x1024x3584_S1x1024x3584_0_0_0 slices_S8x3584x1024_S1x3584x1024_0_0_0))
    (term 1 comb X WG WU WD slices_S69632x8_S69632x1_0_1 slices_S8x1024x3584_S1x1024x3584_1_0_0 slices_S8x1024x3584_S1x1024x3584_1_0_0 slices_S8x3584x1024_S1x3584x1024_1_0_0))
    (term 2 comb X WG WU WD slices_S69632x8_S69632x1_0_2 slices_S8x1024x3584_S1x1024x3584_2_0_0 slices_S8x1024x3584_S1x1024x3584_2_0_0 slices_S8x3584x1024_S1x3584x1024_2_0_0))
    (term 3 comb X WG WU WD slices_S69632x8_S69632x1_0_3 slices_S8x1024x3584_S1x1024x3584_3_0_0 slices_S8x1024x3584_S1x1024x3584_3_0_0 slices_S8x3584x1024_S1x3584x1024_3_0_0))
    (term 4 comb X WG WU WD slices_S69632x8_S69632x1_0_4 slices_S8x1024x3584_S1x1024x3584_4_0_0 slices_S8x1024x3584_S1x1024x3584_4_0_0 slices_S8x3584x1024_S1x3584x1024_4_0_0))
    (term 5 comb X WG WU WD slices_S69632x8_S69632x1_0_5 slices_S8x1024x3584_S1x1024x3584_5_0_0 slices_S8x1024x3584_S1x1024x3584_5_0_0 slices_S8x3584x1024_S1x3584x1024_5_0_0))
    (term 6 comb X WG WU WD slices_S69632x8_S69632x1_0_6 slices_S8x1024x3584_S1x1024x3584_6_0_0 slices_S8x1024x3584_S1x1024x3584_6_0_0 slices_S8x3584x1024_S1x3584x1024_6_0_0))
    (term 7 comb X WG WU WD slices_S69632x8_S69632x1_0_7 slices_S8x1024x3584_S1x1024x3584_7_0_0 slices_S8x1024x3584_S1x1024x3584_7_0_0 slices_S8x3584x1024_S1x3584x1024_7_0_0)

theorem plain_sum (comb X WG WU WD) (r : Fin 69632) (d : Fin 1024) :
    plain comb X WG WU WD (ix2 r d) = ∑ e : Fin 8, (comb (ix2 r e) * mlpAt X WG WU WD e r d : EReal) := by
  have h0 : broadcastInDim S69632x1024 ![] bcast_S_S69632x1024 (constant S_ .f32 0x00000000#32 : FVec Ideal S_ .f32) (ix2 r d) = (0 : EReal) := Ideal.ofBits_zero_f32
  have h : plain comb X WG WU WD (ix2 r d) = ((((((((0 + comb (ix2 r (0 : Fin 8)) * mlpAt X WG WU WD 0 r d) + comb (ix2 r (1 : Fin 8)) * mlpAt X WG WU WD 1 r d) + comb (ix2 r (2 : Fin 8)) * mlpAt X WG WU WD 2 r d) + comb (ix2 r (3 : Fin 8)) * mlpAt X WG WU WD 3 r d)
      + comb (ix2 r (4 : Fin 8)) * mlpAt X WG WU WD 4 r d) + comb (ix2 r (5 : Fin 8)) * mlpAt X WG WU WD 5 r d) + comb (ix2 r (6 : Fin 8)) * mlpAt X WG WU WD 6 r d) + comb (ix2 r (7 : Fin 8)) * mlpAt X WG WU WD 7 r d : EReal) := by
    rw [← h0]
    exact congrArg₂ (· + ·) (congrArg₂ (· + ·) (congrArg₂ (· + ·) (congrArg₂ (· + ·) (congrArg₂ (· + ·) (congrArg₂ (· + ·) (congrArg₂ (· + ·) (congrArg₂ (· + ·) rfl
      (term_at 0 comb X WG WU WD _ _ _ _ 0 rfl r d)) (term_at 1 comb X WG WU WD _ _ _ _ 1 rfl r d)) (term_at 2 comb X WG WU WD _ _ _ _ 2 rfl r d))
      (term_at 3 comb X WG WU WD _ _ _ _ 3 rfl r d)) (term_at 4 comb X WG WU WD _ _ _ _ 4 rfl r d)) (term_at 5 comb X WG WU WD _ _ _ _ 5 rfl r d))
      (term_at 6 comb X WG WU WD _ _ _ _ 6 rfl r d)) (term_at 7 comb X WG WU WD _ _ _ _ 7 rfl r d)
  rw [h, Fin.sum_univ_eight, zero_add]

/-- Of the eight experts one has the row, or none. -/
theorem plain_eq (te : Fin 136 → BitVec 32) (n : BitVec 32) (hn : n.toNat ≤ 136) (hlt : ∀ i, (te i).toNat < 8) (hte : ∀ i, V0 (Proc.devRef .tc main_arg0) (ix1 i) = te i)
    (hnu : V0 (Proc.devRef .tc main_arg1) (ix1 (0 : Fin 1)) = n) (X WG WU WD) (r : Fin 69632) (d : Fin 1024) :
    plain (res_main_v14 V0) X WG WU WD (ix2 r d) = whole te n X WG WU WD r d := by
  rw [plain_sum]
  have hr := r.isLt
  obtain ⟨i, hi⟩ : ∃ i : Fin 136, i.val = r.val / 512 := ⟨⟨r.val / 512, by omega⟩, rfl⟩
  simp only [comb_at V0 te n hn hte hnu i r hi]
  unfold whole
  by_cases h : r.val / 512 < n.toNat
  · simp only [if_pos h]
    have hi' : (⟨r.val / 512, by omega⟩ : Fin 136) = i := Fin.ext hi.symm
    simp only [hi']
    have hl := hlt i
    rw [Finset.sum_eq_single (⟨(te i).toNat % 8, Nat.mod_lt _ (by decide)⟩ : Fin 8)]
    · rw [if_pos, one_mul]
      apply BitVec.eq_of_toNat_eq
      rw [BitVec.toNat_ofNat]
      dsimp only
      omega
    · intro e _ he
      rw [if_neg, zero_mul]
      intro q
      refine he (Fin.ext ?_)
      have := congrArg BitVec.toNat q
      rw [BitVec.toNat_ofNat] at this
      have := e.isLt
      dsimp only
      omega
    · intro q; exact absurd (Finset.mem_univ _) q
  · simp only [if_neg h, zero_mul, Finset.sum_const_zero]

end Cert.ExpertsReferenceIdeal.Plain

end
-- ==== Proof.DenseSums.lean ====
/- The dense part's block of rows at a point, row by row, and its two whole results. -/
module

public import proofs.«01_k».proof.Proof.Gen.DenseIdeal.Value
public import proofs.«01_k».proof.Proof.DenseRows
public import Idealize.ShloMosaic.Lib.MatmulPlain
public import Idealize.ShloMosaic.Lib.Pointwise
public import Idealize.ShloMosaic.Lib.Pointwise.Reduce
public import Idealize.ShloMosaic.Lib.ValueIdx

@[expose] public section

noncomputable section

namespace Cert.DenseIdeal.Rows

open Cert.DenseIdeal Cert.DenseIdeal.Gen
open Cert.ExpertsIdeal.Tiles (part)
open Cert.DenseRows
open Idealize.ShloMosaic Idealize.ShloMosaic.TcCoe Idealize.ShloMosaic.Tactic
open Idealize.ShloMosaic.ValueIdx hiding ix1 ix2 ix3

/-! ## The slabs -/

/-- A slab of 256 columns of a gate or up matrix, from column `o`; -/
def cols (G : S1024x2816.Idx → Elt Ideal .bf16) (o : ℕ) (ho : o + 256 ≤ 2816) : FVec Ideal S1024x256 .bf16 :=
  fun x => G (ix2 (x 0 : Fin 1024) ⟨o + (x 1 : Fin 256).val, lt_of_lt_of_le (Nat.add_lt_add_left (x 1 : Fin 256).isLt o) ho⟩)

/-- a slab of 256 rows of the down matrix, from row `o`. -/
def rows (D : S2816x1024.Idx → Elt Ideal .bf16) (o : ℕ) (ho : o + 256 ≤ 2816) : FVec Ideal S256x1024 .bf16 :=
  fun x => D (ix2 (⟨o + (x 0 : Fin 256).val, lt_of_lt_of_le (Nat.add_lt_add_left (x 0 : Fin 256).isLt o) ho⟩ : Fin 2816) (x 1 : Fin 1024))

/-- The slab's gate or up product; -/
def prod (X : FVec Ideal S512x1024 .bf16) (W : FVec Ideal S1024x256 .bf16) : FVec Ideal S512x256 .f32 :=
  matmul dot_S512x1024_S1024x256_S512x256_1_0_0_1_n_n none X W (constant S512x256 .f32 0x00000000#32)

/-- what it adds to the accumulator, of the slab's three blocks; -/
def slabOf (X : FVec Ideal S512x1024 .bf16) (acc : FVec Ideal S512x1024 .f32) (G U : FVec Ideal S1024x256 .bf16) (D : FVec Ideal S256x1024 .bf16) : FVec Ideal S512x1024 .f32 :=
  addf acc (matmul dot_S512x256_S256x1024_S512x1024_1_0_0_1_n_n none
    (truncf .bf16 (mulf (mulf (prod X G) (logistic (prod X G))) (prod X U)) bitsLt_bf16_f32) D (constant S512x1024 .f32 0x00000000#32))

/-- and of the three matrices. -/
def slab (X : FVec Ideal S512x1024 .bf16) (G U : S1024x2816.Idx → Elt Ideal .bf16) (D : S2816x1024.Idx → Elt Ideal .bf16) (o : ℕ) (ho : o + 256 ≤ 2816)
    (acc : FVec Ideal S512x1024 .f32) : FVec Ideal S512x1024 .f32 := slabOf X acc (cols G o ho) (cols U o ho) (rows D o ho)

theorem ld_cols (G : S1024x2816.Idx → Elt Ideal .bf16) (o : ℕ) (ho : o + 256 ≤ 2816) (h : ∀ a, (![0, o] : Fin 2 → Nat) a + S1024x256.size a ≤ S1024x2816.size a)
    (h' : S1024x256.ShapeCasts S1024x256) : shapeCast S1024x256 (View.ld G (Rect.unit (s := S1024x2816) ![0, o] S1024x256.size h)) h' = cols G o ho := by
  funext y
  obtain ⟨a, k, rfl⟩ : ∃ (a : Fin 1024) (k : Fin 256), y = ix2 a k := ⟨y (0 : Fin 2), y (1 : Fin 2), ValueIdx.eq_ix2 (n0 := 1024) (n1 := 256) y⟩
  rw [View.ld_unit]
  unfold cols
  pointwise

theorem ld_rows (D : S2816x1024.Idx → Elt Ideal .bf16) (o : ℕ) (ho : o + 256 ≤ 2816) (h : ∀ a, (![o, 0] : Fin 2 → Nat) a + S256x1024.size a ≤ S2816x1024.size a)
    (h' : S256x1024.ShapeCasts S256x1024) : shapeCast S256x1024 (View.ld D (Rect.unit (s := S2816x1024) ![o, 0] S256x1024.size h)) h' = rows D o ho := by
  funext y
  obtain ⟨k, a, rfl⟩ : ∃ (k : Fin 256) (a : Fin 1024), y = ix2 k a := ⟨y (0 : Fin 2), y (1 : Fin 2), ValueIdx.eq_ix2 (n0 := 256) (n1 := 1024) y⟩
  rw [View.ld_unit]
  unfold rows
  pointwise

theorem prod_at (X : FVec Ideal S512x1024 .bf16) (W : FVec Ideal S1024x256 .bf16) (g : Fin 512) (f : Fin 256) :
    prod X W (ix2 g f) = ∑ a : Fin 1024, (X (ix2 g a) * W (ix2 a f) : EReal) := by
  have h := Ideal.matmul_plain_apply (M := 512) (K := 1024) (N := 256) none X W (constant S512x256 .f32 0x00000000#32) g f
  refine Eq.trans (b := _) ?_ (h.trans ?_)
  · rfl
  · rw [show (constant S512x256 .f32 0x00000000#32 : FVec Ideal S512x256 .f32) (ValueIdx.ix2 g f) = 0 from Ideal.ofBits_zero_f32]
    exact zero_add _

theorem down_at (X : FVec Ideal S512x256 .bf16) (W : FVec Ideal S256x1024 .bf16) (g : Fin 512) (d : Fin 1024) :
    matmul dot_S512x256_S256x1024_S512x1024_1_0_0_1_n_n none X W (constant S512x1024 .f32 0x00000000#32) (ix2 g d) = ∑ f : Fin 256, (X (ix2 g f) * W (ix2 f d) : EReal) := by
  have h := Ideal.matmul_plain_apply (M := 512) (K := 256) (N := 1024) none X W (constant S512x1024 .f32 0x00000000#32) g d
  refine Eq.trans (b := _) ?_ (h.trans ?_)
  · rfl
  · rw [show (constant S512x1024 .f32 0x00000000#32 : FVec Ideal S512x1024 .f32) (ValueIdx.ix2 g d) = 0 from Ideal.ofBits_zero_f32]
    exact zero_add _

theorem out_at (X : FVec Ideal S512x1024 .bf16) (W : FVec Ideal S1024x1024 .bf16) (g : Fin 512) (d : Fin 1024) :
    matmul dot_S512x1024_S1024x1024_S512x1024_1_0_0_1_n_n none X W (constant S512x1024 .f32 0x00000000#32) (ix2 g d) = ∑ a : Fin 1024, (X (ix2 g a) * W (ix2 a d) : EReal) := by
  have h := Ideal.matmul_plain_apply (M := 512) (K := 1024) (N := 1024) none X W (constant S512x1024 .f32 0x00000000#32) g d
  refine Eq.trans (b := _) ?_ (h.trans ?_)
  · rfl
  · rw [show (constant S512x1024 .f32 0x00000000#32 : FVec Ideal S512x1024 .f32) (ValueIdx.ix2 g d) = 0 from Ideal.ofBits_zero_f32]
    exact zero_add _

/-- The parts that a slab adds, of whatever they are (`P`) column by column. -/
theorem slab_at (X : FVec Ideal S512x1024 .bf16) (G U : S1024x2816.Idx → Elt Ideal .bf16) (D : S2816x1024.Idx → Elt Ideal .bf16) (o : ℕ) (ho : o + 256 ≤ 2816)
    (acc : FVec Ideal S512x1024 .f32) (g : Fin 512) (d : Fin 1024) (P : ℕ → EReal)
    (hP : ∀ k : Fin 2816, part (∑ a : Fin 1024, (X (ix2 g a) * G (ix2 a k) : EReal)) (∑ a : Fin 1024, (X (ix2 g a) * U (ix2 a k) : EReal)) (D (ix2 k d)) = P k.val) :
    slab X G U D o ho acc (ix2 g d) = acc (ix2 g d) + ∑ f ∈ Finset.range 256, P (o + f) := by
  unfold slab slabOf
  refine Eq.trans (congrArg (fun x : EReal => acc (ix2 g d) + x) (down_at _ _ g d)) ?_
  refine congrArg (fun x : EReal => acc (ix2 g d) + x) ?_
  rw [← Fin.sum_univ_eq_sum_range (fun f => P (o + f))]
  refine Finset.sum_congr rfl fun f _ => ?_
  rw [← hP ⟨o + f.val, by omega⟩]
  show (prod X (cols G o ho) (ix2 g f) * Ideal.logistic (prod X (cols G o ho) (ix2 g f)) * prod X (cols U o ho) (ix2 g f) * rows D o ho (ix2 f d) : EReal) = _
  rw [prod_at, prod_at]
  rfl

/-- The eleven slabs added to the accumulator. -/
def step (X : FVec Ideal S512x1024 .bf16) (G U : S1024x2816.Idx → Elt Ideal .bf16) (D : S2816x1024.Idx → Elt Ideal .bf16) (acc : FVec Ideal S512x1024 .f32) : FVec Ideal S512x1024 .f32 :=
  let S := slab X G U D
  S 2560 (by decide) (S 2304 (by decide) (S 2048 (by decide) (S 1792 (by decide) (S 1536 (by decide) (S 1280 (by decide) (S 1024 (by decide) (S 768 (by decide)
    (S 512 (by decide) (S 256 (by decide) (S 0 (by decide) acc))))))))))

theorem step_at (X : FVec Ideal S512x1024 .bf16) (G U : S1024x2816.Idx → Elt Ideal .bf16) (D : S2816x1024.Idx → Elt Ideal .bf16) (acc : FVec Ideal S512x1024 .f32)
    (g : Fin 512) (d : Fin 1024) (h : Fin 1024 → EReal) (hX : ∀ a, X (ix2 g a) = h a) :
    step X G U D acc (ix2 g d) = acc (ix2 g d) + ∑ k : Fin 2816, partAt G U D h d k := by
  obtain ⟨P, hP⟩ : ∃ P : ℕ → EReal, ∀ k : Fin 2816, partAt G U D h d k = P k.val :=
    ⟨fun k => if hk : k < 2816 then partAt G U D h d ⟨k, hk⟩ else 0, fun k => by
      show _ = if hk : k.val < 2816 then partAt G U D h d ⟨k.val, hk⟩ else 0
      rw [dif_pos k.isLt]⟩
  have hs := fun o ho acc => slab_at X G U D o ho acc g d P (fun k => by
    rw [← hP]; simp only [hX]; rfl)
  have he : ∑ k : Fin 2816, partAt G U D h d k = ∑ k ∈ Finset.range 2816, P k := by
    rw [← Fin.sum_univ_eq_sum_range]
    exact Finset.sum_congr rfl fun k _ => hP k
  rw [he]
  unfold step
  rw [hs, hs, hs, hs, hs, hs, hs, hs, hs, hs, hs]
  have key : ∀ a b : ℕ, a = b + 256 → ∑ k ∈ Finset.range a, P k = ∑ k ∈ Finset.range b, P k + ∑ f ∈ Finset.range 256, P (b + f) := by
    rintro _ b rfl
    exact Finset.sum_range_add _ _ _
  rw [key 2816 2560 rfl, key 2560 2304 rfl, key 2304 2048 rfl, key 2048 1792 rfl, key 1792 1536 rfl, key 1536 1280 rfl, key 1280 1024 rfl, key 1024 768 rfl, key 768 512 rfl, key 512 256 rfl]
  simp only [zero_add, add_assoc]

/-! ## The norm -/

/-- A block's rows over their root mean squares. -/
def nrm (X : FVec Ideal S512x1024 .f32) (g : FVec Ideal S1x1024 .f32) : FVec Ideal S512x1024 .bf16 :=
  truncf .bf16 (mulf (mulf X (broadcastTo S512x1024 (rsqrt (addf (divf (shapeCast S512x1 (multiReduction .add [1] S512 (mulf X X) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)) (broadcastTo S512x1024 g broadcasts_S1x1024_S512x1024)) bitsLt_bf16_f32

theorem nrm_at (X : FVec Ideal S512x1024 .f32) (g : FVec Ideal S1x1024 .f32) (r : Fin 512) (d : Fin 1024) :
    nrm X g (ix2 r d) = normed (fun a => g (ix2 (0 : Fin 1) a)) (fun a => X (ix2 r a)) d := by
  unfold nrm normed
  pointwise

/-! ## A point's blocks -/

/-- The block with the attention's output added, -/
theorem mid_at (x0 : Vec Ideal S512x1024 .bf16) (x1 : Vec Ideal S512x1024 .f32) (x2 : Vec Ideal S1024x1024 .bf16) (g : Fin 512) (d : Fin 1024) :
    k0_pay2 x1 x0 x2 (ix2 g d) = summed x2 (fun a => x1 (ix2 g a)) (fun a => x0 (ix2 g a)) d := by
  unfold k0_pay2 summed
  dsimp only
  refine congrArg (fun z : EReal => x1 (ix2 g d) + z) ((out_at _ _ g d).trans ?_)
  refine Finset.sum_congr rfl fun a _ => ?_
  rw [shapeCast_self]

/-- its norm, -/
theorem normed_at (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) :
    k0_pay14 x0 x1 x2 x3 x4 x5 x6 x7 = nrm (k0_pay2 x1 x0 x2) x3 := by
  have z : (![0, 0] : Fin 2 → Nat) = fun _ => 0 := by decide
  unfold k0_pay14
  rw [View.ld_unit_zero z, View.ld_unit_zero z, View.ld_unit_zero z, View.ld_unit_zero z]
  unfold k0_pay3
  rw [shapeCast_self]
  rfl

/-- the block with all eleven slabs added: the first result's, -/
theorem last_at (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) :
    k0_pay11 (k0_pay14 x0 x1 x2 x3 x4 x5 x6 x7) (k0_pay15 x0 x1 x2 x3 x4 x5 x6 x7) (k0_pay16 x0 x1 x2 x3 x4 x5 x6 x7) (View.ld x4 r0_21) (View.ld x5 r0_21) (View.ld x6 r0_22) (View.ld x4 r0_23)
      (View.ld x5 r0_23) (View.ld x6 r0_24) = step (nrm (k0_pay2 x1 x0 x2) x3) x4 x5 x6 (k0_pay2 x1 x0 x2) := by
  have z : (![0, 0] : Fin 2 → Nat) = fun _ => 0 := by decide
  have h3 : k0_pay3 x1 x0 x2 x3 = nrm (k0_pay2 x1 x0 x2) x3 := by
    unfold k0_pay3
    rw [shapeCast_self]
    rfl
  have h4 : ∀ v21 v24 v31, k0_pay4 (View.ld x1 r0_0) (View.ld x0 r0_0) (View.ld x2 r0_1) (View.ld x3 r0_2) v21 v24 v31 = slabOf (nrm (k0_pay2 x1 x0 x2) x3) (k0_pay2 x1 x0 x2)
      (shapeCast S1024x256 v21 shapeCasts_S1024x256_S1024x256) (shapeCast S1024x256 v24 shapeCasts_S1024x256_S1024x256) (shapeCast S256x1024 v31 shapeCasts_S256x1024_S256x1024) := fun v21 v24 v31 => by
    rw [View.ld_unit_zero z, View.ld_unit_zero z, View.ld_unit_zero z, View.ld_unit_zero z]
    unfold k0_pay4
    rw [h3]
    rfl
  unfold k0_pay15 k0_pay16
  rw [normed_at, h4]
  generalize nrm (k0_pay2 x1 x0 x2) x3 = X
  generalize k0_pay2 x1 x0 x2 = M
  have c0 : ∀ G : Vec Ideal S1024x2816 .bf16, shapeCast S1024x256 (View.ld G r0_3) shapeCasts_S1024x256_S1024x256 = cols G 0 (by decide) := fun G => ld_cols G 0 _ _ _
  have d0 : shapeCast S256x1024 (View.ld x6 r0_4) shapeCasts_S256x1024_S256x1024 = rows x6 0 (by decide) := ld_rows x6 0 _ _ _
  have c256 : ∀ G : Vec Ideal S1024x2816 .bf16, shapeCast S1024x256 (View.ld G r0_5) shapeCasts_S1024x256_S1024x256 = cols G 256 (by decide) := fun G => ld_cols G 256 _ _ _
  have d256 : shapeCast S256x1024 (View.ld x6 r0_6) shapeCasts_S256x1024_S256x1024 = rows x6 256 (by decide) := ld_rows x6 256 _ _ _
  have c512 : ∀ G : Vec Ideal S1024x2816 .bf16, shapeCast S1024x256 (View.ld G r0_7) shapeCasts_S1024x256_S1024x256 = cols G 512 (by decide) := fun G => ld_cols G 512 _ _ _
  have d512 : shapeCast S256x1024 (View.ld x6 r0_8) shapeCasts_S256x1024_S256x1024 = rows x6 512 (by decide) := ld_rows x6 512 _ _ _
  have c768 : ∀ G : Vec Ideal S1024x2816 .bf16, shapeCast S1024x256 (View.ld G r0_9) shapeCasts_S1024x256_S1024x256 = cols G 768 (by decide) := fun G => ld_cols G 768 _ _ _
  have d768 : shapeCast S256x1024 (View.ld x6 r0_10) shapeCasts_S256x1024_S256x1024 = rows x6 768 (by decide) := ld_rows x6 768 _ _ _
  have c1024 : ∀ G : Vec Ideal S1024x2816 .bf16, shapeCast S1024x256 (View.ld G r0_11) shapeCasts_S1024x256_S1024x256 = cols G 1024 (by decide) := fun G => ld_cols G 1024 _ _ _
  have d1024 : shapeCast S256x1024 (View.ld x6 r0_12) shapeCasts_S256x1024_S256x1024 = rows x6 1024 (by decide) := ld_rows x6 1024 _ _ _
  have c1280 : ∀ G : Vec Ideal S1024x2816 .bf16, shapeCast S1024x256 (View.ld G r0_13) shapeCasts_S1024x256_S1024x256 = cols G 1280 (by decide) := fun G => ld_cols G 1280 _ _ _
  have d1280 : shapeCast S256x1024 (View.ld x6 r0_14) shapeCasts_S256x1024_S256x1024 = rows x6 1280 (by decide) := ld_rows x6 1280 _ _ _
  have c1536 : ∀ G : Vec Ideal S1024x2816 .bf16, shapeCast S1024x256 (View.ld G r0_15) shapeCasts_S1024x256_S1024x256 = cols G 1536 (by decide) := fun G => ld_cols G 1536 _ _ _
  have d1536 : shapeCast S256x1024 (View.ld x6 r0_16) shapeCasts_S256x1024_S256x1024 = rows x6 1536 (by decide) := ld_rows x6 1536 _ _ _
  have c1792 : ∀ G : Vec Ideal S1024x2816 .bf16, shapeCast S1024x256 (View.ld G r0_17) shapeCasts_S1024x256_S1024x256 = cols G 1792 (by decide) := fun G => ld_cols G 1792 _ _ _
  have d1792 : shapeCast S256x1024 (View.ld x6 r0_18) shapeCasts_S256x1024_S256x1024 = rows x6 1792 (by decide) := ld_rows x6 1792 _ _ _
  have c2048 : ∀ G : Vec Ideal S1024x2816 .bf16, shapeCast S1024x256 (View.ld G r0_19) shapeCasts_S1024x256_S1024x256 = cols G 2048 (by decide) := fun G => ld_cols G 2048 _ _ _
  have d2048 : shapeCast S256x1024 (View.ld x6 r0_20) shapeCasts_S256x1024_S256x1024 = rows x6 2048 (by decide) := ld_rows x6 2048 _ _ _
  have c2304 : ∀ G : Vec Ideal S1024x2816 .bf16, shapeCast S1024x256 (View.ld G r0_21) shapeCasts_S1024x256_S1024x256 = cols G 2304 (by decide) := fun G => ld_cols G 2304 _ _ _
  have d2304 : shapeCast S256x1024 (View.ld x6 r0_22) shapeCasts_S256x1024_S256x1024 = rows x6 2304 (by decide) := ld_rows x6 2304 _ _ _
  have c2560 : ∀ G : Vec Ideal S1024x2816 .bf16, shapeCast S1024x256 (View.ld G r0_23) shapeCasts_S1024x256_S1024x256 = cols G 2560 (by decide) := fun G => ld_cols G 2560 _ _ _
  have d2560 : shapeCast S256x1024 (View.ld x6 r0_24) shapeCasts_S256x1024_S256x1024 = rows x6 2560 (by decide) := ld_rows x6 2560 _ _ _
  refine Eq.trans (b := (slabOf X (slabOf X (slabOf X (slabOf X (slabOf X (slabOf X (slabOf X (slabOf X (slabOf X (slabOf X (slabOf X M
      (shapeCast S1024x256 (View.ld x4 r0_3) shapeCasts_S1024x256_S1024x256) (shapeCast S1024x256 (View.ld x5 r0_3) shapeCasts_S1024x256_S1024x256)
      (shapeCast S256x1024 (View.ld x6 r0_4) shapeCasts_S256x1024_S256x1024))
      (shapeCast S1024x256 (View.ld x4 r0_5) shapeCasts_S1024x256_S1024x256) (shapeCast S1024x256 (View.ld x5 r0_5) shapeCasts_S1024x256_S1024x256)
      (shapeCast S256x1024 (View.ld x6 r0_6) shapeCasts_S256x1024_S256x1024))
      (shapeCast S1024x256 (View.ld x4 r0_7) shapeCasts_S1024x256_S1024x256) (shapeCast S1024x256 (View.ld x5 r0_7) shapeCasts_S1024x256_S1024x256)
      (shapeCast S256x1024 (View.ld x6 r0_8) shapeCasts_S256x1024_S256x1024))
      (shapeCast S1024x256 (View.ld x4 r0_9) shapeCasts_S1024x256_S1024x256) (shapeCast S1024x256 (View.ld x5 r0_9) shapeCasts_S1024x256_S1024x256)
      (shapeCast S256x1024 (View.ld x6 r0_10) shapeCasts_S256x1024_S256x1024))
      (shapeCast S1024x256 (View.ld x4 r0_11) shapeCasts_S1024x256_S1024x256) (shapeCast S1024x256 (View.ld x5 r0_11) shapeCasts_S1024x256_S1024x256)
      (shapeCast S256x1024 (View.ld x6 r0_12) shapeCasts_S256x1024_S256x1024))
      (shapeCast S1024x256 (View.ld x4 r0_13) shapeCasts_S1024x256_S1024x256) (shapeCast S1024x256 (View.ld x5 r0_13) shapeCasts_S1024x256_S1024x256)
      (shapeCast S256x1024 (View.ld x6 r0_14) shapeCasts_S256x1024_S256x1024))
      (shapeCast S1024x256 (View.ld x4 r0_15) shapeCasts_S1024x256_S1024x256) (shapeCast S1024x256 (View.ld x5 r0_15) shapeCasts_S1024x256_S1024x256)
      (shapeCast S256x1024 (View.ld x6 r0_16) shapeCasts_S256x1024_S256x1024))
      (shapeCast S1024x256 (View.ld x4 r0_17) shapeCasts_S1024x256_S1024x256) (shapeCast S1024x256 (View.ld x5 r0_17) shapeCasts_S1024x256_S1024x256)
      (shapeCast S256x1024 (View.ld x6 r0_18) shapeCasts_S256x1024_S256x1024))
      (shapeCast S1024x256 (View.ld x4 r0_19) shapeCasts_S1024x256_S1024x256) (shapeCast S1024x256 (View.ld x5 r0_19) shapeCasts_S1024x256_S1024x256)
      (shapeCast S256x1024 (View.ld x6 r0_20) shapeCasts_S256x1024_S256x1024))
      (shapeCast S1024x256 (View.ld x4 r0_21) shapeCasts_S1024x256_S1024x256) (shapeCast S1024x256 (View.ld x5 r0_21) shapeCasts_S1024x256_S1024x256)
      (shapeCast S256x1024 (View.ld x6 r0_22) shapeCasts_S256x1024_S256x1024))
      (shapeCast S1024x256 (View.ld x4 r0_23) shapeCasts_S1024x256_S1024x256) (shapeCast S1024x256 (View.ld x5 r0_23) shapeCasts_S1024x256_S1024x256)
      (shapeCast S256x1024 (View.ld x6 r0_24) shapeCasts_S256x1024_S256x1024))) ?_ ?_
  · rfl
  · simp only [c0, d0, c256, d256, c512, d512, c768, d768, c1024, d1024, c1280, d1280, c1536, d1536, c1792, d1792, c2048, d2048, c2304, d2304, c2560, d2560]
    rfl

theorem out8 (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) :
    out0_8 x0 x1 x2 x3 x4 x5 x6 x7 = step (nrm (k0_pay2 x1 x0 x2) x3) x4 x5 x6 (k0_pay2 x1 x0 x2) := by
  have z : (![0, 0] : Fin 2 → Nat) = fun _ => 0 := by decide
  unfold out0_8
  rw [View.canon_unit_zero z, last_at]

/-- and the second's. -/
theorem out9 (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) :
    out0_9 x0 x1 x2 x3 x4 x5 x6 x7 = nrm (step (nrm (k0_pay2 x1 x0 x2) x3) x4 x5 x6 (k0_pay2 x1 x0 x2)) x7 := by
  have z : (![0, 0] : Fin 2 → Nat) = fun _ => 0 := by decide
  unfold out0_9
  rw [View.canon_unit_zero z]
  unfold k0_pay13
  rw [last_at]
  unfold k0_pay12
  rw [View.ld_unit_zero z, shapeCast_self]
  rfl

/-- The first result's block at an index, -/
theorem out8_at (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) (g : Fin 512) (d : Fin 1024) :
    out0_8 x0 x1 x2 x3 x4 x5 x6 x7 (ix2 g d) = fed x4 x5 x6 (fun a => x3 (ix2 (0 : Fin 1) a)) (summed x2 (fun a => x1 (ix2 g a)) (fun a => x0 (ix2 g a))) d := by
  have hm : (fun a => k0_pay2 x1 x0 x2 (ix2 g a)) = summed x2 (fun a => x1 (ix2 g a)) (fun a => x0 (ix2 g a)) := funext fun a => mid_at x0 x1 x2 g a
  rw [out8, step_at _ x4 x5 x6 _ g d _ (fun a => nrm_at _ x3 g a), hm, mid_at]
  rfl

/-- and the second's. -/
theorem out9_at (x0 : Vec Ideal S512x1024 .bf16) (x1 : Vec Ideal S512x1024 .f32) (x2 : Vec Ideal S1024x1024 .bf16) (x3 : Vec Ideal S1x1024 .f32) (x4 x5 : Vec Ideal S1024x2816 .bf16)
    (x6 : Vec Ideal S2816x1024 .bf16) (x7 : Vec Ideal S1x1024 .f32) (g : Fin 512) (d : Fin 1024) :
    out0_9 x0 x1 x2 x3 x4 x5 x6 x7 (ix2 g d)
      = normed (fun a => x7 (ix2 (0 : Fin 1) a)) (fed x4 x5 x6 (fun a => x3 (ix2 (0 : Fin 1) a)) (summed x2 (fun a => x1 (ix2 g a)) (fun a => x0 (ix2 g a)))) d := by
  rw [out9, nrm_at]
  refine congrArg (fun f => normed _ f d) (funext fun a => ?_)
  rw [← out8_at x0 x1 x2 x3 x4 x5 x6 x7, out8]

end Cert.DenseIdeal.Rows
-- ==== Proof.DenseFinal.lean ====
/- The dense part's two whole results, of the arguments. -/
module

public import proofs.«01_k».proof.Proof.DenseSums
public import Idealize.ShloMosaic.Lib.StableHlo.ReadAt
public import Idealize.ShloMosaic.Lib.StableHlo.RunRead
public import Idealize.ShloMosaic.Lib.Tactic

@[expose] public section

noncomputable section

namespace Cert.DenseIdeal.Rows

open Cert.DenseIdeal Cert.DenseIdeal.Gen
open Cert.DenseRows
open Idealize.ShloMosaic Idealize.ShloMosaic.TcCoe Idealize.ShloMosaic.Tactic
open Idealize.ShloMosaic.ValueIdx hiding ix1 ix2 ix3

variable (m : (ℓ : Loc nD τ sig) → Buf (Elt Ideal) ℓ)

/-! ## What a point reads -/

theorem V_0 {F : FTy → Type} [FloatOps F] (m : (ℓ : Loc nD τ sig) → Buf (Elt F) ℓ) (c : Dev nD) : V m c main_v0 = truncf .bf16 (m ((c : Thread nD τ).loc main_arg2)) bitsLt_bf16_f32 := by
  unfold V
  after_reads_simp
theorem V_2 {F : FTy → Type} [FloatOps F] (m : (ℓ : Loc nD τ sig) → Buf (Elt F) ℓ) (c : Dev nD) : V m c main_v2 = truncf .bf16 (m ((c : Thread nD τ).loc main_arg4)) bitsLt_bf16_f32 := by
  unfold V
  after_reads_simp
theorem V_3 {F : FTy → Type} [FloatOps F] (m : (ℓ : Loc nD τ sig) → Buf (Elt F) ℓ) (c : Dev nD) : V m c main_v3 = truncf .bf16 (m ((c : Thread nD τ).loc main_arg5)) bitsLt_bf16_f32 := by
  unfold V
  after_reads_simp
theorem V_4 {F : FTy → Type} [FloatOps F] (m : (ℓ : Loc nD τ sig) → Buf (Elt F) ℓ) (c : Dev nD) : V m c main_v4 = truncf .bf16 (m ((c : Thread nD τ).loc main_arg6)) bitsLt_bf16_f32 := by
  unfold V
  after_reads_simp
theorem V_1 (c : Dev nD) : V m c main_v1 = shapeCast S1x1024 (m ((c : Thread nD τ).loc main_arg3)) shapeCasts_S1024_S1x1024 := by
  unfold V
  after_reads_simp
  rfl
theorem V_5 (c : Dev nD) : V m c main_v5 = shapeCast S1x1024 (m ((c : Thread nD τ).loc main_arg7)) shapeCasts_S1024_S1x1024 := by
  unfold V
  after_reads_simp
  rfl

theorem transform_0 : ∀ t : Fin grid0.N, cc0_transform_0 (grid0.coords t) = ![t.val, 0] := by decide +kernel
theorem transform_1 : ∀ t : Fin grid0.N, cc0_transform_1 (grid0.coords t) = ![t.val, 0] := by decide +kernel
theorem transform_8 : ∀ t : Fin grid0.N, cc0_transform_8 (grid0.coords t) = ![t.val, 0] := by decide +kernel
theorem transform_9 : ∀ t : Fin grid0.N, cc0_transform_9 (grid0.coords t) = ![t.val, 0] := by decide +kernel

theorem emb_0 (t : Fin cfg0.N) (g : Fin 512) (d : Fin 1024) (r : Fin 32768) (hr : r.val = t.val * 512 + g.val) :
    ((cfg0.win 0).blk t).view.emb (ix2 g d) = ix2 r d := by
  have h : (cfg0.win 0).index t = ![t.val, 0] := transform_0 t
  have h0 : (cfg0.win 0).index t (0 : Fin 2) = t.val := congrFun h (0 : Fin 2)
  have h1 : (cfg0.win 0).index t (1 : Fin 2) = 0 := congrFun h (1 : Fin 2)
  refine funext fun a => Fin.ext ?_
  match a with
  | ⟨0, _⟩ =>
    show (cfg0.win 0).index t (0 : Fin 2) * 512 + 1 * g.val = r.val
    rw [h0]; omega
  | ⟨1, _⟩ =>
    show (cfg0.win 0).index t (1 : Fin 2) * 1024 + 1 * d.val = d.val
    rw [h1]; omega

theorem emb_1 (t : Fin cfg0.N) (g : Fin 512) (d : Fin 1024) (r : Fin 32768) (hr : r.val = t.val * 512 + g.val) :
    ((cfg0.win 1).blk t).view.emb (ix2 g d) = ix2 r d := by
  have h : (cfg0.win 1).index t = ![t.val, 0] := transform_1 t
  have h0 : (cfg0.win 1).index t (0 : Fin 2) = t.val := congrFun h (0 : Fin 2)
  have h1 : (cfg0.win 1).index t (1 : Fin 2) = 0 := congrFun h (1 : Fin 2)
  refine funext fun a => Fin.ext ?_
  match a with
  | ⟨0, _⟩ =>
    show (cfg0.win 1).index t (0 : Fin 2) * 512 + 1 * g.val = r.val
    rw [h0]; omega
  | ⟨1, _⟩ =>
    show (cfg0.win 1).index t (1 : Fin 2) * 1024 + 1 * d.val = d.val
    rw [h1]; omega

theorem emb_8 (t : Fin cfg0.N) (g : Fin 512) (d : Fin 1024) (r : Fin 32768) (hr : r.val = t.val * 512 + g.val) :
    ((cfg0.win 8).blk t).view.emb (ix2 g d) = ix2 r d := by
  have h : (cfg0.win 8).index t = ![t.val, 0] := transform_8 t
  have h0 : (cfg0.win 8).index t (0 : Fin 2) = t.val := congrFun h (0 : Fin 2)
  have h1 : (cfg0.win 8).index t (1 : Fin 2) = 0 := congrFun h (1 : Fin 2)
  refine funext fun a => Fin.ext ?_
  match a with
  | ⟨0, _⟩ =>
    show (cfg0.win 8).index t (0 : Fin 2) * 512 + 1 * g.val = r.val
    rw [h0]; omega
  | ⟨1, _⟩ =>
    show (cfg0.win 8).index t (1 : Fin 2) * 1024 + 1 * d.val = d.val
    rw [h1]; omega

theorem emb_9 (t : Fin cfg0.N) (g : Fin 512) (d : Fin 1024) (r : Fin 32768) (hr : r.val = t.val * 512 + g.val) :
    ((cfg0.win 9).blk t).view.emb (ix2 g d) = ix2 r d := by
  have h : (cfg0.win 9).index t = ![t.val, 0] := transform_9 t
  have h0 : (cfg0.win 9).index t (0 : Fin 2) = t.val := congrFun h (0 : Fin 2)
  have h1 : (cfg0.win 9).index t (1 : Fin 2) = 0 := congrFun h (1 : Fin 2)
  refine funext fun a => Fin.ext ?_
  match a with
  | ⟨0, _⟩ =>
    show (cfg0.win 9).index t (0 : Fin 2) * 512 + 1 * g.val = r.val
    rw [h0]; omega
  | ⟨1, _⟩ =>
    show (cfg0.win 9).index t (1 : Fin 2) * 1024 + 1 * d.val = d.val
    rw [h1]; omega

theorem emb_2 (t : Fin cfg0.N) (k : Fin 1024) (d : Fin 1024) : ((cfg0.win 2).blk t).view.emb (ix2 k d) = ix2 k d := by
  have h : (cfg0.win 2).index t = ![0, 0] := rfl
  have h0 : (cfg0.win 2).index t (0 : Fin 2) = 0 := congrFun h (0 : Fin 2)
  have h1 : (cfg0.win 2).index t (1 : Fin 2) = 0 := congrFun h (1 : Fin 2)
  refine funext fun a => Fin.ext ?_
  match a with
  | ⟨0, _⟩ =>
    show (cfg0.win 2).index t (0 : Fin 2) * 1024 + 1 * k.val = k.val
    rw [h0]; omega
  | ⟨1, _⟩ =>
    show (cfg0.win 2).index t (1 : Fin 2) * 1024 + 1 * d.val = d.val
    rw [h1]; omega

theorem emb_3 (t : Fin cfg0.N) (k : Fin 1) (d : Fin 1024) : ((cfg0.win 3).blk t).view.emb (ix2 k d) = ix2 k d := by
  have h : (cfg0.win 3).index t = ![0, 0] := rfl
  have h0 : (cfg0.win 3).index t (0 : Fin 2) = 0 := congrFun h (0 : Fin 2)
  have h1 : (cfg0.win 3).index t (1 : Fin 2) = 0 := congrFun h (1 : Fin 2)
  refine funext fun a => Fin.ext ?_
  match a with
  | ⟨0, _⟩ =>
    show (cfg0.win 3).index t (0 : Fin 2) * 1 + 1 * k.val = k.val
    rw [h0]; omega
  | ⟨1, _⟩ =>
    show (cfg0.win 3).index t (1 : Fin 2) * 1024 + 1 * d.val = d.val
    rw [h1]; omega

theorem emb_4 (t : Fin cfg0.N) (k : Fin 1024) (d : Fin 2816) : ((cfg0.win 4).blk t).view.emb (ix2 k d) = ix2 k d := by
  have h : (cfg0.win 4).index t = ![0, 0] := rfl
  have h0 : (cfg0.win 4).index t (0 : Fin 2) = 0 := congrFun h (0 : Fin 2)
  have h1 : (cfg0.win 4).index t (1 : Fin 2) = 0 := congrFun h (1 : Fin 2)
  refine funext fun a => Fin.ext ?_
  match a with
  | ⟨0, _⟩ =>
    show (cfg0.win 4).index t (0 : Fin 2) * 1024 + 1 * k.val = k.val
    rw [h0]; omega
  | ⟨1, _⟩ =>
    show (cfg0.win 4).index t (1 : Fin 2) * 2816 + 1 * d.val = d.val
    rw [h1]; omega

theorem emb_5 (t : Fin cfg0.N) (k : Fin 1024) (d : Fin 2816) : ((cfg0.win 5).blk t).view.emb (ix2 k d) = ix2 k d := by
  have h : (cfg0.win 5).index t = ![0, 0] := rfl
  have h0 : (cfg0.win 5).index t (0 : Fin 2) = 0 := congrFun h (0 : Fin 2)
  have h1 : (cfg0.win 5).index t (1 : Fin 2) = 0 := congrFun h (1 : Fin 2)
  refine funext fun a => Fin.ext ?_
  match a with
  | ⟨0, _⟩ =>
    show (cfg0.win 5).index t (0 : Fin 2) * 1024 + 1 * k.val = k.val
    rw [h0]; omega
  | ⟨1, _⟩ =>
    show (cfg0.win 5).index t (1 : Fin 2) * 2816 + 1 * d.val = d.val
    rw [h1]; omega

theorem emb_6 (t : Fin cfg0.N) (k : Fin 2816) (d : Fin 1024) : ((cfg0.win 6).blk t).view.emb (ix2 k d) = ix2 k d := by
  have h : (cfg0.win 6).index t = ![0, 0] := rfl
  have h0 : (cfg0.win 6).index t (0 : Fin 2) = 0 := congrFun h (0 : Fin 2)
  have h1 : (cfg0.win 6).index t (1 : Fin 2) = 0 := congrFun h (1 : Fin 2)
  refine funext fun a => Fin.ext ?_
  match a with
  | ⟨0, _⟩ =>
    show (cfg0.win 6).index t (0 : Fin 2) * 2816 + 1 * k.val = k.val
    rw [h0]; omega
  | ⟨1, _⟩ =>
    show (cfg0.win 6).index t (1 : Fin 2) * 1024 + 1 * d.val = d.val
    rw [h1]; omega

theorem emb_7 (t : Fin cfg0.N) (k : Fin 1) (d : Fin 1024) : ((cfg0.win 7).blk t).view.emb (ix2 k d) = ix2 k d := by
  have h : (cfg0.win 7).index t = ![0, 0] := rfl
  have h0 : (cfg0.win 7).index t (0 : Fin 2) = 0 := congrFun h (0 : Fin 2)
  have h1 : (cfg0.win 7).index t (1 : Fin 2) = 0 := congrFun h (1 : Fin 2)
  refine funext fun a => Fin.ext ?_
  match a with
  | ⟨0, _⟩ =>
    show (cfg0.win 7).index t (0 : Fin 2) * 1 + 1 * k.val = k.val
    rw [h0]; omega
  | ⟨1, _⟩ =>
    show (cfg0.win 7).index t (1 : Fin 2) * 1024 + 1 * d.val = d.val
    rw [h1]; omega

theorem read_0 (c : Dev nD) (t : Fin cfg0.N) (g : Fin 512) (d : Fin 1024) (r : Fin 32768) (hr : r.val = t.val * 512 + g.val) :
    iblk m c 0 t (ix2 g d) = (m ((c : Thread nD τ).loc main_arg0)) (ix2 r d) := by
  refine Eq.trans (b := V m c main_arg0 (ix2 r d)) ?_ (congrFun (V_main_arg0 m c) _)
  exact congrArg (V m c main_arg0) (emb_0 t g d r hr)

theorem read_1 (c : Dev nD) (t : Fin cfg0.N) (g : Fin 512) (d : Fin 1024) (r : Fin 32768) (hr : r.val = t.val * 512 + g.val) :
    iblk m c 1 t (ix2 g d) = (m ((c : Thread nD τ).loc main_arg1)) (ix2 r d) := by
  refine Eq.trans (b := V m c main_arg1 (ix2 r d)) ?_ (congrFun (V_main_arg1 m c) _)
  exact congrArg (V m c main_arg1) (emb_1 t g d r hr)

theorem read_2 (c : Dev nD) (t : Fin cfg0.N) : (iblk m c 2 t : Vec Ideal S1024x1024 .bf16) = (fun i => (m ((c : Thread nD τ).loc main_arg2)) i : S1024x1024.Idx → EReal) := by
  funext y
  obtain ⟨k, d, rfl⟩ : ∃ (k : Fin 1024) (d : Fin 1024), y = ix2 k d := ⟨y (0 : Fin 2), y (1 : Fin 2), ValueIdx.eq_ix2 (n0 := 1024) (n1 := 1024) y⟩
  refine Eq.trans (b := V m c main_v0 (ix2 k d)) (congrArg (V m c main_v0) (emb_2 t k d)) ?_
  rw [V_0]
  rfl

theorem read_4 (c : Dev nD) (t : Fin cfg0.N) : (iblk m c 4 t : Vec Ideal S1024x2816 .bf16) = (fun i => (m ((c : Thread nD τ).loc main_arg4)) i : S1024x2816.Idx → EReal) := by
  funext y
  obtain ⟨k, d, rfl⟩ : ∃ (k : Fin 1024) (d : Fin 2816), y = ix2 k d := ⟨y (0 : Fin 2), y (1 : Fin 2), ValueIdx.eq_ix2 (n0 := 1024) (n1 := 2816) y⟩
  refine Eq.trans (b := V m c main_v2 (ix2 k d)) (congrArg (V m c main_v2) (emb_4 t k d)) ?_
  rw [V_2]
  rfl

theorem read_5 (c : Dev nD) (t : Fin cfg0.N) : (iblk m c 5 t : Vec Ideal S1024x2816 .bf16) = (fun i => (m ((c : Thread nD τ).loc main_arg5)) i : S1024x2816.Idx → EReal) := by
  funext y
  obtain ⟨k, d, rfl⟩ : ∃ (k : Fin 1024) (d : Fin 2816), y = ix2 k d := ⟨y (0 : Fin 2), y (1 : Fin 2), ValueIdx.eq_ix2 (n0 := 1024) (n1 := 2816) y⟩
  refine Eq.trans (b := V m c main_v3 (ix2 k d)) (congrArg (V m c main_v3) (emb_5 t k d)) ?_
  rw [V_3]
  rfl

theorem read_6 (c : Dev nD) (t : Fin cfg0.N) : (iblk m c 6 t : Vec Ideal S2816x1024 .bf16) = (fun i => (m ((c : Thread nD τ).loc main_arg6)) i : S2816x1024.Idx → EReal) := by
  funext y
  obtain ⟨k, d, rfl⟩ : ∃ (k : Fin 2816) (d : Fin 1024), y = ix2 k d := ⟨y (0 : Fin 2), y (1 : Fin 2), ValueIdx.eq_ix2 (n0 := 2816) (n1 := 1024) y⟩
  refine Eq.trans (b := V m c main_v4 (ix2 k d)) (congrArg (V m c main_v4) (emb_6 t k d)) ?_
  rw [V_4]
  rfl

theorem read_3 (c : Dev nD) (t : Fin cfg0.N) (d : Fin 1024) : iblk m c 3 t (ix2 (0 : Fin 1) d) = (m ((c : Thread nD τ).loc main_arg3)) (ix1 d) := by
  refine Eq.trans (b := V m c main_v1 (ix2 (0 : Fin 1) d)) (congrArg (V m c main_v1) (emb_3 t 0 d)) ?_
  rw [V_1]
  pointwise

theorem read_7 (c : Dev nD) (t : Fin cfg0.N) (d : Fin 1024) : iblk m c 7 t (ix2 (0 : Fin 1) d) = (m ((c : Thread nD τ).loc main_arg7)) (ix1 d) := by
  refine Eq.trans (b := V m c main_v5 (ix2 (0 : Fin 1) d)) (congrArg (V m c main_v5) (emb_7 t 0 d)) ?_
  rw [V_5]
  pointwise

/-! ## The whole results -/

/-- A row after the dense part, of the arguments, -/
def fedRow (o x : S32768x1024.Idx → EReal) (wo : S1024x1024.Idx → EReal) (g1 : S1024.Idx → EReal) (wg wu : S1024x2816.Idx → EReal) (wd : S2816x1024.Idx → EReal) (r : Fin 32768) :
    Fin 1024 → EReal :=
  fed wg wu wd (fun a => g1 (ix1 a)) (summed wo (fun a => x (ix2 r a)) (fun a => o (ix2 r a)))

/-- and its norm. -/
def normRow (o x : S32768x1024.Idx → EReal) (wo : S1024x1024.Idx → EReal) (g1 : S1024.Idx → EReal) (wg wu : S1024x2816.Idx → EReal) (wd : S2816x1024.Idx → EReal) (g2 : S1024.Idx → EReal)
    (r : Fin 32768) : Fin 1024 → EReal :=
  normed (fun a => g2 (ix1 a)) (fedRow o x wo g1 wg wu wd r)

/-- The results of the arguments in the memory. -/
def result8 (c : Dev nD) : S32768x1024.Idx → EReal := fun i => fedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)
def result9 (c : Dev nD) : S32768x1024.Idx → EReal := fun i => normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)

theorem cover_8 (i : S32768x1024.Idx) : ∃ t : Fin cfg0.N, (cfg0.win 8).flush t = true ∧ i ∈ ((cfg0.win 8).blk t).view.set := by
  obtain ⟨r, d, rfl⟩ : ∃ (r : Fin 32768) (d : Fin 1024), i = ix2 r d := ⟨i 0, i 1, ValueIdx.eq_ix2 i⟩
  obtain ⟨t, ht⟩ : ∃ t : Fin cfg0.N, t.val = r.val / 512 := ⟨⟨_, by rw [show cfg0.N = 64 from N_0]; have := r.isLt; omega⟩, rfl⟩
  refine ⟨t, flush0_8 t, ?_⟩
  have e := emb_8 t ⟨r.val % 512, Nat.mod_lt _ (by decide)⟩ d r (by rw [ht]; dsimp only; omega)
  exact e ▸ View.emb_mem_set _ _

theorem cover_9 (i : S32768x1024.Idx) : ∃ t : Fin cfg0.N, (cfg0.win 9).flush t = true ∧ i ∈ ((cfg0.win 9).blk t).view.set := by
  obtain ⟨r, d, rfl⟩ : ∃ (r : Fin 32768) (d : Fin 1024), i = ix2 r d := ⟨i 0, i 1, ValueIdx.eq_ix2 i⟩
  obtain ⟨t, ht⟩ : ∃ t : Fin cfg0.N, t.val = r.val / 512 := ⟨⟨_, by rw [show cfg0.N = 64 from N_0]; have := r.isLt; omega⟩, rfl⟩
  refine ⟨t, flush0_9 t, ?_⟩
  have e := emb_9 t ⟨r.val % 512, Nat.mod_lt _ (by decide)⟩ d r (by rw [ht]; dsimp only; omega)
  exact e ▸ View.emb_mem_set _ _

theorem point8 (c : Dev nD) (t : Fin cfg0.N) (g : Fin 512) (d : Fin 1024) (r : Fin 32768) (hr : r.val = t.val * 512 + g.val) :
    out0_8 (iblk m c 0 t) (iblk m c 1 t) (iblk m c 2 t) (iblk m c 3 t) (iblk m c 4 t) (iblk m c 5 t) (iblk m c 6 t) (iblk m c 7 t) (ix2 g d) = result8 m c (ix2 r d) := by
  have h0 : (fun a => (iblk m c 0 t : Vec Ideal S512x1024 .bf16) (ix2 g a)) = fun a => (m ((c : Thread nD τ).loc main_arg0)) (ix2 r a) := funext fun a => read_0 m c t g a r hr
  have h1 : (fun a => (iblk m c 1 t : Vec Ideal S512x1024 .f32) (ix2 g a)) = fun a => (m ((c : Thread nD τ).loc main_arg1)) (ix2 r a) := funext fun a => read_1 m c t g a r hr
  have h3 : (fun a => (iblk m c 3 t : Vec Ideal S1x1024 .f32) (ix2 (0 : Fin 1) a)) = fun a => (m ((c : Thread nD τ).loc main_arg3)) (ix1 a) := funext fun a => read_3 m c t a
  refine (out8_at _ _ _ _ _ _ _ _ g d).trans ?_
  rw [h0, h1, h3, read_2, read_4, read_5, read_6]
  rfl

theorem point9 (c : Dev nD) (t : Fin cfg0.N) (g : Fin 512) (d : Fin 1024) (r : Fin 32768) (hr : r.val = t.val * 512 + g.val) :
    out0_9 (iblk m c 0 t) (iblk m c 1 t) (iblk m c 2 t) (iblk m c 3 t) (iblk m c 4 t) (iblk m c 5 t) (iblk m c 6 t) (iblk m c 7 t) (ix2 g d) = result9 m c (ix2 r d) := by
  have h0 : (fun a => (iblk m c 0 t : Vec Ideal S512x1024 .bf16) (ix2 g a)) = fun a => (m ((c : Thread nD τ).loc main_arg0)) (ix2 r a) := funext fun a => read_0 m c t g a r hr
  have h1 : (fun a => (iblk m c 1 t : Vec Ideal S512x1024 .f32) (ix2 g a)) = fun a => (m ((c : Thread nD τ).loc main_arg1)) (ix2 r a) := funext fun a => read_1 m c t g a r hr
  have h3 : (fun a => (iblk m c 3 t : Vec Ideal S1x1024 .f32) (ix2 (0 : Fin 1) a)) = fun a => (m ((c : Thread nD τ).loc main_arg3)) (ix1 a) := funext fun a => read_3 m c t a
  have h7 : (fun a => (iblk m c 7 t : Vec Ideal S1x1024 .f32) (ix2 (0 : Fin 1) a)) = fun a => (m ((c : Thread nD τ).loc main_arg7)) (ix1 a) := funext fun a => read_7 m c t a
  refine (out9_at _ _ _ _ _ _ _ _ g d).trans ?_
  rw [h0, h1, h3, h7, read_2, read_4, read_5, read_6]
  rfl

theorem final8 (c : Dev nD) : (dats m 0 c).arrAt 8 cfg0.N = result8 m c := by
  refine (dats m 0 c).arrAt_eq_of_emb 8 (result8 m c) (fun t hf y => ?_) cover_8
  have hN : t.val < 64 := Nat.lt_of_lt_of_eq t.isLt N_0
  obtain ⟨g, d, rfl⟩ : ∃ (g : Fin 512) (d : Fin 1024), y = ix2 g d := ⟨y (0 : Fin 2), y (1 : Fin 2), ValueIdx.eq_ix2 (n0 := 512) (n1 := 1024) y⟩
  refine Eq.trans (b := result8 m c (ix2 ⟨t.val * 512 + g.val, by omega⟩ d)) ?_ (congrArg (result8 m c) (emb_8 t g d _ rfl).symm)
  refine (congrFun (Cert.DenseIdeal.Value.flushed8 m c t) (ix2 g d)).trans ?_
  exact point8 m c t g d _ rfl

theorem final9 (c : Dev nD) : (dats m 0 c).arrAt 9 cfg0.N = result9 m c := by
  refine (dats m 0 c).arrAt_eq_of_emb 9 (result9 m c) (fun t hf y => ?_) cover_9
  have hN : t.val < 64 := Nat.lt_of_lt_of_eq t.isLt N_0
  obtain ⟨g, d, rfl⟩ : ∃ (g : Fin 512) (d : Fin 1024), y = ix2 g d := ⟨y (0 : Fin 2), y (1 : Fin 2), ValueIdx.eq_ix2 (n0 := 512) (n1 := 1024) y⟩
  refine Eq.trans (b := result9 m c (ix2 ⟨t.val * 512 + g.val, by omega⟩ d)) ?_ (congrArg (result9 m c) (emb_9 t g d _ rfl).symm)
  refine (congrFun (Cert.DenseIdeal.Value.flushed9 m c t) (ix2 g d)).trans ?_
  exact point9 m c t g d _ rfl

end Cert.DenseIdeal.Rows

end
-- ==== Proof.DensePlain.lean ====
/- The dense part's reference at an element: the rows' own sums. -/
module

public import proofs.«01_k».proof.Proof.Gen.DenseReferenceIdeal.Run
public import proofs.«01_k».proof.Proof.DenseFinal
public import Idealize.ShloMosaic.Lib.StackMember

@[expose] public section

set_option maxRecDepth 16384

noncomputable section

namespace Cert.DenseReferenceIdeal.Plain

open Cert.DenseReferenceIdeal Cert.DenseReferenceIdeal.Gen Cert.DenseReferenceIdeal.Value
open Cert.DenseRows
open Cert.DenseIdeal.Rows (fedRow normRow)
open Idealize.ShloMosaic Idealize.ShloMosaic.TcCoe Idealize.ShloMosaic.Tactic
open Idealize.ShloMosaic.ValueIdx hiding ix1 ix2 ix3

/-- The layer's input with the attention's output added, as the reference's operations make it, -/
def mid (o : FVec Ideal S32768x1024 .bf16) (x : FVec Ideal S32768x1024 .f32) (wo : FVec Ideal S1024x1024 .f32) : FVec Ideal S32768x1024 .f32 :=
  addf x (Host.dotGeneral dot_S32768x1024_S1024x1024_S32768x1024_1_0_0_1_n_n none (extf .f32 o bitsLt_bf16_f32) wo)

/-- rows over their root mean squares, -/
def normOf (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- and rows with the gated layer of other rows added. -/
def grownBy (x h : FVec Ideal S32768x1024 .f32) (wg wu : FVec Ideal S1024x2816 .f32) (wd : FVec Ideal S2816x1024 .f32) : FVec Ideal S32768x1024 .f32 :=
  let p : FVec Ideal S32768x2816 .f32 := Host.dotGeneral dot_S32768x1024_S1024x2816_S32768x2816_1_0_0_1_n_n none h wg
  addf x (Host.dotGeneral dot_S32768x2816_S2816x1024_S32768x1024_1_0_0_1_n_n none
    (mulf (mulf p (Host.divf (broadcastInDim S32768x2816 ![] bcast_S_S32768x2816 (constant S_ .f32 0x3F800000#32))
        (addf (broadcastInDim S32768x2816 ![] bcast_S_S32768x2816 (constant S_ .f32 0x3F800000#32)) (Host.exp (Host.negf p)))))
      (Host.dotGeneral dot_S32768x1024_S1024x2816_S32768x2816_1_0_0_1_n_n none h wu)) wd)

theorem mid_at (o : FVec Ideal S32768x1024 .bf16) (x : FVec Ideal S32768x1024 .f32) (wo : FVec Ideal S1024x1024 .f32) (r : Fin 32768) (d : Fin 1024) :
    mid o x wo (ix2 r d) = summed wo (fun a => x (ix2 r a)) (fun a => o (ix2 r a)) d :=
  congrArg (fun z : EReal => x (ix2 r d) + z) (StackMember.dotGeneral_plain_apply (m := 32768) (k := 1024) (n := 1024) none (extf .f32 o bitsLt_bf16_f32) wo r d)

theorem normOf_at (x : FVec Ideal S32768x1024 .f32) (g : FVec Ideal S1024 .f32) (r : Fin 32768) (d : Fin 1024) :
    normOf x g (ix2 r d) = normed (fun a => g (ix1 a)) (fun a => x (ix2 r a)) d := by
  unfold normOf normed
  pointwise

theorem dot_at (X : FVec Ideal S32768x1024 .f32) (W : FVec Ideal S1024x2816 .f32) (r : Fin 32768) (k : Fin 2816) :
    Host.dotGeneral dot_S32768x1024_S1024x2816_S32768x2816_1_0_0_1_n_n none X W (ix2 r k) = ∑ a : Fin 1024, (X (ix2 r a) * W (ix2 a k) : EReal) :=
  StackMember.dotGeneral_plain_apply (m := 32768) (k := 1024) (n := 2816) none X W r k

theorem down_at (X : FVec Ideal S32768x2816 .f32) (W : FVec Ideal S2816x1024 .f32) (r : Fin 32768) (d : Fin 1024) :
    Host.dotGeneral dot_S32768x2816_S2816x1024_S32768x1024_1_0_0_1_n_n none X W (ix2 r d) = ∑ k : Fin 2816, (X (ix2 r k) * W (ix2 k d) : EReal) :=
  StackMember.dotGeneral_plain_apply (m := 32768) (k := 2816) (n := 1024) none X W r d

theorem gate_at (p : FVec Ideal S32768x2816 .f32) (q : FVec Ideal S32768x2816 .f32) (r : Fin 32768) (k : Fin 2816) :
    mulf (mulf p (Host.divf (broadcastInDim S32768x2816 ![] bcast_S_S32768x2816 (constant S_ .f32 0x3F800000#32))
          (addf (broadcastInDim S32768x2816 ![] bcast_S_S32768x2816 (constant S_ .f32 0x3F800000#32)) (Host.exp (Host.negf p))))) q (ix2 r k)
      = (p (ix2 r k) * Ideal.logistic (p (ix2 r k)) * q (ix2 r k) : EReal) := by
  pointwise
  rfl

theorem grownBy_at (x h : FVec Ideal S32768x1024 .f32) (wg wu : FVec Ideal S1024x2816 .f32) (wd : FVec Ideal S2816x1024 .f32) (r : Fin 32768) (d : Fin 1024) :
    grownBy x h wg wu wd (ix2 r d) = (x (ix2 r d) + ∑ k : Fin 2816, partAt wg wu wd (fun a => h (ix2 r a)) d k : EReal) := by
  unfold grownBy
  dsimp only
  refine congrArg (fun z : EReal => x (ix2 r d) + z) ((down_at _ wd r d).trans ?_)
  refine Finset.sum_congr rfl fun k _ => ?_
  rw [gate_at, dot_at, dot_at]
  rfl

/-- The reference's first result, -/
def first (o : FVec Ideal S32768x1024 .bf16) (x : FVec Ideal S32768x1024 .f32) (wo : FVec Ideal S1024x1024 .f32) (g1 : FVec Ideal S1024 .f32) (wg wu : FVec Ideal S1024x2816 .f32)
    (wd : FVec Ideal S2816x1024 .f32) : FVec Ideal S32768x1024 .f32 :=
  grownBy (mid o x wo) (normOf (mid o x wo) g1) wg wu wd

theorem first_at (o x wo g1 wg wu wd) (r : Fin 32768) (d : Fin 1024) : first o x wo g1 wg wu wd (ix2 r d) = fedRow o x wo g1 wg wu wd r d := by
  have hm : (fun a => mid o x wo (ix2 r a)) = summed wo (fun a => x (ix2 r a)) (fun a => o (ix2 r a)) := funext fun a => mid_at o x wo r a
  have hn : (fun a => normOf (mid o x wo) g1 (ix2 r a)) = normed (fun a => g1 (ix1 a)) (fun a => mid o x wo (ix2 r a)) := funext fun a => normOf_at _ g1 r a
  unfold first
  rw [grownBy_at, hn, hm, mid_at]
  rfl

/-- and its second. -/
theorem second_at (o x wo g1 wg wu wd) (g2 : FVec Ideal S1024 .f32) (r : Fin 32768) (d : Fin 1024) :
    normOf (first o x wo g1 wg wu wd) g2 (ix2 r d) = normRow o x wo g1 wg wu wd g2 r d := by
  rw [normOf_at]
  exact congrArg (fun f => normed _ f d) (funext fun a => first_at o x wo g1 wg wu wd r a)

variable (m : (ℓ : Loc nD τ sig) → Buf (Elt Ideal) ℓ)

theorem res_first (c : Dev nD) : res_main_v21 m c = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v21
  rfl

theorem res_second (c : Dev nD) : res_main_v35 m c = truncf .bf16 (normOf (first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) bitsLt_bf16_f32 := by
  unfold res_main_v35
  rfl

end Cert.DenseReferenceIdeal.Plain

end
-- ==== Proof.QkvRows.lean ====
/- The projections at a point: a block of rows' norms by the three weights, an element at a time. -/
module

public import proofs.«01_k».proof.Proof.Gen.QkvIdeal.Value
public import proofs.«01_k».proof.Proof.DenseRows
public import Idealize.ShloMosaic.Lib.Tactic

@[expose] public section

noncomputable section

namespace Cert.QkvIdeal.Rows

open Cert.QkvIdeal Cert.QkvIdeal.Gen
open Cert.DenseRows (normed)
open Idealize.ShloMosaic Idealize.ShloMosaic.TcCoe Idealize.ShloMosaic.Tactic
open Idealize.ShloMosaic.ValueIdx hiding ix1 ix2 ix3 ix4

/-! ## The products -/

theorem rows_at (X : FVec Ideal S512x1024 .bf16) (W : FVec Ideal S1024x1024 .bf16) (s : Fin 512) (d : Fin 1024) :
    matmul dot_S512x1024_S1024x1024_S512x1024_1_0_0_1_n_n none X W (constant S512x1024 .f32 0x00000000#32) (ix2 s d) = ∑ a : Fin 1024, (X (ix2 s a) * W (ix2 a d) : EReal) := by
  have h := Ideal.matmul_plain_apply (M := 512) (K := 1024) (N := 1024) none X W (constant S512x1024 .f32 0x00000000#32) s d
  refine Eq.trans (b := _) ?_ (h.trans ?_)
  · rfl
  · rw [show (constant S512x1024 .f32 0x00000000#32 : FVec Ideal S512x1024 .f32) (ValueIdx.ix2 s d) = 0 from Ideal.ofBits_zero_f32]
    exact zero_add _

theorem cols_at (W : FVec Ideal S1024x1024 .bf16) (X : FVec Ideal S512x1024 .bf16) (d : Fin 1024) (s : Fin 512) :
    matmul dot_S1024x1024_S512x1024_S1024x512_1_1_0_0_n_n none W X (constant S1024x512 .f32 0x00000000#32) (ix2 d s) = ∑ a : Fin 1024, (W (ix2 d a) * X (ix2 s a) : EReal) := by
  have h := Ideal.matmul_transposedRhs_apply (M := 1024) (K := 1024) (N := 512) none W X (constant S1024x512 .f32 0x00000000#32) d s
  refine Eq.trans (b := _) ?_ (h.trans ?_)
  · rfl
  · rw [show (constant S1024x512 .f32 0x00000000#32 : FVec Ideal S1024x512 .f32) (ValueIdx.ix2 d s) = 0 from Ideal.ofBits_zero_f32]
    exact zero_add _

theorem cast_cols (y : FVec Ideal S1024x512 .f32) (d : Fin 1024) (s : Fin 512) :
    shapeCast S1x1x1024x512 (truncf .bf16 y bitsLt_bf16_f32) shapeCasts_S1024x512_S1x1x1024x512 (ix4 (0 : Fin 1) (0 : Fin 1) d s) = y (ix2 d s) := by
  pointwise

theorem cast_rows (y : FVec Ideal S512x1024 .f32) (s : Fin 512) (d : Fin 1024) :
    shapeCast S1x512x1024 (truncf .bf16 y bitsLt_bf16_f32) shapeCasts_S512x1024_S1x512x1024 (ix3 (0 : Fin 1) s d) = y (ix2 s d) := by
  pointwise

/-! ## A point's blocks -/

/-- The block of norms, -/
theorem norm_at (x0 : Vec Ideal S1x512x1024 .f32) (x1 : Vec Ideal S1x1024 .f32) (s : Fin 512) (a : Fin 1024) :
    k0_pay2 x0 x1 (ix2 s a) = normed (fun a => x1 (ix2 (0 : Fin 1) a)) (fun a => x0 (ix3 (0 : Fin 1) s a)) a := by
  unfold k0_pay2 normed
  dsimp only
  rw [shapeCast_self]
  pointwise

/-- the queries' block, -/
theorem out5_at (x0 : Vec Ideal S1x512x1024 .f32) (x1 : Vec Ideal S1x1024 .f32) (x2 x3 x4 : Vec Ideal S1024x1024 .bf16) (d : Fin 1024) (s : Fin 512) :
    out0_5 x0 x1 x2 x3 x4 (ix4 (0 : Fin 1) (0 : Fin 1) d s)
      = ∑ a : Fin 1024, (x2 (ix2 d a) * normed (fun a => x1 (ix2 (0 : Fin 1) a)) (fun a => x0 (ix3 (0 : Fin 1) s a)) a : EReal) := by
  have z : (![0, 0] : Fin 2 → Nat) = fun _ => 0 := by decide
  have z3 : (![0, 0, 0] : Fin 3 → Nat) = fun _ => 0 := by decide
  have z4 : (![0, 0, 0, 0] : Fin 4 → Nat) = fun _ => 0 := by decide
  unfold out0_5
  rw [View.canon_unit_zero z4, View.ld_unit_zero z3, View.ld_unit_zero z, View.ld_unit_zero z]
  unfold k0_pay3
  rw [shapeCast_self]
  refine (cast_cols _ d s).trans ((cols_at x2 (k0_pay2 x0 x1) d s).trans ?_)
  exact Finset.sum_congr rfl fun a _ => congrArg (fun z : EReal => x2 (ix2 d a) * z) (norm_at x0 x1 s a)

/-- the values', -/
theorem out7_at (x0 : Vec Ideal S1x512x1024 .f32) (x1 : Vec Ideal S1x1024 .f32) (x2 x3 x4 : Vec Ideal S1024x1024 .bf16) (d : Fin 1024) (s : Fin 512) :
    out0_7 x0 x1 x2 x3 x4 (ix4 (0 : Fin 1) (0 : Fin 1) d s)
      = ∑ a : Fin 1024, (x4 (ix2 d a) * normed (fun a => x1 (ix2 (0 : Fin 1) a)) (fun a => x0 (ix3 (0 : Fin 1) s a)) a : EReal) := by
  have z : (![0, 0] : Fin 2 → Nat) = fun _ => 0 := by decide
  have z3 : (![0, 0, 0] : Fin 3 → Nat) = fun _ => 0 := by decide
  have z4 : (![0, 0, 0, 0] : Fin 4 → Nat) = fun _ => 0 := by decide
  unfold out0_7
  rw [View.canon_unit_zero z4, View.ld_unit_zero z3, View.ld_unit_zero z, View.ld_unit_zero z]
  unfold k0_pay1 k0_pay5
  rw [shapeCast_self]
  refine (cast_cols _ d s).trans ((cols_at x4 (k0_pay2 x0 x1) d s).trans ?_)
  exact Finset.sum_congr rfl fun a _ => congrArg (fun z : EReal => x4 (ix2 d a) * z) (norm_at x0 x1 s a)

/-- and the keys'. -/
theorem out6_at (x0 : Vec Ideal S1x512x1024 .f32) (x1 : Vec Ideal S1x1024 .f32) (x2 x3 x4 : Vec Ideal S1024x1024 .bf16) (s : Fin 512) (d : Fin 1024) :
    out0_6 x0 x1 x2 x3 x4 (ix3 (0 : Fin 1) s d)
      = ∑ a : Fin 1024, (normed (fun a => x1 (ix2 (0 : Fin 1) a)) (fun a => x0 (ix3 (0 : Fin 1) s a)) a * x3 (ix2 a d) : EReal) := by
  have z : (![0, 0] : Fin 2 → Nat) = fun _ => 0 := by decide
  have z3 : (![0, 0, 0] : Fin 3 → Nat) = fun _ => 0 := by decide
  unfold out0_6
  rw [View.canon_unit_zero z3, View.ld_unit_zero z3, View.ld_unit_zero z, View.ld_unit_zero z]
  unfold k0_pay4
  rw [shapeCast_self]
  refine (cast_rows _ s d).trans ((rows_at (k0_pay2 x0 x1) x3 s d).trans ?_)
  exact Finset.sum_congr rfl fun a _ => congrArg (fun z : EReal => z * x3 (ix2 a d)) (norm_at x0 x1 s a)

end Cert.QkvIdeal.Rows

end
-- ==== Proof.QkvFinal.lean ====
/- The projections' three whole results, of the arguments. -/
module

public import proofs.«01_k».proof.Proof.QkvRows
public import Idealize.ShloMosaic.Lib.StableHlo.ReadAt
public import Idealize.ShloMosaic.Lib.StableHlo.RunRead
public import Idealize.ShloMosaic.Lib.Tactic

@[expose] public section

noncomputable section

namespace Cert.QkvIdeal.Rows

open Cert.QkvIdeal Cert.QkvIdeal.Gen
open Cert.DenseRows (normed)
open Idealize.ShloMosaic Idealize.ShloMosaic.TcCoe Idealize.ShloMosaic.Tactic
open Idealize.ShloMosaic.ValueIdx hiding ix1 ix2 ix3 ix4

variable (m : (ℓ : Loc nD τ sig) → Buf (Elt Ideal) ℓ)

/-! ## What a point reads -/

theorem V_4 {F : FTy → Type} [FloatOps F] (m : (ℓ : Loc nD τ sig) → Buf (Elt F) ℓ) (c : Dev nD) : V m c main_v4
    = truncf .bf16 (transpose S1024x1024 [1, 0] (mulf (extractStridedSlice S1024x1024 ![0, 0] (m ((c : Thread nD τ).loc main_arg2)) slices_S1024x3072_S1024x1024_0_0)
        (broadcastInDim S1024x1024 ![] bcast_S_S1024x1024 (constant S_ .f32 0x3E38AA3B#32))) transposes_S1024x1024_S1024x1024_1_0) bitsLt_bf16_f32 := by
  unfold V
  after_reads_simp

theorem V_6 {F : FTy → Type} [FloatOps F] (m : (ℓ : Loc nD τ sig) → Buf (Elt F) ℓ) (c : Dev nD) : V m c main_v6
    = truncf .bf16 (extractStridedSlice S1024x1024 ![0, 1024] (m ((c : Thread nD τ).loc main_arg2)) slices_S1024x3072_S1024x1024_0_1024) bitsLt_bf16_f32 := by
  unfold V
  after_reads_simp

theorem V_9 {F : FTy → Type} [FloatOps F] (m : (ℓ : Loc nD τ sig) → Buf (Elt F) ℓ) (c : Dev nD) : V m c main_v9
    = truncf .bf16 (transpose S1024x1024 [1, 0] (extractStridedSlice S1024x1024 ![0, 2048] (m ((c : Thread nD τ).loc main_arg2)) slices_S1024x3072_S1024x1024_0_2048)
        transposes_S1024x1024_S1024x1024_1_0) bitsLt_bf16_f32 := by
  unfold V
  after_reads_simp

theorem V_10 (c : Dev nD) : V m c main_v10 = shapeCast S1x1024 (m ((c : Thread nD τ).loc main_arg1)) shapeCasts_S1024_S1x1024 := by
  unfold V
  after_reads_simp
  rfl

theorem transform_0 : ∀ t : Fin grid0.N, cc0_transform_0 (grid0.coords t) = ![t.val / 16, t.val % 16, 0] := by decide +kernel
theorem transform_5 : ∀ t : Fin grid0.N, cc0_transform_5 (grid0.coords t) = ![t.val / 16, t.val % 16, 0, 0] := by decide +kernel
theorem transform_6 : ∀ t : Fin grid0.N, cc0_transform_6 (grid0.coords t) = ![t.val / 16, t.val % 16, 0] := by decide +kernel
theorem transform_7 : ∀ t : Fin grid0.N, cc0_transform_7 (grid0.coords t) = ![t.val / 16, t.val % 16, 0, 0] := by decide +kernel

theorem emb_0 (t : Fin cfg0.N) (s : Fin 512) (d : Fin 1024) (b : Fin 4) (r : Fin 8192) (hb : b.val = t.val / 16) (hr : r.val = t.val % 16 * 512 + s.val) :
    ((cfg0.win 0).blk t).view.emb (ix3 (0 : Fin 1) s d) = ix3 b r d := by
  have h : (cfg0.win 0).index t = ![t.val / 16, t.val % 16, 0] := transform_0 t
  have h0 : (cfg0.win 0).index t (0 : Fin 3) = t.val / 16 := congrFun h (0 : Fin 3)
  have h1 : (cfg0.win 0).index t (1 : Fin 3) = t.val % 16 := congrFun h (1 : Fin 3)
  have h2 : (cfg0.win 0).index t (2 : Fin 3) = 0 := congrFun h (2 : Fin 3)
  refine funext fun a => Fin.ext ?_
  match a with
  | ⟨0, _⟩ =>
    show (cfg0.win 0).index t (0 : Fin 3) * 1 + 1 * 0 = b.val
    rw [h0]; omega
  | ⟨1, _⟩ =>
    show (cfg0.win 0).index t (1 : Fin 3) * 512 + 1 * s.val = r.val
    rw [h1]; omega
  | ⟨2, _⟩ =>
    show (cfg0.win 0).index t (2 : Fin 3) * 1024 + 1 * d.val = d.val
    rw [h2]; omega

theorem emb_6 (t : Fin cfg0.N) (s : Fin 512) (d : Fin 1024) (b : Fin 4) (r : Fin 8192) (hb : b.val = t.val / 16) (hr : r.val = t.val % 16 * 512 + s.val) :
    ((cfg0.win 6).blk t).view.emb (ix3 (0 : Fin 1) s d) = ix3 b r d := by
  have h : (cfg0.win 6).index t = ![t.val / 16, t.val % 16, 0] := transform_6 t
  have h0 : (cfg0.win 6).index t (0 : Fin 3) = t.val / 16 := congrFun h (0 : Fin 3)
  have h1 : (cfg0.win 6).index t (1 : Fin 3) = t.val % 16 := congrFun h (1 : Fin 3)
  have h2 : (cfg0.win 6).index t (2 : Fin 3) = 0 := congrFun h (2 : Fin 3)
  refine funext fun a => Fin.ext ?_
  match a with
  | ⟨0, _⟩ =>
    show (cfg0.win 6).index t (0 : Fin 3) * 1 + 1 * 0 = b.val
    rw [h0]; omega
  | ⟨1, _⟩ =>
    show (cfg0.win 6).index t (1 : Fin 3) * 512 + 1 * s.val = r.val
    rw [h1]; omega
  | ⟨2, _⟩ =>
    show (cfg0.win 6).index t (2 : Fin 3) * 1024 + 1 * d.val = d.val
    rw [h2]; omega

theorem emb_5 (t : Fin cfg0.N) (d : Fin 1024) (s : Fin 512) (b : Fin 4) (i : Fin 16) (hb : b.val = t.val / 16) (hi : i.val = t.val % 16) :
    ((cfg0.win 5).blk t).view.emb (ix4 (0 : Fin 1) (0 : Fin 1) d s) = ix4 b i d s := by
  have h : (cfg0.win 5).index t = ![t.val / 16, t.val % 16, 0, 0] := transform_5 t
  have h0 : (cfg0.win 5).index t (0 : Fin 4) = t.val / 16 := congrFun h (0 : Fin 4)
  have h1 : (cfg0.win 5).index t (1 : Fin 4) = t.val % 16 := congrFun h (1 : Fin 4)
  have h2 : (cfg0.win 5).index t (2 : Fin 4) = 0 := congrFun h (2 : Fin 4)
  have h3 : (cfg0.win 5).index t (3 : Fin 4) = 0 := congrFun h (3 : Fin 4)
  refine funext fun a => Fin.ext ?_
  match a with
  | ⟨0, _⟩ =>
    show (cfg0.win 5).index t (0 : Fin 4) * 1 + 1 * 0 = b.val
    rw [h0]; omega
  | ⟨1, _⟩ =>
    show (cfg0.win 5).index t (1 : Fin 4) * 1 + 1 * 0 = i.val
    rw [h1]; omega
  | ⟨2, _⟩ =>
    show (cfg0.win 5).index t (2 : Fin 4) * 1024 + 1 * d.val = d.val
    rw [h2]; omega
  | ⟨3, _⟩ =>
    show (cfg0.win 5).index t (3 : Fin 4) * 512 + 1 * s.val = s.val
    rw [h3]; omega

theorem emb_7 (t : Fin cfg0.N) (d : Fin 1024) (s : Fin 512) (b : Fin 4) (i : Fin 16) (hb : b.val = t.val / 16) (hi : i.val = t.val % 16) :
    ((cfg0.win 7).blk t).view.emb (ix4 (0 : Fin 1) (0 : Fin 1) d s) = ix4 b i d s := by
  have h : (cfg0.win 7).index t = ![t.val / 16, t.val % 16, 0, 0] := transform_7 t
  have h0 : (cfg0.win 7).index t (0 : Fin 4) = t.val / 16 := congrFun h (0 : Fin 4)
  have h1 : (cfg0.win 7).index t (1 : Fin 4) = t.val % 16 := congrFun h (1 : Fin 4)
  have h2 : (cfg0.win 7).index t (2 : Fin 4) = 0 := congrFun h (2 : Fin 4)
  have h3 : (cfg0.win 7).index t (3 : Fin 4) = 0 := congrFun h (3 : Fin 4)
  refine funext fun a => Fin.ext ?_
  match a with
  | ⟨0, _⟩ =>
    show (cfg0.win 7).index t (0 : Fin 4) * 1 + 1 * 0 = b.val
    rw [h0]; omega
  | ⟨1, _⟩ =>
    show (cfg0.win 7).index t (1 : Fin 4) * 1 + 1 * 0 = i.val
    rw [h1]; omega
  | ⟨2, _⟩ =>
    show (cfg0.win 7).index t (2 : Fin 4) * 1024 + 1 * d.val = d.val
    rw [h2]; omega
  | ⟨3, _⟩ =>
    show (cfg0.win 7).index t (3 : Fin 4) * 512 + 1 * s.val = s.val
    rw [h3]; omega

theorem emb_1 (t : Fin cfg0.N) (k : Fin 1) (d : Fin 1024) : ((cfg0.win 1).blk t).view.emb (ix2 k d) = ix2 k d := by
  have h : (cfg0.win 1).index t = ![0, 0] := rfl
  have h0 : (cfg0.win 1).index t (0 : Fin 2) = 0 := congrFun h (0 : Fin 2)
  have h1 : (cfg0.win 1).index t (1 : Fin 2) = 0 := congrFun h (1 : Fin 2)
  refine funext fun a => Fin.ext ?_
  match a with
  | ⟨0, _⟩ =>
    show (cfg0.win 1).index t (0 : Fin 2) * 1 + 1 * k.val = k.val
    rw [h0]; omega
  | ⟨1, _⟩ =>
    show (cfg0.win 1).index t (1 : Fin 2) * 1024 + 1 * d.val = d.val
    rw [h1]; omega

theorem emb_2 (t : Fin cfg0.N) (k : Fin 1024) (d : Fin 1024) : ((cfg0.win 2).blk t).view.emb (ix2 k d) = ix2 k d := by
  have h : (cfg0.win 2).index t = ![0, 0] := rfl
  have h0 : (cfg0.win 2).index t (0 : Fin 2) = 0 := congrFun h (0 : Fin 2)
  have h1 : (cfg0.win 2).index t (1 : Fin 2) = 0 := congrFun h (1 : Fin 2)
  refine funext fun a => Fin.ext ?_
  match a with
  | ⟨0, _⟩ =>
    show (cfg0.win 2).index t (0 : Fin 2) * 1024 + 1 * k.val = k.val
    rw [h0]; omega
  | ⟨1, _⟩ =>
    show (cfg0.win 2).index t (1 : Fin 2) * 1024 + 1 * d.val = d.val
    rw [h1]; omega

theorem emb_3 (t : Fin cfg0.N) (k : Fin 1024) (d : Fin 1024) : ((cfg0.win 3).blk t).view.emb (ix2 k d) = ix2 k d := by
  have h : (cfg0.win 3).index t = ![0, 0] := rfl
  have h0 : (cfg0.win 3).index t (0 : Fin 2) = 0 := congrFun h (0 : Fin 2)
  have h1 : (cfg0.win 3).index t (1 : Fin 2) = 0 := congrFun h (1 : Fin 2)
  refine funext fun a => Fin.ext ?_
  match a with
  | ⟨0, _⟩ =>
    show (cfg0.win 3).index t (0 : Fin 2) * 1024 + 1 * k.val = k.val
    rw [h0]; omega
  | ⟨1, _⟩ =>
    show (cfg0.win 3).index t (1 : Fin 2) * 1024 + 1 * d.val = d.val
    rw [h1]; omega

theorem emb_4 (t : Fin cfg0.N) (k : Fin 1024) (d : Fin 1024) : ((cfg0.win 4).blk t).view.emb (ix2 k d) = ix2 k d := by
  have h : (cfg0.win 4).index t = ![0, 0] := rfl
  have h0 : (cfg0.win 4).index t (0 : Fin 2) = 0 := congrFun h (0 : Fin 2)
  have h1 : (cfg0.win 4).index t (1 : Fin 2) = 0 := congrFun h (1 : Fin 2)
  refine funext fun a => Fin.ext ?_
  match a with
  | ⟨0, _⟩ =>
    show (cfg0.win 4).index t (0 : Fin 2) * 1024 + 1 * k.val = k.val
    rw [h0]; omega
  | ⟨1, _⟩ =>
    show (cfg0.win 4).index t (1 : Fin 2) * 1024 + 1 * d.val = d.val
    rw [h1]; omega

theorem read_0 (c : Dev nD) (t : Fin cfg0.N) (s : Fin 512) (d : Fin 1024) (b : Fin 4) (r : Fin 8192) (hb : b.val = t.val / 16) (hr : r.val = t.val % 16 * 512 + s.val) :
    iblk m c 0 t (ix3 (0 : Fin 1) s d) = (m ((c : Thread nD τ).loc main_arg0)) (ix3 b r d) := by
  refine Eq.trans (b := V m c main_arg0 (ix3 b r d)) ?_ (congrFun (V_main_arg0 m c) _)
  exact congrArg (V m c main_arg0) (emb_0 t s d b r hb hr)

theorem read_1 (c : Dev nD) (t : Fin cfg0.N) (d : Fin 1024) : iblk m c 1 t (ix2 (0 : Fin 1) d) = (m ((c : Thread nD τ).loc main_arg1)) (ix1 d) := by
  refine Eq.trans (b := V m c main_v10 (ix2 (0 : Fin 1) d)) (congrArg (V m c main_v10) (emb_1 t 0 d)) ?_
  rw [V_10]
  pointwise

/-- A column of the three weights side by side, from an offset. -/
def col (o : ℕ) (ho : o + 1024 ≤ 3072) (d : Fin 1024) : Fin 3072 := ⟨o + d.val, by have := d.isLt; omega⟩

/-- A query's weight by the queries' constant. -/
def scaled (w : S1024x3072.Idx → EReal) (d a : Fin 1024) : EReal := w (ix2 a (col 0 (by decide) d)) * Ideal.ofBits .f32 0x3E38AA3B#32

/-- The queries' weight as the kernel takes it, at an index, -/
theorem query_weight (W : FVec Ideal S1024x3072 .f32) (d a : Fin 1024) :
    (truncf .bf16 (transpose S1024x1024 [1, 0] (mulf (extractStridedSlice S1024x1024 ![0, 0] W slices_S1024x3072_S1024x1024_0_0)
        (broadcastInDim S1024x1024 ![] bcast_S_S1024x1024 (constant S_ .f32 0x3E38AA3B#32))) transposes_S1024x1024_S1024x1024_1_0) bitsLt_bf16_f32 : FVec Ideal S1024x1024 .bf16) (ix2 d a) = scaled W d a := by
  unfold scaled col
  pointwise

/-- the keys', -/
theorem key_weight (W : FVec Ideal S1024x3072 .f32) (a d : Fin 1024) :
    (truncf .bf16 (extractStridedSlice S1024x1024 ![0, 1024] W slices_S1024x3072_S1024x1024_0_1024) bitsLt_bf16_f32 : FVec Ideal S1024x1024 .bf16) (ix2 a d)
      = W (ix2 a (col 1024 (by decide) d)) := by
  unfold col
  pointwise

/-- and the values'. -/
theorem value_weight (W : FVec Ideal S1024x3072 .f32) (d a : Fin 1024) :
    (truncf .bf16 (transpose S1024x1024 [1, 0] (extractStridedSlice S1024x1024 ![0, 2048] W slices_S1024x3072_S1024x1024_0_2048)
        transposes_S1024x1024_S1024x1024_1_0) bitsLt_bf16_f32 : FVec Ideal S1024x1024 .bf16) (ix2 d a)
      = W (ix2 a (col 2048 (by decide) d)) := by
  unfold col
  pointwise

theorem read_2 (c : Dev nD) (t : Fin cfg0.N) (d a : Fin 1024) :
    iblk m c 2 t (ix2 d a) = scaled (m ((c : Thread nD τ).loc main_arg2)) d a := by
  refine Eq.trans (b := V m c main_v4 (ix2 d a)) (congrArg (V m c main_v4) (emb_2 t d a)) ?_
  rw [V_4]
  exact query_weight _ d a

theorem read_3 (c : Dev nD) (t : Fin cfg0.N) (a d : Fin 1024) : iblk m c 3 t (ix2 a d) = (m ((c : Thread nD τ).loc main_arg2)) (ix2 a (col 1024 (by decide) d)) := by
  refine Eq.trans (b := V m c main_v6 (ix2 a d)) (congrArg (V m c main_v6) (emb_3 t a d)) ?_
  rw [V_6]
  exact key_weight _ a d

theorem read_4 (c : Dev nD) (t : Fin cfg0.N) (d a : Fin 1024) : iblk m c 4 t (ix2 d a) = (m ((c : Thread nD τ).loc main_arg2)) (ix2 a (col 2048 (by decide) d)) := by
  refine Eq.trans (b := V m c main_v9 (ix2 d a)) (congrArg (V m c main_v9) (emb_4 t d a)) ?_
  rw [V_9]
  exact value_weight _ d a

/-! ## The whole results -/

/-- A row's norm, of the arguments, -/
def rowNorm (x : S4x8192x1024.Idx → EReal) (g : S1024.Idx → EReal) (b : Fin 4) (r : Fin 8192) : Fin 1024 → EReal :=
  normed (fun a => g (ix1 a)) (fun a => x (ix3 b r a))

/-- a row of a tile, -/
def tileRow (i : Fin 16) (s : Fin 512) : Fin 8192 := ⟨i.val * 512 + s.val, by have := i.isLt; have := s.isLt; omega⟩

/-- a query's element, scaled, -/
def queryAt (x : S4x8192x1024.Idx → EReal) (g : S1024.Idx → EReal) (w : S1024x3072.Idx → EReal) (b : Fin 4) (r : Fin 8192) (d : Fin 1024) : EReal :=
  ∑ a : Fin 1024, scaled w d a * rowNorm x g b r a

/-- a key's, -/
def keyAt (x : S4x8192x1024.Idx → EReal) (g : S1024.Idx → EReal) (w : S1024x3072.Idx → EReal) (b : Fin 4) (r : Fin 8192) (d : Fin 1024) : EReal :=
  ∑ a : Fin 1024, rowNorm x g b r a * w (ix2 a (col 1024 (by decide) d))

/-- and a value's. -/
def valueAt (x : S4x8192x1024.Idx → EReal) (g : S1024.Idx → EReal) (w : S1024x3072.Idx → EReal) (b : Fin 4) (r : Fin 8192) (d : Fin 1024) : EReal :=
  ∑ a : Fin 1024, w (ix2 a (col 2048 (by decide) d)) * rowNorm x g b r a

/-- The results of the arguments in the memory: the queries and the values tile by tile, transposed, the keys row by row. -/
def result5 (c : Dev nD) : S4x16x1024x512.Idx → EReal := fun i => queryAt (m ((c : Thread nD τ).loc main_arg0)) (m ((c : Thread nD τ).loc main_arg1)) (m ((c : Thread nD τ).loc main_arg2)) (i 0) (tileRow (i 1) (i 3)) (i 2)
def result6 (c : Dev nD) : S4x8192x1024.Idx → EReal := fun i => keyAt (m ((c : Thread nD τ).loc main_arg0)) (m ((c : Thread nD τ).loc main_arg1)) (m ((c : Thread nD τ).loc main_arg2)) (i 0) (i 1) (i 2)
def result7 (c : Dev nD) : S4x16x1024x512.Idx → EReal := fun i => valueAt (m ((c : Thread nD τ).loc main_arg0)) (m ((c : Thread nD τ).loc main_arg1)) (m ((c : Thread nD τ).loc main_arg2)) (i 0) (tileRow (i 1) (i 3)) (i 2)

theorem cover_5 (j : S4x16x1024x512.Idx) : ∃ t : Fin cfg0.N, (cfg0.win 5).flush t = true ∧ j ∈ ((cfg0.win 5).blk t).view.set := by
  obtain ⟨b, i, d, s, rfl⟩ : ∃ (b : Fin 4) (i : Fin 16) (d : Fin 1024) (s : Fin 512), j = ix4 b i d s := ⟨j 0, j 1, j 2, j 3, ValueIdx.eq_ix4 j⟩
  obtain ⟨t, ht⟩ : ∃ t : Fin cfg0.N, t.val = b.val * 16 + i.val := ⟨⟨_, by rw [show cfg0.N = 64 from N_0]; have := b.isLt; have := i.isLt; omega⟩, rfl⟩
  refine ⟨t, flush0_5 t, ?_⟩
  have := i.isLt
  have e := emb_5 t d s b i (by omega) (by omega)
  exact e ▸ View.emb_mem_set _ _

theorem cover_7 (j : S4x16x1024x512.Idx) : ∃ t : Fin cfg0.N, (cfg0.win 7).flush t = true ∧ j ∈ ((cfg0.win 7).blk t).view.set := by
  obtain ⟨b, i, d, s, rfl⟩ : ∃ (b : Fin 4) (i : Fin 16) (d : Fin 1024) (s : Fin 512), j = ix4 b i d s := ⟨j 0, j 1, j 2, j 3, ValueIdx.eq_ix4 j⟩
  obtain ⟨t, ht⟩ : ∃ t : Fin cfg0.N, t.val = b.val * 16 + i.val := ⟨⟨_, by rw [show cfg0.N = 64 from N_0]; have := b.isLt; have := i.isLt; omega⟩, rfl⟩
  refine ⟨t, flush0_7 t, ?_⟩
  have := i.isLt
  have e := emb_7 t d s b i (by omega) (by omega)
  exact e ▸ View.emb_mem_set _ _

theorem cover_6 (j : S4x8192x1024.Idx) : ∃ t : Fin cfg0.N, (cfg0.win 6).flush t = true ∧ j ∈ ((cfg0.win 6).blk t).view.set := by
  obtain ⟨b, r, d, rfl⟩ : ∃ (b : Fin 4) (r : Fin 8192) (d : Fin 1024), j = ix3 b r d := ⟨j 0, j 1, j 2, ValueIdx.eq_ix3 j⟩
  obtain ⟨t, ht⟩ : ∃ t : Fin cfg0.N, t.val = b.val * 16 + r.val / 512 := ⟨⟨_, by rw [show cfg0.N = 64 from N_0]; have := b.isLt; have := r.isLt; omega⟩, rfl⟩
  refine ⟨t, flush0_6 t, ?_⟩
  have := r.isLt
  have e := emb_6 t ⟨r.val % 512, Nat.mod_lt _ (by decide)⟩ d b r (by omega) (by dsimp only; omega)
  exact e ▸ View.emb_mem_set _ _

theorem norm_read (c : Dev nD) (t : Fin cfg0.N) (s : Fin 512) (b : Fin 4) (r : Fin 8192) (hb : b.val = t.val / 16) (hr : r.val = t.val % 16 * 512 + s.val) :
    normed (fun a => (iblk m c 1 t : Vec Ideal S1x1024 .f32) (ix2 (0 : Fin 1) a)) (fun a => (iblk m c 0 t : Vec Ideal S1x512x1024 .f32) (ix3 (0 : Fin 1) s a))
      = rowNorm (m ((c : Thread nD τ).loc main_arg0)) (m ((c : Thread nD τ).loc main_arg1)) b r := by
  have h0 : (fun a => (iblk m c 0 t : Vec Ideal S1x512x1024 .f32) (ix3 (0 : Fin 1) s a)) = fun a => (m ((c : Thread nD τ).loc main_arg0)) (ix3 b r a) := funext fun a => read_0 m c t s a b r hb hr
  have h1 : (fun a => (iblk m c 1 t : Vec Ideal S1x1024 .f32) (ix2 (0 : Fin 1) a)) = fun a => (m ((c : Thread nD τ).loc main_arg1)) (ix1 a) := funext fun a => read_1 m c t a
  rw [h0, h1]
  rfl

theorem point5 (c : Dev nD) (t : Fin cfg0.N) (d : Fin 1024) (s : Fin 512) (b : Fin 4) (i : Fin 16) (hb : b.val = t.val / 16) (hi : i.val = t.val % 16) :
    out0_5 (iblk m c 0 t) (iblk m c 1 t) (iblk m c 2 t) (iblk m c 3 t) (iblk m c 4 t) (ix4 (0 : Fin 1) (0 : Fin 1) d s) = result5 m c (ix4 b i d s) := by
  have hn := norm_read m c t s b (tileRow i s) hb (by unfold tileRow; dsimp only; omega)
  refine (out5_at _ _ _ _ _ d s).trans ?_
  rw [hn]
  exact Finset.sum_congr rfl fun a _ => congrArg (fun z : EReal => z * rowNorm (m ((c : Thread nD τ).loc main_arg0)) (m ((c : Thread nD τ).loc main_arg1)) b (tileRow i s) a) (read_2 m c t d a)

theorem point7 (c : Dev nD) (t : Fin cfg0.N) (d : Fin 1024) (s : Fin 512) (b : Fin 4) (i : Fin 16) (hb : b.val = t.val / 16) (hi : i.val = t.val % 16) :
    out0_7 (iblk m c 0 t) (iblk m c 1 t) (iblk m c 2 t) (iblk m c 3 t) (iblk m c 4 t) (ix4 (0 : Fin 1) (0 : Fin 1) d s) = result7 m c (ix4 b i d s) := by
  have hn := norm_read m c t s b (tileRow i s) hb (by unfold tileRow; dsimp only; omega)
  refine (out7_at _ _ _ _ _ d s).trans ?_
  rw [hn]
  exact Finset.sum_congr rfl fun a _ => congrArg (fun z : EReal => z * rowNorm (m ((c : Thread nD τ).loc main_arg0)) (m ((c : Thread nD τ).loc main_arg1)) b (tileRow i s) a) (read_4 m c t d a)

theorem point6 (c : Dev nD) (t : Fin cfg0.N) (s : Fin 512) (d : Fin 1024) (b : Fin 4) (r : Fin 8192) (hb : b.val = t.val / 16) (hr : r.val = t.val % 16 * 512 + s.val) :
    out0_6 (iblk m c 0 t) (iblk m c 1 t) (iblk m c 2 t) (iblk m c 3 t) (iblk m c 4 t) (ix3 (0 : Fin 1) s d) = result6 m c (ix3 b r d) := by
  refine (out6_at _ _ _ _ _ s d).trans ?_
  rw [norm_read m c t s b r hb hr]
  exact Finset.sum_congr rfl fun a _ => congrArg (fun z : EReal => rowNorm (m ((c : Thread nD τ).loc main_arg0)) (m ((c : Thread nD τ).loc main_arg1)) b r a * z) (read_3 m c t a d)

theorem final5 (c : Dev nD) : (dats m 0 c).arrAt 5 cfg0.N = result5 m c := by
  refine (dats m 0 c).arrAt_eq_of_emb 5 (result5 m c) (fun t hf y => ?_) cover_5
  have hN : t.val < 64 := Nat.lt_of_lt_of_eq t.isLt N_0
  obtain ⟨d, s, rfl⟩ : ∃ (d : Fin 1024) (s : Fin 512), y = ix4 (0 : Fin 1) (0 : Fin 1) d s := ⟨y (2 : Fin 4), y (3 : Fin 4),
    (ValueIdx.eq_ix4 (n0 := 1) (n1 := 1) (n2 := 1024) (n3 := 512) y).trans (congrArg₂ (fun (p q : Fin 1) => ix4 p q (y (2 : Fin 4)) (y (3 : Fin 4))) (Subsingleton.elim _ _) (Subsingleton.elim _ _))⟩
  refine Eq.trans (b := result5 m c (ix4 ⟨t.val / 16, by omega⟩ ⟨t.val % 16, by omega⟩ d s)) ?_ (congrArg (result5 m c) (emb_5 t d s _ _ rfl rfl).symm)
  refine (congrFun (Cert.QkvIdeal.Value.flushed5 m c t) (ix4 (0 : Fin 1) (0 : Fin 1) d s)).trans ?_
  exact point5 m c t d s _ _ rfl rfl

theorem final7 (c : Dev nD) : (dats m 0 c).arrAt 7 cfg0.N = result7 m c := by
  refine (dats m 0 c).arrAt_eq_of_emb 7 (result7 m c) (fun t hf y => ?_) cover_7
  have hN : t.val < 64 := Nat.lt_of_lt_of_eq t.isLt N_0
  obtain ⟨d, s, rfl⟩ : ∃ (d : Fin 1024) (s : Fin 512), y = ix4 (0 : Fin 1) (0 : Fin 1) d s := ⟨y (2 : Fin 4), y (3 : Fin 4),
    (ValueIdx.eq_ix4 (n0 := 1) (n1 := 1) (n2 := 1024) (n3 := 512) y).trans (congrArg₂ (fun (p q : Fin 1) => ix4 p q (y (2 : Fin 4)) (y (3 : Fin 4))) (Subsingleton.elim _ _) (Subsingleton.elim _ _))⟩
  refine Eq.trans (b := result7 m c (ix4 ⟨t.val / 16, by omega⟩ ⟨t.val % 16, by omega⟩ d s)) ?_ (congrArg (result7 m c) (emb_7 t d s _ _ rfl rfl).symm)
  refine (congrFun (Cert.QkvIdeal.Value.flushed7 m c t) (ix4 (0 : Fin 1) (0 : Fin 1) d s)).trans ?_
  exact point7 m c t d s _ _ rfl rfl

theorem final6 (c : Dev nD) : (dats m 0 c).arrAt 6 cfg0.N = result6 m c := by
  refine (dats m 0 c).arrAt_eq_of_emb 6 (result6 m c) (fun t hf y => ?_) cover_6
  have hN : t.val < 64 := Nat.lt_of_lt_of_eq t.isLt N_0
  obtain ⟨s, d, rfl⟩ : ∃ (s : Fin 512) (d : Fin 1024), y = ix3 (0 : Fin 1) s d := ⟨y (1 : Fin 3), y (2 : Fin 3),
    (ValueIdx.eq_ix3 (n0 := 1) (n1 := 512) (n2 := 1024) y).trans (congrArg (fun (p : Fin 1) => ix3 p (y (1 : Fin 3)) (y (2 : Fin 3))) (Subsingleton.elim _ _))⟩
  have hs := s.isLt
  refine Eq.trans (b := result6 m c (ix3 ⟨t.val / 16, by omega⟩ ⟨t.val % 16 * 512 + s.val, by omega⟩ d)) ?_ (congrArg (result6 m c) (emb_6 t s d _ _ rfl rfl).symm)
  refine (congrFun (Cert.QkvIdeal.Value.flushed6 m c t) (ix3 (0 : Fin 1) s d)).trans ?_
  exact point6 m c t s d _ _ rfl rfl

end Cert.QkvIdeal.Rows

end
-- ==== Proof.QkvPlain.lean ====
/- The projections' reference at an element: the queries' constant passes from the sum to each of its terms. -/
module

public import proofs.«01_k».proof.Proof.Gen.QkvReferenceIdeal.Run
public import proofs.«01_k».proof.Proof.QkvFinal

@[expose] public section

set_option maxRecDepth 16384

noncomputable section

namespace Cert.QkvReferenceIdeal.Plain

open Cert.QkvReferenceIdeal Cert.QkvReferenceIdeal.Gen Cert.QkvReferenceIdeal.Value
open Cert.DenseRows (normed)
open Cert.QkvIdeal.Rows (rowNorm tileRow col queryAt keyAt valueAt)
open Idealize.ShloMosaic Idealize.ShloMosaic.TcCoe Idealize.ShloMosaic.Tactic
open Idealize.ShloMosaic.ValueIdx hiding ix1 ix2 ix3 ix4

/-! ## The queries' constant -/

theorem scale_nonneg : (0 : EReal) ≤ Ideal.ofBits .f32 0x3E38AA3B#32 := by
  simp [Ideal.ofBits, Ideal.ieee, -EReal.coe_mul]

theorem scale_ne_top : Ideal.ofBits .f32 0x3E38AA3B#32 ≠ ⊤ := by
  simp [Ideal.ofBits, Ideal.ieee, -EReal.coe_mul]

/-- A constant that is neither negative nor infinite passes into a sum. -/
theorem sum_mul_const {ι : Type} (s : Finset ι) (f : ι → EReal) (k : EReal) (h : 0 ≤ k) (h' : k ≠ ⊤) : (∑ a ∈ s, f a) * k = ∑ a ∈ s, f a * k := by
  classical
  induction s using Finset.induction_on with
  | empty => simp
  | insert a s ha ih =>
    rw [Finset.sum_insert ha, Finset.sum_insert ha, mul_comm, EReal.left_distrib_of_nonneg_of_ne_top h h', mul_comm k, mul_comm k, ih]

/-! ## The reference's results -/

/-- The rows over their root mean squares, as the reference's operations make them, -/
def normOf (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- their product with the three weights side by side, -/
def prodOf (h : FVec Ideal S4x8192x1024 .f32) (w : FVec Ideal S1024x3072 .f32) : FVec Ideal S4x8192x3072 .f32 :=
  Host.dotGeneral dot_S4x8192x1024_S1024x3072_S4x8192x3072_2_0_01_1_n_n none h w

/-- the queries, -/
def queries (P : FVec Ideal S4x8192x3072 .f32) : FVec Ideal S4x16x1024x512 .bf16 :=
  truncf .bf16 (transpose S4x16x1024x512 [0, 1, 3, 2] (shapeCast S4x16x512x1024 (mulf (extractStridedSlice S4x8192x1024 ![0, 0, 0] P slices_S4x8192x3072_S4x8192x1024_0_0_0)
    (broadcastInDim S4x8192x1024 ![] bcast_S_S4x8192x1024 (constant S_ .f32 0x3E38AA3B#32))) shapeCasts_S4x8192x1024_S4x16x512x1024) transposes_S4x16x512x1024_S4x16x1024x512_0_1_3_2) bitsLt_bf16_f32

/-- the keys, -/
def keys (P : FVec Ideal S4x8192x3072 .f32) : FVec Ideal S4x8192x1024 .bf16 :=
  truncf .bf16 (extractStridedSlice S4x8192x1024 ![0, 0, 1024] P slices_S4x8192x3072_S4x8192x1024_0_0_1024) bitsLt_bf16_f32

/-- and the values. -/
def values (P : FVec Ideal S4x8192x3072 .f32) : FVec Ideal S4x16x1024x512 .bf16 :=
  truncf .bf16 (transpose S4x16x1024x512 [0, 1, 3, 2] (shapeCast S4x16x512x1024 (extractStridedSlice S4x8192x1024 ![0, 0, 2048] P slices_S4x8192x3072_S4x8192x1024_0_0_2048)
    shapeCasts_S4x8192x1024_S4x16x512x1024) transposes_S4x16x512x1024_S4x16x1024x512_0_1_3_2) bitsLt_bf16_f32

theorem normOf_at (x : FVec Ideal S4x8192x1024 .f32) (g : FVec Ideal S1024 .f32) (b : Fin 4) (r : Fin 8192) (d : Fin 1024) : normOf x g (ix3 b r d) = rowNorm x g b r d := by
  unfold normOf rowNorm normed
  pointwise

theorem prodOf_at (h : FVec Ideal S4x8192x1024 .f32) (w : FVec Ideal S1024x3072 .f32) (b : Fin 4) (r : Fin 8192) (k : Fin 3072) :
    prodOf h w (ix3 b r k) = ∑ a : Fin 1024, (h (ix3 b r a) * w (ix2 a k) : EReal) := by
  unfold prodOf
  pointwise

/-- Rows laid tile by tile, transposed. -/
theorem tiles_at (X : FVec Ideal S4x8192x1024 .f32) (b : Fin 4) (i : Fin 16) (d : Fin 1024) (s : Fin 512) :
    (truncf .bf16 (transpose S4x16x1024x512 [0, 1, 3, 2] (shapeCast S4x16x512x1024 X shapeCasts_S4x8192x1024_S4x16x512x1024) transposes_S4x16x512x1024_S4x16x1024x512_0_1_3_2)
      bitsLt_bf16_f32 : FVec Ideal S4x16x1024x512 .bf16) (ix4 b i d s) = X (ix3 b (tileRow i s) d) := by
  unfold tileRow
  pointwise

theorem scaled_at (P : FVec Ideal S4x8192x3072 .f32) (b : Fin 4) (r : Fin 8192) (d : Fin 1024) :
    mulf (extractStridedSlice S4x8192x1024 ![0, 0, 0] P slices_S4x8192x3072_S4x8192x1024_0_0_0) (broadcastInDim S4x8192x1024 ![] bcast_S_S4x8192x1024 (constant S_ .f32 0x3E38AA3B#32)) (ix3 b r d)
      = (P (ix3 b r (col 0 (by decide) d)) * Ideal.ofBits .f32 0x3E38AA3B#32 : EReal) := by
  unfold col
  pointwise

theorem third_at (P : FVec Ideal S4x8192x3072 .f32) (b : Fin 4) (r : Fin 8192) (d : Fin 1024) :
    extractStridedSlice S4x8192x1024 ![0, 0, 2048] P slices_S4x8192x3072_S4x8192x1024_0_0_2048 (ix3 b r d) = P (ix3 b r (col 2048 (by decide) d)) := by
  unfold col
  pointwise

theorem keys_at (P : FVec Ideal S4x8192x3072 .f32) (b : Fin 4) (r : Fin 8192) (d : Fin 1024) : keys P (ix3 b r d) = P (ix3 b r (col 1024 (by decide) d)) := by
  unfold keys col
  pointwise

theorem queries_eq (x : FVec Ideal S4x8192x1024 .f32) (g : FVec Ideal S1024 .f32) (w : FVec Ideal S1024x3072 .f32) (b : Fin 4) (i : Fin 16) (d : Fin 1024) (s : Fin 512) :
    queries (prodOf (normOf x g) w) (ix4 b i d s) = queryAt x g w b (tileRow i s) d := by
  unfold queries queryAt
  refine (tiles_at _ b i d s).trans ((scaled_at _ b (tileRow i s) d).trans ?_)
  rw [prodOf_at, sum_mul_const _ _ _ scale_nonneg scale_ne_top]
  refine Finset.sum_congr rfl fun a _ => ?_
  rw [normOf_at, mul_assoc, mul_comm]
  rfl

theorem keys_eq (x : FVec Ideal S4x8192x1024 .f32) (g : FVec Ideal S1024 .f32) (w : FVec Ideal S1024x3072 .f32) (b : Fin 4) (r : Fin 8192) (d : Fin 1024) :
    keys (prodOf (normOf x g) w) (ix3 b r d) = keyAt x g w b r d := by
  unfold keyAt
  rw [keys_at, prodOf_at]
  refine Finset.sum_congr rfl fun a _ => ?_
  rw [normOf_at]

theorem values_eq (x : FVec Ideal S4x8192x1024 .f32) (g : FVec Ideal S1024 .f32) (w : FVec Ideal S1024x3072 .f32) (b : Fin 4) (i : Fin 16) (d : Fin 1024) (s : Fin 512) :
    values (prodOf (normOf x g) w) (ix4 b i d s) = valueAt x g w b (tileRow i s) d := by
  unfold values valueAt
  refine (tiles_at _ b i d s).trans ((third_at _ b (tileRow i s) d).trans ?_)
  rw [prodOf_at]
  refine Finset.sum_congr rfl fun a _ => ?_
  rw [normOf_at, mul_comm]

end Cert.QkvReferenceIdeal.Plain

end
-- ==== Proof.lean ====
/- The claims of the dispatch, of the experts, of the dense part, of the projections and of the combining call: their frames at both instances and their values. -/
module

public import proofs.«01_k».proof.Defs
public import proofs.«01_k».proof.Proof.Gen.Kernel
public import proofs.«01_k».proof.Proof.Gen.Experts
public import proofs.«01_k».proof.Proof.Gen.Dense
public import proofs.«01_k».proof.Proof.Gen.Qkv
public import proofs.«01_k».proof.Proof.Gen.Combine
public import proofs.«01_k».proof.Proof.Gen.Pre_places_in_range
public import proofs.«01_k».proof.Proof.CombinePlain
public import proofs.«01_k».proof.Proof.Gen.Pre_experts_of_tiles
public import proofs.«01_k».proof.Proof.Value
public import proofs.«01_k».proof.Proof.Words
public import proofs.«01_k».proof.Proof.Placed
public import proofs.«01_k».proof.Proof.ExpertPlain
public import proofs.«01_k».proof.Proof.DensePlain
public import proofs.«01_k».proof.Proof.QkvPlain
public import Idealize.ShloMosaic.Adequacy
public import Idealize.ShloMosaic.Init
public import Idealize.ShloMosaic.Lib.Claim
public import Idealize.ShloMosaic.Lib.Tactic

@[expose] public section

noncomputable section

namespace Cert.Proof

open Idealize.ShloMosaic Idealize.ShloMosaic.TcCoe Idealize.ShloMosaic.Tactic
open Idealize.SL.Sem

/-- The arguments' words, from the precondition. -/
theorem args_kernel (m : (ℓ : Loc Cert.KernelIdeal.nD Cert.KernelIdeal.τ Cert.KernelIdeal.sig) → Buf (Elt Bits) ℓ) (c : Dev Cert.KernelIdeal.nD)
    (h : Cert.Pre_Kernel m) : Cert.KernelIdeal.Dispatch.Args m c where
  tiles := Cert.Pre_places_of_a_routing.tiles_lt _ _ _ (h c).1
  lt := Cert.Pre_places_of_a_routing.places_lt _ _ _ (h c).2.1
  apart k k' t t' e := Cert.Pre_places_of_a_routing.places_apart _ _ _ (h c).2.2.1 k k' t t' e

theorem args_ideal (m : (ℓ : Loc Cert.KernelIdeal.nD Cert.KernelIdeal.τ Cert.KernelIdeal.sig) → Buf (Elt Ideal) ℓ) (c : Dev Cert.KernelIdeal.nD)
    (h : Cert.Pre_KernelIdeal m) : Cert.KernelIdeal.Dispatch.Args m c where
  tiles := Cert.Pre_places_of_a_routing.tiles_lt _ _ _ (h c).1
  lt := Cert.Pre_places_of_a_routing.places_lt _ _ _ (h c).2.1
  apart k k' t t' e := Cert.Pre_places_of_a_routing.places_apart _ _ _ (h c).2.2.1 k k' t t' e

/-- The run, its arguments kept and its counters back at zero, at either instance. -/
theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ c, Cert.KernelIdeal.Dispatch.Args m c) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ q => ⟨fun c => (q.1 c).2, q.2⟩)
    (Cert.KernelIdeal.Dispatch.run_main m ρ fun c => Cert.KernelIdeal.Dispatch.words m c (h c))

/-- The two programs are one text, as no operation was rewritten: their body tables, -/
theorem bodies_eq : Cert.Kernel.defs₀ (F := Bits) = Cert.KernelIdeal.defs₀ (F := Bits) := by
  unfold Cert.Kernel.defs₀ Cert.KernelIdeal.defs₀
  refine congrArg Defs.onTc ?_
  funext ℓ x
  match ℓ with
  | 0 => rfl

theorem tables_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

/-- and so their runs. -/
theorem frame_kernel : Cert.quiescent_Kernel := fun m ρ h => by
  rw [tables_eq]
  exact kept (F := Bits) m ρ fun c => args_kernel m c h

theorem frame_ideal : Cert.quiescent_KernelIdeal := fun m ρ h =>
  kept (F := Ideal) m ρ fun c => args_ideal m c h

theorem frame_reference : Cert.quiescent_ReferenceIdeal := fun m g _ => by
  hlo_run
  · exact fun _ => ⟨trivial, trivial, trivial⟩
  · exact sem_eq_zero_of_no_sems (sig := Cert.ReferenceIdeal.sig) (by decide) _

/-- The two results, element by element. -/
theorem same (m : (ℓ : Loc Cert.KernelIdeal.nD Cert.KernelIdeal.τ Cert.KernelIdeal.sig) → Buf (Elt Ideal) ℓ) (c : Dev Cert.KernelIdeal.nD)
    (h : Cert.Pre_KernelIdeal m) :
    Cert.ReferenceIdeal.placed (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Dispatch.Cn m c (Cert.KernelIdeal.Dispatch.cfgM m).N := by
  have H := args_ideal m c h
  funext y
  obtain ⟨r, d, rfl⟩ : ∃ (r : Fin 69632) (d : Fin 1024), y = ix2 r d := ⟨y 0, y 1, eq_ix2 y⟩
  by_cases hr : ∃ (k : Fin 2) (t : Fin 32768), BitVec.toNat (m ((c.tc : Thread Cert.KernelIdeal.nD Cert.KernelIdeal.τ).loc Cert.KernelIdeal.main_arg1) (ix2 k t)) = r.val
  · obtain ⟨k, t, hr⟩ := hr
    exact (Cert.ReferenceIdeal.placed_hit _ _ H.lt H.apart k t r d hr).trans (Cert.KernelIdeal.Dispatch.final_hit m c H k t r d hr).symm
  · have hr' : ∀ (k : Fin 2) (t : Fin 32768), BitVec.toNat (m ((c.tc : Thread Cert.KernelIdeal.nD Cert.KernelIdeal.τ).loc Cert.KernelIdeal.main_arg1) (ix2 k t)) ≠ r.val :=
      fun k t q => hr ⟨k, t, q⟩
    rcases Cert.Pre_places_of_a_routing.covered _ _ _ (h c).1 (h c).2.2.2 r with ⟨k, t, q⟩ | ⟨j, q⟩
    · exact absurd q (hr' k t)
    · exact (Cert.ReferenceIdeal.placed_miss _ _ H.lt r d hr').trans (Cert.KernelIdeal.Dispatch.final_zero m c j r d hr' q).symm

theorem value : Cert.algebraic_KernelIdeal_ReferenceIdeal := by
  intro m g m' g' hpre hagree
  refine ⟨fun c => Cert.KernelIdeal.Dispatch.Cn m c (Cert.KernelIdeal.Dispatch.cfgM m).N, ?_, ?_⟩
  · exact (θ_run Cert.KernelIdeal.defs _ _).mono (fun _ q c => q.1 c)
      (Cert.KernelIdeal.Dispatch.run_main (F := Ideal) m g fun c => Cert.KernelIdeal.Dispatch.words m c (args_ideal m c hpre))
  · hlo_run
    refine Eq.trans (b := Cert.ReferenceIdeal.placed (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) rfl ?_
    exact same m c hpre

/-! ## The experts -/

/-- The tables' words, from the precondition's two bits. -/
theorem expert_args {F : FTy → Type} [FloatOps F] (m : (ℓ : Loc Cert.ExpertsIdeal.nD Cert.ExpertsIdeal.τ Cert.ExpertsIdeal.sig) → Buf (Elt F) ℓ) (c : Dev Cert.ExpertsIdeal.nD)
    (h0 : ∀ i : Fin 136, IntOp.andi (IntOp.cmpi .sge (Cert.ExpertsIdeal.Tiles.te m c i) 0#32) (IntOp.cmpi .slt (Cert.ExpertsIdeal.Tiles.te m c i) 8#32) = 1#1)
    (h1 : IntOp.andi (IntOp.cmpi .sge (Cert.ExpertsIdeal.Tiles.nu m c) 1#32) (IntOp.cmpi .sle (Cert.ExpertsIdeal.Tiles.nu m c) 136#32) = 1#1) : Cert.ExpertsIdeal.Tiles.Args m c := by
  obtain ⟨a, b⟩ := IntOp.andi_eq_one.1 h1
  have ha : (1#32).sle (Cert.ExpertsIdeal.Tiles.nu m c) = true := (StableHlo.Predicate.ofBool_eq_one_iff _).1 a
  have hb : (Cert.ExpertsIdeal.Tiles.nu m c).sle 136#32 = true := (StableHlo.Predicate.ofBool_eq_one_iff _).1 b
  have ha' := BitVec.sle_iff_toInt_le.1 ha
  have hb' := BitVec.sle_iff_toInt_le.1 hb
  rw [show (1#32).toInt = 1 from by decide, BitVec.toInt_eq_toNat_cond] at ha'
  rw [show (136#32).toInt = 136 from by decide, BitVec.toInt_eq_toNat_cond] at hb'
  refine ⟨fun i => Cert.Pre_places_of_a_routing.in_range (n := 8#32) (by decide) (h0 i), ?_, ?_⟩
  · split at ha' <;> split at hb' <;> omega
  · split at ha' <;> split at hb' <;> omega

theorem expert_args_bits (m : (ℓ : Loc Cert.ExpertsIdeal.nD Cert.ExpertsIdeal.τ Cert.ExpertsIdeal.sig) → Buf (Elt Bits) ℓ) (c : Dev Cert.ExpertsIdeal.nD) (h : Cert.Pre_Experts m) : Cert.ExpertsIdeal.Tiles.Args m c :=
  expert_args m c (fun i => congrFun (h c).1 (ix1 i)) (congrFun (h c).2 (ix1 (0 : Fin 1)))

theorem expert_args_ideal (m : (ℓ : Loc Cert.ExpertsIdeal.nD Cert.ExpertsIdeal.τ Cert.ExpertsIdeal.sig) → Buf (Elt Ideal) ℓ) (c : Dev Cert.ExpertsIdeal.nD) (h : Cert.Pre_ExpertsIdeal m) : Cert.ExpertsIdeal.Tiles.Args m c :=
  expert_args m c (fun i => congrFun (h c).1 (ix1 i)) (congrFun (h c).2 (ix1 (0 : Fin 1)))

/-- The experts' run, its arguments kept and its counters back at zero, at either instance. -/
theorem expert_kept {F : FTy → Type} [FloatOps F] [∀ e, Nonempty (Elt F e)] (m : (ℓ : Loc Cert.ExpertsIdeal.nD Cert.ExpertsIdeal.τ Cert.ExpertsIdeal.sig) → Buf (Elt F) ℓ) (ρ : Dev Cert.ExpertsIdeal.nD → PrngReg)
    (h : ∀ c, Cert.ExpertsIdeal.Tiles.Args m c) :
    θ_run Cert.ExpertsIdeal.defs (onTc (τ := Cert.ExpertsIdeal.τ) (Cert.ExpertsIdeal.main (F := F))) ⟨m, fun _ => 0, ρ⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0) :=
  (θ_run Cert.ExpertsIdeal.defs _ _).mono (fun _ q => ⟨fun c => (q.1 c).2, q.2⟩)
    (Cert.ExpertsIdeal.Tiles.run_main m ρ (Cert.ExpertsIdeal.Tiles.inRange m 0 (h 0)))

theorem expert_bodies_eq : Cert.Experts.defs₀ (F := Bits) = Cert.ExpertsIdeal.defs₀ (F := Bits) := by
  unfold Cert.Experts.defs₀ Cert.ExpertsIdeal.defs₀
  refine congrArg Defs.onTc ?_
  funext ℓ x
  match ℓ with
  | 0 => rfl

theorem expert_tables_eq : Cert.Experts.defs (F := Bits) = Cert.ExpertsIdeal.defs (F := Bits) := by
  unfold Cert.Experts.defs Cert.ExpertsIdeal.defs
  exact congrArg (Pipeline.defs (Cert.ExpertsIdeal.pcfgs (F := Bits))) expert_bodies_eq

set_option maxHeartbeats 8000000 in
theorem expert_mains_eq : Cert.Experts.main (F := Bits) = Cert.ExpertsIdeal.main (F := Bits) := by
  unfold Cert.Experts.main Cert.ExpertsIdeal.main
  rfl

theorem frame_experts : Cert.quiescent_Experts := fun m ρ h => by
  have H := expert_kept (F := Bits) m ρ fun c => expert_args_bits m c h
  rw [expert_tables_eq]
  rw [← expert_mains_eq] at H
  exact H

theorem frame_experts_ideal : Cert.quiescent_ExpertsIdeal := fun m ρ h =>
  expert_kept (F := Ideal) m ρ fun c => expert_args_ideal m c h

theorem frame_experts_reference : Cert.quiescent_ExpertsReferenceIdeal := fun m g _ => by
  refine (θ_run Cert.ExpertsReferenceIdeal.defs _ _).mono (fun r q => ⟨fun c => (q c).2, ?_⟩) (Cert.ExpertsReferenceIdeal.Value.run (F := Ideal) m g)
  exact sem_eq_zero_of_no_sems (sig := Cert.ExpertsReferenceIdeal.sig) (by decide) _

theorem expert_value : Cert.algebraic_ExpertsIdeal_ExpertsReferenceIdeal := by
  intro m g m' g' hpre hagree
  refine ⟨fun c => Cert.ExpertsIdeal.Tiles.result m c, ?_, ?_⟩
  · refine (θ_run Cert.ExpertsIdeal.defs _ _).mono (fun _ q c => ⟨(q.1 c).1.trans (Cert.ExpertsIdeal.Tiles.final m _ c (expert_args_ideal m c hpre)), (q.1 c).2⟩)
      (Cert.ExpertsIdeal.Tiles.run_main (F := Ideal) m g (Cert.ExpertsIdeal.Tiles.inRange m 0 (expert_args_ideal m 0 hpre)))
  · refine (θ_run Cert.ExpertsReferenceIdeal.defs _ _).mono (fun _ q c => ⟨(q c).1.trans ?_, (q c).2⟩) (Cert.ExpertsReferenceIdeal.Value.run (F := Ideal) m' g')
    have A := expert_args_ideal m c hpre
    obtain ⟨e0, e1, e2, e3, e4, e5⟩ := hagree c
    refine Eq.trans (b := Cert.ExpertsReferenceIdeal.Plain.plain (Cert.ExpertsReferenceIdeal.Value.res_main_v14 (StableHlo.launchContents m' c))
      (m' ((c.tc : Thread Cert.ExpertsReferenceIdeal.nD Cert.ExpertsReferenceIdeal.τ).loc Cert.ExpertsReferenceIdeal.main_arg2)) (m' ((c.tc : Thread Cert.ExpertsReferenceIdeal.nD Cert.ExpertsReferenceIdeal.τ).loc Cert.ExpertsReferenceIdeal.main_arg3))
      (m' ((c.tc : Thread Cert.ExpertsReferenceIdeal.nD Cert.ExpertsReferenceIdeal.τ).loc Cert.ExpertsReferenceIdeal.main_arg4)) (m' ((c.tc : Thread Cert.ExpertsReferenceIdeal.nD Cert.ExpertsReferenceIdeal.τ).loc Cert.ExpertsReferenceIdeal.main_arg5))) rfl ?_
    rw [e2, e3, e4, e5]
    funext y
    obtain ⟨r, d, rfl⟩ : ∃ (r : Fin 69632) (d : Fin 1024), y = ix2 r d := ⟨y 0, y 1, eq_ix2 y⟩
    exact Cert.ExpertsReferenceIdeal.Plain.plain_eq (StableHlo.launchContents m' c) (Cert.ExpertsIdeal.Tiles.te m c) (Cert.ExpertsIdeal.Tiles.nu m c) A.le A.te
      (fun i => congrFun e0 (ix1 i)) (congrFun e1 (ix1 (0 : Fin 1))) _ _ _ _ r d

/-! ## The dense part -/

theorem dense_bodies_eq : Cert.Dense.defs₀ (F := Bits) = Cert.DenseIdeal.defs₀ (F := Bits) := by
  unfold Cert.Dense.defs₀ Cert.DenseIdeal.defs₀
  refine congrArg Defs.onTc ?_
  funext ℓ x
  match ℓ with
  | 0 => rfl

theorem dense_tables_eq : Cert.Dense.defs (F := Bits) = Cert.DenseIdeal.defs (F := Bits) := by
  unfold Cert.Dense.defs Cert.DenseIdeal.defs
  exact congrArg (Pipeline.defs (Cert.DenseIdeal.pcfgs (F := Bits))) dense_bodies_eq

set_option maxHeartbeats 8000000 in
theorem dense_mains_eq : Cert.Dense.main (F := Bits) = Cert.DenseIdeal.main (F := Bits) := by
  unfold Cert.Dense.main Cert.DenseIdeal.main
  rfl

theorem frame_dense : Cert.quiescent_Dense := fun m ρ _ => by
  have H := Cert.DenseIdeal.Gen.frame (F := Bits) m ρ
  rw [dense_tables_eq]
  rw [← dense_mains_eq] at H
  exact H

theorem frame_dense_ideal : Cert.quiescent_DenseIdeal := fun m ρ _ => Cert.DenseIdeal.Gen.frame (F := Ideal) m ρ

theorem frame_dense_reference : Cert.quiescent_DenseReferenceIdeal := fun m g _ => by
  refine (θ_run Cert.DenseReferenceIdeal.defs _ _).mono (fun r q => ⟨fun c => (q c).2.2, ?_⟩) (Cert.DenseReferenceIdeal.Value.run (F := Ideal) m g)
  exact sem_eq_zero_of_no_sems (sig := Cert.DenseReferenceIdeal.sig) (by decide) _

theorem dense_value : Cert.algebraic_DenseIdeal_DenseReferenceIdeal := by
  intro m g m' g' _ hagree
  refine ⟨fun c => Cert.DenseIdeal.Rows.result8 m c, fun c => Cert.DenseIdeal.Rows.result9 m c, ?_, ?_⟩
  · exact (θ_run Cert.DenseIdeal.defs _ _).mono (fun _ q c => ⟨(q c).1.trans (Cert.DenseIdeal.Rows.final8 m c), (q c).2.1.trans (Cert.DenseIdeal.Rows.final9 m c), (q c).2.2⟩)
      (Cert.DenseIdeal.Value.run_blocks (F := Ideal) m g)
  · refine (θ_run Cert.DenseReferenceIdeal.defs _ _).mono (fun _ q c => ⟨(q c).1.trans ?_, (q c).2.1.trans ?_, (q c).2.2⟩) (Cert.DenseReferenceIdeal.Value.run (F := Ideal) m' g')
    · obtain ⟨e0, e1, e2, e3, e4, e5, e6, e7⟩ := hagree c
      rw [Cert.DenseReferenceIdeal.Plain.res_first, e0, e1, e2, e3, e4, e5, e6]
      funext y
      obtain ⟨r, d, rfl⟩ : ∃ (r : Fin 32768) (d : Fin 1024), y = ix2 r d := ⟨y 0, y 1, eq_ix2 y⟩
      exact Cert.DenseReferenceIdeal.Plain.first_at _ _ _ _ _ _ _ r d
    · obtain ⟨e0, e1, e2, e3, e4, e5, e6, e7⟩ := hagree c
      rw [Cert.DenseReferenceIdeal.Plain.res_second, e0, e1, e2, e3, e4, e5, e6, e7]
      funext y
      obtain ⟨r, d, rfl⟩ : ∃ (r : Fin 32768) (d : Fin 1024), y = ix2 r d := ⟨y 0, y 1, eq_ix2 y⟩
      exact Cert.DenseReferenceIdeal.Plain.second_at _ _ _ _ _ _ _ _ r d

/-! ## The projections -/

theorem qkv_bodies_eq : Cert.Qkv.defs₀ (F := Bits) = Cert.QkvIdeal.defs₀ (F := Bits) := by
  unfold Cert.Qkv.defs₀ Cert.QkvIdeal.defs₀
  refine congrArg Defs.onTc ?_
  funext ℓ x
  match ℓ with
  | 0 => rfl

theorem qkv_tables_eq : Cert.Qkv.defs (F := Bits) = Cert.QkvIdeal.defs (F := Bits) := by
  unfold Cert.Qkv.defs Cert.QkvIdeal.defs
  exact congrArg (Pipeline.defs (Cert.QkvIdeal.pcfgs (F := Bits))) qkv_bodies_eq

set_option maxHeartbeats 8000000 in
theorem qkv_mains_eq : Cert.Qkv.main (F := Bits) = Cert.QkvIdeal.main (F := Bits) := by
  unfold Cert.Qkv.main Cert.QkvIdeal.main
  rfl

theorem frame_qkv : Cert.quiescent_Qkv := fun m ρ _ => by
  have H := Cert.QkvIdeal.Gen.frame (F := Bits) m ρ
  rw [qkv_tables_eq]
  rw [← qkv_mains_eq] at H
  exact H

theorem frame_qkv_ideal : Cert.quiescent_QkvIdeal := fun m ρ _ => Cert.QkvIdeal.Gen.frame (F := Ideal) m ρ

theorem frame_qkv_reference : Cert.quiescent_QkvReferenceIdeal := fun m g _ => by
  refine (θ_run Cert.QkvReferenceIdeal.defs _ _).mono (fun r q => ⟨fun c => (q c).2.2.2, ?_⟩) (Cert.QkvReferenceIdeal.Value.run (F := Ideal) m g)
  exact sem_eq_zero_of_no_sems (sig := Cert.QkvReferenceIdeal.sig) (by decide) _

theorem qkv_value : Cert.algebraic_QkvIdeal_QkvReferenceIdeal := by
  intro m g m' g' _ hagree
  refine ⟨fun c => Cert.QkvIdeal.Rows.result5 m c, fun c => Cert.QkvIdeal.Rows.result6 m c, fun c => Cert.QkvIdeal.Rows.result7 m c, ?_, ?_⟩
  · exact (θ_run Cert.QkvIdeal.defs _ _).mono (fun _ q c => ⟨(q c).1.trans (Cert.QkvIdeal.Rows.final5 m c), (q c).2.1.trans (Cert.QkvIdeal.Rows.final6 m c),
      (q c).2.2.1.trans (Cert.QkvIdeal.Rows.final7 m c), (q c).2.2.2⟩) (Cert.QkvIdeal.Value.run_blocks (F := Ideal) m g)
  · refine (θ_run Cert.QkvReferenceIdeal.defs _ _).mono (fun _ q c => ⟨(q c).1.trans ?_, (q c).2.1.trans ?_, (q c).2.2.1.trans ?_, (q c).2.2.2⟩)
      (Cert.QkvReferenceIdeal.Value.run (F := Ideal) m' g')
    · obtain ⟨e0, e1, e2⟩ := hagree c
      rw [e0, e1, e2]
      funext y
      obtain ⟨b, i, d, s, rfl⟩ : ∃ (b : Fin 4) (i : Fin 16) (d : Fin 1024) (s : Fin 512), y = ix4 b i d s := ⟨y 0, y 1, y 2, y 3, eq_ix4 y⟩
      exact Cert.QkvReferenceIdeal.Plain.queries_eq _ _ _ b i d s
    · obtain ⟨e0, e1, e2⟩ := hagree c
      rw [e0, e1, e2]
      funext y
      obtain ⟨b, r, d, rfl⟩ : ∃ (b : Fin 4) (r : Fin 8192) (d : Fin 1024), y = ix3 b r d := ⟨y 0, y 1, y 2, eq_ix3 y⟩
      exact Cert.QkvReferenceIdeal.Plain.keys_eq _ _ _ b r d
    · obtain ⟨e0, e1, e2⟩ := hagree c
      rw [e0, e1, e2]
      funext y
      obtain ⟨b, i, d, s, rfl⟩ : ∃ (b : Fin 4) (i : Fin 16) (d : Fin 1024) (s : Fin 512), y = ix4 b i d s := ⟨y 0, y 1, y 2, y 3, eq_ix4 y⟩
      exact Cert.QkvReferenceIdeal.Plain.values_eq _ _ _ b i d s

/-- The combining call's places, from the precondition. -/
theorem combine_placed (m : (ℓ : Loc Cert.CombineIdeal.nD Cert.CombineIdeal.τ Cert.CombineIdeal.sig) → Buf (Elt Ideal) ℓ) (c : Dev Cert.CombineIdeal.nD)
    (h : Cert.Pre_CombineIdeal m) : Cert.CombineIdeal.Combine.Placed (m ((c.tc : Thread Cert.CombineIdeal.nD Cert.CombineIdeal.τ).loc Cert.CombineIdeal.main_arg0)) :=
  fun k n => Cert.Pre_places_of_a_routing.in_range (n := 69632#32) (by decide) (Cert.Pre_places_in_range.places_in_range _ _ _ _ _ (h c) k n)

theorem combine_placed_bits (m : (ℓ : Loc Cert.CombineIdeal.nD Cert.CombineIdeal.τ Cert.CombineIdeal.sig) → Buf (Elt Bits) ℓ) (c : Dev Cert.CombineIdeal.nD)
    (h : Cert.Pre_Combine m) : Cert.CombineIdeal.Combine.Placed (m ((c.tc : Thread Cert.CombineIdeal.nD Cert.CombineIdeal.τ).loc Cert.CombineIdeal.main_arg0)) :=
  fun k n => Cert.Pre_places_of_a_routing.in_range (n := 69632#32) (by decide) (Cert.Pre_places_in_range.places_in_range _ _ _ _ _ (h c) k n)

/-- The combining call's run at either instance, its arguments kept. -/
theorem combine_kept {F : FTy → Type} [FloatOps F] [∀ e, Nonempty (Elt F e)]
    (m : (ℓ : Loc Cert.CombineIdeal.nD Cert.CombineIdeal.τ Cert.CombineIdeal.sig) → Buf (Elt F) ℓ) (ρ : Dev Cert.CombineIdeal.nD → PrngReg)
    (h : ∀ c, Cert.CombineIdeal.Combine.Words m c) :
    θ_run Cert.CombineIdeal.defs (onTc (τ := Cert.CombineIdeal.τ) (Cert.CombineIdeal.main (F := F))) ⟨m, fun _ => 0, ρ⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0) :=
  (θ_run Cert.CombineIdeal.defs _ _).mono (fun _ q => ⟨fun c => (q.1 c).2, q.2⟩) (Cert.CombineIdeal.Combine.run_main m ρ h)

theorem combine_bodies_eq : Cert.Combine.defs₀ (F := Bits) = Cert.CombineIdeal.defs₀ (F := Bits) := by
  unfold Cert.Combine.defs₀ Cert.CombineIdeal.defs₀
  refine congrArg Defs.onTc ?_
  funext ℓ x
  match ℓ with
  | 0 => rfl

theorem combine_tables_eq : Cert.Combine.defs (F := Bits) = Cert.CombineIdeal.defs (F := Bits) := by
  unfold Cert.Combine.defs Cert.CombineIdeal.defs
  exact congrArg (Pipeline.defs (Cert.CombineIdeal.pcfgs (F := Bits))) combine_bodies_eq

theorem frame_combine : Cert.quiescent_Combine := fun m ρ h => by
  rw [combine_tables_eq]
  exact combine_kept (F := Bits) m ρ fun c => Cert.CombineIdeal.Combine.words m c (combine_placed_bits m c h)

theorem frame_combine_ideal : Cert.quiescent_CombineIdeal := fun m ρ h =>
  combine_kept (F := Ideal) m ρ fun c => Cert.CombineIdeal.Combine.words m c (combine_placed m c h)

theorem frame_combine_reference : Cert.quiescent_CombineReferenceIdeal := fun m g _ => by
  refine (θ_run Cert.CombineReferenceIdeal.defs _ _).mono (fun r q => ⟨fun c => (q c).2, ?_⟩) (Cert.CombineReferenceIdeal.Value.run (F := Ideal) m g)
  exact sem_eq_zero_of_no_sems (sig := Cert.CombineReferenceIdeal.sig) (by decide) _

theorem combine_value : Cert.algebraic_CombineIdeal_CombineReferenceIdeal := by
  intro m g m' g' hpre hagree
  refine ⟨fun c => Cert.CombineIdeal.Combine.result m c (combine_placed m c hpre), ?_, ?_⟩
  · exact (θ_run Cert.CombineIdeal.defs _ _).mono (fun _ q c => ⟨(q.1 c).1.trans (Cert.CombineIdeal.Combine.final m c (combine_placed m c hpre) _), (q.1 c).2⟩)
      (Cert.CombineIdeal.Combine.run_main (F := Ideal) m g fun c => Cert.CombineIdeal.Combine.words m c (combine_placed m c hpre))
  · refine (θ_run Cert.CombineReferenceIdeal.defs _ _).mono (fun _ q c => ⟨(q c).1.trans ?_, (q c).2⟩) (Cert.CombineReferenceIdeal.Value.run (F := Ideal) m' g')
    obtain ⟨e0, e1, e2, e3, e4⟩ := hagree c
    refine (Cert.CombineReferenceIdeal.Plain.result_eq m' c).trans ?_
    rw [e0, e1, e2, e3, e4]
    funext y
    obtain ⟨n, d, rfl⟩ : ∃ (n : Fin 32768) (d : Fin 1024), y = ix2 n d := ⟨y 0, y 1, eq_ix2 y⟩
    exact Cert.CombineReferenceIdeal.Plain.combined_at _ _ _ _ _ (combine_placed m c hpre) n d

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Dense.Gen.facts, Cert.DenseIdeal.Gen.facts, Cert.DenseReferenceIdeal.Gen.facts,
    Cert.Qkv.Gen.facts, Cert.QkvIdeal.Gen.facts, Cert.QkvReferenceIdeal.Gen.facts,
    Cert.Combine.Gen.facts, Cert.CombineIdeal.Gen.facts, Cert.CombineReferenceIdeal.Gen.facts,
    Cert.Pre_places_of_a_routing.Gen.facts, Cert.Pre_experts_of_tiles.Gen.facts, Cert.Pre_places_in_range.Gen.facts,
    frame_kernel, frame_ideal, frame_reference, frame_experts, frame_experts_ideal, frame_experts_reference, frame_dense, frame_dense_ideal, frame_dense_reference,
    frame_qkv, frame_qkv_ideal, frame_qkv_reference,
    frame_combine, frame_combine_ideal, frame_combine_reference,
    trivial, value, trivial, expert_value, trivial, dense_value, trivial, qkv_value, trivial, combine_value⟩

end Cert.Proof

end
